-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tables_in_range.lean ====
abbrev S25 : Shape := ⟨1, ![25]⟩
abbrev S25600 : Shape := ⟨1, ![25600]⟩
abbrev S8200x2048 : Shape := ⟨2, ![8200, 2048]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S25 : S_.BroadcastsInDim S25 (![] : Fin 0 → Fin S25.rank)
  reducesTo_S25_S_d0 : S25.ReducesTo [0] S_
  h_S_ : 0 < S_.numel
  bcast_S_S25600 : S_.BroadcastsInDim S25600 (![] : Fin 0 → Fin S25600.rank)
  reducesTo_S25600_S_d0 : S25600.ReducesTo [0] S_

variable [Facts]

def fn_part1 {F : FTy → Type} [FloatOps F] (main_arg2 : IVec S25600 32) (main_v12 : IVec S_ 1) (main_v14 : IVec S25600 1) (main_v15 : IVec S25600 32) : IVec S_ 1 :=
  let main_v16 : IVec S25600 1 := cmpi .slt main_arg2 main_v15
  let main_v17 : IVec S25600 1 := andi main_v14 main_v16
  let main_c_7 : IVec S_ 1 := constantI S_ 1 1#1
  let main_v18 : IVec S_ 1 := (fun x v => Host.reduce IntOp.andi x v reducesTo_S25600_S_d0 h_S_) main_v17 main_c_7
  let main_v19 : IVec S_ 1 := andi main_v12 main_v18
  main_v19

def fn {F : FTy → Type} [FloatOps F] (main_arg0 : IVec S25 32) (main_arg1 : IVec S25 32) (main_arg2 : IVec S25600 32) (main_arg3 : FVec F S8200x2048 .f32) (main_arg4 : FVec F S8x2048x7168 .f32) (main_arg5 : FVec F S8x2048x7168 .f32) (main_arg6 : FVec F S8x7168x2048 .f32) : IVec S_ 1 :=
  let main_c : IVec S_ 32 := constantI S_ 32 0#32
  let main_v0 : IVec S25 32 := broadcastInDim S25 ![] bcast_S_S25 main_c
  let main_v1 : IVec S25 1 := cmpi .sge main_arg0 main_v0
  let main_c_0 : IVec S_ 32 := constantI S_ 32 8#32
  let main_v2 : IVec S25 32 := broadcastInDim S25 ![] bcast_S_S25 main_c_0
  let main_v3 : IVec S25 1 := cmpi .slt main_arg0 main_v2
  let main_v4 : IVec S25 1 := andi main_v1 main_v3
  let main_c_1 : IVec S_ 1 := constantI S_ 1 1#1
  let main_v5 : IVec S_ 1 := (fun x v => Host.reduce IntOp.andi x v reducesTo_S25_S_d0 h_S_) main_v4 main_c_1
  let main_c_2 : IVec S_ 32 := constantI S_ 32 0#32
  let main_v6 : IVec S25 32 := broadcastInDim S25 ![] bcast_S_S25 main_c_2
  let main_v7 : IVec S25 1 := cmpi .sge main_arg1 main_v6
  let main_c_3 : IVec S_ 32 := constantI S_ 32 2#32
  let main_v8 : IVec S25 32 := broadcastInDim S25 ![] bcast_S_S25 main_c_3
  let main_v9 : IVec S25 1 := cmpi .sle main_arg1 main_v8
  let main_v10 : IVec S25 1 := andi main_v7 main_v9
  let main_c_4 : IVec S_ 1 := constantI S_ 1 1#1
  let main_v11 : IVec S_ 1 := (fun x v => Host.reduce IntOp.andi x v reducesTo_S25_S_d0 h_S_) main_v10 main_c_4
  let main_v12 : IVec S_ 1 := andi main_v5 main_v11
  let main_c_5 : IVec S_ 32 := constantI S_ 32 0#32
  let main_v13 : IVec S25600 32 := broadcastInDim S25600 ![] bcast_S_S25600 main_c_5
  let main_v14 : IVec S25600 1 := cmpi .sge main_arg2 main_v13
  let main_c_6 : IVec S_ 32 := constantI S_ 32 8200#32
  let main_v15 : IVec S25600 32 := broadcastInDim S25600 ![] bcast_S_S25600 main_c_6
  fn_part1 (F := F) main_arg2 main_v12 main_v14 main_v15
-- ==== Kernel.lean ====
abbrev S25 : Shape := ⟨1, ![25]⟩
abbrev S25600 : Shape := ⟨1, ![25600]⟩
abbrev S8200x2048 : Shape := ⟨2, ![8200, 2048]⟩
abbrev S8x2048x7168 : Shape := ⟨3, ![8, 2048, 7168]⟩
abbrev S8x7168x2048 : Shape := ⟨3, ![8, 7168, 2048]⟩
abbrev S25600x2048 : Shape := ⟨2, ![25600, 2048]⟩
abbrev S1x2048x512 : Shape := ⟨3, ![1, 2048, 512]⟩
abbrev S1 : Shape := ⟨1, ![1]⟩
abbrev S1x512x2048 : Shape := ⟨3, ![1, 512, 2048]⟩
abbrev S1024x2048 : Shape := ⟨2, ![1024, 2048]⟩
abbrev S512x2048 : Shape := ⟨2, ![512, 2048]⟩
abbrev S2x512x2048 : Shape := ⟨3, ![2, 512, 2048]⟩
abbrev S_ : Shape := ⟨0, ![]⟩
abbrev S1x2048 : Shape := ⟨2, ![1, 2048]⟩
abbrev S2048x512 : Shape := ⟨2, ![2048, 512]⟩
abbrev S512x512 : Shape := ⟨2, ![512, 512]⟩

abbrev nBuf : Space → Nat
  | .hbm => 5
  | .vmem => 10
  | .smem => 3
  | _ => 0

abbrev bufTy : (tb : Table) → Fin (tcTables nBuf tb) → BufTy
  | .hbm, ⟨0, _⟩ => ⟨S8200x2048, .f32⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S25600x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1024x2048, .f32⟩
  | .local _ .vmem, ⟨7, _⟩ => ⟨S1024x2048, .f32⟩
  | .local _ .vmem, ⟨8, _⟩ => ⟨S512x2048, .f32⟩
  | .local _ .vmem, ⟨9, _⟩ => ⟨S2x512x2048, .bf16⟩
  | .local _ .smem, ⟨0, _⟩ => ⟨S25, .i32⟩
  | .local _ .smem, ⟨1, _⟩ => ⟨S25, .i32⟩
  | .local _ .smem, ⟨2, _⟩ => ⟨S25600, .i32⟩
  | _, _ => ⟨S8200x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![25, 14], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_18 : BitVec 32 := 0#32
  let c512_i32 : BitVec 32 := 512#32
  let v41 : BitVec 32 := Scalar.addi c0_i32_18 c512_i32
  let c1_i32_19 : BitVec 32 := 1#32
  ⟨c0_i32_18, v41, c1_i32_19⟩
def k0_off2 (k0_t1 : Fin k0_t1_loop.trips) : Fin 1 → Nat :=
  let c0_i32_21 : BitVec 32 := 0#32
  let c0_i32_18 : BitVec 32 := 0#32
  let c1_i32_19 : BitVec 32 := 1#32
  let arg13 : BitVec 32 := Scf.iv c0_i32_18 c1_i32_19 k0_t1
  let v42 : BitVec 32 := Scalar.addi c0_i32_21 arg13
  let v43 : Index := Scalar.indexCast v42
  ![v43.toNat]
def k0_off3 (k0_t1 : Fin k0_t1_loop.trips) : Fin 2 → Nat :=
  let c0_i32_18 : BitVec 32 := 0#32
  let c1_i32_19 : BitVec 32 := 1#32
  let arg13 : BitVec 32 := Scf.iv c0_i32_18 c1_i32_19 k0_t1
  let c0_i32_22 : BitVec 32 := 0#32
  ![arg13.toNat, 0]
def k0_off4 (v44 : BitVec 32) : Fin 2 → Nat :=
  let c0_i32_23 : BitVec 32 := 0#32
  ![v44.toNat, 0]
def k0_cond2 (i : grid0.Coords) (v1 : BitVec 32) : BitVec 1 :=
  let arg1 : BitVec 32 := BitVec.ofNat 32 (i 1).val
  let c0_i32_1 : BitVec 32 := 0#32
  let v5 : BitVec 1 := Scalar.cmpi .eq arg1 c0_i32_1
  let c0_i32_2 : BitVec 32 := 0#32
  let v6 : BitVec 1 := Scalar.cmpi .sgt v1 c0_i32_2
  let v7 : BitVec 1 := Scalar.andi v5 v6
  let arg0 : BitVec 32 := BitVec.ofNat 32 (i 0).val
  let c0_i32_3 : BitVec 32 := 0#32
  let v8 : BitVec 1 := Scalar.cmpi .eq arg0 c0_i32_3
  let v9 : BitVec 1 := Scalar.andi v7 v8
  let v10 : BitVec 32 := Scalar.extui v9
  let c0_i32_4 : BitVec 32 := 0#32
  let v11 : BitVec 1 := Scalar.cmpi .ne v10 c0_i32_4
  v11

def k0_chk1 (i : grid0.Coords) (v1 : BitVec 32) (v44 : BitVec 32) : Prop :=
  (∀ (k0_h2 : k0_cond2 i v1 = 1#1), ∀ a, (k0_off4 v44) a + S1x2048.size a ≤ S8200x2048.size a)
theorem k0_off4_inb : ∀ (i : grid0.Coords) (v1 : BitVec 32) (v44 : BitVec 32) (k0_hw1 : k0_chk1 i v1 v44), ∀ (k0_h2 : k0_cond2 i v1 = 1#1), ∀ a, (k0_off4 v44) a + S1x2048.size a ≤ S8200x2048.size a := fun i v1 v44 k0_hw1 k0_h2 => k0_hw1 k0_h2

@[reducible] def k0_t2_loop : Scf.Loop 32 :=
  let c0_i32_18 : BitVec 32 := 0#32
  let c512_i32 : BitVec 32 := 512#32
  let v41 : BitVec 32 := Scalar.addi c0_i32_18 c512_i32
  let c1_i32_19 : BitVec 32 := 1#32
  ⟨c0_i32_18, v41, c1_i32_19⟩
def k0_off5 (k0_t2 : Fin k0_t2_loop.trips) : Fin 2 → Nat :=
  let c0_i32_18 : BitVec 32 := 0#32
  let c1_i32_19 : BitVec 32 := 1#32
  let arg13 : BitVec 32 := Scf.iv c0_i32_18 c1_i32_19 k0_t2
  let c0_i32_25 : BitVec 32 := 0#32
  ![arg13.toNat, 0]
@[reducible] def k0_t3_loop : Scf.Loop 32 :=
  let c0_i32_20 : BitVec 32 := 0#32
  let c512_i32_21 : BitVec 32 := 512#32
  let v44 : BitVec 32 := Scalar.addi c0_i32_20 c512_i32_21
  let c1_i32_22 : BitVec 32 := 1#32
  ⟨c0_i32_20, v44, c1_i32_22⟩
def k0_off6 (i : grid0.Coords) (k0_t3 : Fin k0_t3_loop.trips) : Fin 1 → Nat :=
  let c2_i32_18 : BitVec 32 := 2#32
  let arg0 : BitVec 32 := BitVec.ofNat 32 (i 0).val
  let v41 : BitVec 32 := Scalar.muli c2_i32_18 arg0
  let c1_i32_19 : BitVec 32 := 1#32
  let v42 : BitVec 32 := Scalar.addi v41 c1_i32_19
  let c512_i32 : BitVec 32 := 512#32
  let v43 : BitVec 32 := Scalar.muli v42 c512_i32
  let c0_i32_20 : BitVec 32 := 0#32
  let c1_i32_22 : BitVec 32 := 1#32
  let arg13 : BitVec 32 := Scf.iv c0_i32_20 c1_i32_22 k0_t3
  let v51 : BitVec 32 := Scalar.addi v43 arg13
  let v52 : Index := Scalar.indexCast v51
  ![v52.toNat]
def k0_off7 (k0_t3 : Fin k0_t3_loop.trips) : Fin 2 → Nat :=
  let c0_i32_20 : BitVec 32 := 0#32
  let c1_i32_22 : BitVec 32 := 1#32
  let arg13 : BitVec 32 := Scf.iv c0_i32_20 c1_i32_22 k0_t3
  let c0_i32_31 : BitVec 32 := 0#32
  ![arg13.toNat, 0]
def k0_off8 (v53 : BitVec 32) : Fin 2 → Nat :=
  let c0_i32_32 : BitVec 32 := 0#32
  ![v53.toNat, 0]
def k0_cond4 (i : grid0.Coords) (v1 : BitVec 32) : BitVec 1 :=
  let arg1 : BitVec 32 := BitVec.ofNat 32 (i 1).val
  let c0_i32_8 : BitVec 32 := 0#32
  let v17 : BitVec 1 := Scalar.cmpi .eq arg1 c0_i32_8
  let c1_i32 : BitVec 32 := 1#32
  let v18 : BitVec 1 := Scalar.cmpi .sgt v1 c1_i32
  let v19 : BitVec 1 := Scalar.andi v17 v18
  let v20 : BitVec 32 := Scalar.extui v19
  let c0_i32_9 : BitVec 32 := 0#32
  let v21 : BitVec 1 := Scalar.cmpi .ne v20 c0_i32_9
  v21

def k0_chk2 (i : grid0.Coords) (v1 : BitVec 32) (v53 : BitVec 32) : Prop :=
  (∀ (k0_h4 : k0_cond4 i v1 = 1#1), ∀ a, (k0_off8 v53) a + S1x2048.size a ≤ S8200x2048.size a)
theorem k0_off8_inb : ∀ (i : grid0.Coords) (v1 : BitVec 32) (v53 : BitVec 32) (k0_hw2 : k0_chk2 i v1 v53), ∀ (k0_h4 : k0_cond4 i v1 = 1#1), ∀ a, (k0_off8 v53) a + S1x2048.size a ≤ S8200x2048.size a := fun i v1 v53 k0_hw2 k0_h4 => k0_hw2 k0_h4

@[reducible] def k0_t4_loop : Scf.Loop 32 :=
  let c0_i32_24 : BitVec 32 := 0#32
  let c512_i32_25 : BitVec 32 := 512#32
  let v45 : BitVec 32 := Scalar.addi c0_i32_24 c512_i32_25
  let c1_i32_26 : BitVec 32 := 1#32
  ⟨c0_i32_24, v45, c1_i32_26⟩
def k0_off9 (k0_t4 : Fin k0_t4_loop.trips) : Fin 2 → Nat :=
  let c0_i32_24 : BitVec 32 := 0#32
  let c1_i32_26 : BitVec 32 := 1#32
  let arg13 : BitVec 32 := Scf.iv c0_i32_24 c1_i32_26 k0_t4
  let c0_i32_31 : BitVec 32 := 0#32
  ![arg13.toNat, 0]
def k0_off10 (i : grid0.Coords) : Fin 1 → Nat :=
  let arg0 : BitVec 32 := BitVec.ofNat 32 (i 0).val
  let c1_i32_13 : BitVec 32 := 1#32
  let v28 : BitVec 32 := Scalar.addi arg0 c1_i32_13
  let c24_i32 : BitVec 32 := 24#32
  let v29 : BitVec 32 := Scalar.minsi v28 c24_i32
  let v35 : Index := Scalar.indexCast v29
  ![v35.toNat]
@[reducible] def k0_t5_loop : Scf.Loop 32 :=
  let c0_i32_19 : BitVec 32 := 0#32
  let c512_i32_20 : BitVec 32 := 512#32
  let v43 : BitVec 32 := Scalar.addi c0_i32_19 c512_i32_20
  let c1_i32_21 : BitVec 32 := 1#32
  ⟨c0_i32_19, v43, c1_i32_21⟩
def k0_off11 (i : grid0.Coords) (k0_t5 : Fin k0_t5_loop.trips) : Fin 1 → Nat :=
  let c2_i32_18 : BitVec 32 := 2#32
  let arg0 : BitVec 32 := BitVec.ofNat 32 (i 0).val
  let c1_i32_13 : BitVec 32 := 1#32
  let v28 : BitVec 32 := Scalar.addi arg0 c1_i32_13
  let c24_i32 : BitVec 32 := 24#32
  let v29 : BitVec 32 := Scalar.minsi v28 c24_i32
  let v41 : BitVec 32 := Scalar.muli c2_i32_18 v29
  let c512_i32 : BitVec 32 := 512#32
  let v42 : BitVec 32 := Scalar.muli v41 c512_i32
  let c0_i32_19 : BitVec 32 := 0#32
  let c1_i32_21 : BitVec 32 := 1#32
  let arg13 : BitVec 32 := Scf.iv c0_i32_19 c1_i32_21 k0_t5
  let v44 : BitVec 32 := Scalar.addi v42 arg13
  let v45 : Index := Scalar.indexCast v44
  ![v45.toNat]
def k0_off12 (k0_t5 : Fin k0_t5_loop.trips) : Fin 2 → Nat :=
  let c0_i32_19 : BitVec 32 := 0#32
  let c1_i32_21 : BitVec 32 := 1#32
  let arg13 : BitVec 32 := Scf.iv c0_i32_19 c1_i32_21 k0_t5
  let c0_i32_23 : BitVec 32 := 0#32
  ![arg13.toNat, 0]
def k0_off13 (v46 : BitVec 32) : Fin 2 → Nat :=
  let c0_i32_24 : BitVec 32 := 0#32
  ![v46.toNat, 0]
def k0_cond7 (i : grid0.Coords) (v36 : BitVec 32) : BitVec 1 :=
  let arg1 : BitVec 32 := BitVec.ofNat 32 (i 1).val
  let c1_i32_14 : BitVec 32 := 1#32
  let c13_i32 : BitVec 32 := 13#32
  let v30 : BitVec 32 := Scalar.minsi c1_i32_14 c13_i32
  let v31 : BitVec 1 := Scalar.cmpi .eq arg1 v30
  let arg0 : BitVec 32 := BitVec.ofNat 32 (i 0).val
  let c1_i32_15 : BitVec 32 := 1#32
  let v32 : BitVec 32 := Scalar.addi arg0 c1_i32_15
  let c25_i32 : BitVec 32 := 25#32
  let v33 : BitVec 1 := Scalar.cmpi .slt v32 c25_i32
  let v34 : BitVec 1 := Scalar.andi v31 v33
  let c0_i32_16 : BitVec 32 := 0#32
  let v37 : BitVec 1 := Scalar.cmpi .sgt v36 c0_i32_16
  let v38 : BitVec 1 := Scalar.andi v34 v37
  let v39 : BitVec 32 := Scalar.extui v38
  let c0_i32_17 : BitVec 32 := 0#32
  let v40 : BitVec 1 := Scalar.cmpi .ne v39 c0_i32_17
  v40

def k0_chk3 (i : grid0.Coords) (v36 : BitVec 32) (v46 : BitVec 32) : Prop :=
  (∀ (k0_h7 : k0_cond7 i v36 = 1#1), ∀ a, (k0_off13 v46) a + S1x2048.size a ≤ S8200x2048.size a)
theorem k0_off13_inb : ∀ (i : grid0.Coords) (v36 : BitVec 32) (v46 : BitVec 32) (k0_hw3 : k0_chk3 i v36 v46), ∀ (k0_h7 : k0_cond7 i v36 = 1#1), ∀ a, (k0_off13 v46) a + S1x2048.size a ≤ S8200x2048.size a := fun i v36 v46 k0_hw3 k0_h7 => k0_hw3 k0_h7

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond5 (v1 : BitVec 32) : BitVec 1 :=
  let c1_i32_10 : BitVec 32 := 1#32
  let v22 : BitVec 1 := Scalar.cmpi .eq v1 c1_i32_10
  let v23 : BitVec 32 := Scalar.extui v22
  let c0_i32_11 : BitVec 32 := 0#32
  let v24 : BitVec 1 := Scalar.cmpi .ne v23 c0_i32_11
  v24

def k0_cond6 (v1 : BitVec 32) : BitVec 1 :=
  let c2_i32 : BitVec 32 := 2#32
  let v25 : BitVec 1 := Scalar.cmpi .eq v1 c2_i32
  let v26 : BitVec 32 := Scalar.extui v25
  let c0_i32_12 : BitVec 32 := 0#32
  let v27 : BitVec 1 := Scalar.cmpi .ne v26 c0_i32_12
  v27

def cc0_transform_1 (k0_off1_inb : ∀ i : grid0.Coords, ∀ a, (k0_off1 i) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S25) ![v0.toNat] S1.size (k0_off1_inb i)) numel1_S1
  let v2 : Index := Scalar.indexCast arg0
  let v3 : BitVec 32 := pf.at 1 (Rect.unit (s := S25) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S25) ![v0.toNat] S1.size (k0_off1_inb i)) numel1_S1
  let v2 : Index := Scalar.indexCast arg0
  let v3 : BitVec 32 := pf.at 1 (Rect.unit (s := S25) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S25) ![v0.toNat] S1.size (k0_off1_inb i)) numel1_S1
  let v2 : Index := Scalar.indexCast arg0
  let v3 : BitVec 32 := pf.at 1 (Rect.unit (s := S25) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S25 : Shape := ⟨1, ![25]⟩
abbrev S25600 : Shape := ⟨1, ![25600]⟩
abbrev S8200x2048 : Shape := ⟨2, ![8200, 2048]⟩
abbrev S8x2048x7168 : Shape := ⟨3, ![8, 2048, 7168]⟩
abbrev S8x7168x2048 : Shape := ⟨3, ![8, 7168, 2048]⟩
abbrev S_ : Shape := ⟨0, ![]⟩
abbrev S25600x1 : Shape := ⟨2, ![25600, 1]⟩
abbrev S25600x2048 : Shape := ⟨2, ![25600, 2048]⟩
abbrev S25x1024x2048 : Shape := ⟨3, ![25, 1024, 2048]⟩
abbrev S25x1 : Shape := ⟨2, ![25, 1]⟩
abbrev S25x2048x7168 : Shape := ⟨3, ![25, 2048, 7168]⟩
abbrev S25x7168x2048 : Shape := ⟨3, ![25, 7168, 2048]⟩
abbrev S25x1024x7168 : Shape := ⟨3, ![25, 1024, 7168]⟩
abbrev S25x1024 : Shape := ⟨2, ![25, 1024]⟩
abbrev S25x1024x1 : Shape := ⟨3, ![25, 1024, 1]⟩

abbrev nBuf : Space → Nat
  | .hbm => 86
  | .vmem => 0
  | .smem => 0
  | _ => 0

abbrev bufTy : (tb : Table) → Fin (tcTables nBuf tb) → BufTy
  | .hbm, ⟨0, _⟩ => ⟨S25, .i32⟩
  | .hbm, ⟨1, _⟩ => ⟨S25, .i32⟩
  | .hbm, ⟨2, _⟩ => ⟨S25600, .i32⟩
  | .hbm, ⟨3, _⟩ => ⟨S8200x2048, .f32⟩
  | .hbm, ⟨4, _⟩ => ⟨S8x2048x7168, .f32⟩
  | .hbm, ⟨5, _⟩ => ⟨S8x2048x7168, .f32⟩
  | .hbm, ⟨6, _⟩ => ⟨S8x7168x2048, .f32⟩
  | .hbm, ⟨7, _⟩ => ⟨S_, .i32⟩
  | .hbm, ⟨8, _⟩ => ⟨S25600, .i32⟩
  | .hbm, ⟨9, _⟩ => ⟨S25600, .i1⟩
  | .hbm, ⟨10, _⟩ => ⟨S_, .i32⟩
  | .hbm, ⟨11, _⟩ => ⟨S25600, .i32⟩
  | .hbm, ⟨12, _⟩ => ⟨S25600, .i32⟩
  | .hbm, ⟨13, _⟩ => ⟨S25600, .i32⟩
  | .hbm, ⟨14, _⟩ => ⟨S25600x1, .i32⟩
  | .hbm, ⟨15, _⟩ => ⟨S25600x2048, .f32⟩
  | .hbm, ⟨16, _⟩ => ⟨S25x1024x2048, .f32⟩
  | .hbm, ⟨17, _⟩ => ⟨S_, .i32⟩
  | .hbm, ⟨18, _⟩ => ⟨S25, .i32⟩
  | .hbm, ⟨19, _⟩ => ⟨S25, .i1⟩
  | .hbm, ⟨20, _⟩ => ⟨S_, .i32⟩
  | .hbm, ⟨21, _⟩ => ⟨S25, .i32⟩
  | .hbm, ⟨22, _⟩ => ⟨S25, .i32⟩
  | .hbm, ⟨23, _⟩ => ⟨S25, .i32⟩
  | .hbm, ⟨24, _⟩ => ⟨S25x1, .i32⟩
  | .hbm, ⟨25, _⟩ => ⟨S25x2048x7168, .f32⟩
  | .hbm, ⟨26, _⟩ => ⟨S_, .i32⟩
  | .hbm, ⟨27, _⟩ => ⟨S25, .i32⟩
  | .hbm, ⟨28, _⟩ => ⟨S25, .i1⟩
  | .hbm, ⟨29, _⟩ => ⟨S_, .i32⟩
  | .hbm, ⟨30, _⟩ => ⟨S25, .i32⟩
  | .hbm, ⟨31, _⟩ => ⟨S25, .i32⟩
  | .hbm, ⟨32, _⟩ => ⟨S25, .i32⟩
  | .hbm, ⟨33, _⟩ => ⟨S25x1, .i32⟩
  | .hbm, ⟨34, _⟩ => ⟨S25x2048x7168, .f32⟩
  | .hbm, ⟨35, _⟩ => ⟨S_, .i32⟩
  | .hbm, ⟨36, _⟩ => ⟨S25, .i32⟩
  | .hbm, ⟨37, _⟩ => ⟨S25, .i1⟩
  | .hbm, ⟨38, _⟩ => ⟨S_, .i32⟩
  | .hbm, ⟨39, _⟩ => ⟨S25, .i32⟩
  | .hbm, ⟨40, _⟩ => ⟨S25, .i32⟩
  | .hbm, ⟨41, _⟩ => ⟨S25, .i32⟩
  | .hbm, ⟨42, _⟩ => ⟨S25x1, .i32⟩
  | .hbm, ⟨43, _⟩ => ⟨S25x7168x2048, .f32⟩
  | .hbm, ⟨44, _⟩ => ⟨S25x1024x7168, .f32⟩
  | .hbm, ⟨45, _⟩ => ⟨S25x1024x7168, .f32⟩
  | .hbm, ⟨46, _⟩ => ⟨S25x1024x7168, .f32⟩
  | .hbm, ⟨47, _⟩ => ⟨S_, .f32⟩
  | .hbm, ⟨48, _⟩ => ⟨S25x1024x7168, .f32⟩
  | .hbm, ⟨49, _⟩ => ⟨S25x1024x7168, .f32⟩
  | .hbm, ⟨50, _⟩ => ⟨S_, .f32⟩
  | .hbm, ⟨51, _⟩ => ⟨S25x1024x7168, .f32⟩
  | .hbm, ⟨52, _⟩ => ⟨S25x1024x7168, .f32⟩
  | .hbm, ⟨53, _⟩ => ⟨S25x1024x7168, .f32⟩
  | .hbm, ⟨54, _⟩ => ⟨S25x1024x7168, .f32⟩
  | .hbm, ⟨55, _⟩ => ⟨S25x1024x7168, .f32⟩
  | .hbm, ⟨56, _⟩ => ⟨S25x1024x2048, .f32⟩
  | .hbm, ⟨57, _⟩ => ⟨S25x1024, .i32⟩
  | .hbm, ⟨58, _⟩ => ⟨S_, .i32⟩
  | .hbm, ⟨59, _⟩ => ⟨S_, .i32⟩
  | .hbm, ⟨60, _⟩ => ⟨S25x1024, .i32⟩
  | .hbm, ⟨61, _⟩ => ⟨S25x1024, .i32⟩
  | .hbm, ⟨62, _⟩ => ⟨S25x1024, .i32⟩
  | .hbm, ⟨63, _⟩ => ⟨S_, .i32⟩
  | .hbm, ⟨64, _⟩ => ⟨S25x1024, .i32⟩
  | .hbm, ⟨65, _⟩ => ⟨S25x1024, .i1⟩
  | .hbm, ⟨66, _⟩ => ⟨S25x1024, .i32⟩
  | .hbm, ⟨67, _⟩ => ⟨S25x1024, .i32⟩
  | .hbm, ⟨68, _⟩ => ⟨S_, .i32⟩
  | .hbm, ⟨69, _⟩ => ⟨S25x1024, .i32⟩
  | .hbm, ⟨70, _⟩ => ⟨S25x1024, .i1⟩
  | .hbm, ⟨71, _⟩ => ⟨S25x1024, .i1⟩
  | .hbm, ⟨72, _⟩ => ⟨S_, .i32⟩
  | .hbm, ⟨73, _⟩ => ⟨S25x1024, .i32⟩
  | .hbm, ⟨74, _⟩ => ⟨S25x1024, .i32⟩
  | .hbm, ⟨75, _⟩ => ⟨S25x1024, .i32⟩
  | .hbm, ⟨76, _⟩ => ⟨S25x1, .i32⟩
  | .hbm, ⟨77, _⟩ => ⟨S25x1024, .i32⟩
  | .hbm, ⟨78, _⟩ => ⟨S25x1024, .i1⟩
  | .hbm, ⟨79, _⟩ => ⟨S25x1024x1, .i1⟩
  | .hbm, ⟨80, _⟩ => ⟨S_, .f32⟩
  | .hbm, ⟨81, _⟩ => ⟨S_, .f32⟩
  | .hbm, ⟨82, _⟩ => ⟨S25x1024x2048, .i1⟩
  | .hbm, ⟨83, _⟩ => ⟨S25x1024x2048, .f32⟩
  | .hbm, ⟨84, _⟩ => ⟨S25x1024x2048, .f32⟩
  | .hbm, ⟨85, _⟩ => ⟨S25600x2048, .f32⟩
  | _, _ => ⟨S25, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v40 : Ref sig .tc := ⟨.hbm, 84, rfl⟩
abbrev main_v41 : Ref sig .tc := ⟨.hbm, 85, rfl⟩

abbrev nD : Nat := 1
abbrev τ : Topo := Topo.v7x

variable {F : FTy → Type} [FloatOps F]
-- ==== Kernel2.lean ====
abbrev S8192x2048 : Shape := ⟨2, ![8192, 2048]⟩
abbrev S2x12288 : Shape := ⟨2, ![2, 12288]⟩
abbrev S2048x5632 : Shape := ⟨2, ![2048, 5632]⟩
abbrev S5632x2048 : Shape := ⟨2, ![5632, 2048]⟩
abbrev S2048 : Shape := ⟨1, ![2048]⟩
abbrev S2x1x12288 : Shape := ⟨3, ![2, 1, 12288]⟩
abbrev S1x2048 : Shape := ⟨2, ![1, 2048]⟩
abbrev S512x2048 : Shape := ⟨2, ![512, 2048]⟩
abbrev S1x1x2048 : Shape := ⟨3, ![1, 1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2x12288, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S2x1x12288, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8192x2048 : Shape := ⟨2, ![8192, 2048]⟩
abbrev S2x12288 : Shape := ⟨2, ![2, 12288]⟩
abbrev S2048x5632 : Shape := ⟨2, ![2048, 5632]⟩
abbrev S5632x2048 : Shape := ⟨2, ![5632, 2048]⟩
abbrev S2048 : Shape := ⟨1, ![2048]⟩
abbrev S2x4096x2048 : Shape := ⟨3, ![2, 4096, 2048]⟩
abbrev S2x1x12288 : Shape := ⟨3, ![2, 1, 12288]⟩
abbrev S2x1x2048 : Shape := ⟨3, ![2, 1, 2048]⟩
abbrev S_ : Shape := ⟨0, ![]⟩
abbrev S2x4096x5632 : Shape := ⟨3, ![2, 4096, 5632]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x12288, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S2x4096x2048, .f32⟩
  | .hbm, ⟨8, _⟩ => ⟨S2x1x12288, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S_, .f32⟩
  | .hbm, ⟨16, _⟩ => ⟨S2x1x2048, .f32⟩
  | .hbm, ⟨17, _⟩ => ⟨S2x1x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S2x4096x2048, .f32⟩
  | .hbm, ⟨22, _⟩ => ⟨S2x4096x5632, .f32⟩
  | .hbm, ⟨23, _⟩ => ⟨S2x4096x5632, .f32⟩
  | .hbm, ⟨24, _⟩ => ⟨S2x4096x5632, .f32⟩
  | .hbm, ⟨25, _⟩ => ⟨S_, .f32⟩
  | .hbm, ⟨26, _⟩ => ⟨S2x4096x5632, .f32⟩
  | .hbm, ⟨27, _⟩ => ⟨S2x4096x5632, .f32⟩
  | .hbm, ⟨28, _⟩ => ⟨S_, .f32⟩
  | .hbm, ⟨29, _⟩ => ⟨S2x4096x5632, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2x4096x2048, .f32⟩
  | .hbm, ⟨35, _⟩ => ⟨S_, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S_, .f32⟩
  | .hbm, ⟨45, _⟩ => ⟨S2x4096, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S2x4096x2048, .f32⟩
  | .hbm, ⟨51, _⟩ => ⟨S2x4096x2048, .f32⟩
  | .hbm, ⟨52, _⟩ => ⟨S2x4096x2048, .f32⟩
  | .hbm, ⟨53, _⟩ => ⟨S_, .f32⟩
  | .hbm, ⟨54, _⟩ => ⟨S2x4096, .f32⟩
  | .hbm, ⟨55, _⟩ => ⟨S2x4096x1, .f32⟩
  | .hbm, ⟨56, _⟩ => ⟨S_, .f32⟩
  | .hbm, ⟨57, _⟩ => ⟨S2x4096x1, .f32⟩
  | .hbm, ⟨58, _⟩ => ⟨S2x4096x1, .f32⟩
  | .hbm, ⟨59, _⟩ => ⟨S2x4096x2048, .f32⟩
  | .hbm, ⟨60, _⟩ => ⟨S2x4096x2048, .f32⟩
  | .hbm, ⟨61, _⟩ => ⟨S_, .f32⟩
  | .hbm, ⟨62, _⟩ => ⟨S2x4096x1, .f32⟩
  | .hbm, ⟨63, _⟩ => ⟨S2x4096x1, .f32⟩
  | .hbm, ⟨64, _⟩ => ⟨S2x4096x1, .f32⟩
  | .hbm, ⟨65, _⟩ => ⟨S2x4096x2048, .f32⟩
  | .hbm, ⟨66, _⟩ => ⟨S2x4096x2048, .f32⟩
  | .hbm, ⟨67, _⟩ => ⟨S1x1x2048, .f32⟩
  | .hbm, ⟨68, _⟩ => ⟨S2x4096x2048, .f32⟩
  | .hbm, ⟨69, _⟩ => ⟨S2x4096x2048, .f32⟩
  | .hbm, ⟨70, _⟩ => ⟨S1x1x2048, .f32⟩
  | .hbm, ⟨71, _⟩ => ⟨S2x4096x2048, .f32⟩
  | .hbm, ⟨72, _⟩ => ⟨S2x4096x2048, .f32⟩
  | .hbm, ⟨73, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Kernel3.lean ====
abbrev S8192x9216 : Shape := ⟨2, ![8192, 9216]⟩
abbrev S8192x1024 : Shape := ⟨2, ![8192, 1024]⟩
abbrev S8192x2048 : Shape := ⟨2, ![8192, 2048]⟩
abbrev S2x12288 : Shape := ⟨2, ![2, 12288]⟩
abbrev S8x128x128 : Shape := ⟨3, ![8, 128, 128]⟩
abbrev S8x128 : Shape := ⟨2, ![8, 128]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S2x1x12288 : Shape := ⟨3, ![2, 1, 12288]⟩
abbrev S128x8 : Shape := ⟨2, ![128, 8]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x1024 : Shape := ⟨2, ![128, 1024]⟩

abbrev nBuf : Space → Nat
  | .hbm => 23
  | .vmem => 29
  | .smem => 0
  | _ => 0

abbrev bufTy : (tb : Table) → Fin (tcTables nBuf tb) → BufTy
  | .hbm, ⟨0, _⟩ => ⟨S8192x9216, .f32⟩
  | .hbm, ⟨1, _⟩ => ⟨S8192x1024, .f32⟩
  | .hbm, ⟨2, _⟩ => ⟨S8192x2048, .f32⟩
  | .hbm, ⟨3, _⟩ => ⟨S2x12288, .f32⟩
  | .hbm, ⟨4, _⟩ => ⟨S8x128x128, .f32⟩
  | .hbm, ⟨5, _⟩ => ⟨S8x128, .f32⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2x1x12288, .f32⟩
  | .hbm, ⟨14, _⟩ => ⟨S1024x2048, .bf16⟩
  | .hbm, ⟨15, _⟩ => ⟨S1024x2048, .bf16⟩
  | .hbm, ⟨16, _⟩ => ⟨S2048x2048, .bf16⟩
  | .hbm, ⟨17, _⟩ => ⟨S128x8, .f32⟩
  | .hbm, ⟨18, _⟩ => ⟨S1x1024, .f32⟩
  | .hbm, ⟨19, _⟩ => ⟨S1x1024, .f32⟩
  | .hbm, ⟨20, _⟩ => ⟨S1x2048, .f32⟩
  | .hbm, ⟨21, _⟩ => ⟨S1x2048, .f32⟩
  | .hbm, ⟨22, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x2048, .f32⟩
  | .local _ .vmem, ⟨15, _⟩ => ⟨S256x2048, .f32⟩
  | .local _ .vmem, ⟨16, _⟩ => ⟨S1x1x2048, .f32⟩
  | .local _ .vmem, ⟨17, _⟩ => ⟨S1x1x2048, .f32⟩
  | .local _ .vmem, ⟨18, _⟩ => ⟨S8x128x128, .f32⟩
  | .local _ .vmem, ⟨19, _⟩ => ⟨S128x8, .f32⟩
  | .local _ .vmem, ⟨20, _⟩ => ⟨S1x1024, .f32⟩
  | .local _ .vmem, ⟨21, _⟩ => ⟨S1x1024, .f32⟩
  | .local _ .vmem, ⟨22, _⟩ => ⟨S1024x2048, .bf16⟩
  | .local _ .vmem, ⟨23, _⟩ => ⟨S1024x2048, .bf16⟩
  | .local _ .vmem, ⟨24, _⟩ => ⟨S2048x2048, .bf16⟩
  | .local _ .vmem, ⟨25, _⟩ => ⟨S1x2048, .f32⟩
  | .local _ .vmem, ⟨26, _⟩ => ⟨S1x2048, .f32⟩
  | .local _ .vmem, ⟨27, _⟩ => ⟨S256x2048, .f32⟩
  | .local _ .vmem, ⟨28, _⟩ => ⟨S256x2048, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S8192x9216 : Shape := ⟨2, ![8192, 9216]⟩
abbrev S8192x1024 : Shape := ⟨2, ![8192, 1024]⟩
abbrev S8192x2048 : Shape := ⟨2, ![8192, 2048]⟩
abbrev S2x12288 : Shape := ⟨2, ![2, 12288]⟩
abbrev S8x128x128 : Shape := ⟨3, ![8, 128, 128]⟩
abbrev S8x128 : Shape := ⟨2, ![8, 128]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S2x4096x9216 : Shape := ⟨3, ![2, 4096, 9216]⟩
abbrev S2x4096x1024 : Shape := ⟨3, ![2, 4096, 1024]⟩
abbrev S2x4096x2048 : Shape := ⟨3, ![2, 4096, 2048]⟩
abbrev S2x1x12288 : Shape := ⟨3, ![2, 1, 12288]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x32x128x8x128 : Shape := ⟨5, ![2, 32, 128, 8, 128]⟩
abbrev S128x128 : Shape := ⟨2, ![128, 128]⟩
abbrev S1x128x128 : Shape := ⟨3, ![1, 128, 128]⟩
abbrev S8x2x32x128x128 : Shape := ⟨5, ![8, 2, 32, 128, 128]⟩
abbrev S128x8 : Shape := ⟨2, ![128, 8]⟩
abbrev S1x1x128x8x1 : Shape := ⟨5, ![1, 1, 128, 8, 1]⟩
abbrev S1x1x2048 : Shape := ⟨3, ![1, 1, 2048]⟩

abbrev nBuf : Space → Nat
  | .hbm => 129
  | .vmem => 0
  | .smem => 0
  | _ => 0

abbrev hbmTy0_0 (i : Nat) : BufTy := match i % 128 with
  | 0 => ⟨S8192x9216, .f32⟩
  | 1 => ⟨S8192x1024, .f32⟩
  | 2 => ⟨S8192x2048, .f32⟩
  | 3 => ⟨S2x12288, .f32⟩
  | 4 => ⟨S8x128x128, .f32⟩
  | 5 => ⟨S8x128, .f32⟩
  | 6 => ⟨S1024, .f32⟩
  | 7 => ⟨S1024, .f32⟩
  | 8 => ⟨S1024x2048, .f32⟩
  | 9 => ⟨S1024x2048, .f32⟩
  | 10 => ⟨S2048x2048, .f32⟩
  | 11 => ⟨S2048, .f32⟩
  | 12 => ⟨S2048, .f32⟩
  | 13 => ⟨S2x4096x9216, .f32⟩
  | 14 => ⟨S2x4096x1024, .f32⟩
  | 15 => ⟨S2x4096x2048, .f32⟩
  | 16 => ⟨S2x4096x1024, .f32⟩
  | 17 => ⟨S2x4096x1024, .f32⟩
  | 18 => ⟨S2x4096x1024, .f32⟩
  | 19 => ⟨S2x4096x1024, .f32⟩
  | 20 => ⟨S2x4096x1024, .f32⟩
  | 21 => ⟨S2x4096x2048, .f32⟩
  | 22 => ⟨S2x4096x2048, .f32⟩
  | 23 => ⟨S2x1x12288, .f32⟩
  | 24 => ⟨S2x1x2048, .f32⟩
  | 25 => ⟨S2x1x2048, .f32⟩
  | 26 => ⟨S2x1x2048, .f32⟩
  | 27 => ⟨S2x1x2048, .f32⟩
  | 28 => ⟨S2x1x2048, .f32⟩
  | 29 => ⟨S2x1x2048, .f32⟩
  | 30 => ⟨S_, .f32⟩
  | 31 => ⟨S2x4096, .f32⟩
  | 32 => ⟨S2x4096x1, .f32⟩
  | 33 => ⟨S_, .f32⟩
  | 34 => ⟨S2x4096x1, .f32⟩
  | 35 => ⟨S2x4096x1, .f32⟩
  | 36 => ⟨S2x4096x1024, .f32⟩
  | 37 => ⟨S2x4096x1024, .f32⟩
  | 38 => ⟨S2x4096x1024, .f32⟩
  | 39 => ⟨S_, .f32⟩
  | 40 => ⟨S2x4096, .f32⟩
  | 41 => ⟨S2x4096x1, .f32⟩
  | 42 => ⟨S_, .f32⟩
  | 43 => ⟨S2x4096x1, .f32⟩
  | 44 => ⟨S2x4096x1, .f32⟩
  | 45 => ⟨S2x4096x1024, .f32⟩
  | 46 => ⟨S2x4096x1024, .f32⟩
  | 47 => ⟨S_, .f32⟩
  | 48 => ⟨S2x4096x1, .f32⟩
  | 49 => ⟨S2x4096x1, .f32⟩
  | 50 => ⟨S2x4096x1, .f32⟩
  | 51 => ⟨S2x4096x1024, .f32⟩
  | 52 => ⟨S2x4096x1024, .f32⟩
  | 53 => ⟨S1x1x1024, .f32⟩
  | 54 => ⟨S2x4096x1024, .f32⟩
  | 55 => ⟨S2x4096x1024, .f32⟩
  | 56 => ⟨S1x1x1024, .f32⟩
  | 57 => ⟨S2x4096x1024, .f32⟩
  | 58 => ⟨S2x4096x1024, .f32⟩
  | 59 => ⟨S2x32x128x8x128, .f32⟩
  | 60 => ⟨S_, .i1⟩
  | 61 => ⟨S128x128, .i1⟩
  | 62 => ⟨S128x128, .i32⟩
  | 63 => ⟨S_, .i32⟩
  | 64 => ⟨S128x128, .i32⟩
  | 65 => ⟨S128x128, .i32⟩
  | 66 => ⟨S128x128, .i32⟩
  | 67 => ⟨S128x128, .i1⟩
  | 68 => ⟨S_, .i1⟩
  | 69 => ⟨S128x128, .i1⟩
  | 70 => ⟨S128x128, .i1⟩
  | 71 => ⟨S1x128x128, .i1⟩
  | 72 => ⟨S_, .f32⟩
  | 73 => ⟨S8x128x128, .f32⟩
  | 74 => ⟨S8x128x128, .i1⟩
  | 75 => ⟨S8x128x128, .f32⟩
  | 76 => ⟨S8x2x32x128x128, .f32⟩
  | 77 => ⟨S2x32x128x8x128, .f32⟩
  | 78 => ⟨S128x8, .f32⟩
  | 79 => ⟨S1x1x128x8x1, .f32⟩
  | 80 => ⟨S2x32x128x8x128, .f32⟩
  | 81 => ⟨S2x32x128x8x128, .f32⟩
  | 82 => ⟨S2x4096x1024, .f32⟩
  | 83 => ⟨S2x4096x1024, .f32⟩
  | 84 => ⟨S2x4096x2048, .f32⟩
  | 85 => ⟨S2x4096x2048, .f32⟩
  | 86 => ⟨S2x4096x2048, .f32⟩
  | 87 => ⟨S2x4096x2048, .f32⟩
  | 88 => ⟨S2x4096x2048, .f32⟩
  | 89 => ⟨S2x4096x2048, .f32⟩
  | 90 => ⟨S_, .f32⟩
  | 91 => ⟨S2x4096x2048, .f32⟩
  | 92 => ⟨S2x4096x2048, .f32⟩
  | 93 => ⟨S_, .f32⟩
  | 94 => ⟨S2x1x2048, .f32⟩
  | 95 => ⟨S2x1x2048, .f32⟩
  | 96 => ⟨S2x4096x2048, .f32⟩
  | 97 => ⟨S2x4096x2048, .f32⟩
  | 98 => ⟨S2x4096x2048, .f32⟩
  | 99 => ⟨S_, .f32⟩
  | 100 => ⟨S2x4096, .f32⟩
  | 101 => ⟨S2x4096x1, .f32⟩
  | 102 => ⟨S_, .f32⟩
  | 103 => ⟨S2x4096x1, .f32⟩
  | 104 => ⟨S2x4096x1, .f32⟩
  | 105 => ⟨S2x4096x2048, .f32⟩
  | 106 => ⟨S2x4096x2048, .f32⟩
  | 107 => ⟨S2x4096x2048, .f32⟩
  | 108 => ⟨S_, .f32⟩
  | 109 => ⟨S2x4096, .f32⟩
  | 110 => ⟨S2x4096x1, .f32⟩
  | 111 => ⟨S_, .f32⟩
  | 112 => ⟨S2x4096x1, .f32⟩
  | 113 => ⟨S2x4096x1, .f32⟩
  | 114 => ⟨S2x4096x2048, .f32⟩
  | 115 => ⟨S2x4096x2048, .f32⟩
  | 116 => ⟨S_, .f32⟩
  | 117 => ⟨S2x4096x1, .f32⟩
  | 118 => ⟨S2x4096x1, .f32⟩
  | 119 => ⟨S2x4096x1, .f32⟩
  | 120 => ⟨S2x4096x2048, .f32⟩
  | 121 => ⟨S2x4096x2048, .f32⟩
  | 122 => ⟨S1x1x2048, .f32⟩
  | 123 => ⟨S2x4096x2048, .f32⟩
  | 124 => ⟨S2x4096x2048, .f32⟩
  | 125 => ⟨S1x1x2048, .f32⟩
  | 126 => ⟨S2x4096x2048, .f32⟩
  | 127 => ⟨S2x4096x2048, .f32⟩
  | _ => ⟨S8192x9216, .f32⟩

abbrev hbmTy0_1 (i : Nat) : BufTy := match i % 128 with
  | 0 => ⟨S8192x2048, .f32⟩
  | _ => ⟨S8192x9216, .f32⟩

abbrev hbmTy (i : Nat) : BufTy := match i / 128 with
  | 0 => hbmTy0_0 i
  | 1 => hbmTy0_1 i
  | _ => ⟨S8192x9216, .f32⟩

abbrev bufTy : (tb : Table) → Fin (tcTables nBuf tb) → BufTy
  | .hbm, ⟨i, _⟩ => hbmTy i
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c : Ref sig .tc := ⟨.hbm, 60, rfl⟩
abbrev main_v42 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_0 : Ref sig .tc := ⟨.hbm, 68, rfl⟩
abbrev main_call0_v5 : Ref sig .tc := ⟨.hbm, 69, rfl⟩
abbrev main_v43 : Ref sig .tc := ⟨.hbm, 70, rfl⟩
abbrev main_v44 : Ref sig .tc := ⟨.hbm, 71, rfl⟩
abbrev main_cst_4 : Ref sig .tc := ⟨.hbm, 72, rfl⟩
abbrev main_v45 : Ref sig .tc := ⟨.hbm, 73, rfl⟩
abbrev main_call1_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_5 : Ref sig .tc := ⟨.hbm, 90, rfl⟩
abbrev main_v61 : Ref sig .tc := ⟨.hbm, 91, rfl⟩
abbrev main_v62 : Ref sig .tc := ⟨.hbm, 92, rfl⟩
abbrev main_cst_6 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_7 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_9 : Ref sig .tc := ⟨.hbm, 108, rfl⟩
abbrev main_v75 : Ref sig .tc := ⟨.hbm, 109, rfl⟩
abbrev main_v76 : Ref sig .tc := ⟨.hbm, 110, rfl⟩
abbrev main_cst_10 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_11 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]
-- ==== Kernel4.lean ====
abbrev S8x9216 : Shape := ⟨2, ![8, 9216]⟩
abbrev S8x1024 : Shape := ⟨2, ![8, 1024]⟩
abbrev S8x2048 : Shape := ⟨2, ![8, 2048]⟩
abbrev S8x12288 : Shape := ⟨2, ![8, 12288]⟩
abbrev S8x128x128 : Shape := ⟨3, ![8, 128, 128]⟩
abbrev S8x128 : Shape := ⟨2, ![8, 128]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S1x8x12288 : Shape := ⟨3, ![1, 8, 12288]⟩
abbrev S8x1x1 : Shape := ⟨3, ![8, 1, 1]⟩
abbrev S8 : Shape := ⟨1, ![8]⟩
abbrev S1x1024 : Shape := ⟨2, ![1, 1024]⟩
abbrev S8x1 : Shape := ⟨2, ![8, 1]⟩
abbrev S1x2048 : Shape := ⟨2, ![1, 2048]⟩
abbrev S1x8x2048 : Shape := ⟨3, ![1, 8, 2048]⟩

abbrev nBuf : Space → Nat
  | .hbm => 33
  | .vmem => 20
  | .smem => 0
  | _ => 0

abbrev bufTy : (tb : Table) → Fin (tcTables nBuf tb) → BufTy
  | .hbm, ⟨0, _⟩ => ⟨S8x9216, .f32⟩
  | .hbm, ⟨1, _⟩ => ⟨S8x1024, .f32⟩
  | .hbm, ⟨2, _⟩ => ⟨S8x2048, .f32⟩
  | .hbm, ⟨3, _⟩ => ⟨S8x12288, .f32⟩
  | .hbm, ⟨4, _⟩ => ⟨S8x128x128, .f32⟩
  | .hbm, ⟨5, _⟩ => ⟨S8x128, .f32⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S1x8x12288, .f32⟩
  | .hbm, ⟨14, _⟩ => ⟨S1024x2048, .bf16⟩
  | .hbm, ⟨15, _⟩ => ⟨S1024x2048, .bf16⟩
  | .hbm, ⟨16, _⟩ => ⟨S2048x2048, .bf16⟩
  | .hbm, ⟨17, _⟩ => ⟨S8x1x1, .f32⟩
  | .hbm, ⟨18, _⟩ => ⟨S8, .f32⟩
  | .hbm, ⟨19, _⟩ => ⟨S8x128, .f32⟩
  | .hbm, ⟨20, _⟩ => ⟨S1024, .f32⟩
  | .hbm, ⟨21, _⟩ => ⟨S1x1024, .f32⟩
  | .hbm, ⟨22, _⟩ => ⟨S8x1, .f32⟩
  | .hbm, ⟨23, _⟩ => ⟨S8, .f32⟩
  | .hbm, ⟨24, _⟩ => ⟨S8x128, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x2048, .f32⟩
  | .hbm, ⟨30, _⟩ => ⟨S1x2048, .f32⟩
  | .hbm, ⟨31, _⟩ => ⟨S8x2048, .f32⟩
  | .hbm, ⟨32, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x2048, .f32⟩
  | .local _ .vmem, ⟨8, _⟩ => ⟨S1x8x2048, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S1x2048, .f32⟩
  | .local _ .vmem, ⟨17, _⟩ => ⟨S1x2048, .f32⟩
  | .local _ .vmem, ⟨18, _⟩ => ⟨S8x2048, .f32⟩
  | .local _ .vmem, ⟨19, _⟩ => ⟨S8x1024, .f32⟩
  | _, _ => ⟨S8x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]
-- ==== Reference4Ideal.lean ====
abbrev S8x9216 : Shape := ⟨2, ![8, 9216]⟩
abbrev S8x1024 : Shape := ⟨2, ![8, 1024]⟩
abbrev S8x2048 : Shape := ⟨2, ![8, 2048]⟩
abbrev S8x12288 : Shape := ⟨2, ![8, 12288]⟩
abbrev S8x128x128 : Shape := ⟨3, ![8, 128, 128]⟩
abbrev S8x128 : Shape := ⟨2, ![8, 128]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S8x1x9216 : Shape := ⟨3, ![8, 1, 9216]⟩
abbrev S8x1x1024 : Shape := ⟨3, ![8, 1, 1024]⟩
abbrev S8x1x2048 : Shape := ⟨3, ![8, 1, 2048]⟩
abbrev S8x1x12288 : Shape := ⟨3, ![8, 1, 12288]⟩
abbrev S_ : Shape := ⟨0, ![]⟩
abbrev S8x1 : Shape := ⟨2, ![8, 1]⟩
abbrev S8x1x1 : Shape := ⟨3, ![8, 1, 1]⟩
abbrev S1x1x1024 : Shape := ⟨3, ![1, 1, 1024]⟩
abbrev S8x128x1024 : Shape := ⟨3, ![8, 128, 1024]⟩
abbrev S8x1x128x8x128 : Shape := ⟨5, ![8, 1, 128, 8, 128]⟩
abbrev S128x128 : Shape := ⟨2, ![128, 128]⟩
abbrev S1x128x128 : Shape := ⟨3, ![1, 128, 128]⟩
abbrev S8x8x1x128x128 : Shape := ⟨5, ![8, 8, 1, 128, 128]⟩
abbrev S128x8 : Shape := ⟨2, ![128, 8]⟩
abbrev S1x1x128x8x1 : Shape := ⟨5, ![1, 1, 128, 8, 1]⟩
abbrev S1x1x2048 : Shape := ⟨3, ![1, 1, 2048]⟩

abbrev nBuf : Space → Nat
  | .hbm => 133
  | .vmem => 0
  | .smem => 0
  | _ => 0

abbrev hbmTy0_0 (i : Nat) : BufTy := match i % 128 with
  | 0 => ⟨S8x9216, .f32⟩
  | 1 => ⟨S8x1024, .f32⟩
  | 2 => ⟨S8x2048, .f32⟩
  | 3 => ⟨S8x12288, .f32⟩
  | 4 => ⟨S8x128x128, .f32⟩
  | 5 => ⟨S8x128, .f32⟩
  | 6 => ⟨S1024, .f32⟩
  | 7 => ⟨S1024, .f32⟩
  | 8 => ⟨S1024x2048, .f32⟩
  | 9 => ⟨S1024x2048, .f32⟩
  | 10 => ⟨S2048x2048, .f32⟩
  | 11 => ⟨S2048, .f32⟩
  | 12 => ⟨S2048, .f32⟩
  | 13 => ⟨S8x1x9216, .f32⟩
  | 14 => ⟨S8x1x1024, .f32⟩
  | 15 => ⟨S8x1x2048, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x2048, .f32⟩
  | 22 => ⟨S8x1x2048, .f32⟩
  | 23 => ⟨S8x1x12288, .f32⟩
  | 24 => ⟨S8x1x2048, .f32⟩
  | 25 => ⟨S8x1x2048, .f32⟩
  | 26 => ⟨S8x1x2048, .f32⟩
  | 27 => ⟨S8x1x2048, .f32⟩
  | 28 => ⟨S8x1x2048, .f32⟩
  | 29 => ⟨S8x1x2048, .f32⟩
  | 30 => ⟨S_, .f32⟩
  | 31 => ⟨S8x1, .f32⟩
  | 32 => ⟨S8x1x1, .f32⟩
  | 33 => ⟨S_, .f32⟩
  | 34 => ⟨S8x1x1, .f32⟩
  | 35 => ⟨S8x1x1, .f32⟩
  | 36 => ⟨S8x1x1024, .f32⟩
  | 37 => ⟨S8x1x1024, .f32⟩
  | 38 => ⟨S8x1x1024, .f32⟩
  | 39 => ⟨S_, .f32⟩
  | 40 => ⟨S8x1, .f32⟩
  | 41 => ⟨S8x1x1, .f32⟩
  | 42 => ⟨S_, .f32⟩
  | 43 => ⟨S8x1x1, .f32⟩
  | 44 => ⟨S8x1x1, .f32⟩
  | 45 => ⟨S8x1x1024, .f32⟩
  | 46 => ⟨S8x1x1024, .f32⟩
  | 47 => ⟨S_, .f32⟩
  | 48 => ⟨S8x1x1, .f32⟩
  | 49 => ⟨S8x1x1, .f32⟩
  | 50 => ⟨S8x1x1, .f32⟩
  | 51 => ⟨S8x1x1024, .f32⟩
  | 52 => ⟨S8x1x1024, .f32⟩
  | 53 => ⟨S1x1x1024, .f32⟩
  | 54 => ⟨S8x1x1024, .f32⟩
  | 55 => ⟨S8x1x1024, .f32⟩
  | 56 => ⟨S1x1x1024, .f32⟩
  | 57 => ⟨S8x1x1024, .f32⟩
  | 58 => ⟨S8x1x1024, .f32⟩
  | 59 => ⟨S_, .i32⟩
  | 60 => ⟨S_, .f32⟩
  | 61 => ⟨S8x128x1024, .f32⟩
  | 62 => ⟨S8x1x128x8x128, .f32⟩
  | 63 => ⟨S_, .i1⟩
  | 64 => ⟨S128x128, .i1⟩
  | 65 => ⟨S128x128, .i32⟩
  | 66 => ⟨S_, .i32⟩
  | 67 => ⟨S128x128, .i32⟩
  | 68 => ⟨S128x128, .i32⟩
  | 69 => ⟨S128x128, .i32⟩
  | 70 => ⟨S128x128, .i1⟩
  | 71 => ⟨S_, .i1⟩
  | 72 => ⟨S128x128, .i1⟩
  | 73 => ⟨S128x128, .i1⟩
  | 74 => ⟨S1x128x128, .i1⟩
  | 75 => ⟨S_, .f32⟩
  | 76 => ⟨S8x128x128, .f32⟩
  | 77 => ⟨S8x128x128, .i1⟩
  | 78 => ⟨S8x128x128, .f32⟩
  | 79 => ⟨S8x8x1x128x128, .f32⟩
  | 80 => ⟨S8x1x128x8x128, .f32⟩
  | 81 => ⟨S128x8, .f32⟩
  | 82 => ⟨S1x1x128x8x1, .f32⟩
  | 83 => ⟨S8x1x128x8x128, .f32⟩
  | 84 => ⟨S8x1x128x8x128, .f32⟩
  | 85 => ⟨S8x128x1024, .f32⟩
  | 86 => ⟨S8x1x1024, .f32⟩
  | 87 => ⟨S8x1x1024, .f32⟩
  | 88 => ⟨S8x1x2048, .f32⟩
  | 89 => ⟨S8x1x2048, .f32⟩
  | 90 => ⟨S8x1x2048, .f32⟩
  | 91 => ⟨S8x1x2048, .f32⟩
  | 92 => ⟨S8x1x2048, .f32⟩
  | 93 => ⟨S8x1x2048, .f32⟩
  | 94 => ⟨S_, .f32⟩
  | 95 => ⟨S8x1x2048, .f32⟩
  | 96 => ⟨S8x1x2048, .f32⟩
  | 97 => ⟨S_, .f32⟩
  | 98 => ⟨S8x1x2048, .f32⟩
  | 99 => ⟨S8x1x2048, .f32⟩
  | 100 => ⟨S8x1x2048, .f32⟩
  | 101 => ⟨S8x1x2048, .f32⟩
  | 102 => ⟨S_, .f32⟩
  | 103 => ⟨S8x1, .f32⟩
  | 104 => ⟨S8x1x1, .f32⟩
  | 105 => ⟨S_, .f32⟩
  | 106 => ⟨S8x1x1, .f32⟩
  | 107 => ⟨S8x1x1, .f32⟩
  | 108 => ⟨S8x1x2048, .f32⟩
  | 109 => ⟨S8x1x2048, .f32⟩
  | 110 => ⟨S8x1x2048, .f32⟩
  | 111 => ⟨S_, .f32⟩
  | 112 => ⟨S8x1, .f32⟩
  | 113 => ⟨S8x1x1, .f32⟩
  | 114 => ⟨S_, .f32⟩
  | 115 => ⟨S8x1x1, .f32⟩
  | 116 => ⟨S8x1x1, .f32⟩
  | 117 => ⟨S8x1x2048, .f32⟩
  | 118 => ⟨S8x1x2048, .f32⟩
  | 119 => ⟨S_, .f32⟩
  | 120 => ⟨S8x1x1, .f32⟩
  | 121 => ⟨S8x1x1, .f32⟩
  | 122 => ⟨S8x1x1, .f32⟩
  | 123 => ⟨S8x1x2048, .f32⟩
  | 124 => ⟨S8x1x2048, .f32⟩
  | 125 => ⟨S1x1x2048, .f32⟩
  | 126 => ⟨S8x1x2048, .f32⟩
  | 127 => ⟨S8x1x2048, .f32⟩
  | _ => ⟨S8x9216, .f32⟩

abbrev hbmTy0_1 (i : Nat) : BufTy := match i % 128 with
  | 0 => ⟨S1x1x2048, .f32⟩
  | 1 => ⟨S8x1x2048, .f32⟩
  | 2 => ⟨S8x1x2048, .f32⟩
  | 3 => ⟨S8x2048, .f32⟩
  | 4 => ⟨S8x1024, .f32⟩
  | _ => ⟨S8x9216, .f32⟩

abbrev hbmTy (i : Nat) : BufTy := match i / 128 with
  | 0 => hbmTy0_0 i
  | 1 => hbmTy0_1 i
  | _ => ⟨S8x9216, .f32⟩

abbrev bufTy : (tb : Table) → Fin (tcTables nBuf tb) → BufTy
  | .hbm, ⟨i, _⟩ => hbmTy i
  | _, _ => ⟨S8x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c : Ref sig .tc := ⟨.hbm, 59, rfl⟩
abbrev main_call0_v0 : Ref sig .tc := ⟨.hbm, 60, rfl⟩
abbrev main_v41 : Ref sig .tc := ⟨.hbm, 61, rfl⟩
abbrev main_v42 : Ref sig .tc := ⟨.hbm, 62, rfl⟩
abbrev main_c_4 : Ref sig .tc := ⟨.hbm, 63, rfl⟩
abbrev main_v43 : Ref sig .tc := ⟨.hbm, 64, rfl⟩
abbrev main_call1_v0 : Ref sig .tc := ⟨.hbm, 65, rfl⟩
abbrev main_call1_c : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_c_0 : Ref sig .tc := ⟨.hbm, 71, rfl⟩
abbrev main_call1_v5 : Ref sig .tc := ⟨.hbm, 72, rfl⟩
abbrev main_v44 : Ref sig .tc := ⟨.hbm, 73, rfl⟩
abbrev main_v45 : Ref sig .tc := ⟨.hbm, 74, rfl⟩
abbrev main_cst_5 : Ref sig .tc := ⟨.hbm, 75, rfl⟩
abbrev main_v46 : Ref sig .tc := ⟨.hbm, 76, rfl⟩
abbrev main_call2_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_6 : Ref sig .tc := ⟨.hbm, 94, rfl⟩
abbrev main_v63 : Ref sig .tc := ⟨.hbm, 95, rfl⟩
abbrev main_v64 : Ref sig .tc := ⟨.hbm, 96, rfl⟩
abbrev main_cst_7 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_8 : Ref sig .tc := ⟨.hbm, 102, rfl⟩
abbrev main_v69 : Ref sig .tc := ⟨.hbm, 103, rfl⟩
abbrev main_v70 : Ref sig .tc := ⟨.hbm, 104, rfl⟩
abbrev main_cst_9 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_10 : Ref sig .tc := ⟨.hbm, 111, rfl⟩
abbrev main_v76 : Ref sig .tc := ⟨.hbm, 112, rfl⟩
abbrev main_v77 : Ref sig .tc := ⟨.hbm, 113, rfl⟩
abbrev main_cst_11 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_12 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]
-- ==== Proof.Moe.Gather.lean ====
/-
  The row gather of the grouped expert kernel: 512 one-row copies from the token table into the scratch, all
  credited to one semaphore, and the 512 waits that collect them.

  The copies of one half tile form a batch (`Transfers.Batch`): copy `r` delivers row `r` of the scratch holding the
  token row it names, and hands back the share of the token table it read.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Tactic
public import Idealize.ShloMosaic.Lib.Pointwise
public import Idealize.ShloMosaic.Lib.Pipeline.Frame

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F] [∀ e, Nonempty (Elt F e)]

local notation "𝕄" => MT nD τ sig Unit (Elt F) ℕ (UD sig nD τ) ℕ

/-! ## Rows -/

theorem dst_inb (r : Fin 512) : ∀ a, (![r.val, 0] : Fin 2 → ℕ) a + S1x2048.size a ≤ S512x2048.size a := by
  have := r.isLt; intro a; fin_cases a
  · show r.val + 1 ≤ 512; omega
  · show 0 + 2048 ≤ 2048; omega

theorem src_inb (n : Fin 8200) : ∀ a, (![n.val, 0] : Fin 2 → ℕ) a + S1x2048.size a ≤ S8200x2048.size a := by
  have := n.isLt; intro a; fin_cases a
  · show n.val + 1 ≤ 8200; omega
  · show 0 + 2048 ≤ 2048; omega

/-- Row `r` of the scratch and row `n` of the token table, as the copies name them. -/
def dstRow (r : Fin 512) : Memref sig .tc .vmem S1x2048 .f32 :=
  (Memref.whole cc0_scratch0).slice (Rect.unit (s := S512x2048) ![r.val, 0] S1x2048.size (dst_inb r)) (fun _ => rfl)
def srcRow (n : Fin 8200) : Memref sig .tc .hbm S1x2048 .f32 :=
  (Memref.whole main_arg3).slice (Rect.unit (s := S8200x2048) ![n.val, 0] S1x2048.size (src_inb n)) (fun _ => rfl)

abbrev Scr (F : FTy → Type) : Type := S512x2048.Idx → Elt F .f32
abbrev Tab (F : FTy → Type) : Type := S8200x2048.Idx → Elt F .f32

/-- The scratch after the copies: row `r` holds row `ρ r` of the token table `h`. -/
def gathered (ρ : Fin 512 → Fin 8200) (h : Tab F) : Scr F :=
  fun x => h (ix2 (n0 := 8200) (n1 := 2048) (ρ (x 0)) (x 1))

/-- Row `r`'s elements of the scratch. -/
abbrev rset (r : Fin 512) : Finset S512x2048.Idx := (Rect.unit (s := S512x2048) ![r.val, 0] S1x2048.size (dst_inb r)).set

theorem dstRow_set (r : Fin 512) : (dstRow r).view.set = rset r := by
  unfold dstRow; exact View.set_slice_whole _ _

/-- Row `n`'s elements of the token table. -/
abbrev sset (n : Fin 8200) : Finset S8200x2048.Idx := (Rect.unit (s := S8200x2048) ![n.val, 0] S1x2048.size (src_inb n)).set

theorem srcRow_set (n : Fin 8200) : (srcRow n).view.set = sset n := by
  unfold srcRow; exact View.set_slice_whole _ _

theorem mem_rset (r : Fin 512) (y : S512x2048.Idx) : y ∈ rset r ↔ (y 0).val = r.val := by
  rw [Rect.mem_set_unit]
  have h1 : (y 1).val < 2048 := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 2048; omega

theorem rset_disjoint : ∀ b b' : Fin 512, b ≠ b' → Disjoint (rset b) (rset b') := fun b b' hne => by
  rw [Finset.disjoint_left]; intro y hy hy'; rw [mem_rset] at hy hy'; exact hne (Fin.ext (by omega))

theorem rset_cover : Finset.univ.biUnion rset = Finset.univ := by
  ext y; simp only [Finset.mem_biUnion, Finset.mem_univ, true_and, iff_true]; exact ⟨y 0, (mem_rset _ _).mpr rfl⟩

/-- What copy `r` writes is row `r` of the gathered scratch. -/
theorem write_row (ρ : Fin 512 → Fin 8200) (h : Tab F) (g : Scr F) (r : Fin 512) :
    ∀ i ∈ rset r,
      (dstRow r).view.write (Elt F) g ((srcRow (ρ r)).view.read (Elt F) h) Finset.univ i = gathered ρ h i := by
  intro i hi
  rw [← dstRow_set] at hi
  obtain ⟨x, -, rfl⟩ := Finset.mem_map.mp hi
  refine (View.write_emb_of_mem (v := (dstRow r).view) g _ (Finset.mem_univ x)).trans ?_
  have hx : (x 0).val = 0 := by have : (x 0).val < 1 := (x 0).isLt; omega
  show h _ = h _
  congr 1
  funext a
  have e0 : (show S512x2048.Idx from (dstRow r).view.emb x) 0 = r :=
    Fin.ext (by show r.val + 1 * (x 0).val = r.val; omega)
  match a with
  | ⟨0, _⟩ =>
    refine Fin.ext ?_
    show (ρ r).val + 1 * (x 0).val = (ρ ((show S512x2048.Idx from (dstRow r).view.emb x) 0)).val
    rw [e0]; omega
  | ⟨1, _⟩ => rfl

/-! ## The batch -/

section Names

variable (c : Dev nD) (ρ : Fin 512 → Fin 8200) (h : Tab F)

/-- The scratch row `r` at contents `g`; the part of token table share `r` the copy reads, and the rest of that share. -/
abbrev rowPt (r : Fin 512) (g : Scr F) : sProp 𝕄 :=
  (Memref.whole cc0_scratch0).view.loc (c : Thread nD τ) ↦[rset r]{fullShare} g
abbrev tokPt (r : Fin 512) : sProp 𝕄 :=
  (Memref.whole main_arg3).view.loc (c : Thread nD τ) ↦[sset (ρ r)]{Transfers.shareTok fullShare 512 r} h
abbrev restPt (r : Fin 512) : sProp 𝕄 :=
  (Memref.whole main_arg3).view.loc (c : Thread nD τ) ↦[Finset.univ \ sset (ρ r)]{Transfers.shareTok fullShare 512 r} h

/-- What copy `r` delivers. -/
abbrev deliv (r : Fin 512) : sProp 𝕄 := iprop(rowPt c r (gathered ρ h) ∗ tokPt c ρ h r)

instance deliv_storable (r : Fin 512) : BI.Storable (upEmb : UEmb _ 𝕄) (deliv c ρ h r) := by
  unfold deliv rowPt tokPt; infer_instance

/-- One row's credit. -/
abbrev NN : ℕ := (dstRow 0).view.dmaCredit

theorem NN_pos : 0 < NN := View.dmaCredit_pos _ (by decide)

/-- The own semaphore of the kernel. -/
abbrev ownSem : SemLoc sig := .dma cc0_scratch2.sem

/-- The batch: `j` copies issued, `u` units consumed. -/
abbrev batch (j u : ℕ) : sProp 𝕄 :=
  Transfers.Batch (countersEmb (U := UD sig nD τ)) (c : Thread nD τ) ownSem () NN (deliv c ρ h) j u

/-- Before trip `k` of an issue loop. -/
def issueInv (xt : S25600.Idx → Elt F .i32) (k : ℕ) (_ : Unit) : sProp 𝕄 :=
  iprop(batch c ρ h k 0 ∗ bigSep (Ring.rangeSet 512 k 512) (fun r => iprop(∃ g, rowPt c r g))
    ∗ bigSep (Ring.rangeSet 512 k 512) (tokPt c ρ h)
    ∗ ((Memref.whole main_arg2).view.loc (c : Thread nD τ) ↦{fullShare.right} xt))

/-- One copy of the batch issued: from token row `o4 = (ρ r, 0)` into scratch row `r`. -/
theorem issue_copy (bd : Option _) (r : Fin 512) (g : Scr F)
    (h3 : ∀ a, (![r.val, 0] : Fin 2 → ℕ) a + S1x2048.size a ≤ S512x2048.size a)
    (o4 : Fin 2 → ℕ) (h4 : ∀ a, o4 a + S1x2048.size a ≤ S8200x2048.size a) (he4 : o4 = ![(ρ r).val, 0])
    {α : Type} (k : PUnit → Prog (TpuEff nD τ sig (Elt F) Λ₀ .tc) α) (Q : α → sProp 𝕄) :
    iprop(tokPt c ρ h r ∗ rowPt c r g ∗ batch c ρ h r.val 0)
      ⊢ iprop((batch c ρ h (r.val + 1) 0 -∗ wp frame (wpE (defs₀ (F := F)) Variants.none (c : Thread nD τ) bd) Set.univ (k ⟨⟩) Q)
        -∗ wp frame (wpE (defs₀ (F := F)) Variants.none (c : Thread nD τ) bd) Set.univ
          (.op (.enqueueDma ((Memref.whole main_arg3).slice (Rect.unit (s := S8200x2048) o4 S1x2048.size h4) (fun _ => rfl))
            (.here ((Memref.whole cc0_scratch0).slice (Rect.unit (s := S512x2048) ![r.val, 0] S1x2048.size h3) (fun _ => rfl)))
            (.dma cc0_scratch2.sem) (View.wordExact_bits rfl) (View.wordExact_bits rfl) ⟨Or.inl rfl, trivial⟩) k) Q) := by
  subst he4
  have key := Transfers.wp_dmaBatch (countersEmb (U := UD sig nD τ)) Variants.none (c : Thread nD τ) bd (src := srcRow (ρ r)) (dst := dstRow r)
    (via := ReadAs.same) (sm := .dma cc0_scratch2.sem) (hsrc := View.wordExact_bits rfl) (hdst := View.wordExact_bits rfl) (hsem := ⟨Or.inl rfl, trivial⟩)
    (defs := defs₀ (F := F)) (k := k) (Q := Q) (q := Transfers.shareTok fullShare 512 r) (u := 0)
    (Sd := rset r) (fd := g) (fs := h) (D := deliv c ρ h) () NN rfl (Finset.subset_of_eq (dstRow_set r)) r.isLt (Nat.zero_le _)
    (by rw [srcRow_set]; exact sep_mono (Entails.of_eq (pointsTo_congr (write_row ρ h g r))) .rfl)
  rw [srcRow_set] at key
  exact key

/-- One trip of an issue loop: read the row's token word, check it, issue the copy. -/
theorem issue_trip (bd : Option _) (r : Fin 512) (xt : S25600.Idx → Elt F .i32)
    (P : BitVec 32 → Prop) (dec : ∀ w, Decidable (P w))
    (o2 : Fin 1 → ℕ) (h2 : ∀ a, o2 a + S1.size a ≤ S25600.size a)
    (o3 : Fin 2 → ℕ) (h3 : ∀ a, o3 a + S1x2048.size a ≤ S512x2048.size a) (he3 : o3 = ![r.val, 0])
    (o4 : BitVec 32 → Fin 2 → ℕ) (h4 : ∀ w, P w → ∀ a, o4 w a + S1x2048.size a ≤ S8200x2048.size a)
    (w : BitVec 32) (hw : ∀ x, ((Memref.whole main_arg2).access (Rect.unit (s := S25600) o2 S1.size h2)).read (Elt F) xt x = w)
    (hP : P w) (he4 : o4 w = ![(ρ r).val, 0]) :
    issueInv c ρ h xt r.val () ⊢ wp frame (wpE (defs₀ (F := F)) Variants.none (c : Thread nD τ) bd) Set.univ
      (do
        let v : Elt F .i32 ← smemLoad (Memref.whole main_arg2) (Rect.unit (s := S25600) o2 S1.size h2) numel1_S1 rfl
        have hv : P v := (← Prog.lift (TpuEff.assume (P v) (dec v))).down
        let d : Memref sig .tc .vmem S1x2048 .f32 := (Memref.whole cc0_scratch0).slice (Rect.unit (s := S512x2048) o3 S1x2048.size h3) (fun _ => rfl)
        let s : Memref sig .tc .hbm S1x2048 .f32 := (Memref.whole main_arg3).slice (Rect.unit (s := S8200x2048) (o4 v) S1x2048.size (h4 v hv)) (fun _ => rfl)
        Prog.lift (.enqueueDma s (.here d) (.dma cc0_scratch2.sem) (View.wordExact_bits rfl) (View.wordExact_bits rfl) ⟨Or.inl rfl, trivial⟩)
        pure ⟨⟩) (issueInv c ρ h xt (r.val + 1)) := by
  have hr := r.isLt
  subst he3
  unfold issueInv
  rw [Ring.bigSep_rangeSet_head (Φ := fun r => iprop(∃ g, rowPt c r g)) hr hr,
    Ring.bigSep_rangeSet_head (Φ := tokPt c ρ h) hr hr]
  iintro ⟨HB, ⟨⟨%g, HR⟩, HRs⟩, ⟨HT, HTs⟩, Hx⟩
  sl_exec
  have hw' : issue_trip.sl.r xt o2 h2 = w := hw _
  iapply (wp_assume Variants.none (c : Thread nD τ) bd Set.univ (hw'.symm ▸ hP : P (issue_trip.sl.r xt o2 h2)))
  iapply (issue_copy c ρ h bd r g _ _ _ (hw'.symm ▸ he4) ) $$ [HB HR HT]
  · isplitl [HT]; · iexact HT
    isplitl [HR]; · iexact HR
    iexact HB
  iintro HB
  rw [show ((Prog.ret PUnit.unit : Prog (TpuEff nD τ sig (Elt F) Λ₀ .tc) PUnit).bind fun __r => Pure.pure PUnit.unit) = Prog.ret PUnit.unit from rfl]
  sl_step
  isplitl [HB]; · iexact HB
  isplitl [HRs]; · iexact HRs
  isplitl [HTs]; · iexact HTs
  iexact Hx

/-- Before trip `k` of a wait loop: the copies collected so far, or, after the last, all they delivered. -/
def waitInv (k : ℕ) (_ : Unit) : sProp 𝕄 :=
  iprop(⌜k ≤ 512⌝ ∗ (∃ W, owes (c : Thread nD τ) 0 W)
    ∗ (if k < 512 then batch c ρ h 512 (k * NN)
       else iprop(semVal ((c : Thread nD τ), ownSem) 0 ∗ bigSep Finset.univ (deliv c ρ h))))

/-- One trip of a wait loop. -/
theorem wait_trip (bd : Option _) (k : Fin 512) (o3 : Fin 2 → ℕ) (h3 : ∀ a, o3 a + S1x2048.size a ≤ S512x2048.size a)
    (he3 : o3 = ![k.val, 0]) (h0) :
    waitInv c ρ h k.val () ⊢ wp frame (wpE (defs₀ (F := F)) Variants.none (c : Thread nD τ) bd) Set.univ
      (do
        let d : Memref sig .tc .vmem S1x2048 .f32 := (Memref.whole cc0_scratch0).slice (Rect.unit (s := S512x2048) o3 S1x2048.size h3) (fun _ => rfl)
        let s : Memref sig .tc .hbm S1x2048 .f32 := (Memref.whole main_arg3).slice (Rect.unit (s := S8200x2048) ![0, 0] S1x2048.size h0) (fun _ => rfl)
        Prog.lift (.waitDma2 cc0_scratch2.sem s d (View.wordExact_bits rfl) (View.wordExact_bits rfl))
        pure ⟨⟩) (waitInv c ρ h (k.val + 1)) := by
  have hk := k.isLt
  subst he3
  unfold waitInv
  simp only [if_pos hk]
  rcases Nat.lt_or_ge (k.val + 1) 512 with h1 | h1
  · simp only [if_pos h1]
    iintro ⟨-, ⟨%W, HO⟩, HB⟩
    sl_exec
    sl_step
    isplitr; · ipureintro; omega
    isplitl [HO]; · iexists _; iexact HO
    rw [Nat.succ_mul]
    iexact HB
  · simp only [if_neg (Nat.not_lt.mpr h1)]
    iintro ⟨-, ⟨%W, HO⟩, HB⟩
    sl_exec
    sl_step
    isplitr; · ipureintro; omega
    isplitl [HO]; · iexists _; iexact HO
    isplitl [HB]; · iexact HB
    iexact HB_all

/-! ## What is in hand between gathers, and what a gather in flight leaves -/

/-- The scratch at some contents, the token table whole, the semaphore at zero. -/
def atRest : sProp 𝕄 :=
  iprop((∃ g, (Memref.whole cc0_scratch0).view.loc (c : Thread nD τ) ↦{fullShare} g)
    ∗ ((Memref.whole main_arg3).view.loc (c : Thread nD τ) ↦{fullShare} h)
    ∗ semVal ((c : Thread nD τ), ownSem) 0)

/-- The scratch holding the gathered rows, the token table whole, the semaphore at zero. -/
def landed : sProp 𝕄 :=
  iprop(((Memref.whole cc0_scratch0).view.loc (c : Thread nD τ) ↦{fullShare} (gathered ρ h))
    ∗ ((Memref.whole main_arg3).view.loc (c : Thread nD τ) ↦{fullShare} h)
    ∗ semVal ((c : Thread nD τ), ownSem) 0)

/-- What stays outside the batch: the parts of the shares no copy reads, and the share never dealt. -/
def outside : sProp 𝕄 :=
  iprop(((Memref.whole main_arg3).view.loc (c : Thread nD τ) ↦{Transfers.shareDrop fullShare 512} h)
    ∗ bigSep Finset.univ (restPt c ρ h))

/-- The gather in flight: 512 copies issued, none collected. -/
def flight : sProp 𝕄 := iprop(batch c ρ h 512 0 ∗ outside c ρ h)

/-- The token table is its dealt shares, each the part its copy reads beside the rest. -/
theorem table_split :
    ((Memref.whole main_arg3).view.loc (c : Thread nD τ) ↦{fullShare} h : sProp 𝕄)
      ⊣⊢ iprop(outside c ρ h ∗ bigSep Finset.univ (tokPt c ρ h)) := by
  have e : (bigSep Finset.univ (fun i : Fin 512 => ((Memref.whole main_arg3).view.loc (c : Thread nD τ) ↦{Transfers.shareTok fullShare 512 i} h : sProp 𝕄)))
      = iprop(bigSep Finset.univ (tokPt c ρ h) ∗ bigSep Finset.univ (restPt c ρ h)) := by
    refine Eq.trans ?_ (BI.bigSep_sep _ _ _)
    refine congrArg (bigSep Finset.univ) (funext fun i => ?_)
    have := (pointsTo_split_subset (ℓ := (Memref.whole main_arg3).view.loc (c : Thread nD τ)) (q := Transfers.shareTok fullShare 512 i) (f := h)
      (Finset.subset_univ (sset (ρ i))) : _ ⊣⊢ (_ : sProp 𝕄))
    exact Entails.antisymm this.1 this.2
  have t := (Transfers.pointsTo_toks (ℓ := (Memref.whole main_arg3).view.loc (c : Thread nD τ)) (S := Finset.univ) (f := h) fullShare 512 : _ ⊣⊢ (_ : sProp 𝕄))
  rw [e] at t
  unfold outside
  constructor
  · refine t.1.trans ?_
    iintro ⟨Hd, Ht, Hr⟩
    isplitl [Hd Hr]
    · isplitl [Hd] <;> iassumption
    iexact Ht
  · refine BIBase.Entails.trans ?_ t.2
    iintro ⟨⟨Hd, Hr⟩, Ht⟩
    isplitl [Hd]; · iexact Hd
    isplitl [Ht] <;> iassumption

/-- Before the first copy. -/
theorem issue_start (E : Set ℕ) (xt : S25600.Idx → Elt F .i32) :
    iprop(atRest c h ∗ ((Memref.whole main_arg2).view.loc (c : Thread nD τ) ↦{fullShare.right} xt))
      ⊢ (iprop(|={E}=> (issueInv c ρ h xt 0 () ∗ outside c ρ h)) : sProp 𝕄) := by
  unfold atRest issueInv
  iintro ⟨⟨⟨%g, Hg⟩, Ht, Hs⟩, Hx⟩
  imod (Transfers.batch_alloc' (Lvl := ℕ) (countersEmb (U := UD sig nD τ)) (c : Thread nD τ) (sm := ownSem) () NN (deliv c ρ h) (E := E)) $$ Hs with HB
  imodintro
  ihave Ht' := (table_split c ρ h).1 $$ Ht
  icases Ht' with ⟨Ho, Ht⟩
  isplitr [Ho]
  · isplitl [HB]; · iexact HB
    rw [Ring.rangeSet_univ]
    isplitl [Hg]
    · iapply (show ((Memref.whole cc0_scratch0).view.loc (c : Thread nD τ) ↦{fullShare} g : sProp 𝕄)
          ⊢ bigSep Finset.univ (fun r => iprop(∃ g, rowPt c r g)) from
        (Entails.of_eq (Ring.pointsTo_blocks (ℓ := (Memref.whole cc0_scratch0).view.loc (c : Thread nD τ)) rset rset_disjoint rset_cover g)).trans
          (BI.bigSep_mono fun r _ => by
            show (rowPt c r g : sProp 𝕄) ⊢ iprop(∃ g, rowPt c r g)
            iintro H; iexists g; iexact H)) $$ Hg
    isplitl [Ht]; · iexact Ht
    iexact Hx
  · iexact Ho

/-- After the last copy. -/
theorem issue_finish (xt : S25600.Idx → Elt F .i32) :
    iprop(issueInv c ρ h xt 512 () ∗ outside c ρ h)
      ⊢ (iprop(flight c ρ h ∗ ((Memref.whole main_arg2).view.loc (c : Thread nD τ) ↦{fullShare.right} xt)) : sProp 𝕄) := by
  unfold issueInv flight
  rw [Ring.rangeSet_empty (le_refl 512)]
  iintro ⟨⟨HB, -, -, Hx⟩, Ho⟩
  isplitr [Hx]
  · isplitl [HB] <;> iassumption
  · iexact Hx

/-- Before the first wait. -/
theorem wait_start (W) : iprop(flight c ρ h ∗ owes (c : Thread nD τ) 0 W) ⊢ (iprop(waitInv c ρ h 0 () ∗ outside c ρ h) : sProp 𝕄) := by
  unfold flight waitInv
  rw [if_pos (by decide), Nat.zero_mul]
  iintro ⟨⟨HB, Ho⟩, HO⟩
  isplitr [Ho]
  · isplitr; · ipureintro; omega
    isplitl [HO]; · iexists W; iexact HO
    iexact HB
  · iexact Ho

/-- After the last wait. -/
theorem wait_finish : iprop(waitInv c ρ h 512 () ∗ outside c ρ h) ⊢ (iprop(landed c ρ h ∗ ∃ W, owes (c : Thread nD τ) 0 W) : sProp 𝕄) := by
  unfold waitInv landed
  rw [if_neg (by decide)]
  iintro ⟨⟨-, HO, Hs, HD⟩, Ho⟩
  ihave HD' := (show bigSep Finset.univ (deliv c ρ h) ⊢ iprop(bigSep Finset.univ (fun r => rowPt c r (gathered ρ h)) ∗ bigSep Finset.univ (tokPt c ρ h))
    from Entails.of_eq (BI.bigSep_sep Finset.univ (fun r => rowPt c r (gathered ρ h)) (tokPt c ρ h))) $$ HD
  icases HD' with ⟨HR, HT⟩
  isplitr [HO]
  · isplitl [HR]
    · iapply (show bigSep Finset.univ (fun r => rowPt c r (gathered ρ h))
          ⊢ ((Memref.whole cc0_scratch0).view.loc (c : Thread nD τ) ↦{fullShare} (gathered ρ h) : sProp 𝕄) from
        (Entails.of_eq (Ring.pointsTo_blocks (ℓ := (Memref.whole cc0_scratch0).view.loc (c : Thread nD τ)) rset rset_disjoint rset_cover (gathered ρ h)).symm)) $$ HR
    isplitr [Hs]
    · iapply (table_split c ρ h).2
      isplitl [Ho] <;> iassumption
    · iexact Hs
  · iexact HO

theorem landed_atRest : landed c ρ h ⊢ (atRest c h : sProp 𝕄) := by
  unfold landed atRest
  iintro ⟨Hg, H⟩
  isplitl [Hg]; · iexists _; iexact Hg
  iexact H

end Names

end Cert.KernelIdeal.Moe
-- ==== Proof.Moe.Loops.lean ====
/-
  The counted loops of the grouped expert kernel: each gather loop issues the 512 copies of one half tile, each wait
  loop collects them. Also the kernel's conditions, in terms of the grid coordinates and of the tile's number of halves.
-/
module

public import proofs.«01_k».proof.Proof.Moe.Gather

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F] [∀ e, Nonempty (Elt F e)]

local notation "𝕄" => MT nD τ sig Unit (Elt F) ℕ (UD sig nD τ) ℕ

/-! ## The conditions -/

/-- A tile has no, one or two halves of rows in use. -/
def Halves (v : BitVec 32) : Prop := v = 0#32 ∨ v = 1#32 ∨ v = 2#32

instance (v : BitVec 32) : Decidable (Halves v) := by unfold Halves; infer_instance

theorem ne_extui (b : BitVec 1) : Scalar.cmpi .ne (Scalar.extui b : BitVec 32) 0#32 = 1#1 ↔ b = 1#1 := by
  revert b; decide

theorem andi_iff (a b : BitVec 1) : Scalar.andi a b = 1#1 ↔ a = 1#1 ∧ b = 1#1 := by
  revert a b; decide

theorem eq_iff (n k : ℕ) (hn : n < 2 ^ 32) (hk : k < 2 ^ 32) : Scalar.cmpi .eq (BitVec.ofNat 32 n) (BitVec.ofNat 32 k) = 1#1 ↔ n = k := by
  show BitVec.ofBool (BitVec.ofNat 32 n == BitVec.ofNat 32 k) = 1#1 ↔ _
  constructor
  · intro h
    by_contra hne
    have : (BitVec.ofNat 32 n == BitVec.ofNat 32 k) = false := by
      rw [beq_eq_false_iff_ne]; intro e
      have := congrArg BitVec.toNat e
      rw [BitVec.toNat_ofNat, BitVec.toNat_ofNat, Nat.mod_eq_of_lt hn, Nat.mod_eq_of_lt hk] at this
      exact hne this
    rw [this] at h; exact absurd h (by decide)
  · rintro rfl; simp

theorem sgt0_iff (v : BitVec 32) (hv : Halves v) : Scalar.cmpi .sgt v 0#32 = 1#1 ↔ v ≠ 0#32 := by
  rcases hv with rfl | rfl | rfl <;> decide

theorem sgt1_iff (v : BitVec 32) (hv : Halves v) : Scalar.cmpi .sgt v 1#32 = 1#1 ↔ v = 2#32 := by
  rcases hv with rfl | rfl | rfl <;> decide

theorem ax0 (i : grid0.Coords) : (i 0).val < 25 := (i 0).isLt
theorem ax1 (i : grid0.Coords) : (i 1).val < 14 := (i 1).isLt

theorem cond1_iff (i : grid0.Coords) : k0_cond1 i = 1#1 ↔ (i 1).val = 0 := by
  have := ax1 i
  unfold k0_cond1
  simp only [ne_extui]
  exact eq_iff _ 0 (by omega) (by omega)

theorem cond2_iff (i : grid0.Coords) (v : BitVec 32) (hv : Halves v) :
    k0_cond2 i v = 1#1 ↔ ((i 1).val = 0 ∧ v ≠ 0#32) ∧ (i 0).val = 0 := by
  have := ax1 i; have := ax0 i
  unfold k0_cond2
  simp only [ne_extui, andi_iff, sgt0_iff v hv]
  rw [show Scalar.cmpi .eq (BitVec.ofNat 32 (i 1).val) 0#32 = 1#1 ↔ (i 1).val = 0 from eq_iff _ 0 (by omega) (by omega),
    show Scalar.cmpi .eq (BitVec.ofNat 32 (i 0).val) 0#32 = 1#1 ↔ (i 0).val = 0 from eq_iff _ 0 (by omega) (by omega)]

theorem cond3_iff (i : grid0.Coords) (v : BitVec 32) (hv : Halves v) :
    (Scalar.cmpi .ne (Scalar.extui (Scalar.andi (Scalar.cmpi .eq (BitVec.ofNat 32 (i 1).val) 0#32) (Scalar.cmpi .sgt v 0#32)) : BitVec 32) 0#32 = 1#1)
      ↔ (i 1).val = 0 ∧ v ≠ 0#32 := by
  have := ax1 i
  simp only [ne_extui, andi_iff, sgt0_iff v hv]
  rw [show Scalar.cmpi .eq (BitVec.ofNat 32 (i 1).val) 0#32 = 1#1 ↔ (i 1).val = 0 from eq_iff _ 0 (by omega) (by omega)]

theorem cond4_iff (i : grid0.Coords) (v : BitVec 32) (hv : Halves v) :
    k0_cond4 i v = 1#1 ↔ (i 1).val = 0 ∧ v = 2#32 := by
  have := ax1 i
  unfold k0_cond4
  simp only [ne_extui, andi_iff, sgt1_iff v hv]
  rw [show Scalar.cmpi .eq (BitVec.ofNat 32 (i 1).val) 0#32 = 1#1 ↔ (i 1).val = 0 from eq_iff _ 0 (by omega) (by omega)]

theorem cond5_iff (v : BitVec 32) (hv : Halves v) : k0_cond5 v = 1#1 ↔ v = 1#32 := by
  rcases hv with rfl | rfl | rfl <;> decide

theorem cond6_iff (v : BitVec 32) (hv : Halves v) : k0_cond6 v = 1#1 ↔ v = 2#32 := by
  rcases hv with rfl | rfl | rfl <;> decide

theorem slt25 (a : Fin 25) : Scalar.cmpi .slt (Scalar.addi (BitVec.ofNat 32 a.val) 1#32) 25#32 = 1#1 ↔ a.val + 1 < 25 := by
  revert a; decide

theorem cond7_iff (i : grid0.Coords) (v : BitVec 32) (hv : Halves v) :
    k0_cond7 i v = 1#1 ↔ ((i 1).val = 1 ∧ (i 0).val + 1 < 25) ∧ v ≠ 0#32 := by
  have := ax1 i
  unfold k0_cond7
  simp only [ne_extui, andi_iff, sgt0_iff v hv]
  rw [show Scalar.cmpi .eq (BitVec.ofNat 32 (i 1).val) (Scalar.minsi 1#32 13#32) = 1#1 ↔ (i 1).val = 1 from
      eq_iff _ 1 (by omega) (by omega),
    show Scalar.cmpi .slt (Scalar.addi (BitVec.ofNat 32 (i 0).val) 1#32) 25#32 = 1#1 ↔ (i 0).val + 1 < 25 from slt25 (i 0)]

/-! ## The offsets -/

theorem iv_toNat (k : ℕ) (hk : k < 512) : (Scf.iv (0#32 : BitVec 32) 1#32 k).toNat = k := by
  unfold Scf.iv
  simp [BitVec.toNat_add, BitVec.toNat_mul, BitVec.toNat_ofNat]
  omega

theorem off1_eq (i : grid0.Coords) : k0_off1 i = ![(i 0).val] := by
  have key : ∀ a : Fin 25, (Scalar.indexCast (BitVec.ofNat 32 a.val) : Index).toNat = a.val := by decide
  exact congrArg (fun n => ![n]) (key (i 0))

theorem off10_eq (i : grid0.Coords) (h : (i 0).val + 1 < 25) : k0_off10 i = ![(i 0).val + 1] := by
  have key : ∀ a : Fin 25, a.val + 1 < 25 → (Scalar.indexCast (Scalar.minsi (Scalar.addi (BitVec.ofNat 32 a.val) 1#32) 24#32) : Index).toNat = a.val + 1 := by decide
  exact congrArg (fun n => ![n]) (key (i 0) h)

theorem off2_eq (k : Fin k0_t1_loop.trips) (hk : k.val < 512) : k0_off2 k = ![k.val] := by
  refine congrArg (fun n => ![n]) (?_ : ((0#32 : BitVec 32) + Scf.iv (0#32 : BitVec 32) 1#32 k.val).toNat = k.val)
  rw [BitVec.toNat_add, iv_toNat _ hk]
  simp; omega

theorem off6_eq (i : grid0.Coords) (k : Fin k0_t3_loop.trips) (hk : k.val < 512) : k0_off6 i k = ![(2 * (i 0).val + 1) * 512 + k.val] := by
  have := ax0 i
  refine congrArg (fun n => ![n]) (?_ : (((2#32 : BitVec 32) * BitVec.ofNat 32 (i 0).val + 1#32) * 512#32 + Scf.iv (0#32 : BitVec 32) 1#32 k.val).toNat = _)
  rw [BitVec.toNat_add, iv_toNat _ hk, BitVec.toNat_mul, BitVec.toNat_add, BitVec.toNat_mul]
  simp only [BitVec.toNat_ofNat]
  omega

theorem off11_eq (i : grid0.Coords) (h : (i 0).val + 1 < 25) (k : Fin k0_t5_loop.trips) (hk : k.val < 512) :
    k0_off11 i k = ![2 * ((i 0).val + 1) * 512 + k.val] := by
  have key : ∀ a : Fin 25, a.val + 1 < 25 → (Scalar.minsi (Scalar.addi (BitVec.ofNat 32 a.val) 1#32) 24#32 : BitVec 32).toNat = a.val + 1 := by decide
  have e := key (i 0) h
  refine congrArg (fun n => ![n]) (?_ : ((2#32 : BitVec 32) * Scalar.minsi (Scalar.addi (BitVec.ofNat 32 (i 0).val) 1#32) 24#32 * 512#32
    + Scf.iv (0#32 : BitVec 32) 1#32 k.val).toNat = _)
  rw [BitVec.toNat_add, iv_toNat _ hk, BitVec.toNat_mul, BitVec.toNat_mul, e]
  simp only [BitVec.toNat_ofNat]
  omega

theorem row_off (k : ℕ) (hk : k < 512) : (![(Scf.iv (0#32 : BitVec 32) 1#32 k).toNat, 0] : Fin 2 → ℕ) = ![k, 0] := by rw [iv_toNat k hk]

theorem trips_512 : (⟨0#32, Scalar.addi 0#32 512#32, 1#32⟩ : Scf.Loop 32).trips = 512 := by decide

/-! ## The token words -/

/-- The token word of slot `n`, and the token row that row `r` of the half tile starting at slot `b` takes. -/
def tokWord (xt : S25600.Idx → BitVec 32) (n : ℕ) : BitVec 32 := xt (ix1 ⟨n % 25600, Nat.mod_lt _ (by decide)⟩)
def rowOf (xt : S25600.Idx → BitVec 32) (b : ℕ) (r : Fin 512) : Fin 8200 := ⟨(tokWord xt (b + r.val)).toNat % 8200, Nat.mod_lt _ (by decide)⟩

/-- Every token word names a row of the token table. -/
def InTable (xt : S25600.Idx → BitVec 32) : Prop := ∀ j, (xt j).toNat < 8200

theorem rowOf_val (xt : S25600.Idx → BitVec 32) (hxt : InTable xt) (b : ℕ) (r : Fin 512) : (rowOf xt b r).val = (tokWord xt (b + r.val)).toNat :=
  Nat.mod_eq_of_lt (hxt _)

theorem read_tok (xt : S25600.Idx → BitVec 32) (n : ℕ) (hn : n < 25600) (o : Fin 1 → ℕ) (ho : o = ![n]) (h) (x) :
    ((Memref.whole main_arg2).access (Rect.unit (s := S25600) o S1.size h)).read (Elt F) xt x = tokWord xt n := by
  subst ho
  show xt _ = xt _
  congr 1
  funext a
  have hx : (x 0).val = 0 := by have : (x 0).val < 1 := (x 0).isLt; omega
  fin_cases a
  refine Fin.ext ?_
  show n + 1 * (x 0).val = n % 25600
  rw [hx, Nat.mod_eq_of_lt hn]; omega

section Loop

variable (c : Dev nD) (ρ : Fin 512 → Fin 8200) (h : Tab F)

theorem issue_loop (bd : Option _) (L : Scf.Loop 32) (ok : L.OK) (hL : L.trips = 512) (xt : S25600.Idx → BitVec 32)
    (body : Fin L.trips → Unit → Prog (TpuEff nD τ sig (Elt F) Λ₀ .tc) Unit)
    (hb : ∀ k : Fin L.trips, issueInv c ρ h xt k.val () ⊢ wp frame (wpE (defs₀ (F := F)) Variants.none (c : Thread nD τ) bd) Set.univ (body k ()) (issueInv c ρ h xt (k.val + 1))) :
    iprop(atRest c h ∗ ((Memref.whole main_arg2).view.loc (c : Thread nD τ) ↦{fullShare.right} xt))
      ⊢ wp frame (wpE (defs₀ (F := F)) Variants.none (c : Thread nD τ) bd) Set.univ (Scf.Loop.for L ok () body)
        (fun _ => iprop(flight c ρ h ∗ ((Memref.whole main_arg2).view.loc (c : Thread nD τ) ↦{fullShare.right} xt))) := by
  iintro H
  imod (issue_start c ρ h Set.univ xt) $$ H with ⟨HI, Ho⟩
  iapply (Scf.wp_for frame (wpE (defs₀ (F := F)) Variants.none (c : Thread nD τ) bd) Set.univ L.lb L.ub L.st ok () body (issueInv c ρ h xt) (fun k _ => hb k))
  isplitl [HI]; · iexact HI
  iintro %acc HI
  iapply (issue_finish c ρ h xt)
  isplitl [HI]
  · rw [show Scf.trips L.lb L.ub L.st = 512 from hL]; iexact HI
  · iexact Ho

theorem wait_loop (bd : Option _) (L : Scf.Loop 32) (ok : L.OK) (hL : L.trips = 512)
    (body : Fin L.trips → Unit → Prog (TpuEff nD τ sig (Elt F) Λ₀ .tc) Unit)
    (hb : ∀ k : Fin L.trips, waitInv c ρ h k.val () ⊢ wp frame (wpE (defs₀ (F := F)) Variants.none (c : Thread nD τ) bd) Set.univ (body k ()) (waitInv c ρ h (k.val + 1))) :
    iprop(flight c ρ h ∗ ∃ W, owes (c : Thread nD τ) 0 W)
      ⊢ wp frame (wpE (defs₀ (F := F)) Variants.none (c : Thread nD τ) bd) Set.univ (Scf.Loop.for L ok () body)
        (fun _ => iprop(landed c ρ h ∗ ∃ W, owes (c : Thread nD τ) 0 W)) := by
  iintro ⟨H, %W, HO⟩
  ihave H := (wait_start c ρ h W) $$ [H HO]
  · isplitl [H] <;> iassumption
  icases H with ⟨HI, Ho⟩
  iapply (Scf.wp_for frame (wpE (defs₀ (F := F)) Variants.none (c : Thread nD τ) bd) Set.univ L.lb L.ub L.st ok () body (waitInv c ρ h) (fun k _ => hb k))
  isplitl [HI]; · iexact HI
  iintro %acc HI
  iapply (wait_finish c ρ h)
  isplitl [HI]
  · rw [show Scf.trips L.lb L.ub L.st = 512 from hL]; iexact HI
  · iexact Ho

end Loop

end Cert.KernelIdeal.Moe
-- ==== Proof.Moe.Halves.lean ====
/-
  The two halves of the packed rows and of an output block, as the body's loads and stores see them.
-/
module

public import proofs.«01_k».proof.Proof.Moe.Loops
public import Idealize.ShloMosaic.Lib.WritesUnit
public import Idealize.ShloMosaic.Lib.VecWindow

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F] [∀ e, Nonempty (Elt F e)]

local notation "𝕄" => MT nD τ sig Unit (Elt F) ℕ (UD sig nD τ) ℕ

/-! ## Halves of the packed rows and of the output block -/

abbrev Packed (F : FTy → Type) : Type := S2x512x2048.Idx → Elt F .bf16
abbrev Half (F : FTy → Type) : Type := S1x512x2048.Idx → Elt F .bf16
abbrev Block (F : FTy → Type) : Type := S1024x2048.Idx → Elt F .f32

def getHalf (b : Fin 2) (f : Packed F) : Half F := fun x => f (ix3 (n0 := 2) (n1 := 512) (n2 := 2048) b (x 1) (x 2))
def setHalf (b : Fin 2) (f : Packed F) (v : Half F) : Packed F :=
  fun x => if (x 0).val = b.val then v (ix3 (n0 := 1) (n1 := 512) (n2 := 2048) 0 (x 1) (x 2)) else f x

/-- Rows `o` to `o + 512` of an output block, and the block with those rows replaced. -/
def getRows (o : ℕ) (ho : o + 512 ≤ 1024) (y : Block F) : Scr F :=
  fun x => y (ix2 (n0 := 1024) (n1 := 2048) ⟨o + (x 0).val, by have : (x 0).val < 512 := (x 0).isLt; omega⟩ (x 1))
def setRows (o : ℕ) (y : Block F) (v : Scr F) : Block F :=
  fun x => if hx : o ≤ (x 0).val ∧ (x 0).val < o + 512 then v (ix2 (n0 := 512) (n1 := 2048) ⟨(x 0).val - o, by omega⟩ (x 1)) else y x

theorem readAt_rows (v : View sig .tc .vmem S1024x2048 .f32) (f : v.ty.Contents (Elt F)) (o : ℕ) (ho : o + 512 ≤ 1024) (off : Fin 2 → ℕ) (he : off = ![o, 0]) (inb) :
    v.readAt (Elt F) (Rect.unit (s := S1024x2048) off S512x2048.size inb).toLoadRect f = getRows o ho (v.read (Elt F) f) := by
  subst he
  funext x
  show v.read (Elt F) f _ = v.read (Elt F) f _
  congr 1
  funext a
  refine Fin.ext ?_
  fin_cases a
  · show o + 1 * (x 0).val = o + (x 0).val; omega
  · show 0 + 1 * (x 1).val = (x 1).val; omega

theorem read_writes_rows (v : View sig .tc .vmem S1024x2048 .f32) (f : v.ty.Contents (Elt F)) (o : ℕ) (off : Fin 2 → ℕ) (he : off = ![o, 0]) (inb)
    (w : Scr F) (L) :
    v.read (Elt F) (v.writes (Elt F) f (⟨Rect.unit (s := S1024x2048) off S512x2048.size inb, w⟩ :: L)) = setRows o (v.read (Elt F) (v.writes (Elt F) f L)) w := by
  funext x
  rw [View.read_writes_cons_rows v f inb w L x he rfl rfl]
  unfold setRows
  refine dite_congr rfl (fun hx => ?_) (fun _ => rfl)
  congr 1
  funext a
  refine Fin.ext ?_
  fin_cases a
  · rfl
  · show (x 1).val - 0 = (x 1).val; omega

theorem readAt_half (v : View sig .tc .vmem S2x512x2048 .bf16) (f : v.ty.Contents (Elt F)) (b : Fin 2) (off : Fin 3 → ℕ) (he : off = ![b.val, 0, 0]) (inb) :
    v.readAt (Elt F) (Rect.unit (s := S2x512x2048) off S1x512x2048.size inb).toLoadRect f = getHalf b (v.read (Elt F) f) := by
  subst he
  funext x
  show v.read (Elt F) f _ = v.read (Elt F) f _
  have hx : (x 0).val = 0 := by have : (x 0).val < 1 := (x 0).isLt; omega
  congr 1
  funext a
  refine Fin.ext ?_
  fin_cases a
  · show b.val + 1 * (x 0).val = b.val; omega
  · show 0 + 1 * (x 1).val = (x 1).val; omega
  · show 0 + 1 * (x 2).val = (x 2).val; omega

theorem read_writes_half (v : View sig .tc .vmem S2x512x2048 .bf16) (f : v.ty.Contents (Elt F)) (b : Fin 2) (off : Fin 3 → ℕ) (he : off = ![b.val, 0, 0]) (inb) (w : Half F) :
    v.read (Elt F) (v.writes (Elt F) f [⟨Rect.unit (s := S2x512x2048) off S1x512x2048.size inb, w⟩]) = setHalf b (v.read (Elt F) f) w := by
  funext x
  rw [View.read_writes_cons_unit v f inb w [] x he]
  unfold setHalf
  have h0 : (x 0).val < 2 := (x 0).isLt
  have h1 : (x 1).val < 512 := (x 1).isLt
  have h2 : (x 2).val < 2048 := (x 2).isLt
  by_cases hb : (x 0).val = b.val
  · rw [if_pos hb, dif_pos]
    · congr 1
      funext a
      refine Fin.ext ?_
      fin_cases a
      · show (x 0).val - b.val = 0; omega
      · show (x 1).val - 0 = (x 1).val; omega
      · show (x 2).val - 0 = (x 2).val; omega
    · intro a
      fin_cases a
      · show b.val ≤ (x 0).val ∧ (x 0).val < b.val + 1; omega
      · show 0 ≤ (x 1).val ∧ (x 1).val < 0 + 512; omega
      · show 0 ≤ (x 2).val ∧ (x 2).val < 0 + 2048; omega
  · rw [if_neg hb, dif_neg]
    · rfl
    · intro hall
      have := hall 0
      have : b.val ≤ (x 0).val ∧ (x 0).val < b.val + 1 := this
      omega

theorem getHalf_set (b : Fin 2) (f : Packed F) (v : Half F) : getHalf b (setHalf b f v) = v := by
  funext x
  refine (if_pos (rfl : b.val = b.val)).trans ?_
  congr 1
  funext a
  have hx : (x 0).val = 0 := by have : (x 0).val < 1 := (x 0).isLt; omega
  refine Fin.ext ?_
  fin_cases a
  · exact hx.symm
  · rfl
  · rfl

theorem getHalf_set_ne (b b' : Fin 2) (hne : b' ≠ b) (f : Packed F) (v : Half F) : getHalf b' (setHalf b f v) = getHalf b' f := by
  funext x
  exact if_neg (show ¬ b'.val = b.val from fun e => hne (Fin.ext e))

end Cert.KernelIdeal.Moe
-- ==== Proof.Moe.Stages.lean ====
/-
  The grouped expert kernel's body, one stage at a time: each guarded block of the body takes the state it finds to the
  state it leaves, whether its condition holds or not.
-/
module

public import proofs.«01_k».proof.Proof.Moe.Halves

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F] [∀ e, Nonempty (Elt F e)]

local notation "𝕄" => MT nD τ sig Unit (Elt F) ℕ (UD sig nD τ) ℕ

theorem readAt_whole_rows (g : Scr F) (inb) :
    (Memref.whole cc0_scratch0).view.readAt (Elt F) (Rect.unit (s := S512x2048) ![0, 0] S512x2048.size inb).toLoadRect g = g :=
  View.readAt_full (Memref.whole cc0_scratch0).view g inb

theorem tok_inb (w : BitVec 32) (hw : w.toNat < 8200) : ∀ a, (![w.toNat, 0] : Fin 2 → ℕ) a + S1x2048.size a ≤ S8200x2048.size a := src_inb ⟨w.toNat, hw⟩

theorem tok_off (xt : S25600.Idx → BitVec 32) (hxt : InTable xt) (b : ℕ) (r : Fin 512) :
    (![(tokWord xt (b + r.val)).toNat, 0] : Fin 2 → ℕ) = ![(rowOf xt b r).val, 0] := by rw [rowOf_val xt hxt]

section Stage

variable (c : Dev nD) (i : grid0.Coords)
  (arg6 : Memref sig .tc .vmem S1x2048x512 .f32) (harg6 : arg6.IsWhole)
  (arg7 : Memref sig .tc .vmem S1x2048x512 .f32) (harg7 : arg7.IsWhole)
  (arg8 : Memref sig .tc .vmem S1x512x2048 .f32) (harg8 : arg8.IsWhole)
  (arg9 : Memref sig .tc .vmem S1024x2048 .f32) (harg9 : arg9.IsWhole)
  (x0 x1 : S1x2048x512.Idx → Elt F .f32) (x2 : S1x512x2048.Idx → Elt F .f32)
  (xn : S25.Idx → BitVec 32) (xt : S25600.Idx → BitVec 32) (h : Tab F)

/-- The state between stages: the three weight blocks, the output block at `y`, the packed rows at `f`, the two tables the
    body reads, the gather's state `G`. -/
def St (y : Block F) (f : Packed F) (G : sProp 𝕄) : sProp 𝕄 :=
  iprop(owns c arg6 fullShare x0 ∗ owns c arg7 fullShare x1 ∗ owns c arg8 fullShare x2 ∗ owns c arg9 fullShare y
    ∗ owns c (Memref.whole cc0_scratch1) fullShare f
    ∗ ((Memref.whole main_arg1).view.loc (c : Thread nD τ) ↦{fullShare.right} xn)
    ∗ ((Memref.whole main_arg2).view.loc (c : Thread nD τ) ↦{fullShare.right} xt)
    ∗ G ∗ ∃ W, owes (c : Thread nD τ) 0 W)

theorem stage1 (bd : Option _) (y f) (G : sProp 𝕄) :
    St c arg6 arg7 arg8 arg9 x0 x1 x2 xn xt y f G ⊢ wp frame (wpE (defs₀ (F := F)) Variants.none (c : Thread nD τ) bd) Set.univ
      (if k0_h1 : k0_cond1 i = 1#1 then do
        let v42 : Vec F S1024x2048 .f32 ← Prog.lift (.load arg9 (Rect.unit (s := S1024x2048) ![0, 0] S1024x2048.size inb_S1024x2048_S1024x2048_0_0).toLoadRect (View.loadsAt_vmem h_S1024x2048))
        Prog.lift (.store arg9 (Rect.unit (s := S1024x2048) ![0, 0] S1024x2048.size inb_S1024x2048_S1024x2048_0_0) (k0_pay8 (F := F)) Finset.univ (View.stores_vmem_bits_univ h_S1024x2048 rfl) (.inl rfl))
        pure ⟨⟩
      else do
        pure ⟨⟩ : Prog (TpuEff nD τ sig (Elt F) Λ₀ .tc) PUnit)
      (fun _ => St c arg6 arg7 arg8 arg9 x0 x1 x2 xn xt (if (i 1).val = 0 then k0_pay8 (F := F) else y) f G) := by
  by_cases hc : k0_cond1 i = 1#1
  · rw [dif_pos hc, if_pos ((cond1_iff i).1 hc)]
    unfold St owns
    iintro ⟨H6, H7, H8, ⟨%f9, %hf9, H9⟩, Hs1, Hn, Ht, HG, HO⟩
    sl_exec
    sl_step
    isplitl [H6]; · iexact H6
    isplitl [H7]; · iexact H7
    isplitl [H8]; · iexact H8
    isplitl [H9]
    · iexists _
      isplitr
      swap; iexact H9
      ipureintro
      exact View.read_writes_full _ _ _ _ _
    isplitl [Hs1]; · iexact Hs1
    isplitl [Hn]; · iexact Hn
    isplitl [Ht]; · iexact Ht
    isplitl [HG]; · iexact HG
    iexact HO
  · rw [dif_neg hc, if_neg (fun e => hc ((cond1_iff i).2 e))]
    iintro H
    sl_step
    iexact H

/-- The half tile's rows, packed, as the first block of the body stores them. -/
theorem stage3 (bd : Option _) (v1 : BitVec 32) (hv1 : Halves v1) (y f) (G : sProp 𝕄) (ρ : Fin 512 → Fin 8200)
    (hG : (i 1).val = 0 → v1 ≠ 0#32 → G = flight c ρ h) :
    St c arg6 arg7 arg8 arg9 x0 x1 x2 xn xt y f G ⊢ wp frame (wpE (defs₀ (F := F)) Variants.none (c : Thread nD τ) bd) Set.univ
      (if Scalar.cmpi .ne (Scalar.extui (Scalar.andi (Scalar.cmpi .eq (BitVec.ofNat 32 (i 1).val) 0#32) (Scalar.cmpi .sgt v1 0#32)) : BitVec 32) 0#32 = 1#1 then do
        Scf.Loop.for k0_t2_loop k0_t2_ok ⟨⟩ (k0_t2_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2)
        let v42 : Vec F S512x2048 .f32 ← Prog.lift (.load (Memref.whole cc0_scratch0) (Rect.unit (s := S512x2048) ![0, 0] S512x2048.size inb_S512x2048_S512x2048_0_0).toLoadRect (View.loadsAt_vmem h_S512x2048))
        let v44 : Vec F S1x512x2048 .bf16 ← Prog.lift (.load (Memref.whole cc0_scratch1) (Rect.unit (s := S2x512x2048) ![0, 0, 0] S1x512x2048.size inb_S2x512x2048_S1x512x2048_0_0_0).toLoadRect (View.loadsAt_vmem h_S1x512x2048))
        Prog.lift (.store (Memref.whole cc0_scratch1) (Rect.unit (s := S2x512x2048) ![0, 0, 0] S1x512x2048.size inb_S2x512x2048_S1x512x2048_0_0_0) (k0_pay9 v42) Finset.univ (View.stores_vmem h_S1x512x2048 ((Memref.isWhole_whole cc0_scratch1).storeExact_slice rfl _ packedbf16_S2x512x2048_S1x512x2048_0_0_0) (fun _ => rfl)) (.inl rfl))
        pure ⟨⟩
      else do
        pure ⟨⟩ : Prog (TpuEff nD τ sig (Elt F) Λ₀ .tc) PUnit)
      (fun _ => St c arg6 arg7 arg8 arg9 x0 x1 x2 xn xt y (if (i 1).val = 0 ∧ v1 ≠ 0#32 then setHalf 0 f (k0_pay9 (gathered ρ h)) else f)
        (if (i 1).val = 0 ∧ v1 ≠ 0#32 then atRest c h else G)) := by
  by_cases hc : Scalar.cmpi .ne (Scalar.extui (Scalar.andi (Scalar.cmpi .eq (BitVec.ofNat 32 (i 1).val) 0#32) (Scalar.cmpi .sgt v1 0#32)) : BitVec 32) 0#32 = 1#1
  · rw [if_pos hc, hG ((cond3_iff i v1 hv1).1 hc).1 ((cond3_iff i v1 hv1).1 hc).2]
    rw [wp_bind]
    unfold St
    iintro ⟨H6, H7, H8, H9, Hs1, Hn, Ht, HG, HO⟩
    iapply (wp_wand_r frame (wpE (defs₀ (F := F)) Variants.none (c : Thread nD τ) bd) Set.univ)
    isplitl [HG HO]
    · iapply (wait_loop c ρ h bd k0_t2_loop k0_t2_ok trips_512 _ (fun k => wait_trip c ρ h bd ⟨k.val, lt_of_lt_of_eq k.isLt trips_512⟩ _ _ (row_off _ (lt_of_lt_of_eq k.isLt trips_512)) _))
      isplitl [HG] <;> iassumption
    iintro %_ ⟨HL, HO⟩
    unfold landed
    icases HL with ⟨Hs0, Ha3, Hsem⟩
    unfold owns
    icases Hs1 with ⟨%fs, %hfs, Hs1⟩
    sl_exec
    sl_step
    rw [if_pos ((cond3_iff i v1 hv1).1 hc), if_pos ((cond3_iff i v1 hv1).1 hc), readAt_whole_rows]
    isplitl [H6]; · iexact H6
    isplitl [H7]; · iexact H7
    isplitl [H8]; · iexact H8
    isplitl [H9]; · iexact H9
    isplitl [Hs1]
    · iexists _
      isplitr
      swap; iexact Hs1
      ipureintro
      exact (read_writes_half _ fs 0 _ rfl _ _).trans (by rw [hfs])
    isplitl [Hn]; · iexact Hn
    isplitl [Ht]; · iexact Ht
    isplitl [Hs0 Ha3 Hsem]
    · iapply (landed_atRest c ρ h)
      unfold landed
      isplitl [Hs0]; · iexact Hs0
      isplitl [Ha3] <;> iassumption
    iexact HO
  · rw [if_neg hc, if_neg (fun e => hc ((cond3_iff i v1 hv1).2 e)), if_neg (fun e => hc ((cond3_iff i v1 hv1).2 e))]
    iintro H
    sl_step
    iexact H

theorem t1_trip (bd : Option _) (hxt : InTable xt) (v1 : BitVec 32) (hv : Halves v1) (hc : k0_cond2 i v1 = 1#1) (k : Fin k0_t1_loop.trips) :
    issueInv c (rowOf xt 0) h xt k.val () ⊢ wp frame (wpE (defs₀ (F := F)) Variants.none (c : Thread nD τ) bd) Set.univ
      (k0_t1_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 v1 hc k ()) (issueInv c (rowOf xt 0) h xt (k.val + 1)) := by
  have hk : k.val < 512 := lt_of_lt_of_eq k.isLt trips_512
  have hi := (cond2_iff i v1 hv).1 hc
  have h0 := ax0 i
  exact issue_trip c (rowOf xt 0) h bd ⟨k.val, hk⟩ xt (k0_chk1 i v1) (k0_chk1.dec i v1) (k0_off2 k) (k0_off2_inb k)
    (k0_off3 k) (k0_off3_inb k) (row_off _ hk) k0_off4 (fun w hw => k0_off4_inb i v1 w hw hc) (tokWord xt (0 + k.val))
    (fun x => read_tok xt (0 + k.val) (by omega) _ ((off2_eq k hk).trans (by rw [Nat.zero_add])) _ x) (fun _ => tok_inb _ (hxt _)) (tok_off xt hxt _ ⟨k.val, hk⟩)

theorem t3_trip (bd : Option _) (hxt : InTable xt) (v1 : BitVec 32) (hv : Halves v1) (hc : k0_cond4 i v1 = 1#1) (k : Fin k0_t3_loop.trips) :
    issueInv c (rowOf xt ((2 * (i 0).val + 1) * 512)) h xt k.val () ⊢ wp frame (wpE (defs₀ (F := F)) Variants.none (c : Thread nD τ) bd) Set.univ
      (k0_t3_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 v1 hc k ()) (issueInv c (rowOf xt ((2 * (i 0).val + 1) * 512)) h xt (k.val + 1)) := by
  have hk : k.val < 512 := lt_of_lt_of_eq k.isLt trips_512
  have hi := (cond4_iff i v1 hv).1 hc
  have h0 := ax0 i
  exact issue_trip c (rowOf xt ((2 * (i 0).val + 1) * 512)) h bd ⟨k.val, hk⟩ xt (k0_chk2 i v1) (k0_chk2.dec i v1) (k0_off6 i k) (k0_off6_inb i k)
    (k0_off7 k) (k0_off7_inb k) (row_off _ hk) k0_off8 (fun w hw => k0_off8_inb i v1 w hw hc) (tokWord xt ((2 * (i 0).val + 1) * 512 + k.val))
    (fun x => read_tok xt ((2 * (i 0).val + 1) * 512 + k.val) (by omega) _ (off6_eq i k hk) _ x) (fun _ => tok_inb _ (hxt _)) (tok_off xt hxt _ ⟨k.val, hk⟩)

theorem t5_trip (bd : Option _) (hxt : InTable xt) (v36 : BitVec 32) (hv : Halves v36) (hc : k0_cond7 i v36 = 1#1) (k : Fin k0_t5_loop.trips) :
    issueInv c (rowOf xt (2 * ((i 0).val + 1) * 512)) h xt k.val () ⊢ wp frame (wpE (defs₀ (F := F)) Variants.none (c : Thread nD τ) bd) Set.univ
      (k0_t5_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 v36 hc k ()) (issueInv c (rowOf xt (2 * ((i 0).val + 1) * 512)) h xt (k.val + 1)) := by
  have hk : k.val < 512 := lt_of_lt_of_eq k.isLt trips_512
  have hi := (cond7_iff i v36 hv).1 hc
  have h0 := ax0 i
  exact issue_trip c (rowOf xt (2 * ((i 0).val + 1) * 512)) h bd ⟨k.val, hk⟩ xt (k0_chk3 i v36) (k0_chk3.dec i v36) (k0_off11 i k) (k0_off11_inb i k)
    (k0_off12 k) (k0_off12_inb k) (row_off _ hk) k0_off13 (fun w hw => k0_off13_inb i v36 w hw hc) (tokWord xt (2 * ((i 0).val + 1) * 512 + k.val))
    (fun x => read_tok xt (2 * ((i 0).val + 1) * 512 + k.val) (by omega) _ (off11_eq i hi.1.2 k hk) _ x) (fun _ => tok_inb _ (hxt _)) (tok_off xt hxt _ ⟨k.val, hk⟩)

theorem stage2 (bd : Option _) (hxt : InTable xt) (v1 : BitVec 32) (hv : Halves v1) (y f) (G : sProp 𝕄)
    (hG : k0_cond2 i v1 = 1#1 → G = atRest c h) :
    St c arg6 arg7 arg8 arg9 x0 x1 x2 xn xt y f G ⊢ wp frame (wpE (defs₀ (F := F)) Variants.none (c : Thread nD τ) bd) Set.univ
      (if k0_h2 : k0_cond2 i v1 = 1#1 then do
        Scf.Loop.for k0_t1_loop k0_t1_ok ⟨⟩ (k0_t1_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 v1 k0_h2)
        pure ⟨⟩
      else do
        pure ⟨⟩ : Prog (TpuEff nD τ sig (Elt F) Λ₀ .tc) PUnit)
      (fun _ => St c arg6 arg7 arg8 arg9 x0 x1 x2 xn xt y f (if k0_cond2 i v1 = 1#1 then flight c (rowOf xt 0) h else G)) := by
  by_cases hc : k0_cond2 i v1 = 1#1
  · have hi := (cond2_iff i v1 hv).1 hc
    rw [dif_pos hc, if_pos hc, hG hc, wp_bind]
    unfold St
    iintro ⟨H6, H7, H8, H9, Hs1, Hn, Ht, HG, HO⟩
    iapply (wp_wand_r frame (wpE (defs₀ (F := F)) Variants.none (c : Thread nD τ) bd) Set.univ)
    isplitl [HG Ht]
    · iapply (issue_loop c (rowOf xt 0) h bd k0_t1_loop k0_t1_ok trips_512 xt _ (fun k => t1_trip c i arg6 harg6 arg7 harg7 arg8 harg8 arg9 harg9 xt h bd hxt v1 hv hc k))
      isplitl [HG] <;> iassumption
    iintro %_ ⟨HG, Ht⟩
    sl_step
    isplitl [H6]; · iexact H6
    isplitl [H7]; · iexact H7
    isplitl [H8]; · iexact H8
    isplitl [H9]; · iexact H9
    isplitl [Hs1]; · iexact Hs1
    isplitl [Hn]; · iexact Hn
    isplitl [Ht]; · iexact Ht
    isplitl [HG]; · iexact HG
    iexact HO
  · rw [dif_neg hc, if_neg hc]
    iintro H
    sl_step
    iexact H

theorem stage7 (bd : Option _) (hxt : InTable xt) (v36 : BitVec 32) (hv : Halves v36) (y f) (G : sProp 𝕄)
    (hG : k0_cond7 i v36 = 1#1 → G = atRest c h) :
    St c arg6 arg7 arg8 arg9 x0 x1 x2 xn xt y f G ⊢ wp frame (wpE (defs₀ (F := F)) Variants.none (c : Thread nD τ) bd) Set.univ
      (if k0_h7 : k0_cond7 i v36 = 1#1 then do
        Scf.Loop.for k0_t5_loop k0_t5_ok ⟨⟩ (k0_t5_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 v36 k0_h7)
        pure ⟨⟩
      else do
        pure ⟨⟩ : Prog (TpuEff nD τ sig (Elt F) Λ₀ .tc) PUnit)
      (fun _ => St c arg6 arg7 arg8 arg9 x0 x1 x2 xn xt y f (if k0_cond7 i v36 = 1#1 then flight c (rowOf xt (2 * ((i 0).val + 1) * 512)) h else G)) := by
  by_cases hc : k0_cond7 i v36 = 1#1
  · have hi := (cond7_iff i v36 hv).1 hc
    rw [dif_pos hc, if_pos hc, hG hc, wp_bind]
    unfold St
    iintro ⟨H6, H7, H8, H9, Hs1, Hn, Ht, HG, HO⟩
    iapply (wp_wand_r frame (wpE (defs₀ (F := F)) Variants.none (c : Thread nD τ) bd) Set.univ)
    isplitl [HG Ht]
    · iapply (issue_loop c (rowOf xt (2 * ((i 0).val + 1) * 512)) h bd k0_t5_loop k0_t5_ok trips_512 xt _ (fun k => t5_trip c i arg6 harg6 arg7 harg7 arg8 harg8 arg9 harg9 xt h bd hxt v36 hv hc k))
      isplitl [HG] <;> iassumption
    iintro %_ ⟨HG, Ht⟩
    sl_step
    isplitl [H6]; · iexact H6
    isplitl [H7]; · iexact H7
    isplitl [H8]; · iexact H8
    isplitl [H9]; · iexact H9
    isplitl [Hs1]; · iexact Hs1
    isplitl [Hn]; · iexact Hn
    isplitl [Ht]; · iexact Ht
    isplitl [HG]; · iexact HG
    iexact HO
  · rw [dif_neg hc, if_neg hc]
    iintro H
    sl_step
    iexact H

theorem stage4 (bd : Option _) (hxt : InTable xt) (v1 : BitVec 32) (hv1 : Halves v1) (y f) (G : sProp 𝕄)
    (hG : k0_cond4 i v1 = 1#1 → G = atRest c h) :
    St c arg6 arg7 arg8 arg9 x0 x1 x2 xn xt y f G ⊢ wp frame (wpE (defs₀ (F := F)) Variants.none (c : Thread nD τ) bd) Set.univ
      (if k0_h4 : k0_cond4 i v1 = 1#1 then do
        Scf.Loop.for k0_t3_loop k0_t3_ok ⟨⟩ (k0_t3_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 v1 k0_h4)
        Scf.Loop.for k0_t4_loop k0_t4_ok ⟨⟩ (k0_t4_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2)
        let v46 : Vec F S512x2048 .f32 ← Prog.lift (.load (Memref.whole cc0_scratch0) (Rect.unit (s := S512x2048) ![0, 0] S512x2048.size inb_S512x2048_S512x2048_0_0).toLoadRect (View.loadsAt_vmem h_S512x2048))
        let v48 : Vec F S1x512x2048 .bf16 ← Prog.lift (.load (Memref.whole cc0_scratch1) (Rect.unit (s := S2x512x2048) ![1, 0, 0] S1x512x2048.size inb_S2x512x2048_S1x512x2048_1_0_0).toLoadRect (View.loadsAt_vmem h_S1x512x2048))
        Prog.lift (.store (Memref.whole cc0_scratch1) (Rect.unit (s := S2x512x2048) ![1, 0, 0] S1x512x2048.size inb_S2x512x2048_S1x512x2048_1_0_0) (k0_pay10 v46) Finset.univ (View.stores_vmem h_S1x512x2048 ((Memref.isWhole_whole cc0_scratch1).storeExact_slice rfl _ packedbf16_S2x512x2048_S1x512x2048_1_0_0) (fun _ => rfl)) (.inl rfl))
        pure ⟨⟩
      else do
        pure ⟨⟩ : Prog (TpuEff nD τ sig (Elt F) Λ₀ .tc) PUnit)
      (fun _ => St c arg6 arg7 arg8 arg9 x0 x1 x2 xn xt y (if k0_cond4 i v1 = 1#1 then setHalf 1 f (k0_pay10 (gathered (rowOf xt ((2 * (i 0).val + 1) * 512)) h)) else f) G) := by
  by_cases hc : k0_cond4 i v1 = 1#1
  · rw [dif_pos hc, if_pos hc, hG hc, wp_bind]
    unfold St
    iintro ⟨H6, H7, H8, H9, Hs1, Hn, Ht, HG, HO⟩
    iapply (wp_wand_r frame (wpE (defs₀ (F := F)) Variants.none (c : Thread nD τ) bd) Set.univ)
    isplitl [HG Ht]
    · iapply (issue_loop c (rowOf xt ((2 * (i 0).val + 1) * 512)) h bd k0_t3_loop k0_t3_ok trips_512 xt _ (fun k => t3_trip c i arg6 harg6 arg7 harg7 arg8 harg8 arg9 harg9 xt h bd hxt v1 hv1 hc k))
      isplitl [HG] <;> iassumption
    iintro %_ ⟨HG, Ht⟩
    iapply (show iprop(wp frame (wpE (defs₀ (F := F)) Variants.none (c : Thread nD τ) bd) Set.univ _ (fun a => wp frame (wpE (defs₀ (F := F)) Variants.none (c : Thread nD τ) bd) Set.univ _ _)) ⊢ (_ : sProp 𝕄) from Entails.of_eq (wp_bind _ _ _ _ _ _).symm)
    iapply (wp_wand_r frame (wpE (defs₀ (F := F)) Variants.none (c : Thread nD τ) bd) Set.univ)
    isplitl [HG HO]
    · iapply (wait_loop c (rowOf xt ((2 * (i 0).val + 1) * 512)) h bd k0_t4_loop k0_t4_ok trips_512 _ (fun k => wait_trip c (rowOf xt ((2 * (i 0).val + 1) * 512)) h bd ⟨k.val, lt_of_lt_of_eq k.isLt trips_512⟩ _ _ (row_off _ (lt_of_lt_of_eq k.isLt trips_512)) _))
      isplitl [HG] <;> iassumption
    iintro %_ ⟨HL, HO⟩
    unfold landed
    icases HL with ⟨Hs0, Ha3, Hsem⟩
    unfold owns
    icases Hs1 with ⟨%fs, %hfs, Hs1⟩
    sl_exec
    sl_step
    rw [show stage4.sl.v46 i xt h = gathered (rowOf xt ((2 * (i 0).val + 1) * 512)) h from readAt_whole_rows _ _]
    isplitl [H6]; · iexact H6
    isplitl [H7]; · iexact H7
    isplitl [H8]; · iexact H8
    isplitl [H9]; · iexact H9
    isplitl [Hs1]
    · iexists _
      isplitr
      swap; iexact Hs1
      ipureintro
      exact (read_writes_half _ fs 1 _ rfl _ _).trans (by rw [hfs])
    isplitl [Hn]; · iexact Hn
    isplitl [Ht]; · iexact Ht
    isplitl [Hs0 Ha3 Hsem]
    · iapply (landed_atRest c (rowOf xt ((2 * (i 0).val + 1) * 512)) h)
      unfold landed
      isplitl [Hs0]; · iexact Hs0
      isplitl [Ha3] <;> iassumption
    iexact HO
  · rw [dif_neg hc, if_neg hc]
    iintro H
    sl_step
    iexact H

/-- One step of a tile with one half in use. -/
def step1 (x0 x1 : S1x2048x512.Idx → Elt F .f32) (x2 : S1x512x2048.Idx → Elt F .f32) (f : Packed F) (y : Block F) : Block F :=
  setRows 0 y (k0_pay11 x0 x1 x2 (getHalf 0 f) (getRows 0 (by decide) y))

/-- One step of a tile with both halves in use: the first half's rows, then the second's. -/
def step2a (x0 x1 : S1x2048x512.Idx → Elt F .f32) (x2 : S1x512x2048.Idx → Elt F .f32) (f : Packed F) (y : Block F) : Block F :=
  setRows 0 y (k0_pay4 x0 x1 x2 (getHalf 0 f) (getRows 0 (by decide) y))
def step2 (x0 x1 : S1x2048x512.Idx → Elt F .f32) (x2 : S1x512x2048.Idx → Elt F .f32) (f : Packed F) (y : Block F) : Block F :=
  setRows 512 (step2a x0 x1 x2 f y) (k0_pay12 (k0_pay2 x1) (k0_pay3 x2) (k0_pay5 (getHalf 1 f)) (k0_pay6 x0 (getHalf 1 f)) (k0_pay7 (F := F))
    (getRows 512 (by decide) y))

theorem stage5 (bd : Option _) (v1 : BitVec 32) (y f) (G : sProp 𝕄) :
    St c arg6 arg7 arg8 arg9 x0 x1 x2 xn xt y f G ⊢ wp frame (wpE (defs₀ (F := F)) Variants.none (c : Thread nD τ) bd) Set.univ
      (if k0_h5 : k0_cond5 v1 = 1#1 then do
        let v41 : Vec F S1x2048x512 .f32 ← Prog.lift (.load arg6 (Rect.unit (s := S1x2048x512) ![0, 0, 0] S1x2048x512.size inb_S1x2048x512_S1x2048x512_0_0_0).toLoadRect (View.loadsAt_vmem h_S1x2048x512))
        let v44 : Vec F S1x2048x512 .f32 ← Prog.lift (.load arg7 (Rect.unit (s := S1x2048x512) ![0, 0, 0] S1x2048x512.size inb_S1x2048x512_S1x2048x512_0_0_0).toLoadRect (View.loadsAt_vmem h_S1x2048x512))
        let v47 : Vec F S1x512x2048 .f32 ← Prog.lift (.load arg8 (Rect.unit (s := S1x512x2048) ![0, 0, 0] S1x512x2048.size inb_S1x512x2048_S1x512x2048_0_0_0).toLoadRect (View.loadsAt_vmem h_S1x512x2048))
        let v50 : Vec F S1x512x2048 .bf16 ← Prog.lift (.load (Memref.whole cc0_scratch1) (Rect.unit (s := S2x512x2048) ![0, 0, 0] S1x512x2048.size inb_S2x512x2048_S1x512x2048_0_0_0).toLoadRect (View.loadsAt_vmem h_S1x512x2048))
        let v64 : Vec F S512x2048 .f32 ← Prog.lift (.load arg9 (Rect.unit (s := S1024x2048) ![0, 0] S512x2048.size inb_S1024x2048_S512x2048_0_0).toLoadRect (View.loadsAt_vmem h_S512x2048))
        let v68 : Vec F S512x2048 .f32 ← Prog.lift (.load arg9 (Rect.unit (s := S1024x2048) ![0, 0] S512x2048.size inb_S1024x2048_S512x2048_0_0).toLoadRect (View.loadsAt_vmem h_S512x2048))
        Prog.lift (.store arg9 (Rect.unit (s := S1024x2048) ![0, 0] S512x2048.size inb_S1024x2048_S512x2048_0_0) (k0_pay11 v41 v44 v47 v50 v64) Finset.univ (View.stores_vmem_bits_univ h_S512x2048 rfl) (.inl rfl))
        pure ⟨⟩
      else do
        pure ⟨⟩ : Prog (TpuEff nD τ sig (Elt F) Λ₀ .tc) PUnit)
      (fun _ => St c arg6 arg7 arg8 arg9 x0 x1 x2 xn xt (if k0_cond5 v1 = 1#1 then step1 x0 x1 x2 f y else y) f G) := by
  by_cases hc : k0_cond5 v1 = 1#1
  · rw [dif_pos hc, if_pos hc]
    unfold St owns
    iintro ⟨⟨%f6, %hf6, H6⟩, ⟨%f7, %hf7, H7⟩, ⟨%f8, %hf8, H8⟩, ⟨%f9, %hf9, H9⟩, ⟨%fs, %hfs, Hs1⟩, Hn, Ht, HG, HO⟩
    sl_exec
    sl_step
    isplitl [H6]
    · iexists _
      isplitr
      swap; iexact H6
      ipureintro; exact hf6
    isplitl [H7]
    · iexists _
      isplitr
      swap; iexact H7
      ipureintro; exact hf7
    isplitl [H8]
    · iexists _
      isplitr
      swap; iexact H8
      ipureintro; exact hf8
    isplitl [H9]
    · iexists _
      isplitr
      swap; iexact H9
      ipureintro
      have e6 : arg6.view.readAt (Elt F) (Rect.unit (s := S1x2048x512) ![0, 0, 0] S1x2048x512.size inb_S1x2048x512_S1x2048x512_0_0_0).toLoadRect f6 = x0 := (View.readAt_full _ _ _).trans hf6
      have e7 : arg7.view.readAt (Elt F) (Rect.unit (s := S1x2048x512) ![0, 0, 0] S1x2048x512.size inb_S1x2048x512_S1x2048x512_0_0_0).toLoadRect f7 = x1 := (View.readAt_full _ _ _).trans hf7
      have e8 : arg8.view.readAt (Elt F) (Rect.unit (s := S1x512x2048) ![0, 0, 0] S1x512x2048.size inb_S1x512x2048_S1x512x2048_0_0_0).toLoadRect f8 = x2 := (View.readAt_full _ _ _).trans hf8
      have e9 : arg9.view.readAt (Elt F) (Rect.unit (s := S1024x2048) ![0, 0] S512x2048.size inb_S1024x2048_S512x2048_0_0).toLoadRect f9 = getRows 0 (by decide) y :=
        (readAt_rows arg9.view f9 0 (by decide) _ rfl _).trans (by rw [hf9])
      have s0 : (Memref.whole cc0_scratch1).view.readAt (Elt F) (Rect.unit (s := S2x512x2048) ![0, 0, 0] S1x512x2048.size inb_S2x512x2048_S1x512x2048_0_0_0).toLoadRect fs = getHalf 0 f :=
        (readAt_half _ fs 0 _ rfl _).trans (by rw [hfs])
      rw [e6, e7, e8, e9, s0, read_writes_rows _ _ 0 _ rfl]
      unfold step1
      rw [show View.read (Elt F) arg9.view (arg9.view.writes (Elt F) f9 []) = y from hf9]
    isplitl [Hs1]
    · iexists _
      isplitr
      swap; iexact Hs1
      ipureintro; exact hfs
    isplitl [Hn]; · iexact Hn
    isplitl [Ht]; · iexact Ht
    isplitl [HG]; · iexact HG
    iexact HO
  · rw [dif_neg hc, if_neg hc]
    iintro H
    sl_step
    iexact H

theorem stage6 (bd : Option _) (v1 : BitVec 32) (y f) (G : sProp 𝕄) :
    St c arg6 arg7 arg8 arg9 x0 x1 x2 xn xt y f G ⊢ wp frame (wpE (defs₀ (F := F)) Variants.none (c : Thread nD τ) bd) Set.univ
      (if k0_h6 : k0_cond6 v1 = 1#1 then do
        let ⟨v46, v49, v70, v71, v72⟩ : Σ' (v46 : FVec F S2048x512 .bf16) (v49 : FVec F S512x2048 .bf16) (v70 : FVec F S512x2048 .bf16) (v71 : FVec F S512x512 .f32), FVec F S512x512 .f32 ← k0_part1 i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2
        let v83 : Vec F S512x2048 .f32 ← Prog.lift (.load arg9 (Rect.unit (s := S1024x2048) ![512, 0] S512x2048.size inb_S1024x2048_S512x2048_512_0).toLoadRect (View.loadsAt_vmem h_S512x2048))
        let v87 : Vec F S512x2048 .f32 ← Prog.lift (.load arg9 (Rect.unit (s := S1024x2048) ![512, 0] S512x2048.size inb_S1024x2048_S512x2048_512_0).toLoadRect (View.loadsAt_vmem h_S512x2048))
        Prog.lift (.store arg9 (Rect.unit (s := S1024x2048) ![512, 0] S512x2048.size inb_S1024x2048_S512x2048_512_0) (k0_pay12 v46 v49 v70 v71 v72 v83) Finset.univ (View.stores_vmem_bits_univ h_S512x2048 rfl) (.inl rfl))
        pure ⟨⟩
      else do
        pure ⟨⟩ : Prog (TpuEff nD τ sig (Elt F) Λ₀ .tc) PUnit)
      (fun _ => St c arg6 arg7 arg8 arg9 x0 x1 x2 xn xt (if k0_cond6 v1 = 1#1 then step2 x0 x1 x2 f y else y) f G) := by
  by_cases hc : k0_cond6 v1 = 1#1
  · rw [dif_pos hc, if_pos hc]
    simp only [k0_part1_eq_skeleton]
    unfold k0_part1_skel
    unfold St owns
    iintro ⟨⟨%f6, %hf6, H6⟩, ⟨%f7, %hf7, H7⟩, ⟨%f8, %hf8, H8⟩, ⟨%f9, %hf9, H9⟩, ⟨%fs, %hfs, Hs1⟩, Hn, Ht, HG, HO⟩
    sl_exec
    sl_step
    isplitl [H6]
    · iexists _
      isplitr
      swap; iexact H6
      ipureintro; exact hf6
    isplitl [H7]
    · iexists _
      isplitr
      swap; iexact H7
      ipureintro; exact hf7
    isplitl [H8]
    · iexists _
      isplitr
      swap; iexact H8
      ipureintro; exact hf8
    isplitl [H9]
    · iexists _
      isplitr
      swap; iexact H9
      ipureintro
      have e6 : arg6.view.readAt (Elt F) (Rect.unit (s := S1x2048x512) ![0, 0, 0] S1x2048x512.size inb_S1x2048x512_S1x2048x512_0_0_0).toLoadRect f6 = x0 := (View.readAt_full _ _ _).trans hf6
      have e7 : arg7.view.readAt (Elt F) (Rect.unit (s := S1x2048x512) ![0, 0, 0] S1x2048x512.size inb_S1x2048x512_S1x2048x512_0_0_0).toLoadRect f7 = x1 := (View.readAt_full _ _ _).trans hf7
      have e8 : arg8.view.readAt (Elt F) (Rect.unit (s := S1x512x2048) ![0, 0, 0] S1x512x2048.size inb_S1x512x2048_S1x512x2048_0_0_0).toLoadRect f8 = x2 := (View.readAt_full _ _ _).trans hf8
      have e9 : arg9.view.readAt (Elt F) (Rect.unit (s := S1024x2048) ![0, 0] S512x2048.size inb_S1024x2048_S512x2048_0_0).toLoadRect f9 = getRows 0 (by decide) y :=
        (readAt_rows arg9.view f9 0 (by decide) _ rfl _).trans (by rw [hf9])
      have s0 : (Memref.whole cc0_scratch1).view.readAt (Elt F) (Rect.unit (s := S2x512x2048) ![0, 0, 0] S1x512x2048.size inb_S2x512x2048_S1x512x2048_0_0_0).toLoadRect fs = getHalf 0 f :=
        (readAt_half _ fs 0 _ rfl _).trans (by rw [hfs])
      have s1 : (Memref.whole cc0_scratch1).view.readAt (Elt F) (Rect.unit (s := S2x512x2048) ![1, 0, 0] S1x512x2048.size inb_S2x512x2048_S1x512x2048_1_0_0).toLoadRect fs = getHalf 1 f :=
        (readAt_half _ fs 1 _ rfl _).trans (by rw [hfs])
      rw [e6, e7, e8, e9, s0, s1]
      dsimp only
      rw [show stage6.sl.v83 c arg9 f9 = getRows 512 (by decide) y from (readAt_rows arg9.view f9 512 (by decide) _ rfl _).trans (by rw [hf9])]
      rw [read_writes_rows _ _ 512 _ rfl, read_writes_rows _ _ 0 _ rfl]
      unfold step2 step2a
      rw [show View.read (Elt F) arg9.view (arg9.view.writes (Elt F) f9 []) = y from hf9]
    isplitl [Hs1]
    · iexists _
      isplitr
      swap; iexact Hs1
      ipureintro; exact hfs
    isplitl [Hn]; · iexact Hn
    isplitl [Ht]; · iexact Ht
    isplitl [HG]; · iexact HG
    iexact HO
  · rw [dif_neg hc, if_neg hc]
    iintro H
    sl_step
    iexact H

end Stage

end Cert.KernelIdeal.Moe
-- ==== Proof.Moe.Chain.lean ====
/-
  The kernel's body as its guarded blocks in sequence, each block a program of what follows it.
-/
module

public import proofs.«01_k».proof.Proof.Moe.Stages

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F] [∀ e, Nonempty (Elt F e)]

local notation "𝕄" => MT nD τ sig Unit (Elt F) ℕ (UD sig nD τ) ℕ

section Chain

variable (i : grid0.Coords)
  (arg6 : Memref sig .tc .vmem S1x2048x512 .f32) (harg6 : arg6.IsWhole)
  (arg7 : Memref sig .tc .vmem S1x2048x512 .f32) (harg7 : arg7.IsWhole)
  (arg8 : Memref sig .tc .vmem S1x512x2048 .f32) (harg8 : arg8.IsWhole)
  (arg9 : Memref sig .tc .vmem S1024x2048 .f32) (harg9 : arg9.IsWhole)
  {β : Type}

def prog1 (jp : PUnit.{1} → Prog (TpuEff nD τ sig (Elt F) Λ₀ .tc) β) : Prog (TpuEff nD τ sig (Elt F) Λ₀ .tc) β :=
  if k0_h1 : k0_cond1 i = 1#1 then do
        let v42 : Vec F S1024x2048 .f32 ← Prog.lift (.load arg9 (Rect.unit (s := S1024x2048) ![0, 0] S1024x2048.size inb_S1024x2048_S1024x2048_0_0).toLoadRect (View.loadsAt_vmem h_S1024x2048))
        Prog.lift (.store arg9 (Rect.unit (s := S1024x2048) ![0, 0] S1024x2048.size inb_S1024x2048_S1024x2048_0_0) (k0_pay8 (F := F)) Finset.univ (View.stores_vmem_bits_univ h_S1024x2048 rfl) (.inl rfl))
        jp ⟨⟩
      else do
        jp ⟨⟩

theorem prog1_eq (jp : PUnit.{1} → Prog (TpuEff nD τ sig (Elt F) Λ₀ .tc) β) : prog1 i arg9 jp = prog1 i arg9 Pure.pure >>= jp := by
  unfold prog1
  split <;> simp only [bind_assoc, pure_bind]

def prog2 (v1 : BitVec 32) (jp : PUnit.{1} → Prog (TpuEff nD τ sig (Elt F) Λ₀ .tc) β) : Prog (TpuEff nD τ sig (Elt F) Λ₀ .tc) β :=
  if k0_h2 : k0_cond2 i v1 = 1#1 then do
        Scf.Loop.for k0_t1_loop k0_t1_ok ⟨⟩ (k0_t1_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 v1 k0_h2)
        jp ⟨⟩
      else do
        jp ⟨⟩

theorem prog2_eq (v1 : BitVec 32) (jp : PUnit.{1} → Prog (TpuEff nD τ sig (Elt F) Λ₀ .tc) β) : prog2 i arg6 harg6 arg7 harg7 arg8 harg8 arg9 harg9 v1 jp = prog2 i arg6 harg6 arg7 harg7 arg8 harg8 arg9 harg9 v1 Pure.pure >>= jp := by
  unfold prog2
  split <;> simp only [bind_assoc, pure_bind]

def prog3 (v1 : BitVec 32) (jp : PUnit.{1} → Prog (TpuEff nD τ sig (Elt F) Λ₀ .tc) β) : Prog (TpuEff nD τ sig (Elt F) Λ₀ .tc) β :=
  if Scalar.cmpi .ne (Scalar.extui (Scalar.andi (Scalar.cmpi .eq (BitVec.ofNat 32 (i 1).val) 0#32) (Scalar.cmpi .sgt v1 0#32)) : BitVec 32) 0#32 = 1#1 then do
        Scf.Loop.for k0_t2_loop k0_t2_ok ⟨⟩ (k0_t2_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2)
        let v42 : Vec F S512x2048 .f32 ← Prog.lift (.load (Memref.whole cc0_scratch0) (Rect.unit (s := S512x2048) ![0, 0] S512x2048.size inb_S512x2048_S512x2048_0_0).toLoadRect (View.loadsAt_vmem h_S512x2048))
        let v44 : Vec F S1x512x2048 .bf16 ← Prog.lift (.load (Memref.whole cc0_scratch1) (Rect.unit (s := S2x512x2048) ![0, 0, 0] S1x512x2048.size inb_S2x512x2048_S1x512x2048_0_0_0).toLoadRect (View.loadsAt_vmem h_S1x512x2048))
        Prog.lift (.store (Memref.whole cc0_scratch1) (Rect.unit (s := S2x512x2048) ![0, 0, 0] S1x512x2048.size inb_S2x512x2048_S1x512x2048_0_0_0) (k0_pay9 v42) Finset.univ (View.stores_vmem h_S1x512x2048 ((Memref.isWhole_whole cc0_scratch1).storeExact_slice rfl _ packedbf16_S2x512x2048_S1x512x2048_0_0_0) (fun _ => rfl)) (.inl rfl))
        jp ⟨⟩
      else do
        jp ⟨⟩

theorem prog3_eq (v1 : BitVec 32) (jp : PUnit.{1} → Prog (TpuEff nD τ sig (Elt F) Λ₀ .tc) β) : prog3 i arg6 harg6 arg7 harg7 arg8 harg8 arg9 harg9 v1 jp = prog3 i arg6 harg6 arg7 harg7 arg8 harg8 arg9 harg9 v1 Pure.pure >>= jp := by
  unfold prog3
  split <;> simp only [bind_assoc, pure_bind]

def prog4 (v1 : BitVec 32) (jp : PUnit.{1} → Prog (TpuEff nD τ sig (Elt F) Λ₀ .tc) β) : Prog (TpuEff nD τ sig (Elt F) Λ₀ .tc) β :=
  if k0_h4 : k0_cond4 i v1 = 1#1 then do
        Scf.Loop.for k0_t3_loop k0_t3_ok ⟨⟩ (k0_t3_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 v1 k0_h4)
        Scf.Loop.for k0_t4_loop k0_t4_ok ⟨⟩ (k0_t4_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2)
        let v46 : Vec F S512x2048 .f32 ← Prog.lift (.load (Memref.whole cc0_scratch0) (Rect.unit (s := S512x2048) ![0, 0] S512x2048.size inb_S512x2048_S512x2048_0_0).toLoadRect (View.loadsAt_vmem h_S512x2048))
        let v48 : Vec F S1x512x2048 .bf16 ← Prog.lift (.load (Memref.whole cc0_scratch1) (Rect.unit (s := S2x512x2048) ![1, 0, 0] S1x512x2048.size inb_S2x512x2048_S1x512x2048_1_0_0).toLoadRect (View.loadsAt_vmem h_S1x512x2048))
        Prog.lift (.store (Memref.whole cc0_scratch1) (Rect.unit (s := S2x512x2048) ![1, 0, 0] S1x512x2048.size inb_S2x512x2048_S1x512x2048_1_0_0) (k0_pay10 v46) Finset.univ (View.stores_vmem h_S1x512x2048 ((Memref.isWhole_whole cc0_scratch1).storeExact_slice rfl _ packedbf16_S2x512x2048_S1x512x2048_1_0_0) (fun _ => rfl)) (.inl rfl))
        jp ⟨⟩
      else do
        jp ⟨⟩

theorem prog4_eq (v1 : BitVec 32) (jp : PUnit.{1} → Prog (TpuEff nD τ sig (Elt F) Λ₀ .tc) β) : prog4 i arg6 harg6 arg7 harg7 arg8 harg8 arg9 harg9 v1 jp = prog4 i arg6 harg6 arg7 harg7 arg8 harg8 arg9 harg9 v1 Pure.pure >>= jp := by
  unfold prog4
  split <;> simp only [bind_assoc, pure_bind]

def prog5 (v1 : BitVec 32) (jp : PUnit.{1} → Prog (TpuEff nD τ sig (Elt F) Λ₀ .tc) β) : Prog (TpuEff nD τ sig (Elt F) Λ₀ .tc) β :=
  if k0_h5 : k0_cond5 v1 = 1#1 then do
        let v41 : Vec F S1x2048x512 .f32 ← Prog.lift (.load arg6 (Rect.unit (s := S1x2048x512) ![0, 0, 0] S1x2048x512.size inb_S1x2048x512_S1x2048x512_0_0_0).toLoadRect (View.loadsAt_vmem h_S1x2048x512))
        let v44 : Vec F S1x2048x512 .f32 ← Prog.lift (.load arg7 (Rect.unit (s := S1x2048x512) ![0, 0, 0] S1x2048x512.size inb_S1x2048x512_S1x2048x512_0_0_0).toLoadRect (View.loadsAt_vmem h_S1x2048x512))
        let v47 : Vec F S1x512x2048 .f32 ← Prog.lift (.load arg8 (Rect.unit (s := S1x512x2048) ![0, 0, 0] S1x512x2048.size inb_S1x512x2048_S1x512x2048_0_0_0).toLoadRect (View.loadsAt_vmem h_S1x512x2048))
        let v50 : Vec F S1x512x2048 .bf16 ← Prog.lift (.load (Memref.whole cc0_scratch1) (Rect.unit (s := S2x512x2048) ![0, 0, 0] S1x512x2048.size inb_S2x512x2048_S1x512x2048_0_0_0).toLoadRect (View.loadsAt_vmem h_S1x512x2048))
        let v64 : Vec F S512x2048 .f32 ← Prog.lift (.load arg9 (Rect.unit (s := S1024x2048) ![0, 0] S512x2048.size inb_S1024x2048_S512x2048_0_0).toLoadRect (View.loadsAt_vmem h_S512x2048))
        let v68 : Vec F S512x2048 .f32 ← Prog.lift (.load arg9 (Rect.unit (s := S1024x2048) ![0, 0] S512x2048.size inb_S1024x2048_S512x2048_0_0).toLoadRect (View.loadsAt_vmem h_S512x2048))
        Prog.lift (.store arg9 (Rect.unit (s := S1024x2048) ![0, 0] S512x2048.size inb_S1024x2048_S512x2048_0_0) (k0_pay11 v41 v44 v47 v50 v64) Finset.univ (View.stores_vmem_bits_univ h_S512x2048 rfl) (.inl rfl))
        jp ⟨⟩
      else do
        jp ⟨⟩

theorem prog5_eq (v1 : BitVec 32) (jp : PUnit.{1} → Prog (TpuEff nD τ sig (Elt F) Λ₀ .tc) β) : prog5 arg6 arg7 arg8 arg9 v1 jp = prog5 arg6 arg7 arg8 arg9 v1 Pure.pure >>= jp := by
  unfold prog5
  split <;> simp only [bind_assoc, pure_bind]

def prog6 (v1 : BitVec 32) (jp : PUnit.{1} → Prog (TpuEff nD τ sig (Elt F) Λ₀ .tc) β) : Prog (TpuEff nD τ sig (Elt F) Λ₀ .tc) β :=
  if k0_h6 : k0_cond6 v1 = 1#1 then do
        let ⟨v46, v49, v70, v71, v72⟩ : Σ' (v46 : FVec F S2048x512 .bf16) (v49 : FVec F S512x2048 .bf16) (v70 : FVec F S512x2048 .bf16) (v71 : FVec F S512x512 .f32), FVec F S512x512 .f32 ← k0_part1 i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2
        let v83 : Vec F S512x2048 .f32 ← Prog.lift (.load arg9 (Rect.unit (s := S1024x2048) ![512, 0] S512x2048.size inb_S1024x2048_S512x2048_512_0).toLoadRect (View.loadsAt_vmem h_S512x2048))
        let v87 : Vec F S512x2048 .f32 ← Prog.lift (.load arg9 (Rect.unit (s := S1024x2048) ![512, 0] S512x2048.size inb_S1024x2048_S512x2048_512_0).toLoadRect (View.loadsAt_vmem h_S512x2048))
        Prog.lift (.store arg9 (Rect.unit (s := S1024x2048) ![512, 0] S512x2048.size inb_S1024x2048_S512x2048_512_0) (k0_pay12 v46 v49 v70 v71 v72 v83) Finset.univ (View.stores_vmem_bits_univ h_S512x2048 rfl) (.inl rfl))
        jp ⟨⟩
      else do
        jp ⟨⟩

theorem prog6_eq (v1 : BitVec 32) (jp : PUnit.{1} → Prog (TpuEff nD τ sig (Elt F) Λ₀ .tc) β) : prog6 i arg6 harg6 arg7 harg7 arg8 harg8 arg9 harg9 v1 jp = prog6 i arg6 harg6 arg7 harg7 arg8 harg8 arg9 harg9 v1 Pure.pure >>= jp := by
  unfold prog6
  split <;> simp only [bind_assoc, pure_bind]

def prog7 (v36 : BitVec 32) (jp : PUnit.{1} → Prog (TpuEff nD τ sig (Elt F) Λ₀ .tc) β) : Prog (TpuEff nD τ sig (Elt F) Λ₀ .tc) β :=
  if k0_h7 : k0_cond7 i v36 = 1#1 then do
        Scf.Loop.for k0_t5_loop k0_t5_ok ⟨⟩ (k0_t5_body i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 v36 k0_h7)
        jp ⟨⟩
      else do
        jp ⟨⟩

theorem prog7_eq (v36 : BitVec 32) (jp : PUnit.{1} → Prog (TpuEff nD τ sig (Elt F) Λ₀ .tc) β) : prog7 i arg6 harg6 arg7 harg7 arg8 harg8 arg9 harg9 v36 jp = prog7 i arg6 harg6 arg7 harg7 arg8 harg8 arg9 harg9 v36 Pure.pure >>= jp := by
  unfold prog7
  split <;> simp only [bind_assoc, pure_bind]

/-- The whole body: read the tile's number of halves, the six blocks of this tile, read the next tile's, its prefetch. -/
def chain : Prog (TpuEff nD τ sig (Elt F) Λ₀ .tc) PUnit :=
  (smemLoad (Memref.whole main_arg1) (Rect.unit (s := S25) (k0_off1 i) S1.size (k0_off1_inb i)) numel1_S1 rfl : Prog (TpuEff nD τ sig (Elt F) Λ₀ .tc) (Elt F .i32)) >>= fun (v1 : Elt F .i32) =>
  prog1 i arg9 fun _ => prog2 i arg6 harg6 arg7 harg7 arg8 harg8 arg9 harg9 v1 fun _ => prog3 i arg6 harg6 arg7 harg7 arg8 harg8 arg9 harg9 v1 fun _ => prog4 i arg6 harg6 arg7 harg7 arg8 harg8 arg9 harg9 v1 fun _ => prog5 arg6 arg7 arg8 arg9 v1 fun _ => prog6 i arg6 harg6 arg7 harg7 arg8 harg8 arg9 harg9 v1 fun _ =>
  (smemLoad (Memref.whole main_arg1) (Rect.unit (s := S25) (k0_off10 i) S1.size (k0_off10_inb i)) numel1_S1 rfl : Prog (TpuEff nD τ sig (Elt F) Λ₀ .tc) (Elt F .i32)) >>= fun (v36 : Elt F .i32) =>
  prog7 i arg6 harg6 arg7 harg7 arg8 harg8 arg9 harg9 v36 Pure.pure

theorem prog_map (v1 : BitVec 32) (k : PUnit.{1} → Prog (TpuEff nD τ sig (Elt F) Λ₀ .tc) β) {γ : Type} (g : β → Prog (TpuEff nD τ sig (Elt F) Λ₀ .tc) γ) :
    (prog1 i arg9 fun _ => prog2 i arg6 harg6 arg7 harg7 arg8 harg8 arg9 harg9 v1 fun _ => prog3 i arg6 harg6 arg7 harg7 arg8 harg8 arg9 harg9 v1 fun _ => prog4 i arg6 harg6 arg7 harg7 arg8 harg8 arg9 harg9 v1 fun _ => prog5 arg6 arg7 arg8 arg9 v1 fun _ => prog6 i arg6 harg6 arg7 harg7 arg8 harg8 arg9 harg9 v1 k) >>= g
      = prog1 i arg9 fun _ => prog2 i arg6 harg6 arg7 harg7 arg8 harg8 arg9 harg9 v1 fun _ => prog3 i arg6 harg6 arg7 harg7 arg8 harg8 arg9 harg9 v1 fun _ => prog4 i arg6 harg6 arg7 harg7 arg8 harg8 arg9 harg9 v1 fun _ => prog5 arg6 arg7 arg8 arg9 v1 fun _ => prog6 i arg6 harg6 arg7 harg7 arg8 harg8 arg9 harg9 v1 fun u => k u >>= g := by
  rw [prog1_eq i arg9 (β := β), prog1_eq i arg9 (β := γ), bind_assoc]; congr 1; funext _
  rw [prog2_eq (β := β), prog2_eq (β := γ), bind_assoc]; congr 1; funext _
  rw [prog3_eq (β := β), prog3_eq (β := γ), bind_assoc]; congr 1; funext _
  rw [prog4_eq (β := β), prog4_eq (β := γ), bind_assoc]; congr 1; funext _
  rw [prog5_eq (β := β), prog5_eq (β := γ), bind_assoc]; congr 1; funext _
  rw [prog6_eq (β := β), prog6_eq (β := γ), bind_assoc]

theorem part2_eq : k0_part2_skel (F := F) i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 = ((smemLoad (Memref.whole main_arg1) (Rect.unit (s := S25) (k0_off1 i) S1.size (k0_off1_inb i)) numel1_S1 rfl : Prog (TpuEff nD τ sig (Elt F) Λ₀ .tc) (Elt F .i32)) >>= fun (v1 : Elt F .i32) =>
    prog1 i arg9 fun _ => prog2 i arg6 harg6 arg7 harg7 arg8 harg8 arg9 harg9 v1 fun _ => prog3 i arg6 harg6 arg7 harg7 arg8 harg8 arg9 harg9 v1 fun _ => prog4 i arg6 harg6 arg7 harg7 arg8 harg8 arg9 harg9 v1 fun _ => prog5 arg6 arg7 arg8 arg9 v1 fun _ => prog6 i arg6 harg6 arg7 harg7 arg8 harg8 arg9 harg9 v1 fun _ =>
      Pure.pure ⟨BitVec.ofNat 32 (i 0).val, Scalar.minsi (Scalar.addi (BitVec.ofNat 32 (i 0).val) 1#32) 24#32, Scalar.cmpi .eq (BitVec.ofNat 32 (i 1).val) (Scalar.minsi 1#32 13#32)⟩) := rfl

theorem chain_eq : cc0_moe_group (F := F) i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2 = chain i arg6 harg6 arg7 harg7 arg8 harg8 arg9 harg9 := by
  rw [cc0_moe_group_eq_skeleton]
  unfold cc0_moe_group_skel
  simp only [k0_part2_eq_skeleton]
  rw [part2_eq, bind_assoc]
  unfold chain
  congr 1; funext v1
  rw [prog_map]
  simp only [pure_bind]
  rfl

end Chain

end Cert.KernelIdeal.Moe
-- ==== Proof.Moe.Body.lean ====
/-
  The grouped expert kernel's body at one grid point: the stages in order, and what the point leaves in the output block,
  in the packed rows and of the gather.
-/
module

public import proofs.«01_k».proof.Proof.Moe.Chain

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Cert.KernelIdeal.Gen

variable {F : FTy → Type} [FloatOps F] [∀ e, Nonempty (Elt F e)]

local notation "𝕄" => MT nD τ sig Unit (Elt F) ℕ (UD sig nD τ) ℕ

/-- The number of halves in use of tile `n`, as its word. -/
def nhWord (xn : S25.Idx → BitVec 32) (n : ℕ) : BitVec 32 := xn (ix1 ⟨n % 25, Nat.mod_lt _ (by decide)⟩)

theorem read_nh (xn : S25.Idx → BitVec 32) (n : ℕ) (hn : n < 25) (o : Fin 1 → ℕ) (ho : o = ![n]) (h) (x) :
    ((Memref.whole main_arg1).access (Rect.unit (s := S25) o S1.size h)).read (Elt F) xn x = nhWord xn n := by
  subst ho
  show xn _ = xn _
  congr 1
  funext a
  have hx : (x 0).val = 0 := by have : (x 0).val < 1 := (x 0).isLt; omega
  fin_cases a
  refine Fin.ext ?_
  show n + 1 * (x 0).val = n % 25
  rw [hx, Nat.mod_eq_of_lt hn]; omega

theorem off10_min (i : grid0.Coords) : k0_off10 i = ![min ((i 0).val + 1) 24] := by
  have key : ∀ a : Fin 25, (Scalar.indexCast (Scalar.minsi (Scalar.addi (BitVec.ofNat 32 a.val) 1#32) 24#32) : Index).toNat = min (a.val + 1) 24 := by decide
  exact congrArg (fun n => ![n]) (key (i 0))

theorem pure_left {φ : Prop} {P Q : sProp 𝕄} (hq : φ → (P ⊢ Q)) : iprop(⌜φ⌝ ∗ P) ⊢ Q := by
  iintro ⟨%hp, H⟩
  iapply (hq hp)
  iexact H

section Body

variable (c : Dev nD) (i : grid0.Coords)
  (arg6 : Memref sig .tc .vmem S1x2048x512 .f32) (harg6 : arg6.IsWhole)
  (arg7 : Memref sig .tc .vmem S1x2048x512 .f32) (harg7 : arg7.IsWhole)
  (arg8 : Memref sig .tc .vmem S1x512x2048 .f32) (harg8 : arg8.IsWhole)
  (arg9 : Memref sig .tc .vmem S1024x2048 .f32) (harg9 : arg9.IsWhole)
  (x0 x1 : S1x2048x512.Idx → Elt F .f32) (x2 : S1x512x2048.Idx → Elt F .f32)
  (xn : S25.Idx → BitVec 32) (xt : S25600.Idx → BitVec 32) (h : Tab F)

theorem stage0 (bd : Option _) (n : ℕ) (hn : n < 25) (o : Fin 1 → ℕ) (ho : o = ![n]) (hb) (y f) (G : sProp 𝕄) :
    St c arg6 arg7 arg8 arg9 x0 x1 x2 xn xt y f G ⊢ wp frame (wpE (defs₀ (F := F)) Variants.none (c : Thread nD τ) bd) Set.univ
      (smemLoad (Memref.whole main_arg1) (Rect.unit (s := S25) o S1.size hb) numel1_S1 rfl : Prog (TpuEff nD τ sig (Elt F) Λ₀ .tc) _)
      (fun w => iprop(⌜w = nhWord xn n⌝ ∗ St c arg6 arg7 arg8 arg9 x0 x1 x2 xn xt y f G)) := by
  unfold St
  iintro ⟨H6, H7, H8, H9, Hs1, Hn, Ht, HG, HO⟩
  sl_exec
  sl_step
  isplitr
  · ipureintro; exact read_nh xn n hn o ho hb _
  isplitl [H6]; · iexact H6
  isplitl [H7]; · iexact H7
  isplitl [H8]; · iexact H8
  isplitl [H9]; · iexact H9
  isplitl [Hs1]; · iexact Hs1
  isplitl [Hn]; · iexact Hn
  isplitl [Ht]; · iexact Ht
  isplitl [HG]; · iexact HG
  iexact HO

/-- Half tile `n`'s rows of the token table. -/
def rowsOf (n : ℕ) : Scr F := gathered (rowOf xt (n * 512)) h

/-- The gather at the start of point `(a, b)`: the next tile's first half is on its way from the third point of a tile to the first of the next. -/
def gatherAt (a b : ℕ) : sProp 𝕄 :=
  if b = 0 then (if (0 < a ∧ a < 25) ∧ nhWord xn a ≠ 0#32 then flight c (rowOf xt (2 * a * 512)) h else atRest c h)
  else if (2 ≤ b ∧ a + 1 < 25) ∧ nhWord xn (a + 1) ≠ 0#32 then flight c (rowOf xt (2 * (a + 1) * 512)) h else atRest c h

def gatherNext (a b : ℕ) : sProp 𝕄 := if b + 1 < 14 then gatherAt c xn xt h a (b + 1) else gatherAt c xn xt h (a + 1) 0

/-- The packed rows a tile works on: the halves in use hold their gathered rows. -/
def Good (a : ℕ) (f : Packed F) : Prop :=
  (nhWord xn a ≠ 0#32 → getHalf 0 f = k0_pay9 (rowsOf xt h (2 * a))) ∧ (nhWord xn a = 2#32 → getHalf 1 f = k0_pay10 (rowsOf xt h (2 * a + 1)))

/-- What one point of tile `a` makes of the output block. -/
def outStep (a : ℕ) (y : Block F) : Block F :=
  if nhWord xn a = 2#32 then
    setRows 512 (setRows 0 y (k0_pay4 x0 x1 x2 (k0_pay9 (rowsOf xt h (2 * a))) (getRows 0 (by decide) y)))
      (k0_pay12 (k0_pay2 x1) (k0_pay3 x2) (k0_pay5 (k0_pay10 (rowsOf xt h (2 * a + 1)))) (k0_pay6 x0 (k0_pay10 (rowsOf xt h (2 * a + 1)))) (k0_pay7 (F := F)) (getRows 512 (by decide) y))
  else if nhWord xn a = 1#32 then setRows 0 y (k0_pay11 x0 x1 x2 (k0_pay9 (rowsOf xt h (2 * a))) (getRows 0 (by decide) y))
  else y

/-- The packed rows after a point's gathers are the tile's. -/
theorem good_end (a b : ℕ) (f : Packed F) (hf : b ≠ 0 → Good xn xt h a f) :
    Good xn xt h a (if b = 0 ∧ nhWord xn a = 2#32 then
      setHalf 1 (if b = 0 ∧ nhWord xn a ≠ 0#32 then setHalf 0 f (k0_pay9 (gathered (rowOf xt (2 * a * 512)) h)) else f) (k0_pay10 (gathered (rowOf xt ((2 * a + 1) * 512)) h))
      else (if b = 0 ∧ nhWord xn a ≠ 0#32 then setHalf 0 f (k0_pay9 (gathered (rowOf xt (2 * a * 512)) h)) else f)) := by
  by_cases hb : b = 0
  · refine ⟨fun hv => ?_, fun hv => ?_⟩
    · rw [if_pos (show b = 0 ∧ nhWord xn a ≠ 0#32 from ⟨hb, hv⟩)]
      split
      · rw [getHalf_set_ne 1 0 (by decide), getHalf_set]; rfl
      · rw [getHalf_set]; rfl
    · rw [if_pos ⟨hb, hv⟩, getHalf_set]; rfl
  · rw [if_neg fun e => hb e.1, if_neg fun e => hb e.1]
    exact hf hb

theorem out_end (a : ℕ) (f : Packed F) (y : Block F) (hf : Good xn xt h a f) :
    (if nhWord xn a = 2#32 then step2 x0 x1 x2 f (if nhWord xn a = 1#32 then step1 x0 x1 x2 f y else y) else (if nhWord xn a = 1#32 then step1 x0 x1 x2 f y else y))
      = outStep x0 x1 x2 xn xt h a y := by
  unfold outStep
  by_cases h2 : nhWord xn a = 2#32
  · rw [if_pos h2, if_pos h2, if_neg (by rw [h2]; decide)]
    unfold step2 step2a
    rw [hf.1 (by rw [h2]; decide), hf.2 h2]
  · rw [if_neg h2, if_neg h2]
    by_cases h1 : nhWord xn a = 1#32
    · rw [if_pos h1, if_pos h1]
      unfold step1
      rw [hf.1 (by rw [h1]; decide)]
    · rw [if_neg h1, if_neg h1]

theorem gather_end (a b : ℕ) (ha : a < 25) :
    (if (b = 1 ∧ a + 1 < 25) ∧ nhWord xn (min (a + 1) 24) ≠ 0#32 then flight c (rowOf xt (2 * (a + 1) * 512)) h
      else if b = 0 ∧ nhWord xn a ≠ 0#32 then atRest c h
      else if (b = 0 ∧ nhWord xn a ≠ 0#32) ∧ a = 0 then flight c (rowOf xt 0) h else gatherAt c xn xt h a b)
      = gatherNext c xn xt h a b := by
  unfold gatherNext gatherAt
  rcases Nat.lt_or_ge (a + 1) 25 with h1 | h1
  · rw [min_eq_left (by omega : a + 1 ≤ 24)]
    by_cases hn1 : nhWord xn (a + 1) = 0#32 <;> by_cases hn0 : nhWord xn a = 0#32 <;> by_cases hb : b = 0 <;> by_cases hb1 : b = 1 <;> by_cases hb2 : b + 1 < 14 <;>
      simp [hn1, hn0, hb, hb1, hb2, h1, ha] <;> (try (rw [if_pos (show 2 ≤ b by omega), if_pos (show 1 ≤ b by omega)])) <;> (try omega)
  · have e : a = 24 := by omega
    subst e
    by_cases hn0 : nhWord xn 24 = 0#32 <;> by_cases hb : b = 0 <;> by_cases hb2 : b + 1 < 14 <;> simp [hn0, hb, hb2]

theorem exists_right {α : Type} {φ : α → Prop} {P : sProp 𝕄} {R : α → sProp 𝕄} (x : α) (hx : φ x) (hR : P ⊢ R x) :
    P ⊢ iprop(∃ x, ⌜φ x⌝ ∗ R x) := by
  iintro H
  iexists x
  isplitr
  · ipureintro; exact hx
  iapply hR
  iexact H

theorem body_point (bd : Option _) (hn : ∀ j, Halves (xn j)) (hxt : InTable xt) (y f) (hf : (i 1).val ≠ 0 → Good xn xt h (i 0).val f) :
    St c arg6 arg7 arg8 arg9 x0 x1 x2 xn xt y f (gatherAt c xn xt h (i 0).val (i 1).val) ⊢ wp frame (wpE (defs₀ (F := F)) Variants.none (c : Thread nD τ) bd) Set.univ
      (cc0_moe_group i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2)
      (fun _ => iprop(∃ f', ⌜Good xn xt h (i 0).val f'⌝ ∗ St c arg6 arg7 arg8 arg9 x0 x1 x2 xn xt
        (outStep x0 x1 x2 xn xt h (i 0).val (if (i 1).val = 0 then k0_pay8 (F := F) else y)) f' (gatherNext c xn xt h (i 0).val (i 1).val))) := by
  have hv1 : Halves (nhWord xn (i 0).val) := hn _
  have hv36 : Halves (nhWord xn (min ((i 0).val + 1) 24)) := hn _
  rw [chain_eq]
  unfold chain
  rw [wp_bind]
  refine (stage0 c arg6 arg7 arg8 arg9 x0 x1 x2 xn xt bd (i 0).val (ax0 i) _ (off1_eq i) _ y f _).trans (wp_mono _ _ _ fun v1 => ?_)
  refine pure_left ?_
  rintro rfl
  rw [prog1_eq, wp_bind]
  refine (stage1 c i arg6 arg7 arg8 arg9 x0 x1 x2 xn xt bd y f _).trans (wp_mono _ _ _ fun _ => ?_)
  rw [prog2_eq, wp_bind]
  refine (stage2 c i arg6 harg6 arg7 harg7 arg8 harg8 arg9 harg9 x0 x1 x2 xn xt h bd hxt _ hv1 _ _ _ ?hG2).trans (wp_mono _ _ _ fun _ => ?_)
  swap
  rw [prog3_eq, wp_bind]
  refine (stage3 c i arg6 harg6 arg7 harg7 arg8 harg8 arg9 harg9 x0 x1 x2 xn xt h bd _ hv1 _ _ _ (rowOf xt (2 * (i 0).val * 512)) ?hG3).trans (wp_mono _ _ _ fun _ => ?_)
  swap
  rw [prog4_eq, wp_bind]
  refine (stage4 c i arg6 harg6 arg7 harg7 arg8 harg8 arg9 harg9 x0 x1 x2 xn xt h bd hxt _ hv1 _ _ _ ?hG4).trans (wp_mono _ _ _ fun _ => ?_)
  swap
  rw [prog5_eq, wp_bind]
  refine (stage5 c arg6 arg7 arg8 arg9 x0 x1 x2 xn xt bd _ _ _ _).trans (wp_mono _ _ _ fun _ => ?_)
  rw [prog6_eq, wp_bind]
  refine (stage6 c i arg6 harg6 arg7 harg7 arg8 harg8 arg9 harg9 x0 x1 x2 xn xt bd _ _ _ _).trans (wp_mono _ _ _ fun _ => ?_)
  rw [wp_bind]
  refine (stage0 c arg6 arg7 arg8 arg9 x0 x1 x2 xn xt bd (min ((i 0).val + 1) 24) (by omega) _ (off10_min i) _ _ _ _).trans (wp_mono _ _ _ fun v36 => ?_)
  refine pure_left ?_
  rintro rfl
  refine (stage7 c i arg6 harg6 arg7 harg7 arg8 harg8 arg9 harg9 x0 x1 x2 xn xt h bd hxt _ hv36 _ _ _ ?hG7).trans (wp_mono _ _ _ fun _ => ?_)
  swap
  · simp only [cond2_iff i _ hv1, cond4_iff i _ hv1, cond5_iff _ hv1, cond6_iff _ hv1, cond7_iff i _ hv36]
    have hgood := good_end xn xt h (i 0).val (i 1).val f hf
    rw [gather_end c xn xt h (i 0).val (i 1).val (ax0 i), out_end x0 x1 x2 xn xt h (i 0).val _ _ hgood]
    exact exists_right _ hgood .rfl
  case hG2 =>
    rw [cond2_iff i _ hv1]
    rintro ⟨⟨hb, _⟩, ha⟩
    unfold gatherAt
    rw [if_pos hb, if_neg (by omega)]
  case hG3 =>
    intro hb hv
    simp only [cond2_iff i _ hv1]
    unfold gatherAt
    rw [if_pos hb]
    by_cases ha : (i 0).val = 0
    · rw [if_pos ⟨⟨hb, hv⟩, ha⟩, ha]
    · rw [if_neg fun e => ha e.2, if_pos ⟨⟨by omega, ax0 i⟩, hv⟩]
  case hG4 =>
    rw [cond4_iff i _ hv1]
    rintro ⟨hb, hv⟩
    rw [if_pos ⟨hb, by rw [hv]; decide⟩]
  case hG7 =>
    rw [cond7_iff i _ hv36]
    rintro ⟨⟨hb, ha⟩, hv⟩
    simp only [cond2_iff i _ hv1]
    unfold gatherAt
    rw [if_neg (by omega), if_neg (by omega), if_neg (by omega), if_neg (by omega)]

end Body

end Cert.KernelIdeal.Moe
-- ==== Proof.Moe.Maps.lean ====
/-
  The grid's coordinates and the block each window takes at a point.
-/
module

public import proofs.«01_k».proof.Proof.Moe.Body
public import Idealize.ShloMosaic.Lib.Pipeline.FrameBody
public import Idealize.ShloMosaic.Lib.Pipeline.TableIdle
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)
open Cert.KernelIdeal.Gen

variable {F : FTy → Type} [FloatOps F] [∀ e, Nonempty (Elt F e)]

local notation "𝕄" => MT nD τ sig Unit (Elt F) ℕ (UD sig nD τ) ℕ

/-! ## The grid's coordinates and the index maps -/

theorem co0 (t : Fin grid0.N) : (grid0.coords t 0).val = t.val / 14 := by
  have ht : t.val < 350 := lt_of_lt_of_eq t.isLt N_0
  rw [Pipeline.Grid.coords_val t 0 (S := 14) (B := 25) (by decide) rfl]
  omega

theorem co1 (t : Fin grid0.N) : (grid0.coords t 1).val = t.val % 14 := by
  rw [Pipeline.Grid.coords_val t 1 (S := 1) (B := 14) (by decide) rfl]
  omega

theorem at_word (x : S25.Idx → BitVec 32) (i : grid0.Coords) (o : Fin 1 → ℕ) (ho : o = ![(i 0).val]) (h) (n1 : (Rect.unit (s := S25) o S1.size h).shape.numel = 1) :
    x ((Rect.unit (s := S25) o S1.size h).emb (Shape.Idx.first (n1.symm ▸ Nat.one_pos))) = nhWord x (i 0).val := by
  subst ho
  unfold nhWord
  congr 1
  funext a
  have hx : ∀ z : (Rect.unit (s := S25) ![(i 0).val] S1.size h).shape.Idx, (z 0).val = 0 := fun z => by have : (z 0).val < 1 := (z 0).isLt; omega
  fin_cases a
  refine Fin.ext ?_
  show (i 0).val + 1 * _ = (i 0).val % 25
  have h0 := hx (Shape.Idx.first (n1.symm ▸ Nat.one_pos))
  have h1 := Nat.mod_eq_of_lt (ax0 i)
  rw [h1]
  exact (congrArg (fun k => (i 0).val + 1 * k) h0).trans (by omega)

/-- The weight block of a point: the point's own while the tile has rows in use, else the last. -/
def blk (xn : S25.Idx → BitVec 32) (a b : ℕ) : ℕ := if nhWord xn a ≠ 0#32 then b else 13

theorem sel_blk (xn : S25.Idx → BitVec 32) (hn : ∀ j, Halves (xn j)) (i : grid0.Coords) :
    (Scalar.select (Scalar.cmpi .sgt (nhWord xn (i 0).val) 0#32) (BitVec.ofNat 32 (i 1).val) 13#32).toNat = blk xn (i 0).val (i 1).val := by
  have h1 := ax1 i
  unfold blk
  by_cases hc : nhWord xn (i 0).val = 0#32
  · rw [if_neg (not_not_intro hc), hc]; rfl
  · rw [if_pos hc]
    have : Scalar.cmpi .sgt (nhWord xn (i 0).val) 0#32 = 1#1 := (sgt0_iff _ (hn _)).2 hc
    show (if Scalar.cmpi .sgt (nhWord xn (i 0).val) 0#32 = 1#1 then BitVec.ofNat 32 (i 1).val else 13#32).toNat = _
    rw [if_pos this, BitVec.toNat_ofNat, Nat.mod_eq_of_lt (by omega)]

section Maps

variable (pf : pre0.Contents (Elt F)) (i : grid0.Coords)

theorem map1 (hn : ∀ j : S25.Idx, Halves (pf 1 j)) : cc0_transform_1 k0_off1_inb numel1_S1 pf i = ![(nhWord (pf 0) (i 0).val).toNat, 0, blk (pf 1) (i 0).val (i 1).val] := by
  rw [← sel_blk (pf 1) hn i]
  have e0 := at_word (pf 0) i (k0_off1 i) (off1_eq i) (k0_off1_inb i) numel1_S1
  have e1 := at_word (pf 1) i (k0_off1 i) (off1_eq i) (k0_off1_inb i) numel1_S1
  rw [← e0, ← e1]
  rfl

theorem map2 (hn : ∀ j : S25.Idx, Halves (pf 1 j)) : cc0_transform_2 k0_off1_inb numel1_S1 pf i = ![(nhWord (pf 0) (i 0).val).toNat, 0, blk (pf 1) (i 0).val (i 1).val] := by
  rw [← sel_blk (pf 1) hn i]
  have e0 := at_word (pf 0) i (k0_off1 i) (off1_eq i) (k0_off1_inb i) numel1_S1
  have e1 := at_word (pf 1) i (k0_off1 i) (off1_eq i) (k0_off1_inb i) numel1_S1
  rw [← e0, ← e1]
  rfl

theorem map3 (hn : ∀ j : S25.Idx, Halves (pf 1 j)) : cc0_transform_3 k0_off1_inb numel1_S1 pf i = ![(nhWord (pf 0) (i 0).val).toNat, blk (pf 1) (i 0).val (i 1).val, 0] := by
  rw [← sel_blk (pf 1) hn i]
  have e0 := at_word (pf 0) i (k0_off1 i) (off1_eq i) (k0_off1_inb i) numel1_S1
  have e1 := at_word (pf 1) i (k0_off1 i) (off1_eq i) (k0_off1_inb i) numel1_S1
  rw [← e0, ← e1]
  rfl

theorem map4 : cc0_transform_4 i = ![(i 0).val, 0] := by
  have := ax0 i
  show ![(BitVec.ofNat 32 (i 0).val).toNat, 0] = _
  rw [BitVec.toNat_ofNat, Nat.mod_eq_of_lt (by omega)]

theorem blk_lt (xn : S25.Idx → BitVec 32) (a b : ℕ) (hb : b < 14) : blk xn a b < 14 := by unfold blk; split <;> omega

/-- Tables in range put every weight block inside its array. -/
theorem ok_of_range (hte : ∀ j : S25.Idx, (pf 0 j : BitVec 32).toNat < 8) (hn : ∀ j : S25.Idx, Halves (pf 1 j)) : ok0 pf := by
  unfold ok0
  refine ⟨fun i => ⟨?_, .inl rfl⟩, fun i => ⟨?_, .inl rfl⟩, fun i => ⟨?_, .inl rfl⟩⟩
  · rw [map1 pf i hn]
    have h0 : (nhWord (pf 0) (i 0).val).toNat < 8 := hte _
    have hb := blk_lt (pf 1) (i 0).val (i 1).val (ax1 i)
    intro a; fin_cases a
    · show ((nhWord (pf 0) (i 0).val).toNat + 1) * 1 ≤ 8; omega
    · show (0 + 1) * 2048 ≤ 2048; omega
    · show (blk (pf 1) (i 0).val (i 1).val + 1) * 512 ≤ 7168; omega
  · rw [map2 pf i hn]
    have h0 : (nhWord (pf 0) (i 0).val).toNat < 8 := hte _
    have hb := blk_lt (pf 1) (i 0).val (i 1).val (ax1 i)
    intro a; fin_cases a
    · show ((nhWord (pf 0) (i 0).val).toNat + 1) * 1 ≤ 8; omega
    · show (0 + 1) * 2048 ≤ 2048; omega
    · show (blk (pf 1) (i 0).val (i 1).val + 1) * 512 ≤ 7168; omega
  · rw [map3 pf i hn]
    have h0 : (nhWord (pf 0) (i 0).val).toNat < 8 := hte _
    have hb := blk_lt (pf 1) (i 0).val (i 1).val (ax1 i)
    intro a; fin_cases a
    · show ((nhWord (pf 0) (i 0).val).toNat + 1) * 1 ≤ 8; omega
    · show (blk (pf 1) (i 0).val (i 1).val + 1) * 512 ≤ 7168; omega
    · show (0 + 1) * 2048 ≤ 2048; omega

theorem atD_word : pf.atD 1 (k0_off1 i) = nhWord (pf 1) (i 0).val := by
  have h : ∀ a : Fin 1, k0_off1 i a + 1 ≤ S25.size a := fun a => by
    rw [off1_eq i]; fin_cases a; exact ax0 i
  refine (dif_pos h).trans ?_
  unfold nhWord
  congr 1
  funext a
  fin_cases a
  refine Fin.ext ?_
  show k0_off1 i 0 = (i 0).val % 25
  rw [off1_eq i, Nat.mod_eq_of_lt (ax0 i)]; rfl

theorem idle3_iff (hn : ∀ j : S25.Idx, Halves (pf 1 j)) : idle0 pf 3 i = true ↔ (i 1).val ≠ 0 ∧ nhWord (pf 1) (i 0).val = 0#32 := by
  have hv := hn (ix1 ⟨(i 0).val % 25, Nat.mod_lt _ (by decide)⟩)
  have hv : Halves (nhWord (pf 1) (i 0).val) := hv
  show (!(k0_cond1 i == 1#1) && !(k0_cond5 (pf.atD 1 (k0_off1 i)) == 1#1) && !(k0_cond6 (pf.atD 1 (k0_off1 i)) == 1#1)) = true ↔ _
  rw [atD_word pf i]
  simp only [Bool.and_eq_true, Bool.not_eq_true', beq_eq_false_iff_ne, ne_eq, cond1_iff, cond5_iff _ hv, cond6_iff _ hv]
  constructor
  · rintro ⟨⟨h1, h2⟩, h3⟩
    exact ⟨h1, hv.elim id fun h => (h.elim h2 h3).elim⟩
  · rintro ⟨h1, h2⟩
    exact ⟨⟨h1, by rw [h2]; decide⟩, by rw [h2]; decide⟩

end Maps

end Cert.KernelIdeal.Moe
-- ==== Proof.Moe.Data.lean ====
/-
  What each window holds at each point.
-/
module

public import proofs.«01_k».proof.Proof.Moe.Maps
public import Idealize.ShloMosaic.Lib.Pipeline.FrameBody
public import Idealize.ShloMosaic.Lib.Pipeline.TableIdle
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)
open Cert.KernelIdeal.Gen

variable {F : FTy → Type} [FloatOps F] [∀ e, Nonempty (Elt F e)]

local notation "𝕄" => MT nD τ sig Unit (Elt F) ℕ (UD sig nD τ) ℕ

variable (m : (ℓ : Loc nD τ sig) → Buf (Elt F) ℓ) (ρ : Dev nD → PrngReg)

/-! ## The memory the call starts from -/

/-- A buffer of core `c` as launched. -/
abbrev V (c : Dev nD) (b : Ref sig .tc) : Buf (Elt F) ((c : Thread nD τ).loc b) := m ((c : Thread nD τ).loc b)

set_option maxHeartbeats 800000 in
theorem hmain : Pipeline.HMainP (Ix := Unit) (Name := ℕ) (U := UD sig nD τ) (Lvl := ℕ) pcfgs 0 defs₀ Variants.none m (main (F := F)) (V m) :=
  Pipeline.hmainP_region pcfgs 0 defs₀ Variants.none m main fun c => (main_chain c).trans rfl

/-- The three tables as launched. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The experts of the tiles, the halves in use of the tiles, the tokens of the slots, the token rows. -/
abbrev xe : S25.Idx → BitVec 32 := tbl m 0
abbrev xn : S25.Idx → BitVec 32 := tbl m 1
abbrev xt : S25600.Idx → BitVec 32 := tbl m 2
abbrev hall (c : Dev nD) : Tab F := V m c main_arg3

/-- A window's block at point `t`, read off its array as launched. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What a point adds to the output block `y`. -/
def stepAt (hO : Ok m) (c : Dev nD) (t : Fin (cfgM m hO).N) (y : Block F) : Block F :=
  outStep (iblk m hO c 0 t) (iblk m hO c 1 t) (iblk m hO c 2 t) (xn m) (xt m) (hall m c) (t.val / 14) y

/-- The output block after point `n`: zeros at a tile's first point, then each point's step. -/
def outTraj (hO : Ok m) (c : Dev nD) : (n : ℕ) → n < (cfgM m hO).N → Block F
  | 0, hn => stepAt m hO c ⟨0, hn⟩ (k0_pay8 (F := F))
  | n + 1, hn => stepAt m hO c ⟨n + 1, hn⟩ (if (n + 1) % 14 = 0 then k0_pay8 (F := F) else outTraj hO c n (Nat.lt_of_succ_lt hn))

theorem outTraj_first (hO : Ok m) (c : Dev nD) (n : ℕ) (hn) (h0 : n % 14 = 0) :
    outTraj m hO c n hn = stepAt m hO c ⟨n, hn⟩ (k0_pay8 (F := F)) := by
  cases n with
  | zero => rfl
  | succ n => show stepAt m hO c _ _ = _; rw [if_pos h0]

theorem outTraj_next (hO : Ok m) (c : Dev nD) (n : ℕ) (hn) (h0 : (n + 1) % 14 ≠ 0) :
    outTraj m hO c (n + 1) hn = stepAt m hO c ⟨n + 1, hn⟩ (outTraj m hO c n (Nat.lt_of_succ_lt hn)) := by
  show stepAt m hO c _ _ = _; rw [if_neg h0]

/-! ## The proof data -/

/-- What the core holds between points, beside the windows' buffers. -/
def Phi (c : Dev nD) (n : ℕ) : sProp 𝕄 :=
  iprop(((Memref.whole main_arg0).view.loc (c : Thread nD τ) ↦{fullShare.right} (xe m))
    ∗ ((Memref.whole main_arg1).view.loc (c : Thread nD τ) ↦{fullShare.right} (xn m))
    ∗ ((Memref.whole main_arg2).view.loc (c : Thread nD τ) ↦{fullShare.right} (xt m))
    ∗ (∃ r, prngReg c r)
    ∗ gatherAt c (xn m) (xt m) (hall m c) (n / 14) (n % 14)
    ∗ ∃ f, ⌜n % 14 ≠ 0 → Good (xn m) (xt m) (hall m c) (n / 14) f⌝ ∗ owns c (Memref.whole cc0_scratch1) fullShare f)

def dats (hO : Ok m) (_ : Fin 1) (c : Dev nD) : Dat τ (Elt F) Unit ℕ (UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outTraj m hO c t.val t.isLt
    | ⟨_ + 4, h⟩ => absurd h (Nat.not_lt.2 (Nat.le_add_left _ _))
  Φ t := Phi m c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outTraj m hO c t.val t.isLt := by dsimp only [dats]; try rfl

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The output window -/

theorem flush3 (hO : Ok m) (t : Fin (cfgM m hO).N) : ((cfgM m hO).win 3).flush t = true ↔ t.val % 14 = 13 :=
  Pipeline.Window.flush_reads ((cfgM m hO).win 3) rfl 0 (show 1 < grid0.bound 0 by decide) (show grid0.fixedAfter reads0_3 0 = true by decide)
    (Pipeline.Window.sep_of_coord cc0_transform_4 0 0 (fun _ => rfl) (by decide)) (P := 14) (m := 13) (show grid0.stride 0 = 14 by decide) rfl t

theorem idle3 (hO : Ok m) (hn : ∀ j, Halves (xn m j)) (t : Fin (cfgM m hO).N) :
    (cfgM m hO).idle 3 ((cfgM m hO).grid.coords t) = true ↔ t.val % 14 ≠ 0 ∧ nhWord (xn m) (t.val / 14) = 0#32 := by
  have := idle3_iff (tbl m) (grid0.coords t) hn
  rw [co0, co1] at this
  exact this

theorem fresh3 (hO : Ok m) (hn : ∀ j, Halves (xn m j)) : ∀ n, n < (cfgM m hO).N → ((cfgM m hO).fresh 3 n = true ↔ n % 14 = 0)
  | 0, _ => by rw [Pipeline.Cfg.fresh_zero]; exact ⟨fun _ => rfl, fun _ => rfl⟩
  | n + 1, h => by
    have hl : n < (cfgM m hO).N := Nat.lt_of_succ_lt h
    have ih := fresh3 hO hn n hl
    rw [Pipeline.Cfg.fresh_succ _ _ n hl, Bool.or_eq_true, Bool.and_eq_true, flush3 m hO ⟨n, hl⟩, idle3 m hO hn ⟨n, hl⟩, ih]
    show (n % 14 = 13 ∨ (n % 14 ≠ 0 ∧ _) ∧ n % 14 = 0) ↔ _
    constructor
    · rintro (h | ⟨⟨h, -⟩, h'⟩)
      · omega
      · exact absurd h' h
    · intro h; left; omega

theorem outStep_none (x0 x1 : S1x2048x512.Idx → Elt F .f32) (x2 : S1x512x2048.Idx → Elt F .f32) (xn : S25.Idx → BitVec 32) (xt : S25600.Idx → BitVec 32) (h : Tab F)
    (a : ℕ) (y : Block F) (h0 : nhWord xn a = 0#32) : outStep x0 x1 x2 xn xt h a y = y := by
  unfold outStep
  rw [if_neg (by rw [h0]; decide), if_neg (by rw [h0]; decide)]

theorem carry3 (hO : Ok m) (c : Dev nD) (hn : ∀ j, Halves (xn m j)) (t : Fin (cfgM m hO).N) (ht : t.val ≠ 0)
    (hi : (cfgM m hO).idle 3 ((cfgM m hO).grid.coords t) = true) :
    (dats m hO 0 c).after 3 t = (dats m hO 0 c).after 3 ⟨t.val - 1, by omega⟩ := by
  obtain ⟨h1, h2⟩ := (idle3 m hO hn t).1 hi
  rw [after_3, after_3]
  obtain ⟨n, hn'⟩ := t
  cases n with
  | zero => exact absurd rfl ht
  | succ n =>
    show outTraj m hO c (n + 1) hn' = outTraj m hO c n _
    rw [outTraj_next m hO c n hn' h1]
    exact outStep_none _ _ _ _ _ _ _ _ h2

theorem before_3 (hO : Ok m) (c : Dev nD) (hn : ∀ j, Halves (xn m j)) (t : Fin (cfgM m hO).N) (d) :
    (dats m hO 0 c).before 3 t d = if (cfgM m hO).fresh 3 t.val = true then d else (dats m hO 0 c).after 3 ⟨t.val - 1, by omega⟩ :=
  (dats m hO 0 c).before_out_traj 3 rfl (fun _ _ => rfl) (fun t ht hi _ => carry3 m hO c hn t ht hi) t.val t rfl d

/-- What a point finds in the output window's buffer. -/
def found (hO : Ok m) (c : Dev nD) (t : Fin (cfgM m hO).N) (d : Block F) : Block F := (dats m hO 0 c).before 3 t d

theorem found_eq (hO : Ok m) (c : Dev nD) (hn : ∀ j, Halves (xn m j)) (n : ℕ) (h) (h0 : (n + 1) % 14 ≠ 0) (d : Block F) :
    found m hO c ⟨n + 1, h⟩ d = outTraj m hO c n (Nat.lt_of_succ_lt h) :=
  (before_3 m hO c hn ⟨n + 1, h⟩ d).trans ((if_neg (fun h' => h0 ((fresh3 m hO hn (n + 1) h).1 h'))).trans (after_3 m hO c _))

/-- A point's step on what its buffer holds. -/
theorem after_step (hO : Ok m) (c : Dev nD) (hn : ∀ j, Halves (xn m j)) (t : Fin (cfgM m hO).N) (d : Block F) :
    outTraj m hO c t.val t.isLt = stepAt m hO c t (if t.val % 14 = 0 then k0_pay8 (F := F) else found m hO c t d) := by
  by_cases h0 : t.val % 14 = 0
  · rw [if_pos h0]; exact outTraj_first m hO c t.val t.isLt h0
  · rw [if_neg h0]
    obtain ⟨n, hn'⟩ := t
    cases n with
    | zero => exact absurd rfl h0
    | succ n =>
      rw [found_eq m hO c hn n hn' h0 d]
      exact outTraj_next m hO c n hn' h0

end Cert.KernelIdeal.Moe
-- ==== Proof.Moe.Run.lean ====
/-
  The body's obligation at a point.
-/
module

public import proofs.«01_k».proof.Proof.Moe.Data
public import Idealize.ShloMosaic.Lib.Pipeline.FrameBody
public import Idealize.ShloMosaic.Lib.Pipeline.TableIdle
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD owesWithin Dat Cfg Window BodyObligation cellOf)
open Cert.KernelIdeal.Gen

variable {F : FTy → Type} [FloatOps F] [∀ e, Nonempty (Elt F e)]

local notation "𝕄" => MT nD τ sig Unit (Elt F) ℕ (UD sig nD τ) ℕ

variable (m : (ℓ : Loc nD τ sig) → Buf (Elt F) ℓ) (ρ : Dev nD → PrngReg)

/-! ## The body's obligation -/

abbrev ms0 (hO : Ok m) (t : Fin (cfgM m hO).N) : Memref sig .tc .vmem S1x2048x512 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2048x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x512x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1024x2048 .f32 := spec0_3.stage ((cfgM m hO).slots t 3)
abbrev hs3 (hO : Ok m) (t : Fin (cfgM m hO).N) : (ms3 m hO t).IsWhole := hstage0_3 (((cfgM m hO).slots t 3).cast nbuf0_3)

/-- The output window's buffer after a point, as the obligation asks for it. -/
def leftOut (hO : Ok m) (c : Dev nD) (t : Fin (cfgM m hO).N) : sProp 𝕄 :=
  match (cfgM m hO).idle 3 ((cfgM m hO).grid.coords t) with
  | true =>
    match ((cfgM m hO).win 3).flush t with
    | false => iprop(∃ d, owns (c : Thread nD τ) (ms3 m hO t) fullShare ((dats m hO 0 c).before 3 t d))
    | true => owns (c : Thread nD τ) (ms3 m hO t) fullShare ((dats m hO 0 c).after 3 t)
  | false => owns (c : Thread nD τ) (ms3 m hO t) fullShare ((dats m hO 0 c).after 3 t)

theorem leftOut_of (hO : Ok m) (c : Dev nD) (hn : ∀ j, Halves (xn m j)) (t : Fin (cfgM m hO).N) :
    (owns (c : Thread nD τ) (ms3 m hO t) fullShare (outTraj m hO c t.val t.isLt) : sProp 𝕄) ⊢ leftOut m hO c t := by
  rw [← after_3 m hO c t]
  unfold leftOut
  cases hi : (cfgM m hO).idle 3 ((cfgM m hO).grid.coords t) with
  | false => exact .rfl
  | true =>
    cases hf : ((cfgM m hO).win 3).flush t with
    | true => exact .rfl
    | false =>
      obtain ⟨h1, -⟩ := (idle3 m hO hn t).1 hi
      have ht : t.val ≠ 0 := fun h => h1 (by rw [h])
      have e : ∀ d, (dats m hO 0 c).before 3 t d = (dats m hO 0 c).after 3 t := fun d =>
        (before_3 m hO c hn t d).trans ((if_neg (fun h => h1 ((fresh3 m hO hn t.val t.isLt).1 h))).trans (carry3 m hO c hn t ht hi).symm)
      rw [← e (k0_pay8 (F := F))]
      iintro H
      iexists (k0_pay8 (F := F))
      iexact H

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ leftOut m hO c t)

def bodyAt (hO : Ok m) (t : Fin (cfgM m hO).N) :=
  cc0_moe_group (F := F) (grid0.coords t) (Memref.whole main_arg0) (Memref.isWhole_whole _) (Memref.whole main_arg1) (Memref.isWhole_whole _)
    (Memref.whole main_arg2) (Memref.isWhole_whole _) (Memref.whole main_arg3) (Memref.isWhole_whole _) (ms0 m hO t) (hs0 m hO t) (ms1 m hO t) (hs1 m hO t)
    (ms2 m hO t) (hs2 m hO t) (ms3 m hO t) (hs3 m hO t) (Memref.whole cc0_scratch0) (Memref.isWhole_whole _) (Memref.whole cc0_scratch1) (Memref.isWhole_whole _) cc0_scratch2

theorem next_gather (c : Dev nD) (n : ℕ) (xn : S25.Idx → BitVec 32) (xt : S25600.Idx → BitVec 32) (h : Tab F) :
    (gatherNext c xn xt h (n / 14) (n % 14) : sProp 𝕄) = gatherAt c xn xt h ((n + 1) / 14) ((n + 1) % 14) := by
  unfold gatherNext
  by_cases hb : n % 14 + 1 < 14
  · rw [if_pos hb, show (n + 1) / 14 = n / 14 by omega, show (n + 1) % 14 = n % 14 + 1 by omega]
  · rw [if_neg hb, show (n + 1) / 14 = n / 14 + 1 by omega, show (n + 1) % 14 = 0 by omega]

/-- What the core holds between points beside what the body works on. -/
def aside (c : Dev nD) : sProp 𝕄 :=
  iprop(((Memref.whole main_arg0).view.loc (c : Thread nD τ) ↦{fullShare.right} (xe m)) ∗ (∃ r, prngReg c r))

/-- The body at a point, its two coordinates by name. -/
theorem body_at (c : Dev nD) (i : grid0.Coords)
    (arg6 : Memref sig .tc .vmem S1x2048x512 .f32) (harg6 : arg6.IsWhole) (arg7 : Memref sig .tc .vmem S1x2048x512 .f32) (harg7 : arg7.IsWhole)
    (arg8 : Memref sig .tc .vmem S1x512x2048 .f32) (harg8 : arg8.IsWhole) (arg9 : Memref sig .tc .vmem S1024x2048 .f32) (harg9 : arg9.IsWhole)
    (x0 x1 : S1x2048x512.Idx → Elt F .f32) (x2 : S1x512x2048.Idx → Elt F .f32) (xn : S25.Idx → BitVec 32) (xt : S25600.Idx → BitVec 32) (h : Tab F)
    (hn : ∀ j, Halves (xn j)) (hxt : InTable xt) (a b : ℕ) (ha : (i 0).val = a) (hb : (i 1).val = b) (y f) (hf : b ≠ 0 → Good xn xt h a f) :
    St c arg6 arg7 arg8 arg9 x0 x1 x2 xn xt y f (gatherAt c xn xt h a b) ⊢ wp frame (wpE (defs₀ (F := F)) Variants.none (c : Thread nD τ) none) Set.univ
      (cc0_moe_group i (Memref.whole main_arg0) (Memref.isWhole_whole _) (Memref.whole main_arg1) (Memref.isWhole_whole _) (Memref.whole main_arg2) (Memref.isWhole_whole _) (Memref.whole main_arg3) (Memref.isWhole_whole _) arg6 harg6 arg7 harg7 arg8 harg8 arg9 harg9 (Memref.whole cc0_scratch0) (Memref.isWhole_whole _) (Memref.whole cc0_scratch1) (Memref.isWhole_whole _) cc0_scratch2)
      (fun _ => iprop(∃ f', ⌜Good xn xt h a f'⌝ ∗ St c arg6 arg7 arg8 arg9 x0 x1 x2 xn xt
        (outStep x0 x1 x2 xn xt h a (if b = 0 then k0_pay8 (F := F) else y)) f' (gatherNext c xn xt h a b))) := by
  subst ha hb
  exact body_point c i arg6 harg6 arg7 harg7 arg8 harg8 arg9 harg9 x0 x1 x2 xn xt h none hn hxt y f hf

set_option maxHeartbeats 1600000 in
theorem sound_body (hO : Ok m) (hn : ∀ j, Halves (xn m j)) (hxt : InTable (xt m)) (c : Dev nD) (t : Fin (cfgM m hO).N) :
    bodyPre m hO c t ⊢ wp frame (wpE (defs₀ (F := F)) Variants.none c none) Set.univ (bodyAt m hO t) (fun _ => bodyPost m hO c t) := by
  have key := fun y f hf => body_at c (grid0.coords t) (ms0 m hO t) (hs0 m hO t) (ms1 m hO t) (hs1 m hO t) (ms2 m hO t) (hs2 m hO t) (ms3 m hO t) (hs3 m hO t)
    (iblk m hO c 0 t) (iblk m hO c 1 t) (iblk m hO c 2 t) (xn m) (xt m) (hall m c) hn hxt _ _ (co0 t) (co1 t) y f hf
  have pre : bodyPre m hO c t ⊢ iprop(∃ f d, ⌜t.val % 14 ≠ 0 → Good (xn m) (xt m) (hall m c) (t.val / 14) f⌝ ∗ aside m c
      ∗ St c (ms0 m hO t) (ms1 m hO t) (ms2 m hO t) (ms3 m hO t) (iblk m hO c 0 t) (iblk m hO c 1 t) (iblk m hO c 2 t) (xn m) (xt m) (found m hO c t d) f
          (gatherAt c (xn m) (xt m) (hall m c) (t.val / 14) (t.val % 14))) := by
    unfold bodyPre aside St
    simp only [before_0, before_1, before_2]
    rw [show (dats m hO 0 c).Φ t.castSucc = Phi m c t.val from rfl]
    unfold Phi Dat.owesAt owesWithin
    iintro ⟨⟨He, Hn, Ht, Hp, HG, %f, %hf, Hf⟩, ⟨%W, -, Ho⟩, ⟨%d0, H0⟩, ⟨%d1, H1⟩, ⟨%d2, H2⟩, ⟨%d3, H3⟩⟩
    iexists f; iexists d3
    isplitr; · ipureintro; exact hf
    isplitl [He Hp]
    · isplitl [He]; · iexact He
      iexact Hp
    isplitl [H0]; · iexact H0
    isplitl [H1]; · iexact H1
    isplitl [H2]; · iexact H2
    isplitl [H3]; · unfold found; iexact H3
    isplitl [Hf]; · iexact Hf
    isplitl [Hn]; · iexact Hn
    isplitl [Ht]; · iexact Ht
    isplitl [HG]; · iexact HG
    iexists W; iexact Ho
  refine pre.trans (exists_elim fun f => exists_elim fun d => pure_left fun hf => ?_)
  refine (sep_mono_right (key (found m hO c t d) f hf)).trans ?_
  refine (wp_frame_l frame _ _).trans (wp_mono _ _ _ fun _ => ?_)
  rw [next_gather]
  refine (show _ ⊢ iprop(∃ f', ⌜Good (xn m) (xt m) (hall m c) (t.val / 14) f'⌝ ∗ aside m c ∗ St c (ms0 m hO t) (ms1 m hO t) (ms2 m hO t) (ms3 m hO t) (iblk m hO c 0 t) (iblk m hO c 1 t) (iblk m hO c 2 t) (xn m) (xt m)
      (outTraj m hO c t.val t.isLt) f' (gatherAt c (xn m) (xt m) (hall m c) ((t.val + 1) / 14) ((t.val + 1) % 14))) from ?_).trans ?_
  · rw [after_step m hO c hn t d]
    unfold stepAt
    iintro ⟨Ha, %f', %hf', HS⟩
    iexists f'
    isplitr; · ipureintro; exact hf'
    isplitl [Ha]; · iexact Ha
    iexact HS
  refine exists_elim fun f' => pure_left fun hf' => ?_
  unfold bodyPost aside St
  rw [after_0, after_1, after_2, show (dats m hO 0 c).Φ t.succ = Phi m c (t.val + 1) from rfl]
  unfold Phi Dat.owesAt owesWithin
  iintro ⟨⟨He, Hp⟩, H0, H1, H2, H3, Hf, Hn, Ht, HG, %W, Ho⟩
  isplitl [He Hp Hf Hn Ht HG]
  · isplitl [He]; · iexact He
    isplitl [Hn]; · iexact Hn
    isplitl [Ht]; · iexact Ht
    isplitl [Hp]; · iexact Hp
    isplitl [HG]; · iexact HG
    iexists f'
    isplitr
    · ipureintro; intro h
      rw [show (t.val + 1) / 14 = t.val / 14 by omega]; exact hf'
    iexact Hf
  isplitl [Ho]
  · iexists W
    isplitr; · ipureintro; exact fun _ _ => Or.inl trivial
    iexact Ho
  isplitl [H0]; · iexact H0
  isplitl [H1]; · iexact H1
  isplitl [H2]; · iexact H2
  iapply (leftOut_of m hO c hn t)
  iexact H3

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; rfl

theorem body_obligation (hO : Ok m) (hn : ∀ j, Halves (xn m j)) (hxt : InTable (xt m)) (c : Dev nD) :
    BodyObligation (dats (F := F) m hO 0 c) (defs₀ (F := F)) Variants.none () Set.univ := fun t => by
  rw [bigSep_W0, bigSep_W0, defs₀_row m hO]
  exact triple_restated (sound_body m hO hn hxt c t) rfl .rfl fun _ => .rfl

end Cert.KernelIdeal.Moe
-- ==== Proof.Moe.Launch.lean ====
/-
  The launch: what the call leaves in memory.
-/
module

public import proofs.«01_k».proof.Proof.Moe.Run
public import Idealize.ShloMosaic.Lib.Pipeline.FrameBody
public import Idealize.ShloMosaic.Lib.Pipeline.TableIdle
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD owesWithin Dat Cfg Window BodyObligation cellOf)
open Cert.KernelIdeal.Gen

variable {F : FTy → Type} [FloatOps F] [∀ e, Nonempty (Elt F e)]

local notation "𝕄" => MT nD τ sig Unit (Elt F) ℕ (UD sig nD τ) ℕ

variable (m : (ℓ : Loc nD τ sig) → Buf (Elt F) ℓ) (ρ : Dev nD → PrngReg)

/-! ## The launch -/

theorem rest_eq (c : Dev nD) : (Pipeline.ΦD (fun _ : Fin 1 => ownSem) spec0 {main_arg3} (V m) c : sProp 𝕄)
    = iprop(Pipeline.scopedRest spec0 c ∗ (∃ r, prngReg c r) ∗ semVal ((c : Thread nD τ), ownSem) 0 ∗ (((c : Thread nD τ).loc main_arg3) ↦{fullShare} V m c main_arg3)) := by
  rw [Pipeline.ΦD_eq, bigSep_singleton]
  unfold Pipeline.ownSems0
  rw [show (Finset.univ : Finset (Fin 1)) = {0} from by decide, bigSep_singleton]

theorem tables_eq (c : Dev nD) : (Pipeline.ΦT pre0 (tbl m) c : sProp 𝕄)
    = iprop(((Memref.whole main_arg0).view.loc (c : Thread nD τ) ↦{fullShare.right} (xe m))
      ∗ ((Memref.whole main_arg1).view.loc (c : Thread nD τ) ↦{fullShare.right} (xn m))
      ∗ ((Memref.whole main_arg2).view.loc (c : Thread nD τ) ↦{fullShare.right} (xt m))) := by
  unfold Pipeline.ΦT Pipeline.prefHeld
  rw [bigSep_univ_eq_bigSepL [(0 : Fin 3), (1 : Fin 3), (2 : Fin 3)] (by decide) (by decide)]
  rfl

theorem enter (c : Dev nD) : iprop(Pipeline.ΦD (fun _ : Fin 1 => ownSem) spec0 {main_arg3} (V m) c ∗ Pipeline.ΦT pre0 (tbl m) c) ⊢ (Phi m c 0 : sProp 𝕄) := by
  rw [rest_eq, tables_eq, scopedRest0_eq]
  unfold Phi gatherAt
  rw [if_pos (show 0 % 14 = 0 from rfl), if_neg (fun h => absurd h.1.1 (by decide))]
  unfold atRest
  iintro ⟨⟨⟨⟨%g, Hg⟩, ⟨%f, Hf⟩⟩, Hp, Hs, Hh⟩, He, Hn, Ht⟩
  isplitl [He]; · iexact He
  isplitl [Hn]; · iexact Hn
  isplitl [Ht]; · iexact Ht
  isplitl [Hp]; · iexact Hp
  isplitl [Hg Hs Hh]
  · isplitl [Hg]; · iexists g; iexact Hg
    isplitl [Hh]; · iexact Hh
    iexact Hs
  iexists f
  isplitr; · ipureintro; intro h; exact absurd rfl h
  rw [owns_whole]
  iexact Hf

theorem leave (c : Dev nD) : (Phi m c 350 : sProp 𝕄) ⊢ Pipeline.ΦD (fun _ : Fin 1 => ownSem) spec0 {main_arg3} (V m) c := by
  rw [rest_eq, scopedRest0_eq]
  unfold Phi gatherAt
  rw [if_pos (show 350 % 14 = 0 from rfl), if_neg (fun h => absurd h.1.2 (by decide))]
  unfold atRest
  simp only [owns_whole]
  iintro ⟨He, Hn, Ht, Hp, ⟨⟨%g, Hg⟩, Hh, Hs⟩, %f, -, Hf⟩
  isplitl [Hg Hf]
  · isplitl [Hg]; · iexists g; iexact Hg
    iexists f; iexact Hf
  isplitl [Hp]; · iexact Hp
  isplitl [Hs]; · iexact Hs
  iexact Hh

set_option backward.isDefEq.respectTransparency.types false in
theorem run_main (hO : Ok m) (hn : ∀ j, Halves (xn m j)) (hxt : InTable (xt m)) :
    θ_run defs (onTc (τ := τ) (main (F := F))) (s₀ m ρ)
      (fun r => Pipeline.FramePost (Pipeline.pin pcfgs fun _ => adm m hO) (dats m hO) (0 : Fin 1) (V m) r ∧ r.2.sem = fun _ => 0) :=
  Pipeline.θ_run_frameP_dma pcfgs (fun _ => adm m hO) (dats m hO) (0 : Fin 1) launch0 (fun _ : Fin 1 => ownSem) defs₀ Variants.none
    (show Pipeline.OwnSemFacts spec0 (fun _ : Fin 1 => ownSem) by decide) {main_arg3} (show {main_arg3} ⊆ Pipeline.restRefsP sig pre0 spec0 by decide) m ρ main (fun c => (body_obligation m hO hn hxt c).loose) (fun c w => by fin_cases w <;> rfl) (fun _ _ => rfl)
    (V m) (hmain m) (A_eq m hO) (V_pre m) (fun c => enter m c) (fun c => leave m c) (Q' := _) (hQ' := fun _ h => h)

/-- From any memory whose tables are in range: every run ends, with every argument as launched and every semaphore at zero. -/
theorem frame_main (hO : Ok m) (hn : ∀ j, Halves (xn m j)) (hxt : InTable (xt m)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans ((dats m hO 0 c).arrAt_in 0 rfl _), ((h.1 c).1 1).trans ((dats m hO 0 c).arrAt_in 1 rfl _), ((h.1 c).1 2).trans ((dats m hO 0 c).arrAt_in 2 rfl _)⟩, h.2⟩)
    (run_main m ρ hO hn hxt)

end Cert.KernelIdeal.Moe
-- ==== Proof.Moe.Blocks.lean ====
/-
  The weight blocks of a point, read at an index.
-/
module

public import proofs.«01_k».proof.Proof.Moe.Data
public import Idealize.ShloMosaic.Lib.Pipeline.Value

@[expose] public section

set_option maxRecDepth 16384

noncomputable section

namespace Cert.KernelIdeal.Moe

open Idealize.ShloMosaic hiding ix1 ix2 ix3
open Idealize.ShloMosaic.TcCoe Idealize.SL.Sem
open Idealize.ShloMosaic.ValueIdx Cert.KernelIdeal Cert.KernelIdeal.Gen

variable {F : FTy → Type} [FloatOps F] [∀ e, Nonempty (Elt F e)]
variable (m : (ℓ : Loc nD τ sig) → Buf (Elt F) ℓ)

/-- The weights as launched. -/
abbrev wgA (c : Dev nD) : S8x2048x7168.Idx → Elt F .f32 := V m c main_arg4
abbrev wuA (c : Dev nD) : S8x2048x7168.Idx → Elt F .f32 := V m c main_arg5
abbrev wdA (c : Dev nD) : S8x7168x2048.Idx → Elt F .f32 := V m c main_arg6

variable (hO : Ok m) (c : Dev nD) (t : Fin (cfgM m hO).N)

theorem index0 (hn : ∀ j, Halves (xn m j)) (hu : nhWord (xn m) (t.val / 14) ≠ 0#32) :
    ((cfgM m hO).win 0).index t = ![(nhWord (xe m) (t.val / 14)).toNat, 0, t.val % 14] := by
  refine (map1 (tbl m) (grid0.coords t) hn).trans ?_
  rw [co0, co1]
  unfold blk
  rw [if_pos hu]

theorem index1 (hn : ∀ j, Halves (xn m j)) (hu : nhWord (xn m) (t.val / 14) ≠ 0#32) :
    ((cfgM m hO).win 1).index t = ![(nhWord (xe m) (t.val / 14)).toNat, 0, t.val % 14] := by
  refine (map2 (tbl m) (grid0.coords t) hn).trans ?_
  rw [co0, co1]
  unfold blk
  rw [if_pos hu]

theorem index2 (hn : ∀ j, Halves (xn m j)) (hu : nhWord (xn m) (t.val / 14) ≠ 0#32) :
    ((cfgM m hO).win 2).index t = ![(nhWord (xe m) (t.val / 14)).toNat, t.val % 14, 0] := by
  refine (map3 (tbl m) (grid0.coords t) hn).trans ?_
  rw [co0, co1]
  unfold blk
  rw [if_pos hu]

theorem index3 : ((cfgM m hO).win 3).index t = ![t.val / 14, 0] := by
  refine (map4 (grid0.coords t)).trans ?_
  rw [co0]

/-- Column `q` of weight block `b`. -/
def column (b : Fin 14) (q : Fin 512) : Fin 7168 := ⟨b.val * 512 + q.val, by have := b.isLt; have := q.isLt; omega⟩

variable (hn : ∀ j, Halves (xn m j)) (hu : nhWord (xn m) (t.val / 14) ≠ 0#32) (e : Fin 8) (he : (nhWord (xe m) (t.val / 14)).toNat = e.val)
  (b : Fin 14) (hb : t.val % 14 = b.val)

include hn hu he hb

theorem blk0_at (k : Fin 2048) (q : Fin 512) : iblk m hO c 0 t (ix3 (n0 := 1) (n1 := 2048) (n2 := 512) 0 k q) = wgA m c (ix3 e k (column b q)) := by
  show wgA m c ((((cfgM m hO).win 0).rect t).emb _) = wgA m c _
  refine congrArg (wgA m c) (funext fun a => Fin.ext ?_)
  refine (Pipeline.Window.rect_emb_val ((cfgM m hO).win 0) t _ a rfl).trans ?_
  rw [index0 m hO t hn hu, he, hb]
  match a with
  | ⟨0, _⟩ => show e.val * 1 + 0 = e.val; omega
  | ⟨1, _⟩ => show 0 * 2048 + k.val = k.val; omega
  | ⟨2, _⟩ => rfl

theorem blk1_at (k : Fin 2048) (q : Fin 512) : iblk m hO c 1 t (ix3 (n0 := 1) (n1 := 2048) (n2 := 512) 0 k q) = wuA m c (ix3 e k (column b q)) := by
  show wuA m c ((((cfgM m hO).win 1).rect t).emb _) = wuA m c _
  refine congrArg (wuA m c) (funext fun a => Fin.ext ?_)
  refine (Pipeline.Window.rect_emb_val ((cfgM m hO).win 1) t _ a rfl).trans ?_
  rw [index1 m hO t hn hu, he, hb]
  match a with
  | ⟨0, _⟩ => show e.val * 1 + 0 = e.val; omega
  | ⟨1, _⟩ => show 0 * 2048 + k.val = k.val; omega
  | ⟨2, _⟩ => rfl

theorem blk2_at (q : Fin 512) (d : Fin 2048) : iblk m hO c 2 t (ix3 (n0 := 1) (n1 := 512) (n2 := 2048) 0 q d) = wdA m c (ix3 e (column b q) d) := by
  show wdA m c ((((cfgM m hO).win 2).rect t).emb _) = wdA m c _
  refine congrArg (wdA m c) (funext fun a => Fin.ext ?_)
  refine (Pipeline.Window.rect_emb_val ((cfgM m hO).win 2) t _ a rfl).trans ?_
  rw [index2 m hO t hn hu, he, hb]
  match a with
  | ⟨0, _⟩ => show e.val * 1 + 0 = e.val; omega
  | ⟨1, _⟩ => rfl
  | ⟨2, _⟩ => show 0 * 2048 + d.val = d.val; omega

end Cert.KernelIdeal.Moe

end
-- ==== Proof.Moe.Spec.lean ====
/-
  The grouped expert layer as a formula: the SwiGLU of a token row through the expert of its tile, over the extended reals.
-/
module

public import Idealize.ShloMosaic.PureOps.Ideal
public import Idealize.ShloMosaic.PureOps.Ideal.Laws
public import Idealize.ShloMosaic.Lib.ValueIdxCore

@[expose] public section

noncomputable section

namespace Cert.Moe

open Idealize.ShloMosaic Idealize.ShloMosaic.ValueIdx
open scoped BigOperators

/-- `a` times the logistic function of `a`. -/
def gate (a : EReal) : EReal :=
  a * Ideal.div (Ideal.ofBits .f32 0x3F800000#32) (Ideal.ofBits .f32 0x3F800000#32 + Ideal.exp (-a))

/-- One hidden activation, from the token row and the two weight columns. -/
def hidden (x g u : Fin 2048 → EReal) : EReal := gate (∑ k, x k * g k) * ∑ k, x k * u k

variable (xe xn : (⟨1, ![25]⟩ : Shape).Idx → BitVec 32) (xt : (⟨1, ![25600]⟩ : Shape).Idx → BitVec 32)
variable (h : (⟨2, ![8200, 2048]⟩ : Shape).Idx → EReal)
variable (wg wu : (⟨3, ![8, 2048, 7168]⟩ : Shape).Idx → EReal) (wd : (⟨3, ![8, 7168, 2048]⟩ : Shape).Idx → EReal)

/-- The expert of a tile and the token of a slot. -/
def expert (i : Fin 25) : Fin 8 := ⟨(xe (ix1 i)).toNat % 8, Nat.mod_lt _ (by decide)⟩
def token (n : Fin 25600) : Fin 8200 := ⟨(xt (ix1 n)).toNat % 8200, Nat.mod_lt _ (by decide)⟩

/-- Slot `s` of tile `i` among all slots. -/
def slot (i : Fin 25) (s : Fin 1024) : Fin 25600 := ⟨i.val * 1024 + s.val, by have := i.isLt; have := s.isLt; omega⟩

/-- What hidden column `f` adds to output column `d` of slot `s` of tile `i`. -/
def share (i : Fin 25) (s : Fin 1024) (d : Fin 2048) (f : Fin 7168) : EReal :=
  hidden (fun k => h (ix2 (token xt (slot i s)) k)) (fun k => wg (ix3 (expert xe i) k f)) (fun k => wu (ix3 (expert xe i) k f))
    * wd (ix3 (expert xe i) f d)

/-- The layer at slot `s` of tile `i`, column `d`: zero where the slot's half of the tile is not in use. -/
def layer (i : Fin 25) (s : Fin 1024) (d : Fin 2048) : EReal :=
  if s.val / 512 < (xn (ix1 i)).toNat then ∑ f, share xe xt h wg wu wd i s d f else 0

end Cert.Moe

end
-- ==== Proof.Moe.Step.lean ====
/-
  What one point adds to its output block, read at an index over the extended reals.
-/
module

public import proofs.«01_k».proof.Proof.Moe.Body
public import proofs.«01_k».proof.Proof.Moe.Spec
public import Idealize.ShloMosaic.Lib.MatmulPlain
public import Idealize.ShloMosaic.Lib.Pipeline.Value

@[expose] public section

set_option maxRecDepth 8192

noncomputable section

namespace Cert.KernelIdeal.Moe

open Idealize.ShloMosaic hiding ix1 ix2 ix3
open Idealize.ShloMosaic.ValueIdx Cert.KernelIdeal Cert.KernelIdeal.Gen
open scoped BigOperators

/-- One product of a half's rows with a weight block. -/
abbrev prod (X : FVec Ideal S512x2048 .bf16) (G : FVec Ideal S2048x512 .bf16) : FVec Ideal S512x512 .f32 :=
  matmul dot_S512x2048_S2048x512_S512x512_1_0_0_1_n_n none X G (constant S512x512 .f32 0x00000000#32)

theorem prod_at (X : FVec Ideal S512x2048 .bf16) (G : FVec Ideal S2048x512 .bf16) (r q : Fin 512) :
    prod X G (ix2 r q) = ∑ k : Fin 2048, X (ix2 r k) * G (ix2 k q) := by
  refine (Ideal.matmul_plain_apply (M := 512) (K := 2048) (N := 512) none X G _ r q).trans ?_
  show Ideal.ofBits .f32 0x00000000#32 + _ = _
  rw [Ideal.ofBits_zero_f32]
  exact zero_add _

/-- The activations of a half. -/
def act (X : FVec Ideal S512x2048 .bf16) (G U : FVec Ideal S2048x512 .bf16) : FVec Ideal S512x512 .bf16 :=
  truncf .bf16 (mulf (mulf (prod X G) (divf (broadcast S512x512 (Scalar.ofBits (F := Ideal) .f32 0x3F800000#32))
    (addf (broadcast S512x512 (Scalar.ofBits (F := Ideal) .f32 0x3F800000#32)) (exp (subf (k0_pay7 (F := Ideal)) (prod X G)))))) (prod X U)) bitsLt_bf16_f32

theorem act_at (X : FVec Ideal S512x2048 .bf16) (G U : FVec Ideal S2048x512 .bf16) (r q : Fin 512) :
    act X G U (ix2 r q) = Cert.Moe.hidden (fun k => X (ix2 r k)) (fun k => G (ix2 k q)) (fun k => U (ix2 k q)) := by
  unfold Cert.Moe.hidden Cert.Moe.gate
  rw [← prod_at X G, ← prod_at X U]
  show prod X G (ix2 r q) * Ideal.div (Ideal.ofBits .f32 0x3F800000#32) (Ideal.ofBits .f32 0x3F800000#32
    + Ideal.exp (Ideal.ofBits .f32 0x00000000#32 - prod X G (ix2 r q))) * prod X U (ix2 r q) = _
  rw [Ideal.ofBits_zero_f32, zero_sub]

theorem pay12_at (X : FVec Ideal S512x2048 .bf16) (G U : FVec Ideal S2048x512 .bf16) (D : FVec Ideal S512x2048 .bf16)
    (y : FVec Ideal S512x2048 .f32) (r : Fin 512) (d : Fin 2048) :
    k0_pay12 (F := Ideal) U D X (prod X G) (k0_pay7 (F := Ideal)) y (ix2 r d)
      = y (ix2 r d) + ∑ q : Fin 512, Cert.Moe.hidden (fun k => X (ix2 r k)) (fun k => G (ix2 k q)) (fun k => U (ix2 k q)) * D (ix2 q d) := by
  show shapeCast S512x2048 y shapeCasts_S512x2048_S512x2048 (ix2 r d)
    + matmul (F := Ideal) dot_S512x512_S512x2048_S512x2048_1_0_0_1_n_n none (act X G U) D (constant S512x2048 .f32 0x00000000#32) (ix2 r d) = _
  rw [shapeCast_self]
  refine congrArg (y (ix2 r d) + ·) ?_
  refine (Ideal.matmul_plain_apply (M := 512) (K := 512) (N := 2048) none (act X G U) D _ r d).trans ?_
  show Ideal.ofBits .f32 0x00000000#32 + _ = _
  rw [Ideal.ofBits_zero_f32]
  refine (zero_add _).trans (Finset.sum_congr rfl fun q _ => ?_)
  rw [act_at]

/-! ## The blocks without their unit axis -/

theorem pay1_at (x : FVec Ideal S1x2048x512 .f32) (k : Fin 2048) (q : Fin 512) : k0_pay1 (F := Ideal) x (ix2 k q) = x (ix3 0 k q) := by
  refine (shapeCast_apply x shapeCasts_S1x2048x512_S2048x512 (ix2 k q) (ix3 0 k q) ?_)
  rw [Shape.rowMajor_val_two, Shape.rowMajor_val_three]
  show (0 * 2048 + k.val) * 512 + q.val = k.val * 512 + q.val
  omega

theorem pay2_at (x : FVec Ideal S1x2048x512 .f32) (k : Fin 2048) (q : Fin 512) : k0_pay2 (F := Ideal) x (ix2 k q) = x (ix3 0 k q) := pay1_at x k q

theorem pay3_at (x : FVec Ideal S1x512x2048 .f32) (q : Fin 512) (d : Fin 2048) : k0_pay3 (F := Ideal) x (ix2 q d) = x (ix3 0 q d) := by
  refine (shapeCast_apply x shapeCasts_S1x512x2048_S512x2048 (ix2 q d) (ix3 0 q d) ?_)
  rw [Shape.rowMajor_val_two, Shape.rowMajor_val_three]
  show (0 * 512 + q.val) * 2048 + d.val = q.val * 2048 + d.val
  omega

theorem packed_rows (X : FVec Ideal S512x2048 .f32) : k0_pay5 (F := Ideal) (k0_pay10 (F := Ideal) X) = X :=
  shapeCast_shapeCast (s := S512x2048) (t := S1x512x2048) X shapeCasts_S512x2048_S1x512x2048 shapeCasts_S1x512x2048_S512x2048

/-- What a point adds to row `r`, column `d` of a half with token rows `X`. -/
def addend (x0 x1 : FVec Ideal S1x2048x512 .f32) (x2 : FVec Ideal S1x512x2048 .f32) (X : Fin 2048 → EReal) (d : Fin 2048) : EReal :=
  ∑ q : Fin 512, Cert.Moe.hidden X (fun k => x0 (ix3 0 k q)) (fun k => x1 (ix3 0 k q)) * x2 (ix3 0 q d)

variable (x0 x1 : FVec Ideal S1x2048x512 .f32) (x2 : FVec Ideal S1x512x2048 .f32) (X y : FVec Ideal S512x2048 .f32) (r : Fin 512) (d : Fin 2048)

theorem second_at : k0_pay12 (F := Ideal) (k0_pay2 (F := Ideal) x1) (k0_pay3 (F := Ideal) x2) (k0_pay5 (F := Ideal) (k0_pay10 (F := Ideal) X)) (k0_pay6 (F := Ideal) x0 (k0_pay10 (F := Ideal) X)) (k0_pay7 (F := Ideal)) y (ix2 r d)
    = y (ix2 r d) + addend x0 x1 x2 (fun k => X (ix2 r k)) d := by
  have e : k0_pay6 (F := Ideal) x0 (k0_pay10 (F := Ideal) X) = prod (k0_pay5 (F := Ideal) (k0_pay10 (F := Ideal) X)) (k0_pay1 x0) := rfl
  rw [e, pay12_at]
  unfold addend
  refine congrArg (y (ix2 r d) + ·) (Finset.sum_congr rfl fun q _ => ?_)
  simp only [pay1_at, pay2_at, pay3_at]
  rw [packed_rows]

theorem first_at : k0_pay4 (F := Ideal) x0 x1 x2 (k0_pay9 (F := Ideal) X) y (ix2 r d) = y (ix2 r d) + addend x0 x1 x2 (fun k => X (ix2 r k)) d :=
  (show k0_pay4 (F := Ideal) x0 x1 x2 (k0_pay9 (F := Ideal) X) y (ix2 r d)
    = k0_pay12 (F := Ideal) (k0_pay2 (F := Ideal) x1) (k0_pay3 (F := Ideal) x2) (k0_pay5 (F := Ideal) (k0_pay10 (F := Ideal) X)) (k0_pay6 (F := Ideal) x0 (k0_pay10 (F := Ideal) X)) (k0_pay7 (F := Ideal)) y (ix2 r d) from rfl).trans
    (second_at x0 x1 x2 X y r d)

theorem only_at : k0_pay11 (F := Ideal) x0 x1 x2 (k0_pay9 (F := Ideal) X) y (ix2 r d) = y (ix2 r d) + addend x0 x1 x2 (fun k => X (ix2 r k)) d :=
  (show k0_pay11 (F := Ideal) x0 x1 x2 (k0_pay9 (F := Ideal) X) y (ix2 r d)
    = k0_pay12 (F := Ideal) (k0_pay2 (F := Ideal) x1) (k0_pay3 (F := Ideal) x2) (k0_pay5 (F := Ideal) (k0_pay10 (F := Ideal) X)) (k0_pay6 (F := Ideal) x0 (k0_pay10 (F := Ideal) X)) (k0_pay7 (F := Ideal)) y (ix2 r d) from rfl).trans
    (second_at x0 x1 x2 X y r d)

/-! ## A point's step -/

theorem ix2_eta (x : S1024x2048.Idx) : x = ix2 (n0 := 1024) (n1 := 2048) (x 0) (x 1) := by
  funext a
  match a with
  | ⟨0, _⟩ => rfl
  | ⟨1, _⟩ => rfl

/-- The token row of slot `s` of tile `a`. -/
theorem rowsOf_at (xt : S25600.Idx → BitVec 32) (h : Tab Ideal) (a : Fin 25) (p : ℕ) (hp : p < 2) (r : Fin 512) (s : Fin 1024) (hs : s.val = p * 512 + r.val) (k : Fin 2048) :
    rowsOf xt h (2 * a.val + p) (ix2 r k) = h (ix2 (Cert.Moe.token xt (Cert.Moe.slot a s)) k) := by
  have := a.isLt
  have := s.isLt
  unfold rowsOf gathered
  have e : rowOf xt ((2 * a.val + p) * 512) r = Cert.Moe.token xt (Cert.Moe.slot a s) := by
    refine Fin.ext ?_
    unfold rowOf tokWord Cert.Moe.token Cert.Moe.slot
    show (xt (ix1 _)).toNat % 8200 = (xt (ix1 _)).toNat % 8200
    have : ((2 * a.val + p) * 512 + r.val) % 25600 = a.val * 1024 + s.val := by rw [Nat.mod_eq_of_lt (by omega)]; omega
    simp only [this]
  exact congrArg (fun t => h (ix2 t k)) e

theorem step_at (x0 x1 : FVec Ideal S1x2048x512 .f32) (x2 : FVec Ideal S1x512x2048 .f32) (xn : S25.Idx → BitVec 32) (xt : S25600.Idx → BitVec 32) (h : Tab Ideal)
    (a : Fin 25) (hv : Halves (nhWord xn a.val)) (y : Block Ideal) (s : Fin 1024) (d : Fin 2048) :
    outStep (F := Ideal) x0 x1 x2 xn xt h a.val y (ix2 s d)
      = if s.val / 512 < (nhWord xn a.val).toNat
        then (y (ix2 s d) : EReal) + addend x0 x1 x2 (fun k => h (ix2 (Cert.Moe.token xt (Cert.Moe.slot a s)) k)) d else y (ix2 s d) := by
  have hsl := s.isLt
  unfold outStep
  by_cases h2 : nhWord xn a.val = 2#32
  · rw [if_pos h2, h2, if_pos (show s.val / 512 < (2#32).toNat by show s.val / 512 < 2; omega)]
    by_cases hh : s.val < 512
    · unfold setRows
      rw [dif_neg (fun hx => absurd hx.1 (by show ¬ 512 ≤ s.val; omega)), dif_pos (show 0 ≤ s.val ∧ s.val < 0 + 512 by omega)]
      refine (first_at x0 x1 x2 (rowsOf xt h (2 * a.val)) _ ⟨s.val - 0, by omega⟩ d).trans ?_
      refine congrArg₂ (· + ·) ?_ ?_
      · unfold getRows
        exact congrArg (fun z => y (ix2 z d)) (Fin.ext (show 0 + (s.val - 0) = s.val by omega))
      · exact congrArg (fun f => addend x0 x1 x2 f d) (funext fun k => rowsOf_at xt h a 0 (by decide) _ s (by show s.val = 0 * 512 + (s.val - 0); omega) k)
    · unfold setRows
      rw [dif_pos (show 512 ≤ s.val ∧ s.val < 512 + 512 by omega)]
      refine (second_at x0 x1 x2 (rowsOf xt h (2 * a.val + 1)) _ ⟨s.val - 512, by omega⟩ d).trans ?_
      refine congrArg₂ (· + ·) ?_ ?_
      · unfold getRows
        exact congrArg (fun z => y (ix2 z d)) (Fin.ext (show 512 + (s.val - 512) = s.val by omega))
      · exact congrArg (fun f => addend x0 x1 x2 f d) (funext fun k => rowsOf_at xt h a 1 (by decide) _ s (by show s.val = 1 * 512 + (s.val - 512); omega) k)
  · rw [if_neg h2]
    by_cases h1 : nhWord xn a.val = 1#32
    · rw [if_pos h1, h1]
      by_cases hh : s.val < 512
      · rw [if_pos (show s.val / 512 < (1#32).toNat by show s.val / 512 < 1; omega)]
        unfold setRows
        rw [dif_pos (show 0 ≤ s.val ∧ s.val < 0 + 512 by omega)]
        refine (only_at x0 x1 x2 (rowsOf xt h (2 * a.val)) _ ⟨s.val - 0, by omega⟩ d).trans ?_
        refine congrArg₂ (· + ·) ?_ ?_
        · unfold getRows
          exact congrArg (fun z => y (ix2 z d)) (Fin.ext (show 0 + (s.val - 0) = s.val by omega))
        · exact congrArg (fun f => addend x0 x1 x2 f d) (funext fun k => rowsOf_at xt h a 0 (by decide) _ s (by show s.val = 0 * 512 + (s.val - 0); omega) k)
      · rw [if_neg (show ¬ s.val / 512 < (1#32).toNat by show ¬ s.val / 512 < 1; omega)]
        unfold setRows
        rw [dif_neg (fun hx => absurd hx.2 (by show ¬ s.val < 0 + 512; omega))]
    · have h0 : nhWord xn a.val = 0#32 := hv.elim id fun h => (h.elim h1 h2).elim
      rw [if_neg h1, h0, if_neg (show ¬ s.val / 512 < (0#32).toNat by show ¬ s.val / 512 < 0; omega)]

end Cert.KernelIdeal.Moe

end
-- ==== Proof.Moe.Value.lean ====
/-
  What the call leaves in its result, read at an index over the extended reals, is the formula.
-/
module

public import proofs.«01_k».proof.Proof.Moe.Blocks
public import proofs.«01_k».proof.Proof.Moe.Step
public import proofs.«01_k».proof.Proof.Moe.Launch
public import Idealize.ShloMosaic.Lib.Pipeline.ValueKit.Acc

@[expose] public section

set_option maxRecDepth 16384

noncomputable section

namespace Cert.KernelIdeal.Moe

open Idealize.ShloMosaic hiding ix1 ix2 ix3
open Idealize.ShloMosaic.TcCoe Idealize.SL.Sem
open Idealize.ShloMosaic.ValueIdx Cert.KernelIdeal Cert.KernelIdeal.Gen
open Idealize.ShloMosaic.Pipeline (Dat)
open scoped BigOperators

variable (m : (ℓ : Loc nD τ sig) → Buf (Elt Ideal) ℓ) (hO : Ok m) (c : Dev nD) (hn : ∀ j, Halves (xn m j))

/-- What column `f` of the hidden layer adds to an output, from the memory as launched. -/
abbrev shareOf (i : Fin 25) (s : Fin 1024) (d : Fin 2048) (f : Fin 7168) : EReal :=
  Cert.Moe.share (xe m) (xt m) (hall m c) (wgA m c) (wuA m c) (wdA m c) i s d f

/-- What weight block `b` adds. -/
def part (i : Fin 25) (s : Fin 1024) (d : Fin 2048) (b : ℕ) : EReal :=
  if hb : b < 14 then ∑ q : Fin 512, shareOf m c i s d (column ⟨b, hb⟩ q) else 0

theorem word_tile (x : S25.Idx → BitVec 32) (i : Fin 25) : nhWord x i.val = x (ix1 i) :=
  congrArg (fun k => x (ix1 k)) (Fin.ext (Nat.mod_eq_of_lt i.isLt))

include hn in
theorem stepAt_at (hte : ∀ j, (xe m j).toNat < 8) (i : Fin 25) (b : ℕ) (hb : b < 14) (t : Fin (cfgM m hO).N) (ht : t.val = 14 * i.val + b) (y : Block Ideal) (s : Fin 1024) (d : Fin 2048) :
    stepAt m hO c t y (ix2 s d) = if s.val / 512 < (xn m (ix1 i)).toNat then (y (ix2 s d) : EReal) + part m c i s d b else y (ix2 s d) := by
  have hq : t.val / 14 = i.val := by omega
  have hr : t.val % 14 = b := by omega
  unfold stepAt
  rw [hq]
  refine (step_at _ _ _ (xn m) (xt m) (hall m c) i (hn _) y s d).trans ?_
  rw [word_tile]
  by_cases hs : s.val / 512 < (xn m (ix1 i)).toNat
  · rw [if_pos hs, if_pos hs]
    refine congrArg ((y (ix2 s d) : EReal) + ·) ?_
    have hu : nhWord (xn m) (t.val / 14) ≠ 0#32 := by
      rw [hq, word_tile]
      intro h0
      rw [h0] at hs
      exact absurd hs (Nat.not_lt_zero _)
    have he : (nhWord (xe m) (t.val / 14)).toNat = (Cert.Moe.expert (xe m) i).val := by
      rw [hq, word_tile]
      exact (Nat.mod_eq_of_lt (hte _)).symm
    unfold addend part
    rw [dif_pos hb]
    refine Finset.sum_congr rfl fun q _ => ?_
    unfold shareOf Cert.Moe.share
    refine congrArg₂ (· * ·) ?_ (blk2_at m hO c t hn hu _ he ⟨b, hb⟩ hr q d)
    exact congrArg₂ (Cert.Moe.hidden _) (funext fun k => blk0_at m hO c t hn hu _ he ⟨b, hb⟩ hr k q) (funext fun k => blk1_at m hO c t hn hu _ he ⟨b, hb⟩ hr k q)
  · rw [if_neg hs, if_neg hs]

theorem zeros_at (s : Fin 1024) (d : Fin 2048) : (k0_pay8 (F := Ideal) (ix2 s d) : EReal) = 0 := Ideal.ofBits_zero_f32

include hn in
/-- The output block after point `b` of tile `i`: the sum over the weight blocks so far, in the halves in use. -/
theorem traj_at (hte : ∀ j, (xe m j).toNat < 8) (i : Fin 25) (s : Fin 1024) (d : Fin 2048) : ∀ (b : ℕ) (hb : b < 14) (n : ℕ) (hN : n < (cfgM m hO).N) (hnb : n = 14 * i.val + b),
    (outTraj m hO c n hN (ix2 s d) : EReal) = if s.val / 512 < (xn m (ix1 i)).toNat then ∑ b' ∈ Finset.range (b + 1), part m c i s d b' else 0
  | 0, hb, n, hN, hnb => by
    rw [outTraj_first m hO c n hN (by omega)]
    refine (stepAt_at m hO c hn hte i 0 hb ⟨n, hN⟩ hnb _ s d).trans ?_
    rw [zeros_at, Finset.sum_range_one, zero_add]
  | b + 1, hb, n, hN, hnb => by
    obtain ⟨n', rfl⟩ : ∃ n', n = n' + 1 := ⟨n - 1, by omega⟩
    have ih := traj_at hte i s d b (by omega) n' (Nat.lt_of_succ_lt hN) (by omega)
    rw [outTraj_next m hO c n' hN (by omega)]
    refine (stepAt_at m hO c hn hte i (b + 1) hb ⟨n' + 1, hN⟩ hnb _ s d).trans ?_
    rw [ih]
    by_cases hs : s.val / 512 < (xn m (ix1 i)).toNat
    · rw [if_pos hs, if_pos hs, if_pos hs, Finset.sum_range_succ _ (b + 1)]
    · rw [if_neg hs, if_neg hs, if_neg hs]

theorem parts_sum (i : Fin 25) (s : Fin 1024) (d : Fin 2048) : ∑ b ∈ Finset.range 14, part m c i s d b = ∑ f, shareOf m c i s d f := by
  rw [← Fin.sum_mul_add_fin 14 512 (fun f => shareOf m c i s d f), ← Fin.sum_univ_eq_sum_range]
  refine Finset.sum_congr rfl fun b _ => ?_
  unfold part
  rw [dif_pos b.isLt]
  rfl

/-- The layer from the memory as launched, as an array. -/
def layerOf : S25600x2048.Idx → EReal := fun x =>
  Cert.Moe.layer (xe m) (xn m) (xt m) (hall m c) (wgA m c) (wuA m c) (wdA m c)
    ⟨(x 0).val / 1024, by have : (x 0).val < 25600 := (x 0).isLt; omega⟩ ⟨(x 0).val % 1024, Nat.mod_lt _ (by decide)⟩ (x 1)

include hn in
theorem last_at (hte : ∀ j, (xe m j).toNat < 8) (i : Fin 25) (n : ℕ) (hN : n < (cfgM m hO).N) (hnb : n = 14 * i.val + 13) (s : Fin 1024) (d : Fin 2048) :
    (outTraj m hO c n hN (ix2 s d) : EReal) = Cert.Moe.layer (xe m) (xn m) (xt m) (hall m c) (wgA m c) (wuA m c) (wdA m c) i s d := by
  rw [traj_at m hO c hn hte i s d 13 (by decide) n hN hnb, parts_sum]
  rfl

/-- An element of the output block of point `t`, in the result. -/
def outEmb (t : Fin (cfgM m hO).N) (x : S1024x2048.Idx) : S25600x2048.Idx := (((cfgM m hO).win 3).rect t).emb x

theorem outEmb_rows (t : Fin (cfgM m hO).N) (x : S1024x2048.Idx) : (outEmb m hO t x 0).val = t.val / 14 * 1024 + (x 0).val := by
  refine (Pipeline.Window.rect_emb_val ((cfgM m hO).win 3) t x (0 : Fin 2) rfl).trans ?_
  rw [index3]
  rfl

theorem outEmb_cols (t : Fin (cfgM m hO).N) (x : S1024x2048.Idx) : (outEmb m hO t x 1).val = (x 1).val := by
  refine (Pipeline.Window.rect_emb_val ((cfgM m hO).win 3) t x (1 : Fin 2) rfl).trans ?_
  rw [index3]
  show 0 * 2048 + (x 1).val = (x 1).val
  omega

include hn in
theorem flushed_at (hte : ∀ j, (xe m j).toNat < 8) (t : Fin (cfgM m hO).N) (hf : t.val % 14 = 13) (x : S1024x2048.Idx) :
    (outTraj m hO c t.val t.isLt x : EReal) = layerOf m c (outEmb m hO t x) := by
  have hN : t.val < 350 := lt_of_lt_of_eq t.isLt N_0
  have e0 := outEmb_rows m hO t x
  have e1 := outEmb_cols m hO t x
  have hx : (x 0).val < 1024 := (x 0).isLt
  have key := last_at m hO c hn hte ⟨t.val / 14, by omega⟩ t.val t.isLt (by show t.val = 14 * (t.val / 14) + 13; omega) (x 0) (x 1)
  rw [← ix2_eta x] at key
  refine key.trans ?_
  unfold layerOf
  have h0 : (⟨t.val / 14, by omega⟩ : Fin 25) = ⟨(outEmb m hO t x 0).val / 1024, by omega⟩ := Fin.ext (by show t.val / 14 = _ / 1024; omega)
  have h1 : (x 0 : Fin 1024) = ⟨(outEmb m hO t x 0).val % 1024, by omega⟩ := Fin.ext (by show (x 0).val = _ % 1024; omega)
  have h2 : (x 1 : Fin 2048) = outEmb m hO t x 1 := Fin.ext e1.symm
  rw [h0]
  exact congrArg₂ (Cert.Moe.layer (xe m) (xn m) (xt m) (hall m c) (wgA m c) (wuA m c) (wdA m c) _) h1 h2

theorem outEmb_onto (x : S25600x2048.Idx) : ∃ (t : Fin (cfgM m hO).N) (y : S1024x2048.Idx), t.val % 14 = 13 ∧ outEmb m hO t y = x := by
  have hx : (x 0).val < 25600 := (x 0).isLt
  have hN : 14 * ((x 0).val / 1024) + 13 < (cfgM m hO).N := lt_of_lt_of_eq (by omega) N_0.symm
  refine ⟨⟨14 * ((x 0).val / 1024) + 13, hN⟩, ix2 (n0 := 1024) (n1 := 2048) ⟨(x 0).val % 1024, Nat.mod_lt _ (by decide)⟩ (x 1), ?_, ?_⟩
  · show (14 * ((x 0).val / 1024) + 13) % 14 = 13
    omega
  · funext a
    refine Fin.ext ?_
    match a with
    | ⟨0, _⟩ =>
      refine (outEmb_rows m hO _ _).trans ?_
      show (14 * ((x 0).val / 1024) + 13) / 14 * 1024 + (x 0).val % 1024 = (x 0).val
      omega
    | ⟨1, _⟩ => exact outEmb_cols m hO _ _

include hn in
/-- The result array when the call ends. -/
theorem result_array (hte : ∀ j, (xe m j).toNat < 8) : (dats m hO 0 c).arrAt 3 (cfgM m hO).N = layerOf m c := by
  refine (dats m hO 0 c).arrAt_eq_of_cover 3 (layerOf m c) ?_ ?_
  · intro t hf
    exact funext fun x => flushed_at m hO c hn hte t ((flush3 m hO t).1 hf) x
  · intro x
    obtain ⟨t, y, ht, hy⟩ := outEmb_onto m hO x
    refine ⟨t, (flush3 m hO t).2 ht, ?_⟩
    have hm := (((cfgM m hO).win 3).blk t).view.emb_mem_set y
    exact Eq.mp (congrArg (· ∈ (((cfgM m hO).win 3).blk t).view.set) hy) hm

end Cert.KernelIdeal.Moe

end
-- ==== Proof.Moe.Ref.lean ====
/-
  The reference's result, read at an index, is the formula.
-/
module

public import proofs.«01_k».proof.Proof.Moe.Spec
public import proofs.«01_k».proof.Proof.Gen.ReferenceIdeal
public import proofs.«01_k».proof.Proof.Gen.ReferenceIdeal.Run
public import Idealize.ShloMosaic.Lib.StackMember
public import Idealize.ShloMosaic.Lib.Pipeline.Value
public import Idealize.ShloMosaic.Lib.Affine

@[expose] public section

set_option maxRecDepth 8192

noncomputable section

namespace Cert.ReferenceIdeal.Moe

open Idealize.ShloMosaic Idealize.ShloMosaic.ValueIdx Cert.ReferenceIdeal Cert.ReferenceIdeal.Gen Cert.Moe
open scoped BigOperators

/-! ## Gathers by leading rows -/

section Gather
variable {α : Type}

theorem gather_tokens (x : S8200x2048.Idx → α) (idx : IVec S25600x1 32) (n : Fin 25600) (k : Fin 2048) (r : Fin 8200)
    (hr : (idx (ix2 n 0)).toInt = r.val) :
    Host.gather gather_S8200x2048_S25600x1_S25600x2048_1_0_n_n_0_1_12048 x idx (ix2 n k) = x (ix2 r k) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    have hm : (⟨0, h0⟩ : Fin S8200x2048.rank) ∈ gather_S8200x2048_S25600x1_S25600x2048_1_0_n_n_0_1_12048.startIndexMap := List.mem_singleton.mpr rfl
    rw [dif_pos hm]
    show min (idx _).toInt.toNat (8200 - 1) = r.val
    have e : ∀ q : S25600x1.Idx, (q 0).val = n.val → min (idx q).toInt.toNat (8200 - 1) = r.val := fun q hq => by
      have hq' : q = ix2 n 0 := by
        funext b
        match b with
        | ⟨0, _⟩ => exact Fin.ext hq
        | ⟨1, _⟩ => exact Subsingleton.elim (α := Fin 1) _ _
      rw [hq', hr]
      have := r.isLt
      omega
    exact e _ rfl
  | ⟨1, h1⟩ =>
    unfold GatherDims.start
    have hm : ¬ (⟨1, h1⟩ : Fin S8200x2048.rank) ∈ gather_S8200x2048_S25600x1_S25600x2048_1_0_n_n_0_1_12048.startIndexMap := (show ¬ (1 : Fin 2) ∈ [(0 : Fin 2)] by decide)
    rw [dif_neg hm]
    simp only [Nat.zero_add]
    rfl

theorem gather_in (x : S8x2048x7168.Idx → α) (idx : IVec S25x1 32) (i : Fin 25) (k : Fin 2048) (f : Fin 7168) (r : Fin 8)
    (hr : (idx (ix2 i 0)).toInt = r.val) :
    Host.gather gather_S8x2048x7168_S25x1_S25x2048x7168_12_0_n_n_0_1_120487168 x idx (ix3 i k f) = x (ix3 r k f) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    have hm : (⟨0, h0⟩ : Fin S8x2048x7168.rank) ∈ gather_S8x2048x7168_S25x1_S25x2048x7168_12_0_n_n_0_1_120487168.startIndexMap := List.mem_singleton.mpr rfl
    rw [dif_pos hm]
    show min (idx _).toInt.toNat (8 - 1) = r.val
    have e : ∀ q : S25x1.Idx, (q 0).val = i.val → min (idx q).toInt.toNat (8 - 1) = r.val := fun q hq => by
      have hq' : q = ix2 i 0 := by
        funext b
        match b with
        | ⟨0, _⟩ => exact Fin.ext hq
        | ⟨1, _⟩ => exact Subsingleton.elim (α := Fin 1) _ _
      rw [hq', hr]
      have := r.isLt
      omega
    exact e _ rfl
  | ⟨1, h1⟩ =>
    unfold GatherDims.start
    have hm : ¬ (⟨1, h1⟩ : Fin S8x2048x7168.rank) ∈ gather_S8x2048x7168_S25x1_S25x2048x7168_12_0_n_n_0_1_120487168.startIndexMap := (show ¬ (1 : Fin 3) ∈ [(0 : Fin 3)] by decide)
    rw [dif_neg hm]
    simp only [Nat.zero_add]
    rfl
  | ⟨2, h2⟩ =>
    unfold GatherDims.start
    have hm : ¬ (⟨2, h2⟩ : Fin S8x2048x7168.rank) ∈ gather_S8x2048x7168_S25x1_S25x2048x7168_12_0_n_n_0_1_120487168.startIndexMap := (show ¬ (2 : Fin 3) ∈ [(0 : Fin 3)] by decide)
    rw [dif_neg hm]
    simp only [Nat.zero_add]
    rfl

theorem gather_out (x : S8x7168x2048.Idx → α) (idx : IVec S25x1 32) (i : Fin 25) (f : Fin 7168) (d : Fin 2048) (r : Fin 8)
    (hr : (idx (ix2 i 0)).toInt = r.val) :
    Host.gather gather_S8x7168x2048_S25x1_S25x7168x2048_12_0_n_n_0_1_171682048 x idx (ix3 i f d) = x (ix3 r f d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    have hm : (⟨0, h0⟩ : Fin S8x7168x2048.rank) ∈ gather_S8x7168x2048_S25x1_S25x7168x2048_12_0_n_n_0_1_171682048.startIndexMap := List.mem_singleton.mpr rfl
    rw [dif_pos hm]
    show min (idx _).toInt.toNat (8 - 1) = r.val
    have e : ∀ q : S25x1.Idx, (q 0).val = i.val → min (idx q).toInt.toNat (8 - 1) = r.val := fun q hq => by
      have hq' : q = ix2 i 0 := by
        funext b
        match b with
        | ⟨0, _⟩ => exact Fin.ext hq
        | ⟨1, _⟩ => exact Subsingleton.elim (α := Fin 1) _ _
      rw [hq', hr]
      have := r.isLt
      omega
    exact e _ rfl
  | ⟨1, h1⟩ =>
    unfold GatherDims.start
    have hm : ¬ (⟨1, h1⟩ : Fin S8x7168x2048.rank) ∈ gather_S8x7168x2048_S25x1_S25x7168x2048_12_0_n_n_0_1_171682048.startIndexMap := (show ¬ (1 : Fin 3) ∈ [(0 : Fin 3)] by decide)
    rw [dif_neg hm]
    simp only [Nat.zero_add]
    rfl
  | ⟨2, h2⟩ =>
    unfold GatherDims.start
    have hm : ¬ (⟨2, h2⟩ : Fin S8x7168x2048.rank) ∈ gather_S8x7168x2048_S25x1_S25x7168x2048_12_0_n_n_0_1_171682048.startIndexMap := (show ¬ (2 : Fin 3) ∈ [(0 : Fin 3)] by decide)
    rw [dif_neg hm]
    simp only [Nat.zero_add]
    rfl

end Gather

/-! ## Indices in range stay as they are -/

theorem toInt_small (v : BitVec 32) (n : ℕ) (hn : n < 2 ^ 31) (hv : v.toNat < n) : v.toInt = v.toNat := by
  have := BitVec.toInt_eq_toNat_cond v
  split at this <;> omega

theorem wrap_small (v b : BitVec 32) (n : ℕ) (hn : n < 2 ^ 31) (hv : v.toNat < n) :
    Scalar.select (IntOp.cmpi .slt v 0#32) b v = v := by
  have h : ¬ IntOp.cmpi .slt v 0#32 = 1#1 := by
    rw [IntOp.cmpi_slt, toInt_small v n hn hv]
    have : (0#32).toInt = 0 := rfl
    omega
  unfold Scalar.select
  exact if_neg h

/-- The token indices, the expert indices, as the reference reads them. -/
def tokens (x2 : IVec S25600 32) : IVec S25600x1 32 :=
  broadcastInDim S25600x1 ![0] bcast_S25600_S25600x1_0 (select (cmpi .slt x2 (broadcastInDim S25600 ![] bcast_S_S25600 (constantI S_ 32 0#32))) (addi x2 (broadcastInDim S25600 ![] bcast_S_S25600 (constantI S_ 32 8200#32))) x2)

def experts (x0 : IVec S25 32) : IVec S25x1 32 :=
  broadcastInDim S25x1 ![0] bcast_S25_S25x1_0 (select (cmpi .slt x0 (broadcastInDim S25 ![] bcast_S_S25 (constantI S_ 32 0#32))) (addi x0 (broadcastInDim S25 ![] bcast_S_S25 (constantI S_ 32 8#32))) x0)

theorem tokens_at (x2 : IVec S25600 32) (hx : ∀ j, (x2 j).toNat < 8200) (n : Fin 25600) : (tokens x2 (ix2 n 0)).toInt = (token x2 n).val := by
  unfold tokens
  rw [broadcastInDim_apply _ _ _ _ (ix1 n) (fun a => by match a with | ⟨0, _⟩ => rfl)]
  refine (congrArg BitVec.toInt (wrap_small (x2 (ix1 n)) _ 8200 (by omega) (hx _))).trans ?_
  rw [toInt_small _ 8200 (by omega) (hx _)]
  show ((x2 (ix1 n)).toNat : ℤ) = (((x2 (ix1 n)).toNat % 8200 : ℕ) : ℤ)
  rw [Nat.mod_eq_of_lt (hx _)]

theorem experts_at (x0 : IVec S25 32) (hx : ∀ j, (x0 j).toNat < 8) (i : Fin 25) : (experts x0 (ix2 i 0)).toInt = (expert x0 i).val := by
  unfold experts
  rw [broadcastInDim_apply _ _ _ _ (ix1 i) (fun a => by match a with | ⟨0, _⟩ => rfl)]
  refine (congrArg BitVec.toInt (wrap_small (x0 (ix1 i)) _ 8 (by omega) (hx _))).trans ?_
  rw [toInt_small _ 8 (by omega) (hx _)]
  show ((x0 (ix1 i)).toNat : ℤ) = (((x0 (ix1 i)).toNat % 8 : ℕ) : ℤ)
  rw [Nat.mod_eq_of_lt (hx _)]

/-! ## The half a slot lies in -/

def sgn (v : BitVec 32) : BitVec 32 := if v = 0 then 0 else if v.msb then -1 else 1

/-- The reference's floor division of a word by 512. -/
def wordDiv (v : BitVec 32) : BitVec 32 :=
  Scalar.select (IntOp.andi (IntOp.cmpi .ne (sgn v) (sgn 512#32)) (IntOp.cmpi .ne (IntOp.remsi .host v 512#32) 0#32))
    (IntOp.subi (IntOp.divsi .host v 512#32) 1#32) (IntOp.divsi .host v 512#32)

theorem wordDiv_slot : ∀ s : Fin 1024, wordDiv (BitVec.ofNat 32 s.val) = BitVec.ofNat 32 (s.val / 512) := by decide +kernel

def halfOf : IVec S25x1024 32 :=
  select (andi (cmpi .ne (signi (iotaInDim S25x1024 32 1)) (broadcastInDim S25x1024 ![] bcast_S_S25x1024 (signi (id (constantI S_ 32 512#32))))) (cmpi .ne (Host.remsi (iotaInDim S25x1024 32 1) (broadcastInDim S25x1024 ![] bcast_S_S25x1024 (id (constantI S_ 32 512#32)))) (broadcastInDim S25x1024 ![] bcast_S_S25x1024 (constantI S_ 32 0#32)))) (subi (Host.divsi (iotaInDim S25x1024 32 1) (broadcastInDim S25x1024 ![] bcast_S_S25x1024 (id (constantI S_ 32 512#32)))) (broadcastInDim S25x1024 ![] bcast_S_S25x1024 (constantI S_ 32 1#32))) (Host.divsi (iotaInDim S25x1024 32 1) (broadcastInDim S25x1024 ![] bcast_S_S25x1024 (id (constantI S_ 32 512#32))))

theorem halfOf_at (i : Fin 25) (s : Fin 1024) : halfOf (ix2 i s) = BitVec.ofNat 32 (s.val / 512) :=
  (show halfOf (ix2 i s) = wordDiv (BitVec.ofNat 32 s.val) from rfl).trans (wordDiv_slot s)

theorem slt_iff (q : ℕ) (hq : q < 2) (v : BitVec 32) (hv : v.toNat < 3) : IntOp.cmpi .slt (BitVec.ofNat 32 q) v = 1#1 ↔ q < v.toNat := by
  have e : (BitVec.ofNat 32 q).toNat = q := by rw [BitVec.toNat_ofNat]; exact Nat.mod_eq_of_lt (by omega)
  rw [IntOp.cmpi_slt, toInt_small v 3 (by omega) hv, toInt_small _ 2 (by omega) (by rw [e]; exact hq), e]
  omega

/-! ## The result at an index -/

section Value

variable (x0 x1 : IVec S25 32) (x2 : IVec S25600 32) (x3 : FVec Ideal S8200x2048 .f32)
variable (x4 x5 : FVec Ideal S8x2048x7168 .f32) (x6 : FVec Ideal S8x7168x2048 .f32)

def tokRows : FVec Ideal S25x1024x2048 .f32 :=
  shapeCast _ (Host.gather gather_S8200x2048_S25600x1_S25600x2048_1_0_n_n_0_1_12048 x3 (tokens x2)) shapeCasts_S25600x2048_S25x1024x2048

def proj (w : FVec Ideal S8x2048x7168 .f32) : FVec Ideal S25x1024x7168 .f32 :=
  Host.dotGeneral dot_S25x1024x2048_S25x2048x7168_S25x1024x7168_2_1_1_2_0_0 none (tokRows x2 x3)
    (Host.gather gather_S8x2048x7168_S25x1_S25x2048x7168_12_0_n_n_0_1_120487168 w (experts x0))

def acts : FVec Ideal S25x1024x7168 .f32 :=
  mulf (mulf (proj x0 x2 x3 x4) (Host.divf (broadcastInDim S25x1024x7168 ![] bcast_S_S25x1024x7168 (constant S_ .f32 0x3F800000#32)) (addf (broadcastInDim S25x1024x7168 ![] bcast_S_S25x1024x7168 (constant S_ .f32 0x3F800000#32)) (Host.exp (Host.negf (proj x0 x2 x3 x4)))))) (proj x0 x2 x3 x5)

def outs : FVec Ideal S25x1024x2048 .f32 :=
  Host.dotGeneral dot_S25x1024x7168_S25x7168x2048_S25x1024x2048_2_1_1_2_0_0 none (acts x0 x2 x3 x4 x5)
    (Host.gather gather_S8x7168x2048_S25x1_S25x7168x2048_12_0_n_n_0_1_171682048 x6 (experts x0))

def masked : FVec Ideal S25x1024x2048 .f32 :=
  select (broadcastInDim S25x1024x2048 ![0, 1, 2] bcast_S25x1024x1_S25x1024x2048_0_1_2 (broadcastInDim S25x1024x1 ![0, 1] bcast_S25x1024_S25x1024x1_0_1 (cmpi .slt halfOf (broadcastInDim S25x1024 ![0, 1] bcast_S25x1_S25x1024_0_1 (broadcastInDim S25x1 ![0] bcast_S25_S25x1_0 x1)))))
    (outs x0 x2 x3 x4 x5 x6) (broadcastInDim S25x1024x2048 ![] bcast_S_S25x1024x2048 (id (constant (F := Ideal) S_ .f32 0x00000000#32)))

variable (h0 : ∀ j, (x0 j).toNat < 8) (h1 : ∀ j, (x1 j).toNat < 3) (h2 : ∀ j, (x2 j).toNat < 8200)

include h2 in
theorem tokRows_at (i : Fin 25) (s : Fin 1024) (k : Fin 2048) : tokRows x2 x3 (ix3 i s k) = x3 (ix2 (token x2 (slot i s)) k) := by
  unfold tokRows
  rw [shapeCast_apply _ _ (ix3 i s k) (ix2 (slot i s) k) (by
    rw [Shape.rowMajor_val_two, Shape.rowMajor_val_three]
    show (i.val * 1024 + s.val) * 2048 + k.val = (i.val * 1024 + s.val) * 2048 + k.val
    rfl)]
  exact gather_tokens _ _ _ _ _ (tokens_at x2 h2 (slot i s))

include h0 h2 in
theorem proj_at (w : FVec Ideal S8x2048x7168 .f32) (i : Fin 25) (s : Fin 1024) (f : Fin 7168) :
    proj x0 x2 x3 w (ix3 i s f) = ∑ k, x3 (ix2 (token x2 (slot i s)) k) * w (ix3 (expert x0 i) k f) := by
  unfold proj
  refine (StackMember.dotGeneral_stack_apply _ none _ _ i s f).trans (Finset.sum_congr rfl fun k _ => ?_)
  rw [tokRows_at x2 x3 h2]
  exact congrArg _ (gather_in _ _ _ _ _ _ (experts_at x0 h0 i))

include h0 h2 in
theorem acts_at (i : Fin 25) (s : Fin 1024) (f : Fin 7168) : acts x0 x2 x3 x4 x5 (ix3 i s f)
    = Cert.Moe.hidden (fun k => x3 (ix2 (token x2 (slot i s)) k)) (fun k => x4 (ix3 (expert x0 i) k f)) (fun k => x5 (ix3 (expert x0 i) k f)) := by
  unfold Cert.Moe.hidden Cert.Moe.gate
  rw [← proj_at x0 x2 x3 h0 h2 x4, ← proj_at x0 x2 x3 h0 h2 x5]
  rfl

include h0 h2 in
theorem outs_at (i : Fin 25) (s : Fin 1024) (d : Fin 2048) : outs x0 x2 x3 x4 x5 x6 (ix3 i s d)
    = ∑ f, Cert.Moe.share x0 x2 x3 x4 x5 x6 i s d f := by
  unfold outs
  refine (StackMember.dotGeneral_stack_apply _ none _ _ i s d).trans (Finset.sum_congr rfl fun f _ => ?_)
  rw [acts_at x0 x2 x3 x4 x5 h0 h2]
  exact congrArg _ (gather_out _ _ _ _ _ _ (experts_at x0 h0 i))

include h0 h1 h2 in
theorem masked_at (i : Fin 25) (s : Fin 1024) (d : Fin 2048) : masked x0 x1 x2 x3 x4 x5 x6 (ix3 i s d)
    = layer x0 x1 x2 x3 x4 x5 x6 i s d := by
  unfold masked
  rw [ValueIdx.select_apply, broadcastInDim_apply _ _ _ (ix3 i s d) (ix3 i s 0) (fun a => by match a with | ⟨0, _⟩ => rfl | ⟨1, _⟩ => rfl | ⟨2, _⟩ => rfl),
    broadcastInDim_apply _ _ _ (ix3 i s 0) (ix2 i s) (fun a => by match a with | ⟨0, _⟩ => rfl | ⟨1, _⟩ => rfl)]
  have e : broadcastInDim S25x1024 ![0, 1] bcast_S25x1_S25x1024_0_1 (broadcastInDim S25x1 ![0] bcast_S25_S25x1_0 x1) (ix2 i s) = x1 (ix1 i) := by
    rw [broadcastInDim_apply _ _ _ (ix2 i s) (ix2 i 0) (fun a => by match a with | ⟨0, _⟩ => rfl | ⟨1, _⟩ => rfl),
      broadcastInDim_apply _ _ _ (ix2 i 0) (ix1 i) (fun a => by match a with | ⟨0, _⟩ => rfl)]
  show Scalar.select (IntOp.cmpi .slt (halfOf (ix2 i s)) _) (outs x0 x2 x3 x4 x5 x6 (ix3 i s d)) (Ideal.ofBits .f32 0x00000000#32) = _
  rw [e, halfOf_at, outs_at x0 x2 x3 x4 x5 x6 h0 h2, Ideal.ofBits_zero_f32]
  unfold layer Scalar.select
  have hs : s.val / 512 < 2 := by have := s.isLt; omega
  by_cases hc : s.val / 512 < (x1 (ix1 i)).toNat
  · rw [if_pos hc]; exact if_pos ((slt_iff _ hs _ (h1 _)).mpr hc)
  · rw [if_neg hc]; exact if_neg (fun h => hc ((slt_iff _ hs _ (h1 _)).mp h))

end Value

open Idealize.SL.Sem in
theorem result_at (m : (ℓ : Loc nD τ sig) → Buf (Elt Ideal) ℓ) (c : Dev nD)
    (h0 : ∀ j : S25.Idx, (m ((c.tc : Thread nD τ).loc main_arg0) j).toNat < 8)
    (h1 : ∀ j : S25.Idx, (m ((c.tc : Thread nD τ).loc main_arg1) j).toNat < 3)
    (h2 : ∀ j : S25600.Idx, (m ((c.tc : Thread nD τ).loc main_arg2) j).toNat < 8200) (i : Fin 25) (s : Fin 1024) (d : Fin 2048) :
    Value.res_main_v41 m c (ix2 (slot i s) d)
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) i s d := by
  have e : Value.res_main_v41 m c = shapeCast S25600x2048 (masked (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))) shapeCasts_S25x1024x2048_S25600x2048 := rfl
  rw [e, shapeCast_apply _ _ (ix2 (slot i s) d) (ix3 i s d) (by
    rw [Shape.rowMajor_val_two, Shape.rowMajor_val_three]
    show (i.val * 1024 + s.val) * 2048 + d.val = (i.val * 1024 + s.val) * 2048 + d.val
    rfl)]
  exact masked_at _ _ _ _ _ _ _ h0 h1 h2 i s d

end Cert.ReferenceIdeal.Moe

end
-- ==== Proof.Moe.Equal.lean ====
/-
  The kernel's run with its result, and the reference's result as the same array.
-/
module

public import proofs.«01_k».proof.Proof.Moe.Value
public import proofs.«01_k».proof.Proof.Moe.Ref

@[expose] public section

set_option maxRecDepth 16384

noncomputable section

namespace Cert.KernelIdeal.Moe

open Idealize.ShloMosaic hiding ix1 ix2 ix3
open Idealize.ShloMosaic.TcCoe Idealize.SL.Sem
open Idealize.ShloMosaic.ValueIdx Cert.KernelIdeal Cert.KernelIdeal.Gen

/-- From any memory whose tables are in range the kernel ends with the layer in its result and every argument as launched. -/
theorem value_main (m : (ℓ : Loc nD τ sig) → Buf (Elt Ideal) ℓ) (ρ : Dev nD → PrngReg) (hO : Ok m) (hte : ∀ j, (xe m j).toNat < 8)
    (hn : ∀ j, Halves (xn m j)) (hxt : InTable (xt m)) :
    θ_run defs (onTc (τ := τ) (main (F := Ideal))) ⟨m, fun _ => 0, ρ⟩ (fun r => ∀ c : Dev nD,
      r.2.mem ((c.tc : Thread nD τ).loc main_v0) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 3).trans (result_array m hO c hn hte),
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans ((dats m hO 0 c).arrAt_in 0 rfl _), ((h.1 c).1 1).trans ((dats m hO 0 c).arrAt_in 1 rfl _), ((h.1 c).1 2).trans ((dats m hO 0 c).arrAt_in 2 rfl _)⟩)
    (run_main m ρ hO hn hxt)

theorem halves_lt (v : BitVec 32) (h : Halves v) : v.toNat < 3 := by
  rcases h with h | h | h <;> rw [h] <;> decide

/-- On equal arguments the reference's result is the same array. -/
theorem reference_layer (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6))
    (hte : ∀ j, (xe m j).toNat < 8) (hn : ∀ j, Halves (xn m j)) (hxt : InTable (xt m)) :
    (Cert.ReferenceIdeal.Value.res_main_v41 m' c : S25600x2048.Idx → EReal) = layerOf m c := by
  obtain rfl : c = 0 := Subsingleton.elim _ _
  funext x
  have hx : (x 0).val < 25600 := (x 0).isLt
  have key := Cert.ReferenceIdeal.Moe.result_at m' 0 (by rw [e0]; exact hte) (by rw [e1]; exact fun j => halves_lt _ (hn j)) (by rw [e2]; exact hxt)
    ⟨(x 0).val / 1024, by omega⟩ ⟨(x 0).val % 1024, Nat.mod_lt _ (by decide)⟩ (x 1)
  rw [e0, e1, e2, e3, e4, e5, e6] at key
  have ex : ix2 (n0 := 25600) (n1 := 2048) (Cert.Moe.slot ⟨(x 0).val / 1024, by omega⟩ ⟨(x 0).val % 1024, Nat.mod_lt _ (by decide)⟩) (x 1) = x := by
    funext a
    match a with
    | ⟨0, _⟩ => exact Fin.ext (show (x 0).val / 1024 * 1024 + (x 0).val % 1024 = (x 0).val by omega)
    | ⟨1, _⟩ => rfl
  rw [ex] at key
  exact key

end Cert.KernelIdeal.Moe

end
-- ==== Proof.Moe.Range.lean ====
/-
  What the precondition says of the three tables.
-/
module

public import proofs.«01_k».proof.Proof.Moe.Loops
public import proofs.«01_k».proof.Proof.Gen.Pre_tables_in_range
public import Idealize.ShloMosaic.Lib.ReduceAll
public import Idealize.ShloMosaic.Lib.Affine

@[expose] public section

noncomputable section

namespace Cert.KernelIdeal.Moe

open Idealize.ShloMosaic
open Cert.KernelIdeal.Gen

variable {F : FTy → Type} [FloatOps F]

instance : Subsingleton Cert.Pre_tables_in_range.S_.Idx := ⟨fun a b => funext fun d => d.elim0⟩

/-- A word between zero and a bound, as the signed comparisons say it. -/
theorem word_below (v : BitVec 32) (n : ℕ) (hn : n < 2 ^ 31) (h0 : IntOp.cmpi .sge v 0#32 = 1#1) (h1 : IntOp.cmpi .slt v (BitVec.ofNat 32 n) = 1#1) :
    v.toNat < n := by
  rw [IntOp.cmpi_sge] at h0
  rw [IntOp.cmpi_slt] at h1
  have e0 : (0#32).toInt = 0 := rfl
  have e1 : (BitVec.ofNat 32 n).toInt = n := by
    rw [BitVec.toInt_eq_toNat_of_lt (by rw [BitVec.toNat_ofNat]; omega), BitVec.toNat_ofNat]; omega
  rw [e0] at h0
  rw [e1] at h1
  have := BitVec.toInt_eq_toNat_cond v
  split at this <;> have := v.isLt <;> omega

theorem halves_of_le (v : BitVec 32) (h0 : IntOp.cmpi .sge v 0#32 = 1#1) (h1 : IntOp.cmpi .sle v 2#32 = 1#1) : Halves v := by
  have h : v.toNat < 3 := word_below v 3 (by omega) h0 (by
    rw [IntOp.cmpi_sle] at h1
    rw [IntOp.cmpi_slt]
    have e0 : (2#32).toInt = 2 := rfl
    have e1 : (BitVec.ofNat 32 3).toInt = 3 := rfl
    omega)
  unfold Halves
  have e : v = BitVec.ofNat 32 v.toNat := by simp
  rcases (by omega : v.toNat = 0 ∨ v.toNat = 1 ∨ v.toNat = 2) with k | k | k <;> rw [k] at e
  · exact .inl e
  · exact .inr (.inl e)
  · exact .inr (.inr e)

set_option maxRecDepth 8192 in
/-- Experts are experts, halves in use are at most two, and tokens are rows of the token table. -/
theorem range_of_pre (x0 x1 : IVec Cert.Pre_tables_in_range.S25 32) (x2 : IVec Cert.Pre_tables_in_range.S25600 32) (x3 x4 x5 x6)
    (h : @Cert.Pre_tables_in_range.fn Cert.Pre_tables_in_range.Gen.facts F _ x0 x1 x2 x3 x4 x5 x6 = fun _ => 1#1) :
    (∀ j, (x0 j).toNat < 8) ∧ (∀ j, Halves (x1 j)) ∧ InTable x2 := by
  have h' := congrFun h (fun d => d.elim0)
  unfold Cert.Pre_tables_in_range.fn Cert.Pre_tables_in_range.fn_part1 at h'
  dsimp only at h'
  obtain ⟨h12, h3⟩ := IntOp.andi_eq_one.1 h'
  obtain ⟨h1, h2⟩ := IntOp.andi_eq_one.1 h12
  refine ⟨fun j => ?_, fun j => ?_, fun j => ?_⟩
  · obtain ⟨a, b⟩ := IntOp.andi_eq_one.1 (Host.reduce_andi_all _ _ _ _ _ h1 j)
    exact word_below _ 8 (by omega) a b
  · obtain ⟨a, b⟩ := IntOp.andi_eq_one.1 (Host.reduce_andi_all _ _ _ _ _ h2 j)
    exact halves_of_le _ a b
  · obtain ⟨a, b⟩ := IntOp.andi_eq_one.1 (Host.reduce_andi_all _ _ _ _ _ h3 j)
    exact word_below _ 8200 (by omega) a b

end Cert.KernelIdeal.Moe

end
-- ==== Proof.Moe.Same.lean ====
/-
  The kernel as printed and the kernel read over the extended reals are one program text: the two modules declare the
  same body table and the same `main`, at any float values.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.KernelIdeal.Moe

open Idealize.ShloMosaic Idealize.SL.Sem

variable {F : FTy → Type} [FloatOps F]

theorem body_same : Cert.Kernel.cc0_moe_group (F := F) = Cert.KernelIdeal.cc0_moe_group (F := F) := rfl

theorem rows_same : (Cert.Kernel.defs₀ (F := F)) = (Cert.KernelIdeal.defs₀ (F := F)) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

theorem defs_same : (Cert.Kernel.defs (F := F)) = (Cert.KernelIdeal.defs (F := F)) := by
  unfold Cert.Kernel.defs Cert.KernelIdeal.defs
  rw [rows_same]
  rfl

theorem main_same : (Cert.Kernel.main (F := F)) = (Cert.KernelIdeal.main (F := F)) := rfl

/-- A run of the one is a run of the other. -/
theorem run_same (s : MemSt Cert.KernelIdeal.nD Cert.KernelIdeal.τ Cert.KernelIdeal.sig (Elt F)) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same, main_same]
  exact h

end Cert.KernelIdeal.Moe

end
-- ==== Proof.Ffn.Spec.lean ====
/-
  The dense feed-forward of one row as a formula, over the extended reals: the row is modulated, taken through a SwiGLU,
  gated, added to the scaled row and normalized.
-/
module

public import proofs.«01_k».proof.Proof.Moe.Spec

@[expose] public section

noncomputable section

namespace Cert.Ffn

open Idealize.ShloMosaic Idealize.ShloMosaic.ValueIdx
open scoped BigOperators

/-- One. -/
abbrev one : EReal := Ideal.ofBits .f32 0x3F800000#32

/-- The modulated row. -/
def modulated (x sc sh : Fin 2048 → EReal) (k : Fin 2048) : EReal := x k * (one + sc k) + sh k

/-- What hidden column `f` adds to column `d` of the product. -/
def share (h : Fin 2048 → EReal) (wg wu : (⟨2, ![2048, 5632]⟩ : Shape).Idx → EReal) (wd : (⟨2, ![5632, 2048]⟩ : Shape).Idx → EReal)
    (d : Fin 2048) (f : Fin 5632) : EReal :=
  Cert.Moe.hidden h (fun k => wg (ix2 k f)) (fun k => wu (ix2 k f)) * wd (ix2 f d)

/-- The row before its normalization. -/
def residual (x g p : Fin 2048 → EReal) (d : Fin 2048) : EReal := Ideal.ofBits .f32 0x3FB504F3#32 * x d + (one + g d) * p d

/-- The mean of a row. -/
def mean (y : Fin 2048 → EReal) : EReal := Ideal.div (∑ k, y k) (Ideal.ofBits .f32 0x45000000#32)

/-- The layer norm of a row. -/
def norm (y lg lb : Fin 2048 → EReal) (d : Fin 2048) : EReal :=
  (y d - mean y) * Ideal.rsqrt (mean (fun k => (y k - mean y) * (y k - mean y)) + Ideal.ofBits .f32 0x3727C5AC#32) * lg d + lb d

variable (x : (⟨2, ![8192, 2048]⟩ : Shape).Idx → EReal) (md : (⟨2, ![2, 12288]⟩ : Shape).Idx → EReal)
variable (wg wu : (⟨2, ![2048, 5632]⟩ : Shape).Idx → EReal) (wd : (⟨2, ![5632, 2048]⟩ : Shape).Idx → EReal)
variable (lg lb : (⟨1, ![2048]⟩ : Shape).Idx → EReal)

/-- The sequence of a row. -/
def seqOf (r : Fin 8192) : Fin 2 := ⟨r.val / 4096, by have := r.isLt; omega⟩

/-- Column `k` of chunk `n` of a sequence's modulation. -/
def chunk (n : ℕ) (hn : n < 6) (r : Fin 8192) (k : Fin 2048) : EReal := md (ix2 (seqOf r) ⟨n * 2048 + k.val, by have := k.isLt; omega⟩)

/-- Row `r` modulated. -/
def rowOf (r : Fin 8192) : Fin 2048 → EReal := modulated (fun k => x (ix2 r k)) (chunk md 4 (by decide) r) (chunk md 3 (by decide) r)

/-- The layer at row `r`, column `d`. -/
def layer (r : Fin 8192) (d : Fin 2048) : EReal :=
  norm (residual (fun k => x (ix2 r k)) (chunk md 5 (by decide) r) (fun e => ∑ f, share (rowOf x md r) wg wu wd e f))
    (fun k => lg (ix1 k)) (fun k => lb (ix1 k)) d

end Cert.Ffn

end
-- ==== Proof.Ffn.Blocks.lean ====
/-
  The blocks of a point, read at an index from the memory as launched, over the extended reals.
-/
module

public import proofs.«01_k».proof.Proof.Ffn.Spec
public import proofs.«01_k».proof.Proof.Gen.Kernel2Ideal
public import proofs.«01_k».proof.Proof.Gen.Kernel2Ideal.Value
public import Idealize.ShloMosaic.Lib.Pipeline.Value

@[expose] public section

set_option maxRecDepth 16384

noncomputable section

namespace Cert.Kernel2Ideal.Ffn

open Idealize.ShloMosaic Idealize.ShloMosaic.TcCoe Idealize.ShloMosaic.Tactic Idealize.SL.Sem
open Idealize.ShloMosaic.ValueIdx Cert.Kernel2Ideal Cert.Kernel2Ideal.Gen

variable (m : (ℓ : Loc nD τ sig) → Buf (Elt Ideal) ℓ) (c : Dev nD)

/-- The arguments as launched. -/
abbrev xA : S8192x2048.Idx → EReal := m ((c : Thread nD τ).loc main_arg0)
abbrev mdA : S2x12288.Idx → EReal := m ((c : Thread nD τ).loc main_arg1)
abbrev wgA : S2048x5632.Idx → EReal := m ((c : Thread nD τ).loc main_arg2)
abbrev wuA : S2048x5632.Idx → EReal := m ((c : Thread nD τ).loc main_arg3)
abbrev wdA : S5632x2048.Idx → EReal := m ((c : Thread nD τ).loc main_arg4)
abbrev lgA : S2048.Idx → EReal := m ((c : Thread nD τ).loc main_arg5)
abbrev lbA : S2048.Idx → EReal := m ((c : Thread nD τ).loc main_arg6)

/-! ## What the call finds in its operands -/

theorem in_mod : (V m c main_v0 : S2x1x12288.Idx → EReal) = broadcastInDim S2x1x12288 ![0, 2] bcast_S2x12288_S2x1x12288_0_2 (mdA m c) := by
  unfold V; after_results; try rfl

theorem in_wg : (V m c main_v1 : S2048x5632.Idx → EReal) = wgA m c := by
  unfold V; after_results; try rfl

theorem in_wu : (V m c main_v2 : S2048x5632.Idx → EReal) = wuA m c := by
  unfold V; after_results; try rfl

theorem in_wd : (V m c main_v3 : S5632x2048.Idx → EReal) = wdA m c := by
  unfold V; after_results; try rfl

theorem in_lg : (V m c main_v4 : S1x2048.Idx → EReal) = broadcastInDim S1x2048 ![1] bcast_S2048_S1x2048_1 (lgA m c) := by
  unfold V; after_results; try rfl

theorem in_lb : (V m c main_v5 : S1x2048.Idx → EReal) = broadcastInDim S1x2048 ![1] bcast_S2048_S1x2048_1 (lbA m c) := by
  unfold V; after_results; try rfl

theorem mod_at (s : Fin 2) (k : Fin 12288) : (V m c main_v0 : S2x1x12288.Idx → EReal) (ix3 s 0 k) = mdA m c (ix2 s k) := by
  rw [in_mod]
  exact broadcastInDim_apply _ _ _ _ (ix2 s k) fun a => match a with
    | ⟨0, _⟩ => rfl
    | ⟨1, _⟩ => rfl

theorem lg_at (k : Fin 2048) : (V m c main_v4 : S1x2048.Idx → EReal) (ix2 0 k) = lgA m c (ix1 k) := by
  rw [in_lg]
  exact broadcastInDim_apply _ _ _ _ (ix1 k) fun a => match a with
    | ⟨0, _⟩ => rfl

theorem lb_at (k : Fin 2048) : (V m c main_v5 : S1x2048.Idx → EReal) (ix2 0 k) = lbA m c (ix1 k) := by
  rw [in_lb]
  exact broadcastInDim_apply _ _ _ _ (ix1 k) fun a => match a with
    | ⟨0, _⟩ => rfl

/-! ## The index maps at a point -/

theorem index0 : ∀ t : Fin cfg0.N, win0_0.index t = ![t.val / 11, 0] := (by decide +kernel : ∀ t : Fin grid0.N, _)
theorem index1 : ∀ t : Fin cfg0.N, win0_1.index t = ![t.val / 88, 0, 4] := (by decide +kernel : ∀ t : Fin grid0.N, _)
theorem index2 : ∀ t : Fin cfg0.N, win0_2.index t = ![t.val / 88, 0, 3] := (by decide +kernel : ∀ t : Fin grid0.N, _)
theorem index3 : ∀ t : Fin cfg0.N, win0_3.index t = ![t.val / 88, 0, 5] := (by decide +kernel : ∀ t : Fin grid0.N, _)
theorem index4 : ∀ t : Fin cfg0.N, win0_4.index t = ![0, t.val % 11] := (by decide +kernel : ∀ t : Fin grid0.N, _)
theorem index5 : ∀ t : Fin cfg0.N, win0_5.index t = ![0, t.val % 11] := (by decide +kernel : ∀ t : Fin grid0.N, _)
theorem index6 : ∀ t : Fin cfg0.N, win0_6.index t = ![t.val % 11, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)

/-! ## The blocks -/

/-- Row `r` of row block `i`, column `q` of column block `b`. -/
def row (i : Fin 16) (r : Fin 512) : Fin 8192 := ⟨i.val * 512 + r.val, by have := i.isLt; have := r.isLt; omega⟩
def column (b : Fin 11) (q : Fin 512) : Fin 5632 := ⟨b.val * 512 + q.val, by have := b.isLt; have := q.isLt; omega⟩

variable (t : Fin cfg0.N) (i : Fin 16) (hi : t.val / 11 = i.val) (b : Fin 11) (hb : t.val % 11 = b.val)

include hi in
theorem blk0_at (r : Fin 512) (k : Fin 2048) : (iblk m c 0 t (ix2 (n0 := 512) (n1 := 2048) r k) : EReal) = xA m c (ix2 (row i r) k) := by
  show (V m c main_arg0 : S8192x2048.Idx → EReal) ((win0_0.rect t).emb _) = _
  rw [V_main_arg0]
  refine congrArg (xA m c) (funext fun a => Fin.ext ?_)
  refine (Pipeline.Window.rect_emb_val win0_0 t _ a rfl).trans ?_
  rw [index0 t, hi]
  match a with
  | ⟨0, _⟩ => rfl
  | ⟨1, _⟩ => show 0 * 2048 + k.val = k.val; omega

include hi in
theorem blk1_at (r : Fin 512) (k : Fin 2048) : (iblk m c 1 t (ix3 (n0 := 1) (n1 := 1) (n2 := 2048) 0 0 k) : EReal) = Cert.Ffn.chunk (mdA m c) 4 (by decide) (row i r) k := by
  have := r.isLt
  unfold Cert.Ffn.chunk
  rw [← mod_at m c]
  show (V m c main_v0 : S2x1x12288.Idx → EReal) ((win0_1.rect t).emb _) = _
  refine congrArg (V m c main_v0 : S2x1x12288.Idx → EReal) (funext fun a => Fin.ext ?_)
  refine (Pipeline.Window.rect_emb_val win0_1 t _ a rfl).trans ?_
  rw [index1 t]
  match a with
  | ⟨0, _⟩ => show t.val / 88 * 1 + 0 = (i.val * 512 + r.val) / 4096; omega
  | ⟨1, _⟩ => rfl
  | ⟨2, _⟩ => rfl

include hi in
theorem blk2_at (r : Fin 512) (k : Fin 2048) : (iblk m c 2 t (ix3 (n0 := 1) (n1 := 1) (n2 := 2048) 0 0 k) : EReal) = Cert.Ffn.chunk (mdA m c) 3 (by decide) (row i r) k := by
  have := r.isLt
  unfold Cert.Ffn.chunk
  rw [← mod_at m c]
  show (V m c main_v0 : S2x1x12288.Idx → EReal) ((win0_2.rect t).emb _) = _
  refine congrArg (V m c main_v0 : S2x1x12288.Idx → EReal) (funext fun a => Fin.ext ?_)
  refine (Pipeline.Window.rect_emb_val win0_2 t _ a rfl).trans ?_
  rw [index2 t]
  match a with
  | ⟨0, _⟩ => show t.val / 88 * 1 + 0 = (i.val * 512 + r.val) / 4096; omega
  | ⟨1, _⟩ => rfl
  | ⟨2, _⟩ => rfl

include hi in
theorem blk3_at (r : Fin 512) (k : Fin 2048) : (iblk m c 3 t (ix3 (n0 := 1) (n1 := 1) (n2 := 2048) 0 0 k) : EReal) = Cert.Ffn.chunk (mdA m c) 5 (by decide) (row i r) k := by
  have := r.isLt
  unfold Cert.Ffn.chunk
  rw [← mod_at m c]
  show (V m c main_v0 : S2x1x12288.Idx → EReal) ((win0_3.rect t).emb _) = _
  refine congrArg (V m c main_v0 : S2x1x12288.Idx → EReal) (funext fun a => Fin.ext ?_)
  refine (Pipeline.Window.rect_emb_val win0_3 t _ a rfl).trans ?_
  rw [index3 t]
  match a with
  | ⟨0, _⟩ => show t.val / 88 * 1 + 0 = (i.val * 512 + r.val) / 4096; omega
  | ⟨1, _⟩ => rfl
  | ⟨2, _⟩ => rfl

include hb in
theorem blk4_at (k : Fin 2048) (q : Fin 512) : (iblk m c 4 t (ix2 (n0 := 2048) (n1 := 512) k q) : EReal) = wgA m c (ix2 k (column b q)) := by
  show (V m c main_v1 : S2048x5632.Idx → EReal) ((win0_4.rect t).emb _) = _
  rw [in_wg]
  refine congrArg (wgA m c) (funext fun a => Fin.ext ?_)
  refine (Pipeline.Window.rect_emb_val win0_4 t _ a rfl).trans ?_
  rw [index4 t, hb]
  match a with
  | ⟨0, _⟩ => show 0 * 2048 + k.val = k.val; omega
  | ⟨1, _⟩ => rfl

include hb in
theorem blk5_at (k : Fin 2048) (q : Fin 512) : (iblk m c 5 t (ix2 (n0 := 2048) (n1 := 512) k q) : EReal) = wuA m c (ix2 k (column b q)) := by
  show (V m c main_v2 : S2048x5632.Idx → EReal) ((win0_5.rect t).emb _) = _
  rw [in_wu]
  refine congrArg (wuA m c) (funext fun a => Fin.ext ?_)
  refine (Pipeline.Window.rect_emb_val win0_5 t _ a rfl).trans ?_
  rw [index5 t, hb]
  match a with
  | ⟨0, _⟩ => show 0 * 2048 + k.val = k.val; omega
  | ⟨1, _⟩ => rfl

include hb in
theorem blk6_at (q : Fin 512) (d : Fin 2048) : (iblk m c 6 t (ix2 (n0 := 512) (n1 := 2048) q d) : EReal) = wdA m c (ix2 (column b q) d) := by
  show (V m c main_v3 : S5632x2048.Idx → EReal) ((win0_6.rect t).emb _) = _
  rw [in_wd]
  refine congrArg (wdA m c) (funext fun a => Fin.ext ?_)
  refine (Pipeline.Window.rect_emb_val win0_6 t _ a rfl).trans ?_
  rw [index6 t, hb]
  match a with
  | ⟨0, _⟩ => rfl
  | ⟨1, _⟩ => show 0 * 2048 + d.val = d.val; omega

theorem blk7_at (k : Fin 2048) : (iblk m c 7 t (ix2 (n0 := 1) (n1 := 2048) 0 k) : EReal) = lgA m c (ix1 k) := by
  rw [← lg_at m c]
  show (V m c main_v4 : S1x2048.Idx → EReal) ((win0_7.rect t).emb _) = _
  refine congrArg (V m c main_v4 : S1x2048.Idx → EReal) (funext fun a => Fin.ext ?_)
  refine (Pipeline.Window.rect_emb_val win0_7 t _ a rfl).trans ?_
  rw [index7 t]
  match a with
  | ⟨0, _⟩ => rfl
  | ⟨1, _⟩ => show 0 * 2048 + k.val = k.val; omega

theorem blk8_at (k : Fin 2048) : (iblk m c 8 t (ix2 (n0 := 1) (n1 := 2048) 0 k) : EReal) = lbA m c (ix1 k) := by
  rw [← lb_at m c]
  show (V m c main_v5 : S1x2048.Idx → EReal) ((win0_8.rect t).emb _) = _
  refine congrArg (V m c main_v5 : S1x2048.Idx → EReal) (funext fun a => Fin.ext ?_)
  refine (Pipeline.Window.rect_emb_val win0_8 t _ a rfl).trans ?_
  rw [index8 t]
  match a with
  | ⟨0, _⟩ => rfl
  | ⟨1, _⟩ => show 0 * 2048 + k.val = k.val; omega

end Cert.Kernel2Ideal.Ffn

end
-- ==== Proof.Ffn.Points.lean ====
/-
  What the dense feed-forward call holds after each point of its grid: the modulated rows, the running product, and at
  the last point of a row block the normalised output.
-/
module

public import proofs.«01_k».proof.Proof.Gen.Kernel2Ideal.Value
public import Idealize.ShloMosaic.Lib.Tactic

@[expose] public section

set_option maxRecDepth 8192

noncomputable section

namespace Cert.Kernel2Ideal.Ffn

open Cert.Kernel2Ideal Cert.Kernel2Ideal.Gen Idealize.ShloMosaic Idealize.ShloMosaic.TcCoe

variable {F : FTy → Type} [FloatOps F]
variable (m : (ℓ : Loc nD τ sig) → Buf (Elt F) ℓ) (c : Dev nD)

theorem zero2 : (![0, 0] : Fin 2 → Nat) = fun _ => 0 := funext fun a => by fin_cases a <;> rfl
theorem zero3 : (![0, 0, 0] : Fin 3 → Nat) = fun _ => 0 := funext fun a => by fin_cases a <;> rfl

/-- The modulated rows after the first point of a row block. -/
theorem rows_first (t : Fin cfg0.N) (h0 : t.val % 11 = 0) :
    (outsAt0 m c t.val t.isLt).2.1 = k0_pay1 (iblk m c 0 t) (iblk m c 1 t) (iblk m c 2 t) := by
  rw [outsAt0_A m c t h0 (by omega)]
  dsimp only
  unfold sout0_A_0
  rw [View.read_writes_eq_canon _ _ _ (scover0_A_0 _ _ _ _ _ _ _ _ _ _ _ _ _ _ _ _ _ _ _ _ _ _ _ _ _ _ _ _ _ _ _ _ _ _ _ _ _)]
  unfold kernelRun0_A
  dsimp only
  sl_unfold_words
  rw [View.canon_unit_zero zero2]
  simp only [View.readAt_eq_ld, (hs0_0 t).read_unread, (hs0_1 t).read_unread, (hs0_2 t).read_unread, View.ld_unit_zero (S := S512x2048) zero2, View.ld_unit_zero (S := S1x1x2048) zero3]

/-- The running product after the first point. -/
theorem acc_first (t : Fin cfg0.N) (h0 : t.val % 11 = 0) :
    (outsAt0 m c t.val t.isLt).2.2 = k0_pay3 (k0_pay1 (iblk m c 0 t) (iblk m c 1 t) (iblk m c 2 t)) (iblk m c 4 t) (iblk m c 5 t) k0_pay2 (iblk m c 6 t) := by
  rw [outsAt0_A m c t h0 (by omega)]
  dsimp only
  unfold sout0_A_1
  rw [View.read_writes_eq_canon _ _ _ (scover0_A_1 _ _ _ _ _ _ _ _ _ _ _ _ _ _ _ _ _ _ _ _ _ _ _ _ _ _ _ _ _ _ _ _ _ _ _ _ _)]
  unfold kernelRun0_A
  dsimp only
  sl_unfold_words
  rw [View.canon_cons_unit_zero (S := S512x2048) zero2, View.readCov_unit_zero (S := S512x2048) _ zero2, View.readCov_unit_zero (S := S512x2048) _ zero2]
  simp only [View.readAt_eq_ld, (hs0_0 t).read_unread, (hs0_1 t).read_unread, (hs0_2 t).read_unread, (hs0_4 t).read_unread, (hs0_5 t).read_unread, (hs0_6 t).read_unread, View.ld_unit_zero (S := S512x2048) zero2, View.ld_unit_zero (S := S2048x512) zero2, View.ld_unit_zero (S := S1x1x2048) zero3]

/-- The modulated rows stay as the point before left them. -/
theorem rows_next (n : ℕ) (h : n + 1 < cfg0.N) (h0 : ¬(n + 1) % 11 = 0) :
    (outsAt0 m c (n + 1) h).2.1 = (outsAt0 m c n (Nat.lt_of_succ_lt h)).2.1 := by
  by_cases h1 : (n + 1) % 11 = 10
  · rw [outsAt0_C m c ⟨n + 1, h⟩ h0 h1]
    rfl
  · rw [outsAt0_B m c ⟨n + 1, h⟩ h0 h1]
    rfl

/-- The running product over what the point before left. -/
theorem acc_next (n : ℕ) (h : n + 1 < cfg0.N) (h0 : ¬(n + 1) % 11 = 0) :
    (outsAt0 m c (n + 1) h).2.2 = k0_pay3 (outsAt0 m c n (Nat.lt_of_succ_lt h)).2.1 (iblk m c 4 ⟨n + 1, h⟩) (iblk m c 5 ⟨n + 1, h⟩) (outsAt0 m c n (Nat.lt_of_succ_lt h)).2.2 (iblk m c 6 ⟨n + 1, h⟩) := by
  by_cases h1 : (n + 1) % 11 = 10
  · rw [outsAt0_C m c ⟨n + 1, h⟩ h0 h1]
    dsimp only
    unfold sout0_C_1
    rw [View.read_writes_eq_canon _ _ _ (scover0_C_1 _ _ _ _ _ _ _ _ _ _ _ _ _ _ _ _ _ _ _ _ _ _ _ _ _ _ _ _ _ _ _ _ _ _ _ _ _ _ _)]
    unfold kernelRun0_C
    dsimp only
    sl_unfold_words
    rw [View.canon_unit_zero zero2]
    simp only [View.readAt_eq_ld, (hs0_4 _).read_unread, (hs0_5 _).read_unread, (hs0_6 _).read_unread, (Memref.isWhole_whole _).read_unread, View.ld_unit_zero (S := S512x2048) zero2, View.ld_unit_zero (S := S2048x512) zero2]
    rfl
  · rw [outsAt0_B m c ⟨n + 1, h⟩ h0 h1]
    dsimp only
    unfold sout0_B_1
    rw [View.read_writes_eq_canon _ _ _ (scover0_B_1 _ _ _ _ _ _ _ _ _ _ _ _ _ _ _ _ _ _ _ _ _ _ _ _ _ _ _ _ _ _ _ _ _ _ _ _ _ _ _)]
    unfold kernelRun0_B
    dsimp only
    sl_unfold_words
    rw [View.canon_unit_zero zero2]
    simp only [View.readAt_eq_ld, (hs0_4 _).read_unread, (hs0_5 _).read_unread, (hs0_6 _).read_unread, (Memref.isWhole_whole _).read_unread, View.ld_unit_zero (S := S512x2048) zero2, View.ld_unit_zero (S := S2048x512) zero2]
    rfl

/-- The output block at the last point of a row block. -/
theorem out_last (t : Fin cfg0.N) (h1 : t.val % 11 = 10) :
    (outsAt0 m c t.val t.isLt).1 = k0_pay4 (iblk m c 0 t) (iblk m c 3 t) (outsAt0 m c t.val t.isLt).2.2 (iblk m c 7 t) (iblk m c 8 t) := by
  rw [outsAt0_C m c t (by omega) h1]
  dsimp only
  unfold out0_C_9 sout0_C_1
  rw [View.read_writes_eq_canon _ _ _ (cover0_C_9 _ _ _ _ _ _ _ _ _ _ _ _ _ _ _ _ _ _ _ _ _ _ _ _ _ _ _ _ _ _ _ _ _ _ _ _ _ _ _),
    View.read_writes_eq_canon _ _ _ (scover0_C_1 _ _ _ _ _ _ _ _ _ _ _ _ _ _ _ _ _ _ _ _ _ _ _ _ _ _ _ _ _ _ _ _ _ _ _ _ _ _ _)]
  unfold kernelRun0_C
  dsimp only
  sl_unfold_words
  rw [View.canon_unit_zero zero2, View.canon_unit_zero zero2, View.readCov_unit_zero (S := S512x2048) _ zero2]
  simp only [View.readAt_eq_ld, (hs0_0 t).read_unread, (hs0_3 t).read_unread, (hs0_4 t).read_unread, (hs0_5 t).read_unread, (hs0_6 t).read_unread, (hs0_7 t).read_unread, (hs0_8 t).read_unread, (Memref.isWhole_whole _).read_unread, View.ld_unit_zero (S := S512x2048) zero2, View.ld_unit_zero (S := S2048x512) zero2, View.ld_unit_zero (S := S1x2048) zero2, View.ld_unit_zero (S := S1x1x2048) zero3]

end Cert.Kernel2Ideal.Ffn

end
-- ==== Proof.Ffn.Payload.lean ====
/-
  What a point computes from its blocks, read at an index over the extended reals.
-/
module

public import proofs.«01_k».proof.Proof.Ffn.Points
public import proofs.«01_k».proof.Proof.Ffn.Spec
public import Idealize.ShloMosaic.Lib.MatmulPlain
public import Idealize.ShloMosaic.Lib.Pipeline.Value
public import Idealize.ShloMosaic.Lib.ValueLayout
public import Idealize.ShloMosaic.Lib.ValueLayoutCasts

@[expose] public section

set_option maxRecDepth 8192

noncomputable section

namespace Cert.Kernel2Ideal.Ffn

open Idealize.ShloMosaic
open Idealize.ShloMosaic.ValueIdx Cert.Kernel2Ideal Cert.Kernel2Ideal.Gen
open scoped BigOperators

/-! ## Rows spread over a block -/

theorem chunk_at (v : FVec Ideal S1x1x2048 .f32) (k : Fin 2048) : (shapeCast S1x2048 v shapeCasts_S1x1x2048_S1x2048 : FVec Ideal S1x2048 .f32) (ix2 0 k) = v (ix3 0 0 k) := by
  refine shapeCast_apply v shapeCasts_S1x1x2048_S1x2048 (ix2 0 k) (ix3 0 0 k) ?_
  rw [Shape.rowMajor_val_two, Shape.rowMajor_val_three]
  show (0 * 1 + 0) * 2048 + k.val = 0 * 2048 + k.val
  omega

theorem spread_at (v : FVec Ideal S1x2048 .f32) (r : Fin 512) (k : Fin 2048) :
    (broadcastTo S512x2048 v broadcasts_S1x2048_S512x2048 : FVec Ideal S512x2048 .f32) (ix2 r k) = v (ix2 0 k) :=
  broadcastTo_1b_ab_apply v broadcasts_S1x2048_S512x2048 r k

theorem spreadCol_at (v : FVec Ideal S512x1 .f32) (r : Fin 512) (k : Fin 2048) :
    (broadcastTo S512x2048 v broadcasts_S512x1_S512x2048 : FVec Ideal S512x2048 .f32) (ix2 r k) = v (ix2 r 0) := by
  refine broadcastTo_apply v broadcasts_S512x1_S512x2048 (ix2 r k) (ix2 r 0) fun ax => ?_
  match ax with
  | ⟨0, _⟩ => rfl
  | ⟨1, _⟩ => rfl

/-! ## The modulated rows -/

theorem rows_at (x : FVec Ideal S512x2048 .f32) (sc sh : FVec Ideal S1x1x2048 .f32) (r : Fin 512) (k : Fin 2048) :
    (k0_pay1 (F := Ideal) x sc sh (ix2 r k) : EReal)
      = Cert.Ffn.modulated (fun k => x (ix2 r k)) (fun k => sc (ix3 0 0 k)) (fun k => sh (ix3 0 0 k)) k := by
  unfold k0_pay1
  rw [shapeCast_self]
  show (x (ix2 r k) : EReal) * (broadcastTo S512x2048 _ broadcasts_S1x2048_S512x2048 : FVec Ideal S512x2048 .f32) (ix2 r k)
    + (broadcastTo S512x2048 _ broadcasts_S1x2048_S512x2048 : FVec Ideal S512x2048 .f32) (ix2 r k) = _
  rw [spread_at, spread_at, chunk_at]
  show (x (ix2 r k) : EReal) * (Cert.Ffn.one + (shapeCast S1x2048 sc shapeCasts_S1x1x2048_S1x2048 : FVec Ideal S1x2048 .f32) (ix2 0 k)) + _ = _
  rw [chunk_at]
  rfl

/-! ## A block of hidden columns -/

abbrev prod (X : FVec Ideal S512x2048 .bf16) (G : FVec Ideal S2048x512 .bf16) : FVec Ideal S512x512 .f32 :=
  matmul dot_S512x2048_S2048x512_S512x512_1_0_0_1_n_n none X G (constant S512x512 .f32 0x00000000#32)

theorem prod_at (X : FVec Ideal S512x2048 .bf16) (G : FVec Ideal S2048x512 .bf16) (r q : Fin 512) :
    prod X G (ix2 r q) = ∑ k : Fin 2048, X (ix2 r k) * G (ix2 k q) := by
  refine (Ideal.matmul_plain_apply (M := 512) (K := 2048) (N := 512) none X G _ r q).trans ?_
  show Ideal.ofBits .f32 0x00000000#32 + _ = _
  rw [Ideal.ofBits_zero_f32]
  exact zero_add _

/-- The activations of a block. -/
def act (X : FVec Ideal S512x2048 .bf16) (G U : FVec Ideal S2048x512 .bf16) : FVec Ideal S512x512 .bf16 :=
  truncf .bf16 (mulf (mulf (prod X G) (divf (broadcast S512x512 (Scalar.ofBits (F := Ideal) .f32 0x3F800000#32))
    (addf (broadcast S512x512 (Scalar.ofBits (F := Ideal) .f32 0x3F800000#32)) (exp (subf (broadcast S512x512 (Scalar.ofBits (F := Ideal) .f32 0x00000000#32)) (prod X G)))))) (prod X U)) bitsLt_bf16_f32

theorem act_at (X : FVec Ideal S512x2048 .bf16) (G U : FVec Ideal S2048x512 .bf16) (r q : Fin 512) :
    act X G U (ix2 r q) = Cert.Moe.hidden (fun k => X (ix2 r k)) (fun k => G (ix2 k q)) (fun k => U (ix2 k q)) := by
  unfold Cert.Moe.hidden Cert.Moe.gate
  rw [← prod_at X G, ← prod_at X U]
  show prod X G (ix2 r q) * Ideal.div (Ideal.ofBits .f32 0x3F800000#32) (Ideal.ofBits .f32 0x3F800000#32
    + Ideal.exp (Ideal.ofBits .f32 0x00000000#32 - prod X G (ix2 r q))) * prod X U (ix2 r q) = _
  rw [Ideal.ofBits_zero_f32, zero_sub]

theorem zeros_at (r : Fin 512) (d : Fin 2048) : (k0_pay2 (F := Ideal) (ix2 r d) : EReal) = 0 := by
  unfold k0_pay2
  rw [shapeCast_self]
  exact Ideal.ofBits_zero_f32

theorem step_at (X : FVec Ideal S512x2048 .bf16) (G U : FVec Ideal S2048x512 .bf16) (y : FVec Ideal S512x2048 .f32) (D : FVec Ideal S512x2048 .bf16)
    (r : Fin 512) (d : Fin 2048) :
    (k0_pay3 (F := Ideal) X G U y D (ix2 r d) : EReal)
      = y (ix2 r d) + ∑ q : Fin 512, Cert.Moe.hidden (fun k => X (ix2 r k)) (fun k => G (ix2 k q)) (fun k => U (ix2 k q)) * D (ix2 q d) := by
  unfold k0_pay3
  simp only [shapeCast_self]
  show (y (ix2 r d) : EReal)
    + matmul (F := Ideal) dot_S512x512_S512x2048_S512x2048_1_0_0_1_n_n none (act X G U) D (constant S512x2048 .f32 0x00000000#32) (ix2 r d) = _
  refine congrArg ((y (ix2 r d) : EReal) + ·) ?_
  refine (Ideal.matmul_plain_apply (M := 512) (K := 512) (N := 2048) none (act X G U) D _ r d).trans ?_
  show Ideal.ofBits .f32 0x00000000#32 + _ = _
  rw [Ideal.ofBits_zero_f32]
  refine (zero_add _).trans (Finset.sum_congr rfl fun q _ => ?_)
  rw [act_at]

/-! ## The last point -/

/-- The mean of each row, as a column. -/
abbrev means (y : FVec Ideal S512x2048 .f32) : FVec Ideal S512x1 .f32 :=
  divf (shapeCast S512x1 (multiReduction .add [1] S512 y 0x00000000#32 reduces_S512x2048_S512 (.inl rfl) rfl : FVec Ideal S512 .f32) shapeCasts_S512_S512x1)
    (broadcast S512x1 (Scalar.ofBits (F := Ideal) .f32 0x45000000#32))

theorem means_at (y : FVec Ideal S512x2048 .f32) (r : Fin 512) : (means y (ix2 r 0) : EReal) = Cert.Ffn.mean (fun k => y (ix2 r k)) := by
  show Ideal.div ((shapeCast S512x1 (multiReduction .add [1] S512 y 0x00000000#32 reduces_S512x2048_S512 (.inl rfl) rfl : FVec Ideal S512 .f32) shapeCasts_S512_S512x1 : FVec Ideal S512x1 .f32) (ix2 r 0)) (Ideal.ofBits .f32 0x45000000#32) = _
  unfold Cert.Ffn.mean
  refine congrArg (Ideal.div · _) ?_
  refine (shapeCast_a_a1_apply _ shapeCasts_S512_S512x1 r 0).trans ?_
  refine (Ideal.multiReduction_add_single y _ reduces_S512x2048_S512 (.inl rfl) rfl (ix1 r)).trans ?_
  refine Finset.sum_congr rfl fun k _ => congrArg y ?_
  funext a
  match a with
  | ⟨0, _⟩ => rfl
  | ⟨1, _⟩ => rfl

/-- The rows before their normalization. -/
abbrev resid (x : FVec Ideal S512x2048 .f32) (g : FVec Ideal S1x1x2048 .f32) (p : FVec Ideal S512x2048 .f32) : FVec Ideal S512x2048 .f32 :=
  addf (mulf (broadcast S512x2048 (Scalar.ofBits (F := Ideal) .f32 0x3FB504F3#32)) x)
    (mulf (broadcastTo S512x2048 (addf (broadcast S1x2048 (Scalar.ofBits (F := Ideal) .f32 0x3F800000#32)) (shapeCast S1x2048 g shapeCasts_S1x1x2048_S1x2048)) broadcasts_S1x2048_S512x2048) p)

theorem resid_at (x : FVec Ideal S512x2048 .f32) (g : FVec Ideal S1x1x2048 .f32) (p : FVec Ideal S512x2048 .f32) (r : Fin 512) (d : Fin 2048) :
    (resid x g p (ix2 r d) : EReal) = Cert.Ffn.residual (fun k => x (ix2 r k)) (fun k => g (ix3 0 0 k)) (fun k => p (ix2 r k)) d := by
  show (Ideal.ofBits .f32 0x3FB504F3#32 * x (ix2 r d) + (broadcastTo S512x2048 _ broadcasts_S1x2048_S512x2048 : FVec Ideal S512x2048 .f32) (ix2 r d) * p (ix2 r d) : EReal) = _
  rw [spread_at]
  show (Ideal.ofBits .f32 0x3FB504F3#32 * x (ix2 r d) + (Cert.Ffn.one + (shapeCast S1x2048 g shapeCasts_S1x1x2048_S1x2048 : FVec Ideal S1x2048 .f32) (ix2 0 d)) * p (ix2 r d) : EReal) = _
  rw [chunk_at]
  rfl

/-- The rows less their means. -/
abbrev centred (y : FVec Ideal S512x2048 .f32) : FVec Ideal S512x2048 .f32 :=
  subf y (broadcastTo S512x2048 (means y) broadcasts_S512x1_S512x2048)

theorem centred_at (y : FVec Ideal S512x2048 .f32) (r : Fin 512) (d : Fin 2048) :
    (centred y (ix2 r d) : EReal) = y (ix2 r d) - Cert.Ffn.mean (fun k => y (ix2 r k)) := by
  show (y (ix2 r d) - (broadcastTo S512x2048 (means y) broadcasts_S512x1_S512x2048 : FVec Ideal S512x2048 .f32) (ix2 r d) : EReal) = _
  rw [spreadCol_at, means_at]

theorem out_at (x : FVec Ideal S512x2048 .f32) (g : FVec Ideal S1x1x2048 .f32) (p : FVec Ideal S512x2048 .f32) (lg lb : FVec Ideal S1x2048 .f32)
    (r : Fin 512) (d : Fin 2048) :
    (k0_pay4 (F := Ideal) x g p lg lb (ix2 r d) : EReal)
      = Cert.Ffn.norm (Cert.Ffn.residual (fun k => x (ix2 r k)) (fun k => g (ix3 0 0 k)) (fun k => p (ix2 r k)))
          (fun k => lg (ix2 0 k)) (fun k => lb (ix2 0 k)) d := by
  have ey : (fun k => (resid x g p (ix2 r k) : EReal)) = Cert.Ffn.residual (fun k => x (ix2 r k)) (fun k => g (ix3 0 0 k)) (fun k => p (ix2 r k)) :=
    funext fun k => resid_at x g p r k
  have ec : ∀ k, (centred (resid x g p) (ix2 r k) : EReal) = Cert.Ffn.residual (fun k => x (ix2 r k)) (fun k => g (ix3 0 0 k)) (fun k => p (ix2 r k)) k
      - Cert.Ffn.mean (Cert.Ffn.residual (fun k => x (ix2 r k)) (fun k => g (ix3 0 0 k)) (fun k => p (ix2 r k))) := fun k => by
    rw [centred_at, ey, resid_at]
  unfold k0_pay4
  dsimp only
  simp only [shapeCast_self]
  show (centred (resid x g p) (ix2 r d)
      * (broadcastTo S512x2048 (rsqrt (addf (means (mulf (centred (resid x g p)) (centred (resid x g p)))) (broadcast S512x1 (Scalar.ofBits (F := Ideal) .f32 0x3727C5AC#32)))) broadcasts_S512x1_S512x2048 : FVec Ideal S512x2048 .f32) (ix2 r d)
      * (broadcastTo S512x2048 lg broadcasts_S1x2048_S512x2048 : FVec Ideal S512x2048 .f32) (ix2 r d)
      + (broadcastTo S512x2048 lb broadcasts_S1x2048_S512x2048 : FVec Ideal S512x2048 .f32) (ix2 r d) : EReal) = _
  rw [spread_at, spread_at, spreadCol_at, ec]
  show (_ * Ideal.rsqrt (means (mulf (centred (resid x g p)) (centred (resid x g p))) (ix2 r 0) + Ideal.ofBits .f32 0x3727C5AC#32) * _ + _ : EReal) = _
  rw [means_at]
  unfold Cert.Ffn.norm
  have ev : (fun k => (mulf (centred (resid x g p)) (centred (resid x g p)) : FVec Ideal S512x2048 .f32) (ix2 r k))
      = fun k => (centred (resid x g p) (ix2 r k) * centred (resid x g p) (ix2 r k) : EReal) := rfl
  rw [ev]
  simp only [ec]

end Cert.Kernel2Ideal.Ffn

end
-- ==== Proof.Ffn.Value.lean ====
/-
  What the call leaves in its result, read at an index over the extended reals, is the formula.
-/
module

public import proofs.«01_k».proof.Proof.Ffn.Blocks
public import proofs.«01_k».proof.Proof.Ffn.Payload
public import Idealize.ShloMosaic.Lib.Pipeline.ValueKit.Acc

@[expose] public section

set_option maxRecDepth 16384

noncomputable section

namespace Cert.Kernel2Ideal.Ffn

open Idealize.ShloMosaic Idealize.ShloMosaic.TcCoe Idealize.SL.Sem
open Idealize.ShloMosaic.ValueIdx Cert.Kernel2Ideal Cert.Kernel2Ideal.Gen
open scoped BigOperators

variable (m : (ℓ : Loc nD τ sig) → Buf (Elt Ideal) ℓ) (c : Dev nD)

/-- Row `r` modulated, from the memory as launched, and what hidden column `f` adds to its column `d`. -/
abbrev hOf (r : Fin 8192) : Fin 2048 → EReal := Cert.Ffn.rowOf (xA m c) (mdA m c) r
abbrev shareOf (r : Fin 8192) (d : Fin 2048) (f : Fin 5632) : EReal := Cert.Ffn.share (hOf m c r) (wgA m c) (wuA m c) (wdA m c) d f

/-- What weight block `b` adds. -/
def part (r : Fin 8192) (d : Fin 2048) (b : ℕ) : EReal :=
  if hb : b < 11 then ∑ q : Fin 512, shareOf m c r d (column ⟨b, hb⟩ q) else 0

/-- The modulated rows of a block: at its first point, and at each later one. -/
theorem rows_block (i : Fin 16) (r : Fin 512) (k : Fin 2048) : ∀ (b : ℕ) (hb : b < 11) (n : ℕ) (hN : n < cfg0.N) (hnb : n = 11 * i.val + b),
    ((outsAt0 m c n hN).2.1 (ix2 r k) : EReal) = hOf m c (row i r) k
  | 0, hb, n, hN, hnb => by
    have hi : n / 11 = i.val := by omega
    rw [show (outsAt0 m c n hN).2.1 = _ from rows_first m c ⟨n, hN⟩ (show n % 11 = 0 by omega)]
    refine (rows_at _ _ _ r k).trans ?_
    unfold hOf Cert.Ffn.rowOf
    rw [show (fun k => (iblk m c 0 ⟨n, hN⟩ (ix2 (n0 := 512) (n1 := 2048) r k) : EReal)) = _ from funext fun k => blk0_at m c ⟨n, hN⟩ i hi r k,
      show (fun k => (iblk m c 1 ⟨n, hN⟩ (ix3 (n0 := 1) (n1 := 1) (n2 := 2048) 0 0 k) : EReal)) = _ from funext fun k => blk1_at m c ⟨n, hN⟩ i hi r k,
      show (fun k => (iblk m c 2 ⟨n, hN⟩ (ix3 (n0 := 1) (n1 := 1) (n2 := 2048) 0 0 k) : EReal)) = _ from funext fun k => blk2_at m c ⟨n, hN⟩ i hi r k]
  | b + 1, hb, n, hN, hnb => by
    obtain ⟨n', rfl⟩ : ∃ n', n = n' + 1 := ⟨n - 1, by omega⟩
    rw [rows_next m c n' hN (by omega)]
    exact rows_block i r k b (by omega) n' (Nat.lt_of_succ_lt hN) (by omega)

/-- What one point's weight blocks add, over the modulated rows. -/
theorem sum_block (i : Fin 16) (b : ℕ) (hb : b < 11) (t : Fin cfg0.N) (ht : t.val = 11 * i.val + b) (X : FVec Ideal S512x2048 .bf16) (r : Fin 512) (d : Fin 2048)
    (hX : ∀ k, (X (ix2 r k) : EReal) = hOf m c (row i r) k) :
    (∑ q : Fin 512, Cert.Moe.hidden (fun k => X (ix2 r k)) (fun k => (iblk m c 4 t (ix2 (n0 := 2048) (n1 := 512) k q) : EReal))
      (fun k => (iblk m c 5 t (ix2 (n0 := 2048) (n1 := 512) k q) : EReal)) * (iblk m c 6 t (ix2 (n0 := 512) (n1 := 2048) q d) : EReal)) = part m c (row i r) d b := by
  have hr : t.val % 11 = b := by omega
  unfold part
  rw [dif_pos hb]
  refine Finset.sum_congr rfl fun q _ => ?_
  unfold shareOf Cert.Ffn.share
  rw [show (fun k => (X (ix2 r k) : EReal)) = _ from funext hX, blk6_at m c t ⟨b, hb⟩ hr q d,
    show (fun k => (iblk m c 4 t (ix2 (n0 := 2048) (n1 := 512) k q) : EReal)) = _ from funext fun k => blk4_at m c t ⟨b, hb⟩ hr k q,
    show (fun k => (iblk m c 5 t (ix2 (n0 := 2048) (n1 := 512) k q) : EReal)) = _ from funext fun k => blk5_at m c t ⟨b, hb⟩ hr k q]

/-- The running product after point `b` of a row block: the sum over the weight blocks so far. -/
theorem acc_block (i : Fin 16) (r : Fin 512) (d : Fin 2048) : ∀ (b : ℕ) (hb : b < 11) (n : ℕ) (hN : n < cfg0.N) (hnb : n = 11 * i.val + b),
    ((outsAt0 m c n hN).2.2 (ix2 r d) : EReal) = ∑ b' ∈ Finset.range (b + 1), part m c (row i r) d b'
  | 0, hb, n, hN, hnb => by
    have h0 : n % 11 = 0 := by omega
    rw [show (outsAt0 m c n hN).2.2 = _ from acc_first m c ⟨n, hN⟩ h0]
    refine (step_at _ _ _ _ _ r d).trans ?_
    rw [zeros_at, Finset.sum_range_one]
    refine (zero_add _).trans (sum_block m c i 0 hb ⟨n, hN⟩ hnb _ r d fun k => ?_)
    rw [← show (outsAt0 m c n hN).2.1 = _ from rows_first m c ⟨n, hN⟩ h0]
    exact rows_block m c i r k 0 hb n hN hnb
  | b + 1, hb, n, hN, hnb => by
    obtain ⟨n', rfl⟩ : ∃ n', n = n' + 1 := ⟨n - 1, by omega⟩
    have ih := acc_block i r d b (by omega) n' (Nat.lt_of_succ_lt hN) (by omega)
    rw [acc_next m c n' hN (by omega)]
    refine (step_at _ _ _ _ _ r d).trans ?_
    rw [ih, Finset.sum_range_succ _ (b + 1)]
    exact congrArg (_ + ·) (sum_block m c i (b + 1) hb ⟨n' + 1, hN⟩ hnb _ r d fun k => rows_block m c i r k b (by omega) n' (Nat.lt_of_succ_lt hN) (by omega))

theorem parts_sum (r : Fin 8192) (d : Fin 2048) : ∑ b ∈ Finset.range 11, part m c r d b = ∑ f, shareOf m c r d f := by
  rw [← Fin.sum_mul_add_fin 11 512 (fun f => shareOf m c r d f), ← Fin.sum_univ_eq_sum_range]
  refine Finset.sum_congr rfl fun b _ => ?_
  unfold part
  rw [dif_pos b.isLt]
  rfl

/-- The layer at a row and column, from the memory as launched. -/
abbrev layerAt (r : Fin 8192) (d : Fin 2048) : EReal :=
  Cert.Ffn.layer (xA m c) (mdA m c) (wgA m c) (wuA m c) (wdA m c) (lgA m c) (lbA m c) r d

/-- The output block at the last point of a row block. -/
theorem last_at (i : Fin 16) (n : ℕ) (hN : n < cfg0.N) (hnb : n = 11 * i.val + 10) (r : Fin 512) (d : Fin 2048) :
    ((outsAt0 m c n hN).1 (ix2 r d) : EReal) = layerAt m c (row i r) d := by
  have hi : n / 11 = i.val := by omega
  rw [show (outsAt0 m c n hN).1 = _ from out_last m c ⟨n, hN⟩ (show n % 11 = 10 by omega)]
  refine (out_at _ _ _ _ _ r d).trans ?_
  unfold layerAt Cert.Ffn.layer
  rw [show (fun k => (iblk m c 0 ⟨n, hN⟩ (ix2 (n0 := 512) (n1 := 2048) r k) : EReal)) = _ from funext fun k => blk0_at m c ⟨n, hN⟩ i hi r k,
    show (fun k => (iblk m c 3 ⟨n, hN⟩ (ix3 (n0 := 1) (n1 := 1) (n2 := 2048) 0 0 k) : EReal)) = _ from funext fun k => blk3_at m c ⟨n, hN⟩ i hi r k,
    show (fun k => ((outsAt0 m c n hN).2.2 (ix2 r k) : EReal)) = _ from funext fun k => (acc_block m c i r k 10 (by decide) n hN hnb).trans (parts_sum m c (row i r) k),
    show (fun k => (iblk m c 7 ⟨n, hN⟩ (ix2 (n0 := 1) (n1 := 2048) 0 k) : EReal)) = _ from funext fun k => blk7_at m c ⟨n, hN⟩ k,
    show (fun k => (iblk m c 8 ⟨n, hN⟩ (ix2 (n0 := 1) (n1 := 2048) 0 k) : EReal)) = _ from funext fun k => blk8_at m c ⟨n, hN⟩ k]

/-- The layer from the memory as launched, as an array. -/
def layerOf : S8192x2048.Idx → EReal := fun x => layerAt m c (x 0) (x 1)

theorem loc_eq (x : S8192x2048.Idx) : Cert.Kernel2Ideal.Value.loc9Of x
    = ix2 (n0 := 512) (n1 := 2048) ⟨(x 0).val % 512, Nat.mod_lt _ (by decide)⟩ (x 1) := by
  have h1 : (x 1).val < 2048 := (x 1).isLt
  funext a
  match a with
  | ⟨0, _⟩ => rfl
  | ⟨1, _⟩ => exact Fin.ext (show (x 1).val % 2048 = (x 1).val from Nat.mod_eq_of_lt h1)

/-- The result array when the call ends. -/
theorem result_array : (Cert.Kernel2Ideal.Value.G9 m c : S8192x2048.Idx → EReal) = layerOf m c := by
  funext x
  have h0 : (x 0).val < 8192 := (x 0).isLt
  have h1 : (x 1).val < 2048 := (x 1).isLt
  have hp : Cert.Kernel2Ideal.Value.pt9Of x = 11 * ((x 0).val / 512) + 10 := by
    show 11 * (1 * ((x 0).val / 512 - 0) + 1 * ((x 1).val / 2048 - 0)) + 10 = _
    omega
  have hN : Cert.Kernel2Ideal.Value.pt9Of x < cfg0.N := lt_of_lt_of_eq (by omega) N_0.symm
  unfold Cert.Kernel2Ideal.Value.G9
  rw [dif_pos hN, ← Cert.Kernel2Ideal.Value.outsAt0_sweep m c _ hN, loc_eq]
  refine (last_at m c ⟨(x 0).val / 512, by omega⟩ _ hN hp _ _).trans ?_
  unfold layerOf
  refine congrArg (fun r => layerAt m c r (x 1)) (Fin.ext ?_)
  show (x 0).val / 512 * 512 + (x 0).val % 512 = (x 0).val
  omega

end Cert.Kernel2Ideal.Ffn

end
-- ==== Proof.Ffn.Ref.lean ====
/-
  The reference's result, read at an index, is the formula.
-/
module

public import proofs.«01_k».proof.Proof.Ffn.Spec
public import proofs.«01_k».proof.Proof.Gen.Reference2Ideal
public import proofs.«01_k».proof.Proof.Gen.Reference2Ideal.Run
public import Idealize.ShloMosaic.Lib.StackMember
public import Idealize.ShloMosaic.Lib.Pipeline.Value
public import Idealize.ShloMosaic.Lib.IdealHost

@[expose] public section

set_option maxRecDepth 8192

noncomputable section

namespace Cert.Reference2Ideal.Ffn

open Idealize.ShloMosaic Idealize.ShloMosaic.TcCoe Idealize.ShloMosaic.ValueIdx Cert.Reference2Ideal Cert.Reference2Ideal.Gen
open scoped BigOperators

/-! ## The two products at an index -/

theorem dot_in_at (A : FVec Ideal S2x4096x2048 .f32) (B : FVec Ideal S2048x5632 .f32) (s : Fin 2) (p : Fin 4096) (f : Fin 5632) :
    (Host.dotGeneral dot_S2x4096x2048_S2048x5632_S2x4096x5632_2_0_01_1_n_n none A B : FVec Ideal S2x4096x5632 .f32) (ix3 s p f)
      = ∑ k : Fin 2048, A (ix3 s p k) * B (ix2 k f) := by
  show FloatOps.dotGeneral _ none _ A B (ix3 s p f) = _
  rw [Ideal.dotGeneral_apply, ← Equiv.sum_comp (contrEquiv1 dot_S2x4096x2048_S2048x5632_S2x4096x5632_2_0_01_1_n_n 2048 rfl rfl).symm]
  refine Finset.sum_congr rfl fun c _ => ?_
  have c3 := contrEquiv1_symm_val dot_S2x4096x2048_S2048x5632_S2x4096x5632_2_0_01_1_n_n 2048 rfl rfl c
  have l3 : dot_S2x4096x2048_S2048x5632_S2x4096x5632_2_0_01_1_n_n.lhsIdx (ix3 s p f) ((contrEquiv1 _ 2048 rfl rfl).symm c) = ix3 s p c := by
    funext ax; apply Fin.ext
    match ax with
    | ⟨0, _⟩ => simp [DotDims.lhsIdx, dot_S2x4096x2048_S2048x5632_S2x4096x5632_2_0_01_1_n_n]; rfl
    | ⟨1, _⟩ => simp [DotDims.lhsIdx, dot_S2x4096x2048_S2048x5632_S2x4096x5632_2_0_01_1_n_n]; rfl
    | ⟨2, _⟩ => simp [DotDims.lhsIdx, dot_S2x4096x2048_S2048x5632_S2x4096x5632_2_0_01_1_n_n]; exact c3
  have r3 : dot_S2x4096x2048_S2048x5632_S2x4096x5632_2_0_01_1_n_n.rhsIdx (ix3 s p f) ((contrEquiv1 _ 2048 rfl rfl).symm c) = ix2 c f := by
    funext ax; apply Fin.ext
    match ax with
    | ⟨0, _⟩ => simp [DotDims.rhsIdx, dot_S2x4096x2048_S2048x5632_S2x4096x5632_2_0_01_1_n_n]; exact c3
    | ⟨1, _⟩ => simp [DotDims.rhsIdx, dot_S2x4096x2048_S2048x5632_S2x4096x5632_2_0_01_1_n_n]; rfl
  rw [l3, r3]

theorem dot_out_at (A : FVec Ideal S2x4096x5632 .f32) (B : FVec Ideal S5632x2048 .f32) (s : Fin 2) (p : Fin 4096) (d : Fin 2048) :
    (Host.dotGeneral dot_S2x4096x5632_S5632x2048_S2x4096x2048_2_0_01_1_n_n none A B : FVec Ideal S2x4096x2048 .f32) (ix3 s p d)
      = ∑ f : Fin 5632, A (ix3 s p f) * B (ix2 f d) := by
  show FloatOps.dotGeneral _ none _ A B (ix3 s p d) = _
  rw [Ideal.dotGeneral_apply, ← Equiv.sum_comp (contrEquiv1 dot_S2x4096x5632_S5632x2048_S2x4096x2048_2_0_01_1_n_n 5632 rfl rfl).symm]
  refine Finset.sum_congr rfl fun c _ => ?_
  have c3 := contrEquiv1_symm_val dot_S2x4096x5632_S5632x2048_S2x4096x2048_2_0_01_1_n_n 5632 rfl rfl c
  have l3 : dot_S2x4096x5632_S5632x2048_S2x4096x2048_2_0_01_1_n_n.lhsIdx (ix3 s p d) ((contrEquiv1 _ 5632 rfl rfl).symm c) = ix3 s p c := by
    funext ax; apply Fin.ext
    match ax with
    | ⟨0, _⟩ => simp [DotDims.lhsIdx, dot_S2x4096x5632_S5632x2048_S2x4096x2048_2_0_01_1_n_n]; rfl
    | ⟨1, _⟩ => simp [DotDims.lhsIdx, dot_S2x4096x5632_S5632x2048_S2x4096x2048_2_0_01_1_n_n]; rfl
    | ⟨2, _⟩ => simp [DotDims.lhsIdx, dot_S2x4096x5632_S5632x2048_S2x4096x2048_2_0_01_1_n_n]; exact c3
  have r3 : dot_S2x4096x5632_S5632x2048_S2x4096x2048_2_0_01_1_n_n.rhsIdx (ix3 s p d) ((contrEquiv1 _ 5632 rfl rfl).symm c) = ix2 c d := by
    funext ax; apply Fin.ext
    match ax with
    | ⟨0, _⟩ => simp [DotDims.rhsIdx, dot_S2x4096x5632_S5632x2048_S2x4096x2048_2_0_01_1_n_n]; exact c3
    | ⟨1, _⟩ => simp [DotDims.rhsIdx, dot_S2x4096x5632_S5632x2048_S2x4096x2048_2_0_01_1_n_n]; rfl
  rw [l3, r3]

/-! ## The reference's lines -/

variable (x : FVec Ideal S8192x2048 .f32) (md : FVec Ideal S2x12288 .f32) (wg wu : FVec Ideal S2048x5632 .f32) (wd : FVec Ideal S5632x2048 .f32)
variable (lg lb : FVec Ideal S2048 .f32)

/-- The rows by sequence and position. -/
def xs : FVec Ideal S2x4096x2048 .f32 := shapeCast _ x shapeCasts_S8192x2048_S2x4096x2048

def mod3 : FVec Ideal S2x1x12288 .f32 := broadcastInDim S2x1x12288 ![0, 2] bcast_S2x12288_S2x1x12288_0_2 md

def shift : FVec Ideal S2x1x2048 .f32 := extractStridedSlice S2x1x2048 ![0, 0, 6144] (mod3 md) slices_S2x1x12288_S2x1x2048_0_0_6144
def scale : FVec Ideal S2x1x2048 .f32 := extractStridedSlice S2x1x2048 ![0, 0, 8192] (mod3 md) slices_S2x1x12288_S2x1x2048_0_0_8192
def gate2 : FVec Ideal S2x1x2048 .f32 := extractStridedSlice S2x1x2048 ![0, 0, 10240] (mod3 md) slices_S2x1x12288_S2x1x2048_0_0_10240

/-- One plus a chunk, at every position. -/
def plusOne (v : FVec Ideal S2x1x2048 .f32) : FVec Ideal S2x4096x2048 .f32 :=
  broadcastInDim S2x4096x2048 ![0, 1, 2] bcast_S2x1x2048_S2x4096x2048_0_1_2
    (addf (broadcastInDim S2x1x2048 ![] bcast_S_S2x1x2048 (constant S_ .f32 0x3F800000#32)) v)

def hs : FVec Ideal S2x4096x2048 .f32 :=
  addf (mulf (xs x) (plusOne (scale md))) (broadcastInDim S2x4096x2048 ![0, 1, 2] bcast_S2x1x2048_S2x4096x2048_0_1_2 (shift md))

def ones : FVec Ideal S2x4096x5632 .f32 := broadcastInDim S2x4096x5632 ![] bcast_S_S2x4096x5632 (constant S_ .f32 0x3F800000#32)

def pre (w : FVec Ideal S2048x5632 .f32) : FVec Ideal S2x4096x5632 .f32 :=
  Host.dotGeneral dot_S2x4096x2048_S2048x5632_S2x4096x5632_2_0_01_1_n_n none (hs x md) w

def acts : FVec Ideal S2x4096x5632 .f32 :=
  mulf (mulf (pre x md wg) (Host.divf ones (addf ones (Host.exp (Host.negf (pre x md wg)))))) (pre x md wu)

def outp : FVec Ideal S2x4096x2048 .f32 :=
  Host.dotGeneral dot_S2x4096x5632_S5632x2048_S2x4096x2048_2_0_01_1_n_n none (acts x md wg wu) wd

def resid : FVec Ideal S2x4096x2048 .f32 :=
  addf (mulf (broadcastInDim S2x4096x2048 ![] bcast_S_S2x4096x2048 (constant S_ .f32 0x3FB504F3#32)) (xs x))
    (mulf (plusOne (gate2 md)) (outp x md wg wu wd))

/-- The mean of each row. -/
def means (y : FVec Ideal S2x4096x2048 .f32) : FVec Ideal S2x4096x1 .f32 :=
  Host.divf (broadcastInDim S2x4096x1 ![0, 1] bcast_S2x4096_S2x4096x1_0_1 (Host.reduceAdd y (constant S_ .f32 0x00000000#32) reducesTo_S2x4096x2048_S2x4096_d2 h_S_))
    (broadcastInDim S2x4096x1 ![] bcast_S_S2x4096x1 (constant S_ .f32 0x45000000#32))

def centred (y : FVec Ideal S2x4096x2048 .f32) : FVec Ideal S2x4096x2048 .f32 :=
  subf y (broadcastInDim S2x4096x2048 ![0, 1, 2] bcast_S2x4096x1_S2x4096x2048_0_1_2 (means y))

def params (v : FVec Ideal S2048 .f32) : FVec Ideal S2x4096x2048 .f32 :=
  broadcastInDim S2x4096x2048 ![0, 1, 2] bcast_S1x1x2048_S2x4096x2048_0_1_2 (broadcastInDim S1x1x2048 ![2] bcast_S2048_S1x1x2048_2 v)

def normed (y : FVec Ideal S2x4096x2048 .f32) : FVec Ideal S2x4096x2048 .f32 :=
  addf (mulf (mulf (centred y) (broadcastInDim S2x4096x2048 ![0, 1, 2] bcast_S2x4096x1_S2x4096x2048_0_1_2
      (Host.rsqrt (addf (means (mulf (centred y) (centred y))) (broadcastInDim S2x4096x1 ![] bcast_S_S2x4096x1 (constant S_ .f32 0x3727C5AC#32))))))
    (params lg)) (params lb)

def staged : FVec Ideal S8192x2048 .f32 := shapeCast _ (normed lg lb (resid x md wg wu wd)) shapeCasts_S2x4096x2048_S8192x2048

/-! ## The lines at an index -/

/-- Position `p` of sequence `s` among all rows. -/
def flat (s : Fin 2) (p : Fin 4096) : Fin 8192 := ⟨s.val * 4096 + p.val, by have := s.isLt; have := p.isLt; omega⟩

theorem seqOf_flat (s : Fin 2) (p : Fin 4096) : Cert.Ffn.seqOf (flat s p) = s := Fin.ext (by
  have := p.isLt
  show (s.val * 4096 + p.val) / 4096 = s.val
  omega)

variable (s : Fin 2) (p : Fin 4096)

theorem xs_at (k : Fin 2048) : xs x (ix3 s p k) = x (ix2 (flat s p) k) := by
  unfold xs
  refine shapeCast_apply x shapeCasts_S8192x2048_S2x4096x2048 (ix3 s p k) (ix2 (flat s p) k) ?_
  rw [Shape.rowMajor_val_two, Shape.rowMajor_val_three]
  rfl

theorem mod3_at (k : Fin 12288) : mod3 md (ix3 s 0 k) = md (ix2 s k) := by
  unfold mod3
  exact broadcastInDim_apply _ _ _ _ (ix2 s k) fun a => match a with
    | ⟨0, _⟩ => rfl
    | ⟨1, _⟩ => rfl

theorem shift_at (k : Fin 2048) : shift md (ix3 s 0 k) = Cert.Ffn.chunk md 3 (by decide) (flat s p) k := by
  unfold Cert.Ffn.chunk
  rw [seqOf_flat, ← mod3_at md]
  unfold shift
  refine extractStridedSlice_apply _ _ _ _ _ fun a => ?_
  match a with
  | ⟨0, _⟩ => show s.val = 0 + s.val; omega
  | ⟨1, _⟩ => rfl
  | ⟨2, _⟩ => rfl

theorem scale_at (k : Fin 2048) : scale md (ix3 s 0 k) = Cert.Ffn.chunk md 4 (by decide) (flat s p) k := by
  unfold Cert.Ffn.chunk
  rw [seqOf_flat, ← mod3_at md]
  unfold scale
  refine extractStridedSlice_apply _ _ _ _ _ fun a => ?_
  match a with
  | ⟨0, _⟩ => show s.val = 0 + s.val; omega
  | ⟨1, _⟩ => rfl
  | ⟨2, _⟩ => rfl

theorem gate2_at (k : Fin 2048) : gate2 md (ix3 s 0 k) = Cert.Ffn.chunk md 5 (by decide) (flat s p) k := by
  unfold Cert.Ffn.chunk
  rw [seqOf_flat, ← mod3_at md]
  unfold gate2
  refine extractStridedSlice_apply _ _ _ _ _ fun a => ?_
  match a with
  | ⟨0, _⟩ => show s.val = 0 + s.val; omega
  | ⟨1, _⟩ => rfl
  | ⟨2, _⟩ => rfl

theorem along_at (v : FVec Ideal S2x1x2048 .f32) (k : Fin 2048) :
    (broadcastInDim S2x4096x2048 ![0, 1, 2] bcast_S2x1x2048_S2x4096x2048_0_1_2 v : FVec Ideal S2x4096x2048 .f32) (ix3 s p k) = v (ix3 s 0 k) :=
  broadcastInDim_apply _ _ _ _ (ix3 s 0 k) fun a => match a with
    | ⟨0, _⟩ => rfl
    | ⟨1, _⟩ => rfl
    | ⟨2, _⟩ => rfl

theorem across_at (v : FVec Ideal S2x4096x1 .f32) (k : Fin 2048) :
    (broadcastInDim S2x4096x2048 ![0, 1, 2] bcast_S2x4096x1_S2x4096x2048_0_1_2 v : FVec Ideal S2x4096x2048 .f32) (ix3 s p k) = v (ix3 s p 0) :=
  broadcastInDim_apply _ _ _ _ (ix3 s p 0) fun a => match a with
    | ⟨0, _⟩ => rfl
    | ⟨1, _⟩ => rfl
    | ⟨2, _⟩ => rfl

theorem plusOne_at (v : FVec Ideal S2x1x2048 .f32) (k : Fin 2048) : (plusOne v (ix3 s p k) : EReal) = Cert.Ffn.one + v (ix3 s 0 k) := by
  unfold plusOne
  rw [along_at]
  rfl

theorem hs_at (k : Fin 2048) : (hs x md (ix3 s p k) : EReal) = Cert.Ffn.rowOf x md (flat s p) k := by
  unfold hs Cert.Ffn.rowOf Cert.Ffn.modulated
  show (xs x (ix3 s p k) * plusOne (scale md) (ix3 s p k)
    + (broadcastInDim S2x4096x2048 ![0, 1, 2] bcast_S2x1x2048_S2x4096x2048_0_1_2 (shift md) : FVec Ideal S2x4096x2048 .f32) (ix3 s p k) : EReal) = _
  rw [xs_at, plusOne_at, along_at, scale_at md s p, shift_at md s p]

theorem pre_at (w : FVec Ideal S2048x5632 .f32) (f : Fin 5632) :
    (pre x md w (ix3 s p f) : EReal) = ∑ k, Cert.Ffn.rowOf x md (flat s p) k * w (ix2 k f) := by
  unfold pre
  rw [dot_in_at]
  exact Finset.sum_congr rfl fun k _ => congrArg (· * (w (ix2 k f) : EReal)) (hs_at x md s p k)

theorem acts_at (f : Fin 5632) : (acts x md wg wu (ix3 s p f) : EReal)
    = Cert.Moe.hidden (Cert.Ffn.rowOf x md (flat s p)) (fun k => wg (ix2 k f)) (fun k => wu (ix2 k f)) := by
  unfold Cert.Moe.hidden Cert.Moe.gate
  rw [← pre_at x md s p wg f, ← pre_at x md s p wu f]
  rfl

theorem outp_at (d : Fin 2048) : (outp x md wg wu wd (ix3 s p d) : EReal) = ∑ f, Cert.Ffn.share (Cert.Ffn.rowOf x md (flat s p)) wg wu wd d f := by
  unfold outp
  rw [dot_out_at]
  exact Finset.sum_congr rfl fun f _ => congrArg (· * (wd (ix2 f d) : EReal)) (acts_at x md wg wu s p f)

theorem resid_at (d : Fin 2048) : (resid x md wg wu wd (ix3 s p d) : EReal)
    = Cert.Ffn.residual (fun k => x (ix2 (flat s p) k)) (Cert.Ffn.chunk md 5 (by decide) (flat s p))
        (fun e => ∑ f, Cert.Ffn.share (Cert.Ffn.rowOf x md (flat s p)) wg wu wd e f) d := by
  unfold Cert.Ffn.residual
  dsimp only
  rw [← outp_at x md wg wu wd s p d, ← gate2_at md s p d, ← plusOne_at s p]
  show (Ideal.ofBits .f32 0x3FB504F3#32 * xs x (ix3 s p d) + plusOne (gate2 md) (ix3 s p d) * outp x md wg wu wd (ix3 s p d) : EReal) = _
  rw [xs_at]

theorem reduces_rows : Shape.Reduces S2x4096x2048 [2] S2x4096 := by decide

theorem means_at (y : FVec Ideal S2x4096x2048 .f32) : (means y (ix3 s p 0) : EReal) = Cert.Ffn.mean (fun k => y (ix3 s p k)) := by
  unfold means Cert.Ffn.mean
  show Ideal.div ((broadcastInDim S2x4096x1 ![0, 1] bcast_S2x4096_S2x4096x1_0_1 (Host.reduceAdd y (constant S_ .f32 0x00000000#32) reducesTo_S2x4096x2048_S2x4096_d2 h_S_) : FVec Ideal S2x4096x1 .f32) (ix3 s p 0)) (Ideal.ofBits .f32 0x45000000#32) = _
  refine congrArg (Ideal.div · _) ?_
  refine (broadcastInDim_apply _ _ _ _ (ix2 s p) fun a => match a with
    | ⟨0, _⟩ => rfl
    | ⟨1, _⟩ => rfl).trans ?_
  refine (Ideal.hostReduceAdd_single reducesTo_S2x4096x2048_S2x4096_d2 reduces_rows y _ (ix2 s p)).trans ?_
  show Ideal.ofBits .f32 0x00000000#32 + _ = _
  rw [Ideal.ofBits_zero_f32]
  refine (zero_add _).trans (Finset.sum_congr rfl fun k _ => congrArg y ?_)
  funext a
  match a with
  | ⟨0, _⟩ => rfl
  | ⟨1, _⟩ => rfl
  | ⟨2, _⟩ => rfl

theorem centred_at (y : FVec Ideal S2x4096x2048 .f32) (d : Fin 2048) :
    (centred y (ix3 s p d) : EReal) = y (ix3 s p d) - Cert.Ffn.mean (fun k => y (ix3 s p k)) := by
  unfold centred
  show (y (ix3 s p d) - (broadcastInDim S2x4096x2048 ![0, 1, 2] bcast_S2x4096x1_S2x4096x2048_0_1_2 (means y) : FVec Ideal S2x4096x2048 .f32) (ix3 s p d) : EReal) = _
  rw [across_at, means_at]

theorem params_at (v : FVec Ideal S2048 .f32) (k : Fin 2048) : params v (ix3 s p k) = v (ix1 k) := by
  unfold params
  refine (broadcastInDim_apply _ _ _ _ (ix3 0 0 k) fun a => match a with
    | ⟨0, _⟩ => rfl
    | ⟨1, _⟩ => rfl
    | ⟨2, _⟩ => rfl).trans ?_
  exact broadcastInDim_apply _ _ _ _ (ix1 k) fun a => match a with
    | ⟨0, _⟩ => rfl

theorem normed_at (y : FVec Ideal S2x4096x2048 .f32) (d : Fin 2048) :
    (normed lg lb y (ix3 s p d) : EReal) = Cert.Ffn.norm (fun k => y (ix3 s p k)) (fun k => lg (ix1 k)) (fun k => lb (ix1 k)) d := by
  unfold normed Cert.Ffn.norm
  show (centred y (ix3 s p d)
      * (broadcastInDim S2x4096x2048 ![0, 1, 2] bcast_S2x4096x1_S2x4096x2048_0_1_2
          (Host.rsqrt (addf (means (mulf (centred y) (centred y))) (broadcastInDim S2x4096x1 ![] bcast_S_S2x4096x1 (constant S_ .f32 0x3727C5AC#32)))) : FVec Ideal S2x4096x2048 .f32) (ix3 s p d)
      * params lg (ix3 s p d) + params lb (ix3 s p d) : EReal) = _
  rw [params_at, params_at, across_at, centred_at]
  show (_ * Ideal.rsqrt (means (mulf (centred y) (centred y)) (ix3 s p 0) + Ideal.ofBits .f32 0x3727C5AC#32) * _ + _ : EReal) = _
  rw [means_at]
  have ev : (fun k => (mulf (centred y) (centred y) : FVec Ideal S2x4096x2048 .f32) (ix3 s p k))
      = fun k => (centred y (ix3 s p k) * centred y (ix3 s p k) : EReal) := rfl
  rw [ev]
  simp only [centred_at]

theorem staged_at (d : Fin 2048) : (staged x md wg wu wd lg lb (ix2 (flat s p) d) : EReal) = Cert.Ffn.layer x md wg wu wd lg lb (flat s p) d := by
  unfold staged Cert.Ffn.layer
  refine (shapeCast_apply _ shapeCasts_S2x4096x2048_S8192x2048 (ix2 (flat s p) d) (ix3 s p d) ?_).trans ?_
  · rw [Shape.rowMajor_val_two, Shape.rowMajor_val_three]
    rfl
  refine (normed_at lg lb s p _ d).trans ?_
  rw [show (fun k => (resid x md wg wu wd (ix3 s p k) : EReal)) = _ from funext fun k => resid_at x md wg wu wd s p k]

theorem result_at (m : (ℓ : Loc nD τ sig) → Buf (Elt Ideal) ℓ) (c : Dev nD) (r : Fin 8192) (d : Fin 2048) :
    (Cert.Reference2Ideal.Value.res_main_v50 m c : S8192x2048.Idx → EReal) (ix2 r d)
      = Cert.Ffn.layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) r d := by
  have e : (Cert.Reference2Ideal.Value.res_main_v50 m c : S8192x2048.Idx → EReal)
      = staged (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := rfl
  rw [e]
  have hr := r.isLt
  have er : r = flat ⟨r.val / 4096, by omega⟩ ⟨r.val % 4096, Nat.mod_lt _ (by decide)⟩ := Fin.ext (by
    show r.val = r.val / 4096 * 4096 + r.val % 4096
    omega)
  rw [er]
  exact staged_at _ _ _ _ _ _ _ _ _ d

end Cert.Reference2Ideal.Ffn

end
-- ==== Proof.Ffn.Equal.lean ====
/-
  On equal arguments the reference of the dense feed-forward ends with the kernel's array.
-/
module

public import proofs.«01_k».proof.Proof.Ffn.Value
public import proofs.«01_k».proof.Proof.Ffn.Ref

@[expose] public section

noncomputable section

namespace Cert.Kernel2Ideal.Ffn

open Idealize.ShloMosaic Idealize.ShloMosaic.TcCoe Idealize.SL.Sem
open Idealize.ShloMosaic.ValueIdx Cert.Kernel2Ideal Cert.Kernel2Ideal.Gen

theorem reference_layer (m : (ℓ : Loc nD τ sig) → Buf (Elt Ideal) ℓ)
    (m' : (ℓ : Loc Cert.Reference2Ideal.nD Cert.Reference2Ideal.τ Cert.Reference2Ideal.sig) → Buf (Elt Ideal) ℓ) (c : Dev nD)
    (e0 : m' ((c.tc : Thread Cert.Reference2Ideal.nD Cert.Reference2Ideal.τ).loc Cert.Reference2Ideal.main_arg0) = m ((c.tc : Thread nD τ).loc main_arg0))
    (e1 : m' ((c.tc : Thread Cert.Reference2Ideal.nD Cert.Reference2Ideal.τ).loc Cert.Reference2Ideal.main_arg1) = m ((c.tc : Thread nD τ).loc main_arg1))
    (e2 : m' ((c.tc : Thread Cert.Reference2Ideal.nD Cert.Reference2Ideal.τ).loc Cert.Reference2Ideal.main_arg2) = m ((c.tc : Thread nD τ).loc main_arg2))
    (e3 : m' ((c.tc : Thread Cert.Reference2Ideal.nD Cert.Reference2Ideal.τ).loc Cert.Reference2Ideal.main_arg3) = m ((c.tc : Thread nD τ).loc main_arg3))
    (e4 : m' ((c.tc : Thread Cert.Reference2Ideal.nD Cert.Reference2Ideal.τ).loc Cert.Reference2Ideal.main_arg4) = m ((c.tc : Thread nD τ).loc main_arg4))
    (e5 : m' ((c.tc : Thread Cert.Reference2Ideal.nD Cert.Reference2Ideal.τ).loc Cert.Reference2Ideal.main_arg5) = m ((c.tc : Thread nD τ).loc main_arg5))
    (e6 : m' ((c.tc : Thread Cert.Reference2Ideal.nD Cert.Reference2Ideal.τ).loc Cert.Reference2Ideal.main_arg6) = m ((c.tc : Thread nD τ).loc main_arg6)) :
    (Cert.Reference2Ideal.Value.res_main_v50 m' c : S8192x2048.Idx → EReal) = layerOf m c := by
  funext x
  have key := Cert.Reference2Ideal.Ffn.result_at m' c (x 0) (x 1)
  rw [e0, e1, e2, e3, e4, e5, e6] at key
  have ex : ix2 (n0 := 8192) (n1 := 2048) (x 0) (x 1) = x := by
    funext a
    match a with
    | ⟨0, _⟩ => rfl
    | ⟨1, _⟩ => rfl
  rw [ex] at key
  exact key

end Cert.Kernel2Ideal.Ffn

end
-- ==== Proof.Mix.Spec.lean ====
/-
  The output part of the mixer at one row as a formula, over the extended reals: the gating branch is normalized and mixed
  causally within its chunk, both branches are taken through their products and gates, and the sum is projected, added to
  the scaled row and normalized.
-/
module

public import proofs.«01_k».proof.Proof.Ffn.Spec

@[expose] public section

noncomputable section

namespace Cert.Mix

open Idealize.ShloMosaic Idealize.ShloMosaic.ValueIdx
open scoped BigOperators

/-- The mean of a row of the gating branch. -/
def mean (y : Fin 1024 → EReal) : EReal := Ideal.div (∑ k, y k) (Ideal.ofBits .f32 0x44800000#32)

/-- The layer norm of a row of the gating branch. -/
def norm (y lg lb : Fin 1024 → EReal) (d : Fin 1024) : EReal :=
  (y d - mean y) * Ideal.rsqrt (mean (fun k => (y k - mean y) * (y k - mean y)) + Ideal.ofBits .f32 0x3727C5AC#32) * lg d + lb d

variable (pj : (⟨2, ![8192, 9216]⟩ : Shape).Idx → EReal) (av : (⟨2, ![8192, 1024]⟩ : Shape).Idx → EReal)
variable (x : (⟨2, ![8192, 2048]⟩ : Shape).Idx → EReal) (md : (⟨2, ![2, 12288]⟩ : Shape).Idx → EReal)
variable (ws : (⟨3, ![8, 128, 128]⟩ : Shape).Idx → EReal) (bs : (⟨2, ![8, 128]⟩ : Shape).Idx → EReal)
variable (vg vb : (⟨1, ![1024]⟩ : Shape).Idx → EReal) (wa wb : (⟨2, ![1024, 2048]⟩ : Shape).Idx → EReal)
variable (wo : (⟨2, ![2048, 2048]⟩ : Shape).Idx → EReal) (lg lb : (⟨1, ![2048]⟩ : Shape).Idx → EReal)

/-- Row `s` of the chunk of row `r`. -/
def rowIn (r : Fin 8192) (s : Fin 128) : Fin 8192 := ⟨r.val / 128 * 128 + s.val, by have := r.isLt; have := s.isLt; omega⟩

/-- The position of a row in its chunk. -/
def posIn (r : Fin 8192) : Fin 128 := ⟨r.val % 128, Nat.mod_lt _ (by decide)⟩

/-- The group of a column of the gating branch. -/
def groupOf (k : Fin 1024) : Fin 8 := ⟨k.val / 128, by have := k.isLt; omega⟩

/-- Column `k` of the projection from column `o` on. -/
def narrow (o : ℕ) (h : o ≤ 8192) (r : Fin 8192) (k : Fin 1024) : EReal := pj (ix2 r ⟨o + k.val, by have := k.isLt; omega⟩)
def wide (o : ℕ) (h : o ≤ 7168) (r : Fin 8192) (k : Fin 2048) : EReal := pj (ix2 r ⟨o + k.val, by have := k.isLt; omega⟩)

/-- The normalized gating row. -/
def vn (r : Fin 8192) (k : Fin 1024) : EReal := norm (narrow pj 1024 (by decide) r) (fun k => vg (ix1 k)) (fun k => vb (ix1 k)) k

/-- The causal weight of position `s` at position `t`. -/
def tril (g : Fin 8) (t s : Fin 128) : EReal := if s.val ≤ t.val then ws (ix3 g t s) else 0

/-- The gated row. -/
def gated (r : Fin 8192) (k : Fin 1024) : EReal :=
  narrow pj 0 (by decide) r k * (∑ s, tril ws (groupOf k) (posIn r) s * vn pj vg vb (rowIn r s) k + bs (ix2 (groupOf k) (posIn r)))

/-- The two branches through their gates. -/
def merged (r : Fin 8192) (e : Fin 2048) : EReal :=
  wide pj 5120 (by decide) r e * (∑ k, gated pj ws bs vg vb r k * wa (ix2 k e))
    + wide pj 7168 (by decide) r e * (∑ k, av (ix2 r k) * wb (ix2 k e))

/-- The layer at row `r`, column `d`. -/
def layer (r : Fin 8192) (d : Fin 2048) : EReal :=
  Cert.Ffn.norm (Cert.Ffn.residual (fun k => x (ix2 r k)) (Cert.Ffn.chunk md 2 (by decide) r)
      (fun d => ∑ e, merged pj av ws bs vg vb wa wb r e * wo (ix2 e d)))
    (fun k => lg (ix1 k)) (fun k => lb (ix1 k)) d

end Cert.Mix

end
-- ==== Proof.Mix.Payload.lean ====
/-
  What a point computes from its blocks, read at an index over the extended reals.
-/
module

public import proofs.«01_k».proof.Proof.Mix.Spec
public import proofs.«01_k».proof.Proof.Gen.Kernel3Ideal
public import proofs.«01_k».proof.Proof.Gen.Kernel3Ideal.Frame
public import Idealize.ShloMosaic.Lib.MatmulPlain
public import Idealize.ShloMosaic.Lib.Pipeline.Value
public import Idealize.ShloMosaic.Lib.ValueLayout
public import Idealize.ShloMosaic.Lib.ValueLayoutCasts
public import Idealize.ShloMosaic.Lib.ValueIdxCore
public import Idealize.ShloMosaic.Lib.WordCmp

@[expose] public section

set_option maxRecDepth 16384

noncomputable section

namespace Cert.Kernel3Ideal.Mix

open Idealize.ShloMosaic
open Idealize.ShloMosaic.ValueIdx Cert.Kernel3Ideal Cert.Kernel3Ideal.Gen
open scoped BigOperators

/-! ## Rows spread over a block -/

theorem chunk_at (v : FVec Ideal S1x1x2048 .f32) (k : Fin 2048) : (shapeCast S1x2048 v shapeCasts_S1x1x2048_S1x2048 : FVec Ideal S1x2048 .f32) (ix2 0 k) = v (ix3 0 0 k) := by
  refine shapeCast_apply v shapeCasts_S1x1x2048_S1x2048 (ix2 0 k) (ix3 0 0 k) ?_
  rw [Shape.rowMajor_val_two, Shape.rowMajor_val_three]
  show (0 * 1 + 0) * 2048 + k.val = 0 * 2048 + k.val
  omega

theorem spread_at (v : FVec Ideal S1x2048 .f32) (r : Fin 256) (k : Fin 2048) :
    (broadcastTo S256x2048 v broadcasts_S1x2048_S256x2048 : FVec Ideal S256x2048 .f32) (ix2 r k) = v (ix2 0 k) :=
  broadcastTo_1b_ab_apply v broadcasts_S1x2048_S256x2048 r k

theorem spreadCol_at (v : FVec Ideal S256x1 .f32) (r : Fin 256) (k : Fin 2048) :
    (broadcastTo S256x2048 v broadcasts_S256x1_S256x2048 : FVec Ideal S256x2048 .f32) (ix2 r k) = v (ix2 r 0) := by
  refine broadcastTo_apply v broadcasts_S256x1_S256x2048 (ix2 r k) (ix2 r 0) fun ax => ?_
  match ax with
  | ⟨0, _⟩ => rfl
  | ⟨1, _⟩ => rfl

theorem spreadV_at (v : FVec Ideal S1x1024 .f32) (r : Fin 256) (k : Fin 1024) :
    (broadcastTo S256x1024 v broadcasts_S1x1024_S256x1024 : FVec Ideal S256x1024 .f32) (ix2 r k) = v (ix2 0 k) :=
  broadcastTo_1b_ab_apply v broadcasts_S1x1024_S256x1024 r k

theorem spreadColV_at (v : FVec Ideal S256x1 .f32) (r : Fin 256) (k : Fin 1024) :
    (broadcastTo S256x1024 v broadcasts_S256x1_S256x1024 : FVec Ideal S256x1024 .f32) (ix2 r k) = v (ix2 r 0) := by
  refine broadcastTo_apply v broadcasts_S256x1_S256x1024 (ix2 r k) (ix2 r 0) fun ax => ?_
  match ax with
  | ⟨0, _⟩ => rfl
  | ⟨1, _⟩ => rfl

/-- The mean of each row, as a column. -/
abbrev means (y : FVec Ideal S256x2048 .f32) : FVec Ideal S256x1 .f32 :=
  divf (shapeCast S256x1 (multiReduction .add [1] S256 y 0x00000000#32 reduces_S256x2048_S256 (.inl rfl) rfl : FVec Ideal S256 .f32) shapeCasts_S256_S256x1)
    (broadcast S256x1 (Scalar.ofBits (F := Ideal) .f32 0x45000000#32))

theorem means_at (y : FVec Ideal S256x2048 .f32) (r : Fin 256) : (means y (ix2 r 0) : EReal) = Cert.Ffn.mean (fun k => y (ix2 r k)) := by
  show Ideal.div ((shapeCast S256x1 (multiReduction .add [1] S256 y 0x00000000#32 reduces_S256x2048_S256 (.inl rfl) rfl : FVec Ideal S256 .f32) shapeCasts_S256_S256x1 : FVec Ideal S256x1 .f32) (ix2 r 0)) (Ideal.ofBits .f32 0x45000000#32) = _
  unfold Cert.Ffn.mean
  refine congrArg (Ideal.div · _) ?_
  refine (shapeCast_a_a1_apply _ shapeCasts_S256_S256x1 r 0).trans ?_
  refine (Ideal.multiReduction_add_single y _ reduces_S256x2048_S256 (.inl rfl) rfl (ix1 r)).trans ?_
  refine Finset.sum_congr rfl fun k _ => congrArg y ?_
  funext a
  match a with
  | ⟨0, _⟩ => rfl
  | ⟨1, _⟩ => rfl

/-- The rows less their means. -/
abbrev centred (y : FVec Ideal S256x2048 .f32) : FVec Ideal S256x2048 .f32 :=
  subf y (broadcastTo S256x2048 (means y) broadcasts_S256x1_S256x2048)

theorem centred_at (y : FVec Ideal S256x2048 .f32) (r : Fin 256) (d : Fin 2048) :
    (centred y (ix2 r d) : EReal) = y (ix2 r d) - Cert.Ffn.mean (fun k => y (ix2 r k)) := by
  show (y (ix2 r d) - (broadcastTo S256x2048 (means y) broadcasts_S256x1_S256x2048 : FVec Ideal S256x2048 .f32) (ix2 r d) : EReal) = _
  rw [spreadCol_at, means_at]

/-- The same for the gating branch. -/
abbrev meansV (y : FVec Ideal S256x1024 .f32) : FVec Ideal S256x1 .f32 :=
  divf (shapeCast S256x1 (multiReduction .add [1] S256 y 0x00000000#32 reduces_S256x1024_S256 (.inl rfl) rfl : FVec Ideal S256 .f32) shapeCasts_S256_S256x1)
    (broadcast S256x1 (Scalar.ofBits (F := Ideal) .f32 0x44800000#32))

theorem meansV_at (y : FVec Ideal S256x1024 .f32) (r : Fin 256) : (meansV y (ix2 r 0) : EReal) = Cert.Mix.mean (fun k => y (ix2 r k)) := by
  show Ideal.div ((shapeCast S256x1 (multiReduction .add [1] S256 y 0x00000000#32 reduces_S256x1024_S256 (.inl rfl) rfl : FVec Ideal S256 .f32) shapeCasts_S256_S256x1 : FVec Ideal S256x1 .f32) (ix2 r 0)) (Ideal.ofBits .f32 0x44800000#32) = _
  unfold Cert.Mix.mean
  refine congrArg (Ideal.div · _) ?_
  refine (shapeCast_a_a1_apply _ shapeCasts_S256_S256x1 r 0).trans ?_
  refine (Ideal.multiReduction_add_single y _ reduces_S256x1024_S256 (.inl rfl) rfl (ix1 r)).trans ?_
  refine Finset.sum_congr rfl fun k _ => congrArg y ?_
  funext a
  match a with
  | ⟨0, _⟩ => rfl
  | ⟨1, _⟩ => rfl

/-- The rows less their meansV. -/
abbrev centredV (y : FVec Ideal S256x1024 .f32) : FVec Ideal S256x1024 .f32 :=
  subf y (broadcastTo S256x1024 (meansV y) broadcasts_S256x1_S256x1024)

theorem centredV_at (y : FVec Ideal S256x1024 .f32) (r : Fin 256) (d : Fin 1024) :
    (centredV y (ix2 r d) : EReal) = y (ix2 r d) - Cert.Mix.mean (fun k => y (ix2 r k)) := by
  show (y (ix2 r d) - (broadcastTo S256x1024 (meansV y) broadcasts_S256x1_S256x1024 : FVec Ideal S256x1024 .f32) (ix2 r d) : EReal) = _
  rw [spreadColV_at, meansV_at]

/-- The rows before their normalization. -/
abbrev resid (x : FVec Ideal S256x2048 .f32) (g : FVec Ideal S1x1x2048 .f32) (p : FVec Ideal S256x2048 .f32) : FVec Ideal S256x2048 .f32 :=
  addf (mulf (broadcast S256x2048 (Scalar.ofBits (F := Ideal) .f32 0x3FB504F3#32)) x)
    (mulf (broadcastTo S256x2048 (addf (broadcast S1x2048 (Scalar.ofBits (F := Ideal) .f32 0x3F800000#32)) (shapeCast S1x2048 g shapeCasts_S1x1x2048_S1x2048)) broadcasts_S1x2048_S256x2048) p)

theorem resid_at (x : FVec Ideal S256x2048 .f32) (g : FVec Ideal S1x1x2048 .f32) (p : FVec Ideal S256x2048 .f32) (r : Fin 256) (d : Fin 2048) :
    (resid x g p (ix2 r d) : EReal) = Cert.Ffn.residual (fun k => x (ix2 r k)) (fun k => g (ix3 0 0 k)) (fun k => p (ix2 r k)) d := by
  show (Ideal.ofBits .f32 0x3FB504F3#32 * x (ix2 r d) + (broadcastTo S256x2048 _ broadcasts_S1x2048_S256x2048 : FVec Ideal S256x2048 .f32) (ix2 r d) * p (ix2 r d) : EReal) = _
  rw [spread_at]
  show (Ideal.ofBits .f32 0x3FB504F3#32 * x (ix2 r d) + (Cert.Ffn.one + (shapeCast S1x2048 g shapeCasts_S1x1x2048_S1x2048 : FVec Ideal S1x2048 .f32) (ix2 0 d)) * p (ix2 r d) : EReal) = _
  rw [chunk_at]
  rfl

/-- The layer norm of each row. -/
def normed (y : FVec Ideal S256x2048 .f32) (lg lb : FVec Ideal S1x2048 .f32) : FVec Ideal S256x2048 .f32 :=
  addf (mulf (mulf (centred y) (broadcastTo S256x2048 (rsqrt (addf (means (mulf (centred y) (centred y))) (broadcast S256x1 (Scalar.ofBits (F := Ideal) .f32 0x3727C5AC#32)))) broadcasts_S256x1_S256x2048))
    (broadcastTo S256x2048 (shapeCast S1x2048 lg shapeCasts_S1x2048_S1x2048) broadcasts_S1x2048_S256x2048)) (broadcastTo S256x2048 (shapeCast S1x2048 lb shapeCasts_S1x2048_S1x2048) broadcasts_S1x2048_S256x2048)

theorem normed_at (y : FVec Ideal S256x2048 .f32) (lg lb : FVec Ideal S1x2048 .f32) (r : Fin 256) (d : Fin 2048) :
    (normed y lg lb (ix2 r d) : EReal) = Cert.Ffn.norm (fun k => y (ix2 r k)) (fun k => lg (ix2 0 k)) (fun k => lb (ix2 0 k)) d := by
  unfold normed Cert.Ffn.norm
  simp only [shapeCast_self]
  show (centred y (ix2 r d)
      * (broadcastTo S256x2048 (rsqrt (addf (means (mulf (centred y) (centred y))) (broadcast S256x1 (Scalar.ofBits (F := Ideal) .f32 0x3727C5AC#32)))) broadcasts_S256x1_S256x2048 : FVec Ideal S256x2048 .f32) (ix2 r d)
      * (broadcastTo S256x2048 lg broadcasts_S1x2048_S256x2048 : FVec Ideal S256x2048 .f32) (ix2 r d)
      + (broadcastTo S256x2048 lb broadcasts_S1x2048_S256x2048 : FVec Ideal S256x2048 .f32) (ix2 r d) : EReal) = _
  rw [spread_at, spread_at, spreadCol_at, centred_at]
  show (_ * Ideal.rsqrt (means (mulf (centred y) (centred y)) (ix2 r 0) + Ideal.ofBits .f32 0x3727C5AC#32) * _ + _ : EReal) = _
  rw [means_at]
  have ev : (fun k => (mulf (centred y) (centred y) : FVec Ideal S256x2048 .f32) (ix2 r k))
      = fun k => (centred y (ix2 r k) * centred y (ix2 r k) : EReal) := rfl
  rw [ev]
  simp only [centred_at]

/-- The layer norm of each row. -/
def normedV (y : FVec Ideal S256x1024 .f32) (lg lb : FVec Ideal S1x1024 .f32) : FVec Ideal S256x1024 .f32 :=
  addf (mulf (mulf (centredV y) (broadcastTo S256x1024 (rsqrt (addf (meansV (mulf (centredV y) (centredV y))) (broadcast S256x1 (Scalar.ofBits (F := Ideal) .f32 0x3727C5AC#32)))) broadcasts_S256x1_S256x1024))
    (broadcastTo S256x1024 (shapeCast S1x1024 lg shapeCasts_S1x1024_S1x1024) broadcasts_S1x1024_S256x1024)) (broadcastTo S256x1024 (shapeCast S1x1024 lb shapeCasts_S1x1024_S1x1024) broadcasts_S1x1024_S256x1024)

theorem normedV_at (y : FVec Ideal S256x1024 .f32) (lg lb : FVec Ideal S1x1024 .f32) (r : Fin 256) (d : Fin 1024) :
    (normedV y lg lb (ix2 r d) : EReal) = Cert.Mix.norm (fun k => y (ix2 r k)) (fun k => lg (ix2 0 k)) (fun k => lb (ix2 0 k)) d := by
  unfold normedV Cert.Mix.norm
  simp only [shapeCast_self]
  show (centredV y (ix2 r d)
      * (broadcastTo S256x1024 (rsqrt (addf (meansV (mulf (centredV y) (centredV y))) (broadcast S256x1 (Scalar.ofBits (F := Ideal) .f32 0x3727C5AC#32)))) broadcasts_S256x1_S256x1024 : FVec Ideal S256x1024 .f32) (ix2 r d)
      * (broadcastTo S256x1024 lg broadcasts_S1x1024_S256x1024 : FVec Ideal S256x1024 .f32) (ix2 r d)
      + (broadcastTo S256x1024 lb broadcasts_S1x1024_S256x1024 : FVec Ideal S256x1024 .f32) (ix2 r d) : EReal) = _
  rw [spreadV_at, spreadV_at, spreadColV_at, centredV_at]
  show (_ * Ideal.rsqrt (meansV (mulf (centredV y) (centredV y)) (ix2 r 0) + Ideal.ofBits .f32 0x3727C5AC#32) * _ + _ : EReal) = _
  rw [meansV_at]
  have ev : (fun k => (mulf (centredV y) (centredV y) : FVec Ideal S256x1024 .f32) (ix2 r k))
      = fun k => (centredV y (ix2 r k) * centredV y (ix2 r k) : EReal) := rfl
  rw [ev]
  simp only [centredV_at]

/-! ## The causal weights and the biases -/

theorem inb_weights : ∀ g : Fin 8, ∀ a, (![g.val, 0, 0] : Fin 3 → Nat) a + S1x128x128.size a ≤ S8x128x128.size a := by decide
theorem inb_biases : ∀ g : Fin 8, ∀ a, (![0, g.val] : Fin 2 → Nat) a + S128x1.size a ≤ S128x8.size a := by decide
theorem slices_tiles : ∀ (p : Fin 2) (g : Fin 8), S256x1024.Slices ![p.val * 128, g.val * 128] S128x128 := by decide

variable (w9 : FVec Ideal S8x128x128 .f32) (b10 : FVec Ideal S128x8 .f32) (v : FVec Ideal S256x1024 .bf16)

def weights (g : Fin 8) : FVec Ideal S128x128 .bf16 := k0_pay3 (F := Ideal) (View.ld (Val := Elt Ideal) (e' := .f32) w9 (Rect.unit (s := S8x128x128) ![g.val, 0, 0] S1x128x128.size (inb_weights g)))
def biases (g : Fin 8) : FVec Ideal S128x1 .f32 := View.ld (Val := Elt Ideal) (e' := .f32) b10 (Rect.unit (s := S128x8) ![0, g.val] S128x1.size (inb_biases g))

theorem weights_at (g : Fin 8) (t s : Fin 128) : (weights w9 g (ix2 t s) : EReal) = Cert.Mix.tril w9 g t s := by
  have ht := t.isLt
  have hs := s.isLt
  have e0 : (iota .tc S128x128 32 [0] iota_S128x128_d0_w32 : IVec S128x128 32) (ix2 t s) = BitVec.ofNat 32 t.val := by
    show BitVec.ofNat 32 (0 * 128 + t.val) = _
    rw [Nat.zero_mul, Nat.zero_add]
  have e1 : (iota .tc S128x128 32 [1] iota_S128x128_d1_w32 : IVec S128x128 32) (ix2 t s) = BitVec.ofNat 32 s.val := by
    show BitVec.ofNat 32 (0 * 128 + s.val) = _
    rw [Nat.zero_mul, Nat.zero_add]
  unfold weights k0_pay3 Cert.Mix.tril
  show Scalar.select (IntOp.cmpi .sle ((iota .tc S128x128 32 [1] iota_S128x128_d1_w32 : IVec S128x128 32) (ix2 t s)) ((iota .tc S128x128 32 [0] iota_S128x128_d0_w32 : IVec S128x128 32) (ix2 t s)))
    ((shapeCast S128x128 (View.ld (Val := Elt Ideal) (e' := .f32) w9 (Rect.unit (s := S8x128x128) ![g.val, 0, 0] S1x128x128.size (inb_weights g))) shapeCasts_S1x128x128_S128x128 : FVec Ideal S128x128 .f32) (ix2 t s))
    (Ideal.ofBits .f32 0x00000000#32) = _
  rw [e0, e1, WordCmp.cmpi_sle_ofNat (by omega) (by omega), Ideal.ofBits_zero_f32]
  have ew : (shapeCast S128x128 (View.ld (Val := Elt Ideal) (e' := .f32) w9 (Rect.unit (s := S8x128x128) ![g.val, 0, 0] S1x128x128.size (inb_weights g))) shapeCasts_S1x128x128_S128x128 : FVec Ideal S128x128 .f32) (ix2 t s)
      = w9 (ix3 g t s) := by
    refine (shapeCast_1ab_ab_apply _ shapeCasts_S1x128x128_S128x128 t s).trans ?_
    rw [View.ld_unit]
    exact extractStridedSlice_apply _ _ _ _ (ix3 g t s) fun a => match a with
      | ⟨0, _⟩ => rfl
      | ⟨1, _⟩ => (Nat.zero_add _).symm
      | ⟨2, _⟩ => (Nat.zero_add _).symm
  rw [ew]
  by_cases h : s.val ≤ t.val
  · rw [if_pos h, decide_eq_true h]; rfl
  · rw [if_neg h, decide_eq_false h]; rfl

theorem biases_at (g : Fin 8) (t : Fin 128) : biases b10 g (ix2 t 0) = b10 (ix2 t g) := by
  unfold biases
  rw [View.ld_unit]
  exact extractStridedSlice_apply _ _ _ _ (ix2 t g) fun a => match a with
    | ⟨0, _⟩ => (Nat.zero_add _).symm
    | ⟨1, _⟩ => rfl

/-! ## The spatial mixing -/

/-- Chunk `p`, group `g`. -/
def tile (p : Fin 2) (g : Fin 8) : FVec Ideal S128x128 .f32 :=
  addf (matmul dot_S128x128_S128x128_S128x128_1_0_0_1_n_n none (weights w9 g) (extractStridedSlice S128x128 ![p.val * 128, g.val * 128] v (slices_tiles p g)) (constant S128x128 .f32 0x00000000#32))
    (broadcastTo S128x128 (shapeCast S128x1 (biases b10 g) shapeCasts_S128x1_S128x1) broadcasts_S128x1_S128x128)

theorem tile_at (p : Fin 2) (g : Fin 8) (t q : Fin 128) :
    (tile w9 b10 v p g (ix2 t q) : EReal)
      = ∑ s : Fin 128, Cert.Mix.tril w9 g t s * v (ix2 ⟨p.val * 128 + s.val, by have := p.isLt; have := s.isLt; omega⟩ ⟨g.val * 128 + q.val, by have := g.isLt; have := q.isLt; omega⟩)
        + b10 (ix2 t g) := by
  unfold tile
  rw [shapeCast_self]
  show (matmul (F := Ideal) dot_S128x128_S128x128_S128x128_1_0_0_1_n_n none (weights w9 g) (extractStridedSlice S128x128 ![p.val * 128, g.val * 128] v (slices_tiles p g)) (constant S128x128 .f32 0x00000000#32) (ix2 t q)
    + (broadcastTo S128x128 (biases b10 g) broadcasts_S128x1_S128x128 : FVec Ideal S128x128 .f32) (ix2 t q) : EReal) = _
  have eb : (broadcastTo S128x128 (biases b10 g) broadcasts_S128x1_S128x128 : FVec Ideal S128x128 .f32) (ix2 t q) = b10 (ix2 t g) := by
    refine (broadcastTo_apply _ broadcasts_S128x1_S128x128 (ix2 t q) (ix2 t 0) fun ax => ?_).trans (biases_at b10 g t)
    match ax with
    | ⟨0, _⟩ => rfl
    | ⟨1, _⟩ => rfl
  rw [eb]
  refine congrArg (· + (b10 (ix2 t g) : EReal)) ?_
  refine (Ideal.matmul_plain_apply (M := 128) (K := 128) (N := 128) none _ _ _ t q).trans ?_
  show Ideal.ofBits .f32 0x00000000#32 + _ = _
  rw [Ideal.ofBits_zero_f32]
  refine (zero_add _).trans (Finset.sum_congr rfl fun s _ => ?_)
  rw [weights_at]
  refine congrArg (Cert.Mix.tril w9 g t s * ·) ?_
  exact extractStridedSlice_apply _ _ _ _ _ fun a => match a with
    | ⟨0, _⟩ => rfl
    | ⟨1, _⟩ => rfl

/-- The rows of chunk `p`. -/
def band (p : Fin 2) : FVec Ideal S128x1024 .f32 :=
  concatenate S128x1024 1 (List.ofFn fun g : Fin 8 => (⟨S128x128, tile w9 b10 v p g⟩ : (s : Shape) × (s.Idx → EReal)))
    concatenates_S128x128_S128x128_S128x128_S128x128_S128x128_S128x128_S128x128_S128x128_S128x1024_d1

theorem band_at (p : Fin 2) (t : Fin 128) (k : Fin 1024) :
    (band w9 b10 v p (ix2 t k) : EReal)
      = ∑ s : Fin 128, Cert.Mix.tril w9 (Cert.Mix.groupOf k) t s * v (ix2 ⟨p.val * 128 + s.val, by have := p.isLt; have := s.isLt; omega⟩ k)
        + b10 (ix2 t (Cert.Mix.groupOf k)) := by
  unfold band
  refine (concatenate_ofFn_apply (t := S128x1024) (s₁ := S128x128) 1 (fun g => tile w9 b10 v p g) _ rfl 128 rfl (ix2 t k) (Cert.Mix.groupOf k) rfl
    (ix2 t ⟨k.val % 128, Nat.mod_lt _ (by decide)⟩) rfl (fun b hb => match b with
      | ⟨0, _⟩ => rfl
      | ⟨1, _⟩ => absurd rfl hb)).trans ?_
  refine (tile_at w9 b10 v p _ t _).trans ?_
  have hk : k = ⟨(Cert.Mix.groupOf k).val * 128 + k.val % 128, by have := k.isLt; show k.val / 128 * 128 + k.val % 128 < 1024; omega⟩ := Fin.ext (by
    show k.val = k.val / 128 * 128 + k.val % 128
    omega)
  dsimp only
  rw [← hk]

/-- All rows. -/
def spatial : FVec Ideal S256x1024 .f32 :=
  concatenate S256x1024 0 [⟨S128x1024, band w9 b10 v 0⟩, ⟨S128x1024, band w9 b10 v 1⟩] concatenates_S128x1024_S128x1024_S256x1024_d0

/-- Row `s` of the chunk of row `r`, and the position of row `r` in it. -/
def rowIn (r : Fin 256) (s : Fin 128) : Fin 256 := ⟨r.val / 128 * 128 + s.val, by have := r.isLt; have := s.isLt; omega⟩
def posIn (r : Fin 256) : Fin 128 := ⟨r.val % 128, Nat.mod_lt _ (by decide)⟩

theorem spatial_at (r : Fin 256) (k : Fin 1024) :
    (spatial w9 b10 v (ix2 r k) : EReal)
      = ∑ s : Fin 128, Cert.Mix.tril w9 (Cert.Mix.groupOf k) (posIn r) s * v (ix2 (rowIn r s) k) + b10 (ix2 (posIn r) (Cert.Mix.groupOf k)) := by
  have hr := r.isLt
  unfold spatial
  by_cases h : r.val < 128
  · have ep : posIn r = ⟨r.val, h⟩ := Fin.ext (Nat.mod_eq_of_lt h)
    refine (concatenate_pair_apply_left (t := S256x1024) (s₁ := S128x1024) (s₂ := S128x1024) 0 (band w9 b10 v 0) (band w9 b10 v 1) _ (ix2 r k) rfl (ix2 ⟨r.val, h⟩ k) (fun b => match b with
      | ⟨0, _⟩ => rfl
      | ⟨1, _⟩ => rfl)).trans ?_
    rw [band_at, ep]
    have es : ∀ s : Fin 128, rowIn r s = ⟨(0 : Fin 2).val * 128 + s.val, by have := s.isLt; show 0 * 128 + s.val < 256; omega⟩ := fun s => Fin.ext (by
      show r.val / 128 * 128 + s.val = 0 * 128 + s.val
      omega)
    simp only [es]
  · have ep : posIn r = ⟨r.val - 128, by omega⟩ := Fin.ext (by show r.val % 128 = r.val - 128; omega)
    refine (concatenate_pair_apply_right (t := S256x1024) (s₁ := S128x1024) (s₂ := S128x1024) 0 (band w9 b10 v 0) (band w9 b10 v 1) _ (ix2 r k) rfl rfl (ix2 ⟨r.val - 128, by omega⟩ k) (fun b hb => match b with
      | ⟨0, _⟩ => absurd rfl hb
      | ⟨1, _⟩ => rfl) (by show r.val - 128 + 128 = r.val; omega)).trans ?_
    rw [band_at, ep]
    have es : ∀ s : Fin 128, rowIn r s = ⟨(1 : Fin 2).val * 128 + s.val, by have := s.isLt; show 1 * 128 + s.val < 256; omega⟩ := fun s => Fin.ext (by
      show r.val / 128 * 128 + s.val = 1 * 128 + s.val
      omega)
    simp only [es]

/-! ## The products -/

def prod (X : FVec Ideal S256x1024 .bf16) (W : FVec Ideal S1024x2048 .bf16) : FVec Ideal S256x2048 .f32 :=
  matmul dot_S256x1024_S1024x2048_S256x2048_1_0_0_1_n_n none X (shapeCast S1024x2048 W shapeCasts_S1024x2048_S1024x2048) (constant S256x2048 .f32 0x00000000#32)

theorem prod_at (X : FVec Ideal S256x1024 .bf16) (W : FVec Ideal S1024x2048 .bf16) (r : Fin 256) (e : Fin 2048) :
    (prod X W (ix2 r e) : EReal) = ∑ k : Fin 1024, X (ix2 r k) * W (ix2 k e) := by
  unfold prod
  rw [shapeCast_self]
  refine (Ideal.matmul_plain_apply (M := 256) (K := 1024) (N := 2048) none X W _ r e).trans ?_
  show Ideal.ofBits .f32 0x00000000#32 + _ = _
  rw [Ideal.ofBits_zero_f32]
  exact zero_add _

def proj (X : FVec Ideal S256x2048 .bf16) (W : FVec Ideal S2048x2048 .bf16) : FVec Ideal S256x2048 .f32 :=
  matmul dot_S256x2048_S2048x2048_S256x2048_1_0_0_1_n_n none X (shapeCast S2048x2048 W shapeCasts_S2048x2048_S2048x2048) (constant S256x2048 .f32 0x00000000#32)

theorem proj_at (X : FVec Ideal S256x2048 .bf16) (W : FVec Ideal S2048x2048 .bf16) (r : Fin 256) (d : Fin 2048) :
    (proj X W (ix2 r d) : EReal) = ∑ e : Fin 2048, X (ix2 r e) * W (ix2 e d) := by
  unfold proj
  rw [shapeCast_self]
  refine (Ideal.matmul_plain_apply (M := 256) (K := 2048) (N := 2048) none X W _ r d).trans ?_
  show Ideal.ofBits .f32 0x00000000#32 + _ = _
  rw [Ideal.ofBits_zero_f32]
  exact zero_add _

/-- Two column blocks side by side. -/
def beside (a b : FVec Ideal S256x1024 .f32) : FVec Ideal S256x2048 .f32 :=
  concatenate S256x2048 1 [⟨S256x1024, a⟩, ⟨S256x1024, b⟩] concatenates_S256x1024_S256x1024_S256x2048_d1

theorem beside_at (a b : FVec Ideal S256x1024 .f32) (r : Fin 256) (f : Fin 2048 → EReal)
    (ha : ∀ k : Fin 1024, a (ix2 r k) = f ⟨k.val, by have := k.isLt; omega⟩) (hb : ∀ k : Fin 1024, b (ix2 r k) = f ⟨1024 + k.val, by have := k.isLt; omega⟩) (e : Fin 2048) :
    beside a b (ix2 r e) = f e := by
  have he := e.isLt
  unfold beside
  by_cases h : e.val < 1024
  · exact (concatenate_pair_apply_left (t := S256x2048) (s₁ := S256x1024) (s₂ := S256x1024) 1 a b _ (ix2 r e) rfl (ix2 r ⟨e.val, h⟩) (fun b => match b with
      | ⟨0, _⟩ => rfl
      | ⟨1, _⟩ => rfl)).trans (ha ⟨e.val, h⟩)
  · refine (concatenate_pair_apply_right (t := S256x2048) (s₁ := S256x1024) (s₂ := S256x1024) 1 a b _ (ix2 r e) rfl rfl (ix2 r ⟨e.val - 1024, by omega⟩) (fun b hb => match b with
      | ⟨0, _⟩ => rfl
      | ⟨1, _⟩ => absurd rfl hb) (by show e.val - 1024 + 1024 = e.val; omega)).trans ?_
    refine (hb ⟨e.val - 1024, by omega⟩).trans (congrArg f (Fin.ext ?_))
    show 1024 + (e.val - 1024) = e.val
    omega

/-! ## The whole body -/

def gated (u vv : FVec Ideal S256x1024 .f32) (vg vb : FVec Ideal S1x1024 .f32) : FVec Ideal S256x1024 .bf16 :=
  truncf .bf16 (mulf u (spatial w9 b10 (truncf .bf16 (normedV vv vg vb) bitsLt_bf16_f32))) bitsLt_bf16_f32

theorem gated_at (u vv : FVec Ideal S256x1024 .f32) (vg vb : FVec Ideal S1x1024 .f32) (r : Fin 256) (k : Fin 1024) :
    (gated w9 b10 u vv vg vb (ix2 r k) : EReal)
      = u (ix2 r k) * (∑ s : Fin 128, Cert.Mix.tril w9 (Cert.Mix.groupOf k) (posIn r) s
          * Cert.Mix.norm (fun j => vv (ix2 (rowIn r s) j)) (fun j => vg (ix2 0 j)) (fun j => vb (ix2 0 j)) k + b10 (ix2 (posIn r) (Cert.Mix.groupOf k))) := by
  unfold gated
  show (u (ix2 r k) * spatial w9 b10 (truncf .bf16 (normedV vv vg vb) bitsLt_bf16_f32) (ix2 r k) : EReal) = _
  rw [spatial_at]
  refine congrArg (fun a : EReal => (u (ix2 r k) : EReal) * (a + _)) (Finset.sum_congr rfl fun s _ => ?_)
  exact congrArg (Cert.Mix.tril w9 (Cert.Mix.groupOf k) (posIn r) s * ·) (normedV_at vv vg vb (rowIn r s) k)

def merged (G : FVec Ideal S256x1024 .bf16) (at2 a3 a4 a5 a6 : FVec Ideal S256x1024 .f32) (wa wb : FVec Ideal S1024x2048 .bf16) : FVec Ideal S256x2048 .bf16 :=
  truncf .bf16 (addf (mulf (beside a3 a4) (prod G wa)) (mulf (beside a5 a6) (prod (truncf .bf16 at2 bitsLt_bf16_f32) wb))) bitsLt_bf16_f32

theorem merged_at (G : FVec Ideal S256x1024 .bf16) (at2 a3 a4 a5 a6 : FVec Ideal S256x1024 .f32) (wa wb : FVec Ideal S1024x2048 .bf16) (r : Fin 256) (e : Fin 2048) :
    (merged G at2 a3 a4 a5 a6 wa wb (ix2 r e) : EReal)
      = beside a3 a4 (ix2 r e) * (∑ k : Fin 1024, G (ix2 r k) * wa (ix2 k e)) + beside a5 a6 (ix2 r e) * (∑ k : Fin 1024, at2 (ix2 r k) * wb (ix2 k e)) := by
  rw [← prod_at G wa]
  have e2 : (∑ k : Fin 1024, (at2 (ix2 r k) : EReal) * wb (ix2 k e)) = prod (truncf .bf16 at2 bitsLt_bf16_f32) wb (ix2 r e) := (prod_at _ wb r e).symm
  rw [e2]
  rfl

/-- The block written back, from the blocks read. -/
def body (x0 x1 x2 x3 x4 x5 x6 : FVec Ideal S256x1024 .f32) (x7 : FVec Ideal S256x2048 .f32) (x8 : FVec Ideal S1x1x2048 .f32)
    (x11 x12 : FVec Ideal S1x1024 .f32) (x13 x14 : FVec Ideal S1024x2048 .bf16) (x15 : FVec Ideal S2048x2048 .bf16) (x16 x17 : FVec Ideal S1x2048 .f32) : FVec Ideal S256x2048 .f32 :=
  normed (resid x7 x8 (proj (merged (gated w9 b10 x0 x1 x11 x12) x2 x3 x4 x5 x6 x13 x14) x15)) x16 x17

theorem zero2 : (![0, 0] : Fin 2 → Nat) = fun _ => 0 := by decide
theorem zero3 : (![0, 0, 0] : Fin 3 → Nat) = fun _ => 0 := by decide

theorem out_eq (x0 x1 x2 x3 x4 x5 x6 : FVec Ideal S256x1024 .f32) (x7 : FVec Ideal S256x2048 .f32) (x8 : FVec Ideal S1x1x2048 .f32)
    (x11 x12 : FVec Ideal S1x1024 .f32) (x13 x14 : FVec Ideal S1024x2048 .bf16) (x15 : FVec Ideal S2048x2048 .bf16) (x16 x17 : FVec Ideal S1x2048 .f32) :
    out0_18 (F := Ideal) x0 x1 x2 x3 x4 x5 x6 x7 x8 w9 b10 x11 x12 x13 x14 x15 x16 x17
      = body w9 b10 x0 x1 x2 x3 x4 x5 x6 x7 x8 x11 x12 x13 x14 x15 x16 x17 := by
  have l1 : ∀ x : Vec Ideal S256x1024 .f32, View.ld (Val := Elt Ideal) (e' := .f32) x r0_0 = x := fun x => View.ld_unit_zero (Val := Elt Ideal) (e := .f32) (S := S256x1024) zero2 _ x
  have l2 : ∀ x : Vec Ideal S1x1024 .f32, View.ld (Val := Elt Ideal) (e' := .f32) x r0_1 = x := fun x => View.ld_unit_zero (Val := Elt Ideal) (e := .f32) (S := S1x1024) zero2 _ x
  have l3 : ∀ x : Vec Ideal S1024x2048 .bf16, View.ld (Val := Elt Ideal) (e' := .bf16) x r0_18 = x := fun x => View.ld_unit_zero (Val := Elt Ideal) (e := .bf16) (S := S1024x2048) zero2 _ x
  have l4 : ∀ x : Vec Ideal S2048x2048 .bf16, View.ld (Val := Elt Ideal) (e' := .bf16) x r0_19 = x := fun x => View.ld_unit_zero (Val := Elt Ideal) (e := .bf16) (S := S2048x2048) zero2 _ x
  have l5 : ∀ x : Vec Ideal S256x2048 .f32, View.ld (Val := Elt Ideal) (e' := .f32) x r0_20 = x := fun x => View.ld_unit_zero (Val := Elt Ideal) (e := .f32) (S := S256x2048) zero2 _ x
  have l6 : ∀ x : Vec Ideal S1x1x2048 .f32, View.ld (Val := Elt Ideal) (e' := .f32) x r0_21 = x := fun x => View.ld_unit_zero (Val := Elt Ideal) (e := .f32) (S := S1x1x2048) zero3 _ x
  have l7 : ∀ x : Vec Ideal S1x2048 .f32, View.ld (Val := Elt Ideal) (e' := .f32) x r0_22 = x := fun x => View.ld_unit_zero (Val := Elt Ideal) (e := .f32) (S := S1x2048) zero2 _ x
  have key : out0_18 (F := Ideal) x0 x1 x2 x3 x4 x5 x6 x7 x8 w9 b10 x11 x12 x13 x14 x15 x16 x17
      = body w9 b10 (View.ld (Val := Elt Ideal) (e' := .f32) x0 r0_0) (View.ld (Val := Elt Ideal) (e' := .f32) x1 r0_0) (View.ld (Val := Elt Ideal) (e' := .f32) x2 r0_0) (View.ld (Val := Elt Ideal) (e' := .f32) x3 r0_0) (View.ld (Val := Elt Ideal) (e' := .f32) x4 r0_0) (View.ld (Val := Elt Ideal) (e' := .f32) x5 r0_0) (View.ld (Val := Elt Ideal) (e' := .f32) x6 r0_0) (View.ld (Val := Elt Ideal) (e' := .f32) x7 r0_20) (View.ld (Val := Elt Ideal) (e' := .f32) x8 r0_21)
          (View.ld (Val := Elt Ideal) (e' := .f32) x11 r0_1) (View.ld (Val := Elt Ideal) (e' := .f32) x12 r0_1) (View.ld (Val := Elt Ideal) (e' := .bf16) x13 r0_18) (View.ld (Val := Elt Ideal) (e' := .bf16) x14 r0_18) (View.ld (Val := Elt Ideal) (e' := .bf16) x15 r0_19) (View.ld (Val := Elt Ideal) (e' := .f32) x16 r0_22) (View.ld (Val := Elt Ideal) (e' := .f32) x17 r0_22) := by
    unfold out0_18
    exact (View.canon_unit_zero zero2 _ _).trans rfl
  rw [key, l1, l1, l1, l1, l1, l1, l1, l5, l6, l2, l2, l3, l3, l4, l7, l7]

theorem body_at (x0 x1 x2 x3 x4 x5 x6 : FVec Ideal S256x1024 .f32) (x7 : FVec Ideal S256x2048 .f32) (x8 : FVec Ideal S1x1x2048 .f32)
    (x11 x12 : FVec Ideal S1x1024 .f32) (x13 x14 : FVec Ideal S1024x2048 .bf16) (x15 : FVec Ideal S2048x2048 .bf16) (x16 x17 : FVec Ideal S1x2048 .f32) (r : Fin 256) (d : Fin 2048) :
    (body w9 b10 x0 x1 x2 x3 x4 x5 x6 x7 x8 x11 x12 x13 x14 x15 x16 x17 (ix2 r d) : EReal)
      = Cert.Ffn.norm (Cert.Ffn.residual (fun k => x7 (ix2 r k)) (fun k => x8 (ix3 0 0 k))
          (fun d => ∑ e : Fin 2048, merged (gated w9 b10 x0 x1 x11 x12) x2 x3 x4 x5 x6 x13 x14 (ix2 r e) * x15 (ix2 e d)))
          (fun k => x16 (ix2 0 k)) (fun k => x17 (ix2 0 k)) d := by
  unfold body
  rw [normed_at]
  have ey : (fun k => (resid x7 x8 (proj (merged (gated w9 b10 x0 x1 x11 x12) x2 x3 x4 x5 x6 x13 x14) x15) (ix2 r k) : EReal)) = _ :=
    funext fun k => resid_at x7 x8 _ r k
  rw [ey]
  rw [show (fun k => (proj (merged (gated w9 b10 x0 x1 x11 x12) x2 x3 x4 x5 x6 x13 x14) x15 (ix2 r k) : EReal)) = _ from funext fun k => proj_at _ x15 r k]

end Cert.Kernel3Ideal.Mix

end
-- ==== Proof.Mix.Blocks.lean ====
/-
  The blocks of a point, read at an index from the memory as launched, over the extended reals.
-/
module

public import proofs.«01_k».proof.Proof.Mix.Spec
public import proofs.«01_k».proof.Proof.Gen.Kernel3Ideal
public import proofs.«01_k».proof.Proof.Gen.Kernel3Ideal.Value
public import Idealize.ShloMosaic.Lib.Pipeline.Value
public import Idealize.ShloMosaic.Lib.ValueLayout

@[expose] public section

set_option maxRecDepth 16384

noncomputable section

namespace Cert.Kernel3Ideal.Mix

open Idealize.ShloMosaic Idealize.ShloMosaic.TcCoe Idealize.ShloMosaic.Tactic Idealize.SL.Sem
open Idealize.ShloMosaic.ValueIdx Cert.Kernel3Ideal Cert.Kernel3Ideal.Gen

variable (m : (ℓ : Loc nD τ sig) → Buf (Elt Ideal) ℓ) (c : Dev nD)

/-- The arguments as launched. -/
abbrev pjA : S8192x9216.Idx → EReal := m ((c : Thread nD τ).loc main_arg0)
abbrev avA : S8192x1024.Idx → EReal := m ((c : Thread nD τ).loc main_arg1)
abbrev xA : S8192x2048.Idx → EReal := m ((c : Thread nD τ).loc main_arg2)
abbrev mdA : S2x12288.Idx → EReal := m ((c : Thread nD τ).loc main_arg3)
abbrev wsA : S8x128x128.Idx → EReal := m ((c : Thread nD τ).loc main_arg4)
abbrev bsA : S8x128.Idx → EReal := m ((c : Thread nD τ).loc main_arg5)
abbrev vgA : S1024.Idx → EReal := m ((c : Thread nD τ).loc main_arg6)
abbrev vbA : S1024.Idx → EReal := m ((c : Thread nD τ).loc main_arg7)
abbrev waA : S1024x2048.Idx → EReal := m ((c : Thread nD τ).loc main_arg8)
abbrev wbA : S1024x2048.Idx → EReal := m ((c : Thread nD τ).loc main_arg9)
abbrev woA : S2048x2048.Idx → EReal := m ((c : Thread nD τ).loc main_arg10)
abbrev lgA : S2048.Idx → EReal := m ((c : Thread nD τ).loc main_arg11)
abbrev lbA : S2048.Idx → EReal := m ((c : Thread nD τ).loc main_arg12)

/-! ## What the call finds in its operands -/

theorem in_mod : (V m c main_v0 : S2x1x12288.Idx → EReal) = broadcastInDim S2x1x12288 ![0, 2] bcast_S2x12288_S2x1x12288_0_2 (mdA m c) := by
  unfold V; after_results; try rfl

theorem in_wa : (V m c main_v1 : S1024x2048.Idx → EReal) = waA m c := by
  unfold V; after_results; try rfl

theorem in_wb : (V m c main_v2 : S1024x2048.Idx → EReal) = wbA m c := by
  unfold V; after_results; try rfl

theorem in_wo : (V m c main_v3 : S2048x2048.Idx → EReal) = woA m c := by
  unfold V; after_results; try rfl

theorem in_bs : (V m c main_v4 : S128x8.Idx → EReal) = transpose S128x8 [1, 0] (bsA m c) transposes_S8x128_S128x8_1_0 := by
  unfold V; after_results; try rfl

theorem in_vg : (V m c main_v5 : S1x1024.Idx → EReal) = broadcastInDim S1x1024 ![1] bcast_S1024_S1x1024_1 (vgA m c) := by
  unfold V; after_results; try rfl

theorem in_vb : (V m c main_v6 : S1x1024.Idx → EReal) = broadcastInDim S1x1024 ![1] bcast_S1024_S1x1024_1 (vbA m c) := by
  unfold V; after_results; try rfl

theorem in_lg : (V m c main_v7 : S1x2048.Idx → EReal) = broadcastInDim S1x2048 ![1] bcast_S2048_S1x2048_1 (lgA m c) := by
  unfold V; after_results; try rfl

theorem in_lb : (V m c main_v8 : S1x2048.Idx → EReal) = broadcastInDim S1x2048 ![1] bcast_S2048_S1x2048_1 (lbA m c) := by
  unfold V; after_results; try rfl

theorem mod_at (s : Fin 2) (k : Fin 12288) : (V m c main_v0 : S2x1x12288.Idx → EReal) (ix3 s 0 k) = mdA m c (ix2 s k) := by
  rw [in_mod]
  exact broadcastInDim_apply _ _ _ _ (ix2 s k) fun a => match a with
    | ⟨0, _⟩ => rfl
    | ⟨1, _⟩ => rfl

theorem bs_at (t : Fin 128) (g : Fin 8) : (V m c main_v4 : S128x8.Idx → EReal) (ix2 t g) = bsA m c (ix2 g t) := by
  rw [in_bs]
  exact transpose_ix2_apply (a := 8) (b := 128) _ _ t g

theorem vg_at (k : Fin 1024) : (V m c main_v5 : S1x1024.Idx → EReal) (ix2 0 k) = vgA m c (ix1 k) := by
  rw [in_vg]
  exact broadcastInDim_apply _ _ _ _ (ix1 k) fun a => match a with
    | ⟨0, _⟩ => rfl

theorem vb_at (k : Fin 1024) : (V m c main_v6 : S1x1024.Idx → EReal) (ix2 0 k) = vbA m c (ix1 k) := by
  rw [in_vb]
  exact broadcastInDim_apply _ _ _ _ (ix1 k) fun a => match a with
    | ⟨0, _⟩ => rfl

theorem lg_at (k : Fin 2048) : (V m c main_v7 : S1x2048.Idx → EReal) (ix2 0 k) = lgA m c (ix1 k) := by
  rw [in_lg]
  exact broadcastInDim_apply _ _ _ _ (ix1 k) fun a => match a with
    | ⟨0, _⟩ => rfl

theorem lb_at (k : Fin 2048) : (V m c main_v8 : S1x2048.Idx → EReal) (ix2 0 k) = lbA m c (ix1 k) := by
  rw [in_lb]
  exact broadcastInDim_apply _ _ _ _ (ix1 k) fun a => match a with
    | ⟨0, _⟩ => rfl

/-! ## The index maps at a point -/

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 5] := (by decide +kernel : ∀ t : Fin grid0.N, _)
theorem index4 : ∀ t : Fin cfg0.N, win0_4.index t = ![t.val, 6] := (by decide +kernel : ∀ t : Fin grid0.N, _)
theorem index5 : ∀ t : Fin cfg0.N, win0_5.index t = ![t.val, 7] := (by decide +kernel : ∀ t : Fin grid0.N, _)
theorem index6 : ∀ t : Fin cfg0.N, win0_6.index t = ![t.val, 8] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val / 16, 0, 2] := (by decide +kernel : ∀ t : Fin grid0.N, _)
theorem index9 : ∀ t : Fin cfg0.N, win0_9.index t = ![0, 0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)
theorem index15 : ∀ t : Fin cfg0.N, win0_15.index t = ![0, 0] := (by decide +kernel : ∀ t : Fin grid0.N, _)
theorem index16 : ∀ t : Fin cfg0.N, win0_16.index t = ![0, 0] := (by decide +kernel : ∀ t : Fin grid0.N, _)
theorem index17 : ∀ t : Fin cfg0.N, win0_17.index t = ![0, 0] := (by decide +kernel : ∀ t : Fin grid0.N, _)
theorem index18 : ∀ t : Fin cfg0.N, win0_18.index t = ![t.val, 0] := (by decide +kernel : ∀ t : Fin grid0.N, _)

/-! ## The blocks -/

/-- Row `r` of row block `i`. -/
def row (i : Fin 32) (r : Fin 256) : Fin 8192 := ⟨i.val * 256 + r.val, by have := i.isLt; have := r.isLt; omega⟩

variable (t : Fin cfg0.N) (i : Fin 32) (hi : t.val = i.val)

include hi in
theorem blk0_at (r : Fin 256) (k : Fin 1024) : (iblk m c 0 t (ix2 (n0 := 256) (n1 := 1024) r k) : EReal) = Cert.Mix.narrow (pjA m c) 0 (by decide) (row i r) k := by
  show (V m c main_arg0 : S8192x9216.Idx → EReal) ((win0_0.rect t).emb _) = _
  rw [V_main_arg0]
  refine congrArg (pjA m c) (funext fun a => Fin.ext ?_)
  refine (Pipeline.Window.rect_emb_val win0_0 t _ a rfl).trans ?_
  rw [index0 t, hi]
  match a with
  | ⟨0, _⟩ => rfl
  | ⟨1, _⟩ => show 0 * 1024 + k.val = 0 + k.val; omega

include hi in
theorem blk1_at (r : Fin 256) (k : Fin 1024) : (iblk m c 1 t (ix2 (n0 := 256) (n1 := 1024) r k) : EReal) = Cert.Mix.narrow (pjA m c) 1024 (by decide) (row i r) k := by
  show (V m c main_arg0 : S8192x9216.Idx → EReal) ((win0_1.rect t).emb _) = _
  rw [V_main_arg0]
  refine congrArg (pjA m c) (funext fun a => Fin.ext ?_)
  refine (Pipeline.Window.rect_emb_val win0_1 t _ a rfl).trans ?_
  rw [index1 t, hi]
  match a with
  | ⟨0, _⟩ => rfl
  | ⟨1, _⟩ => show 1 * 1024 + k.val = 1024 + k.val; omega

include hi in
theorem blk2_at (r : Fin 256) (k : Fin 1024) : (iblk m c 2 t (ix2 (n0 := 256) (n1 := 1024) r k) : EReal) = avA m c (ix2 (row i r) k) := by
  show (V m c main_arg1 : S8192x1024.Idx → EReal) ((win0_2.rect t).emb _) = _
  rw [V_main_arg1]
  refine congrArg (avA m c) (funext fun a => Fin.ext ?_)
  refine (Pipeline.Window.rect_emb_val win0_2 t _ a rfl).trans ?_
  rw [index2 t, hi]
  match a with
  | ⟨0, _⟩ => rfl
  | ⟨1, _⟩ => show 0 * 1024 + k.val = k.val; omega

include hi in
theorem blk3_at (r : Fin 256) (k : Fin 1024) : (iblk m c 3 t (ix2 (n0 := 256) (n1 := 1024) r k) : EReal) = Cert.Mix.wide (pjA m c) 5120 (by decide) (row i r) ⟨k.val, by have := k.isLt; omega⟩ := by
  show (V m c main_arg0 : S8192x9216.Idx → EReal) ((win0_3.rect t).emb _) = _
  rw [V_main_arg0]
  refine congrArg (pjA m c) (funext fun a => Fin.ext ?_)
  refine (Pipeline.Window.rect_emb_val win0_3 t _ a rfl).trans ?_
  rw [index3 t, hi]
  match a with
  | ⟨0, _⟩ => rfl
  | ⟨1, _⟩ => show 5 * 1024 + k.val = 5120 + (k.val); omega

include hi in
theorem blk4_at (r : Fin 256) (k : Fin 1024) : (iblk m c 4 t (ix2 (n0 := 256) (n1 := 1024) r k) : EReal) = Cert.Mix.wide (pjA m c) 5120 (by decide) (row i r) ⟨1024 + k.val, by have := k.isLt; omega⟩ := by
  show (V m c main_arg0 : S8192x9216.Idx → EReal) ((win0_4.rect t).emb _) = _
  rw [V_main_arg0]
  refine congrArg (pjA m c) (funext fun a => Fin.ext ?_)
  refine (Pipeline.Window.rect_emb_val win0_4 t _ a rfl).trans ?_
  rw [index4 t, hi]
  match a with
  | ⟨0, _⟩ => rfl
  | ⟨1, _⟩ => show 6 * 1024 + k.val = 5120 + (1024 + k.val); omega

include hi in
theorem blk5_at (r : Fin 256) (k : Fin 1024) : (iblk m c 5 t (ix2 (n0 := 256) (n1 := 1024) r k) : EReal) = Cert.Mix.wide (pjA m c) 7168 (by decide) (row i r) ⟨k.val, by have := k.isLt; omega⟩ := by
  show (V m c main_arg0 : S8192x9216.Idx → EReal) ((win0_5.rect t).emb _) = _
  rw [V_main_arg0]
  refine congrArg (pjA m c) (funext fun a => Fin.ext ?_)
  refine (Pipeline.Window.rect_emb_val win0_5 t _ a rfl).trans ?_
  rw [index5 t, hi]
  match a with
  | ⟨0, _⟩ => rfl
  | ⟨1, _⟩ => show 7 * 1024 + k.val = 7168 + (k.val); omega

include hi in
theorem blk6_at (r : Fin 256) (k : Fin 1024) : (iblk m c 6 t (ix2 (n0 := 256) (n1 := 1024) r k) : EReal) = Cert.Mix.wide (pjA m c) 7168 (by decide) (row i r) ⟨1024 + k.val, by have := k.isLt; omega⟩ := by
  show (V m c main_arg0 : S8192x9216.Idx → EReal) ((win0_6.rect t).emb _) = _
  rw [V_main_arg0]
  refine congrArg (pjA m c) (funext fun a => Fin.ext ?_)
  refine (Pipeline.Window.rect_emb_val win0_6 t _ a rfl).trans ?_
  rw [index6 t, hi]
  match a with
  | ⟨0, _⟩ => rfl
  | ⟨1, _⟩ => show 8 * 1024 + k.val = 7168 + (1024 + k.val); omega

include hi in
theorem blk7_at (r : Fin 256) (k : Fin 2048) : (iblk m c 7 t (ix2 (n0 := 256) (n1 := 2048) r k) : EReal) = xA m c (ix2 (row i r) k) := by
  show (V m c main_arg2 : S8192x2048.Idx → EReal) ((win0_7.rect t).emb _) = _
  rw [V_main_arg2]
  refine congrArg (xA m c) (funext fun a => Fin.ext ?_)
  refine (Pipeline.Window.rect_emb_val win0_7 t _ a rfl).trans ?_
  rw [index7 t, hi]
  match a with
  | ⟨0, _⟩ => rfl
  | ⟨1, _⟩ => show 0 * 2048 + k.val = k.val; omega

include hi in
theorem blk8_at (r : Fin 256) (k : Fin 2048) : (iblk m c 8 t (ix3 (n0 := 1) (n1 := 1) (n2 := 2048) 0 0 k) : EReal) = Cert.Ffn.chunk (mdA m c) 2 (by decide) (row i r) k := by
  have := r.isLt
  unfold Cert.Ffn.chunk
  rw [← mod_at m c]
  show (V m c main_v0 : S2x1x12288.Idx → EReal) ((win0_8.rect t).emb _) = _
  refine congrArg (V m c main_v0 : S2x1x12288.Idx → EReal) (funext fun a => Fin.ext ?_)
  refine (Pipeline.Window.rect_emb_val win0_8 t _ a rfl).trans ?_
  rw [index8 t]
  match a with
  | ⟨0, _⟩ => show t.val / 16 * 1 + 0 = (i.val * 256 + r.val) / 4096; omega
  | ⟨1, _⟩ => rfl
  | ⟨2, _⟩ => rfl

theorem blk9_eq : (iblk m c 9 t : S8x128x128.Idx → EReal) = wsA m c := by
  funext y
  show (V m c main_arg4 : S8x128x128.Idx → EReal) ((win0_9.rect t).emb y) = _
  rw [V_main_arg4]
  refine congrArg (wsA m c) (funext fun a => Fin.ext ?_)
  refine (Pipeline.Window.rect_emb_val win0_9 t _ a rfl).trans ?_
  rw [index9 t]
  match a with
  | ⟨0, _⟩ => show 0 * 8 + (y 0).val = (y 0).val; omega
  | ⟨1, _⟩ => show 0 * 128 + (y 1).val = (y 1).val; omega
  | ⟨2, _⟩ => show 0 * 128 + (y 2).val = (y 2).val; omega

theorem blk10_at (p : Fin 128) (g : Fin 8) : (iblk m c 10 t (ix2 (n0 := 128) (n1 := 8) p g) : EReal) = bsA m c (ix2 g p) := by
  rw [← bs_at m c]
  show (V m c main_v4 : S128x8.Idx → EReal) ((win0_10.rect t).emb _) = _
  refine congrArg (V m c main_v4 : S128x8.Idx → EReal) (funext fun a => Fin.ext ?_)
  refine (Pipeline.Window.rect_emb_val win0_10 t _ a rfl).trans ?_
  rw [index10 t]
  match a with
  | ⟨0, _⟩ => show 0 * 128 + p.val = p.val; omega
  | ⟨1, _⟩ => show 0 * 8 + g.val = g.val; omega

theorem blk13_at (k : Fin 1024) (d : Fin 2048) : (iblk m c 13 t (ix2 (n0 := 1024) (n1 := 2048) k d) : EReal) = waA m c (ix2 k d) := by
  show (V m c main_v1 : S1024x2048.Idx → EReal) ((win0_13.rect t).emb _) = _
  rw [in_wa]
  refine congrArg (waA m c) (funext fun a => Fin.ext ?_)
  refine (Pipeline.Window.rect_emb_val win0_13 t _ a rfl).trans ?_
  rw [index13 t]
  match a with
  | ⟨0, _⟩ => show 0 * 1024 + k.val = k.val; omega
  | ⟨1, _⟩ => show 0 * 2048 + d.val = d.val; omega

theorem blk14_at (k : Fin 1024) (d : Fin 2048) : (iblk m c 14 t (ix2 (n0 := 1024) (n1 := 2048) k d) : EReal) = wbA m c (ix2 k d) := by
  show (V m c main_v2 : S1024x2048.Idx → EReal) ((win0_14.rect t).emb _) = _
  rw [in_wb]
  refine congrArg (wbA m c) (funext fun a => Fin.ext ?_)
  refine (Pipeline.Window.rect_emb_val win0_14 t _ a rfl).trans ?_
  rw [index14 t]
  match a with
  | ⟨0, _⟩ => show 0 * 1024 + k.val = k.val; omega
  | ⟨1, _⟩ => show 0 * 2048 + d.val = d.val; omega

theorem blk15_at (k : Fin 2048) (d : Fin 2048) : (iblk m c 15 t (ix2 (n0 := 2048) (n1 := 2048) k d) : EReal) = woA m c (ix2 k d) := by
  show (V m c main_v3 : S2048x2048.Idx → EReal) ((win0_15.rect t).emb _) = _
  rw [in_wo]
  refine congrArg (woA m c) (funext fun a => Fin.ext ?_)
  refine (Pipeline.Window.rect_emb_val win0_15 t _ a rfl).trans ?_
  rw [index15 t]
  match a with
  | ⟨0, _⟩ => show 0 * 2048 + k.val = k.val; omega
  | ⟨1, _⟩ => show 0 * 2048 + d.val = d.val; omega

theorem blk11_at (k : Fin 1024) : (iblk m c 11 t (ix2 (n0 := 1) (n1 := 1024) 0 k) : EReal) = vgA m c (ix1 k) := by
  rw [← vg_at m c]
  show (V m c main_v5 : S1x1024.Idx → EReal) ((win0_11.rect t).emb _) = _
  refine congrArg (V m c main_v5 : S1x1024.Idx → EReal) (funext fun a => Fin.ext ?_)
  refine (Pipeline.Window.rect_emb_val win0_11 t _ a rfl).trans ?_
  rw [index11 t]
  match a with
  | ⟨0, _⟩ => rfl
  | ⟨1, _⟩ => show 0 * 1024 + k.val = k.val; omega

theorem blk12_at (k : Fin 1024) : (iblk m c 12 t (ix2 (n0 := 1) (n1 := 1024) 0 k) : EReal) = vbA m c (ix1 k) := by
  rw [← vb_at m c]
  show (V m c main_v6 : S1x1024.Idx → EReal) ((win0_12.rect t).emb _) = _
  refine congrArg (V m c main_v6 : S1x1024.Idx → EReal) (funext fun a => Fin.ext ?_)
  refine (Pipeline.Window.rect_emb_val win0_12 t _ a rfl).trans ?_
  rw [index12 t]
  match a with
  | ⟨0, _⟩ => rfl
  | ⟨1, _⟩ => show 0 * 1024 + k.val = k.val; omega

theorem blk16_at (k : Fin 2048) : (iblk m c 16 t (ix2 (n0 := 1) (n1 := 2048) 0 k) : EReal) = lgA m c (ix1 k) := by
  rw [← lg_at m c]
  show (V m c main_v7 : S1x2048.Idx → EReal) ((win0_16.rect t).emb _) = _
  refine congrArg (V m c main_v7 : S1x2048.Idx → EReal) (funext fun a => Fin.ext ?_)
  refine (Pipeline.Window.rect_emb_val win0_16 t _ a rfl).trans ?_
  rw [index16 t]
  match a with
  | ⟨0, _⟩ => rfl
  | ⟨1, _⟩ => show 0 * 2048 + k.val = k.val; omega

theorem blk17_at (k : Fin 2048) : (iblk m c 17 t (ix2 (n0 := 1) (n1 := 2048) 0 k) : EReal) = lbA m c (ix1 k) := by
  rw [← lb_at m c]
  show (V m c main_v8 : S1x2048.Idx → EReal) ((win0_17.rect t).emb _) = _
  refine congrArg (V m c main_v8 : S1x2048.Idx → EReal) (funext fun a => Fin.ext ?_)
  refine (Pipeline.Window.rect_emb_val win0_17 t _ a rfl).trans ?_
  rw [index17 t]
  match a with
  | ⟨0, _⟩ => rfl
  | ⟨1, _⟩ => show 0 * 2048 + k.val = k.val; omega

end Cert.Kernel3Ideal.Mix

end
-- ==== Proof.Mix.Value.lean ====
/-
  What the call leaves in its result array, over the extended reals.
-/
module

public import proofs.«01_k».proof.Proof.Mix.Payload
public import proofs.«01_k».proof.Proof.Mix.Blocks

@[expose] public section

set_option maxRecDepth 16384

noncomputable section

namespace Cert.Kernel3Ideal.Mix

open Idealize.ShloMosaic Idealize.ShloMosaic.TcCoe Idealize.SL.Sem
open Idealize.ShloMosaic.ValueIdx Cert.Kernel3Ideal Cert.Kernel3Ideal.Gen
open scoped BigOperators

variable (m : (ℓ : Loc nD τ sig) → Buf (Elt Ideal) ℓ) (c : Dev nD)

/-- The layer at a row and column, from the memory as launched. -/
abbrev layerAt (r : Fin 8192) (d : Fin 2048) : EReal :=
  Cert.Mix.layer (pjA m c) (avA m c) (xA m c) (mdA m c) (wsA m c) (bsA m c) (vgA m c) (vbA m c) (waA m c) (wbA m c) (woA m c) (lgA m c) (lbA m c) r d

/-- The gated rows and the two branches of point `t`. -/
abbrev gatedBlk (t : Fin cfg0.N) : FVec Ideal S256x1024 .bf16 := gated (iblk m c 9 t) (iblk m c 10 t) (iblk m c 0 t) (iblk m c 1 t) (iblk m c 11 t) (iblk m c 12 t)
abbrev mergedBlk (t : Fin cfg0.N) : FVec Ideal S256x2048 .bf16 :=
  merged (gatedBlk m c t) (iblk m c 2 t) (iblk m c 3 t) (iblk m c 4 t) (iblk m c 5 t) (iblk m c 6 t) (iblk m c 13 t) (iblk m c 14 t)

variable (t : Fin cfg0.N) (i : Fin 32) (hi : t.val = i.val)

include hi in
theorem gatedBlk_at (r : Fin 256) (k : Fin 1024) :
    (gatedBlk m c t (ix2 r k) : EReal) = Cert.Mix.gated (pjA m c) (wsA m c) (bsA m c) (vgA m c) (vbA m c) (row i r) k := by
  have hr := r.isLt
  have ep : Cert.Mix.posIn (row i r) = posIn r := Fin.ext (by show (i.val * 256 + r.val) % 128 = r.val % 128; omega)
  have er : ∀ s, Cert.Mix.rowIn (row i r) s = row i (rowIn r s) := fun s => Fin.ext (by
    show (i.val * 256 + r.val) / 128 * 128 + s.val = i.val * 256 + (r.val / 128 * 128 + s.val)
    omega)
  refine (gated_at _ _ _ _ _ _ r k).trans ?_
  unfold Cert.Mix.gated
  rw [ep]
  refine congrArg₂ (fun a b : EReal => a * b) (blk0_at m c t i hi r k) (congrArg₂ (fun a b : EReal => a + b) (Finset.sum_congr rfl fun s _ => ?_) (blk10_at m c t (posIn r) (Cert.Mix.groupOf k)))
  rw [er]
  unfold Cert.Mix.vn
  refine congrArg₂ (fun a b : EReal => a * b) (congrArg (fun w => Cert.Mix.tril w (Cert.Mix.groupOf k) (posIn r) s) (blk9_eq m c t)) ?_
  rw [show (fun j => (iblk m c 1 t (ix2 (n0 := 256) (n1 := 1024) (rowIn r s) j) : EReal)) = _ from funext fun j => blk1_at m c t i hi (rowIn r s) j,
    show (fun j => (iblk m c 11 t (ix2 (n0 := 1) (n1 := 1024) 0 j) : EReal)) = _ from funext fun j => blk11_at m c t j,
    show (fun j => (iblk m c 12 t (ix2 (n0 := 1) (n1 := 1024) 0 j) : EReal)) = _ from funext fun j => blk12_at m c t j]

include hi in
theorem mergedBlk_at (r : Fin 256) (e : Fin 2048) :
    (mergedBlk m c t (ix2 r e) : EReal)
      = Cert.Mix.merged (pjA m c) (avA m c) (wsA m c) (bsA m c) (vgA m c) (vbA m c) (waA m c) (wbA m c) (row i r) e := by
  refine (merged_at _ _ _ _ _ _ _ _ r e).trans ?_
  unfold Cert.Mix.merged
  refine congrArg₂ (fun a b : EReal => a + b) (congrArg₂ (fun a b : EReal => a * b) ?_ (Finset.sum_congr rfl fun k _ => ?_))
    (congrArg₂ (fun a b : EReal => a * b) ?_ (Finset.sum_congr rfl fun k _ => ?_))
  · exact beside_at _ _ r _ (blk3_at m c t i hi r) (blk4_at m c t i hi r) e
  · exact congrArg₂ (fun a b : EReal => a * b) (gatedBlk_at m c t i hi r k) (blk13_at m c t k e)
  · exact beside_at _ _ r _ (blk5_at m c t i hi r) (blk6_at m c t i hi r) e
  · exact congrArg₂ (fun a b : EReal => a * b) (blk2_at m c t i hi r k) (blk14_at m c t k e)

include hi in
/-- The block point `t` writes back. -/
theorem out_at (r : Fin 256) (d : Fin 2048) :
    (out0_18 (F := Ideal) (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) (iblk m c 17 t) (ix2 r d) : EReal)
      = layerAt m c (row i r) d := by
  rw [out_eq]
  refine (body_at _ _ _ _ _ _ _ _ _ _ _ _ _ _ _ _ _ _ r d).trans ?_
  unfold layerAt Cert.Mix.layer
  rw [show (fun k => (iblk m c 7 t (ix2 (n0 := 256) (n1 := 2048) r k) : EReal)) = _ from funext fun k => blk7_at m c t i hi r k,
    show (fun k => (iblk m c 8 t (ix3 (n0 := 1) (n1 := 1) (n2 := 2048) 0 0 k) : EReal)) = _ from funext fun k => blk8_at m c t i hi r k,
    show (fun k => (iblk m c 16 t (ix2 (n0 := 1) (n1 := 2048) 0 k) : EReal)) = _ from funext fun k => blk16_at m c t k,
    show (fun k => (iblk m c 17 t (ix2 (n0 := 1) (n1 := 2048) 0 k) : EReal)) = _ from funext fun k => blk17_at m c t k]
  refine congrArg (fun p => Cert.Ffn.norm (Cert.Ffn.residual _ _ p) _ _ d) (funext fun d' => Finset.sum_congr rfl fun e _ => ?_)
  exact congrArg₂ (fun a b : EReal => a * b) (mergedBlk_at m c t i hi r e) (blk15_at m c t e d')

/-- The layer from the memory as launched, as an array. -/
def layerOf : S8192x2048.Idx → EReal := fun x => layerAt m c (x 0) (x 1)

/-- The result array when the call ends. -/
theorem result_array : ((dats m 0 c).arrAt 18 cfg0.N : S8192x2048.Idx → EReal) = layerOf m c := by
  funext x
  have h0 : (x 0).val < 8192 := (x 0).isLt
  let i : Fin 32 := ⟨(x 0).val / 256, by omega⟩
  let r : Fin 256 := ⟨(x 0).val % 256, Nat.mod_lt _ (by decide)⟩
  let t : Fin cfg0.N := ⟨i.val, lt_of_lt_of_eq i.isLt N_0.symm⟩
  have ex : (win0_18.rect t).emb (ix2 (n0 := 256) (n1 := 2048) r (x 1)) = x := funext fun a => Fin.ext (by
    refine (Pipeline.Window.rect_emb_val win0_18 t _ a rfl).trans ?_
    rw [index18 t]
    match a with
    | ⟨0, _⟩ => show (x 0).val / 256 * 256 + (x 0).val % 256 = (x 0).val; omega
    | ⟨1, _⟩ => show 0 * 2048 + (x 1).val = (x 1).val; omega)
  have key := congrFun (Cert.Kernel3Ideal.Value.blocks18 m c t (flush0_18 t)) (ix2 (n0 := 256) (n1 := 2048) r (x 1))
  rw [Cert.Kernel3Ideal.Value.flushed18] at key
  have lhs : ((dats m 0 c).arrAt 18 cfg0.N : S8192x2048.Idx → EReal) ((win0_18.rect t).emb (ix2 (n0 := 256) (n1 := 2048) r (x 1))) = _ := key
  rw [ex] at lhs
  refine lhs.trans ((out_at m c t i rfl r (x 1)).trans ?_)
  refine congrArg (fun r => layerAt m c r (x 1)) (Fin.ext ?_)
  show (x 0).val / 256 * 256 + (x 0).val % 256 = (x 0).val
  omega

end Cert.Kernel3Ideal.Mix

end
-- ==== Proof.Mix.Ref.lean ====
/-
  The reference of the mixer's output part, read at an index, is the formula.
-/
module

public import proofs.«01_k».proof.Proof.Mix.Spec
public import proofs.«01_k».proof.Proof.Gen.Reference3Ideal
public import proofs.«01_k».proof.Proof.Gen.Reference3Ideal.Run
public import Idealize.ShloMosaic.Lib.StackMember
public import Idealize.ShloMosaic.Lib.Pipeline.Value
public import Idealize.ShloMosaic.Lib.IdealHost
public import Idealize.ShloMosaic.Lib.ValueIdxCore
public import Idealize.ShloMosaic.Lib.WordCmp

@[expose] public section

set_option maxRecDepth 8192

noncomputable section

namespace Cert.Reference3Ideal.Mix

open Idealize.ShloMosaic Idealize.ShloMosaic.TcCoe Idealize.ShloMosaic.ValueIdx Cert.Reference3Ideal Cert.Reference3Ideal.Gen
open scoped BigOperators

/-! ## The products at an index -/

theorem dot_in_at (A : FVec Ideal S2x4096x1024 .f32) (B : FVec Ideal S1024x2048 .f32) (s : Fin 2) (p : Fin 4096) (f : Fin 2048) :
    (Host.dotGeneral dot_S2x4096x1024_S1024x2048_S2x4096x2048_2_0_01_1_n_n none A B : FVec Ideal S2x4096x2048 .f32) (ix3 s p f)
      = ∑ k : Fin 1024, A (ix3 s p k) * B (ix2 k f) := by
  show FloatOps.dotGeneral _ none _ A B (ix3 s p f) = _
  rw [Ideal.dotGeneral_apply, ← Equiv.sum_comp (contrEquiv1 dot_S2x4096x1024_S1024x2048_S2x4096x2048_2_0_01_1_n_n 1024 rfl rfl).symm]
  refine Finset.sum_congr rfl fun c _ => ?_
  have c3 := contrEquiv1_symm_val dot_S2x4096x1024_S1024x2048_S2x4096x2048_2_0_01_1_n_n 1024 rfl rfl c
  have l3 : dot_S2x4096x1024_S1024x2048_S2x4096x2048_2_0_01_1_n_n.lhsIdx (ix3 s p f) ((contrEquiv1 _ 1024 rfl rfl).symm c) = ix3 s p c := by
    funext ax; apply Fin.ext
    match ax with
    | ⟨0, _⟩ => simp [DotDims.lhsIdx, dot_S2x4096x1024_S1024x2048_S2x4096x2048_2_0_01_1_n_n]; rfl
    | ⟨1, _⟩ => simp [DotDims.lhsIdx, dot_S2x4096x1024_S1024x2048_S2x4096x2048_2_0_01_1_n_n]; rfl
    | ⟨2, _⟩ => simp [DotDims.lhsIdx, dot_S2x4096x1024_S1024x2048_S2x4096x2048_2_0_01_1_n_n]; exact c3
  have r3 : dot_S2x4096x1024_S1024x2048_S2x4096x2048_2_0_01_1_n_n.rhsIdx (ix3 s p f) ((contrEquiv1 _ 1024 rfl rfl).symm c) = ix2 c f := by
    funext ax; apply Fin.ext
    match ax with
    | ⟨0, _⟩ => simp [DotDims.rhsIdx, dot_S2x4096x1024_S1024x2048_S2x4096x2048_2_0_01_1_n_n]; exact c3
    | ⟨1, _⟩ => simp [DotDims.rhsIdx, dot_S2x4096x1024_S1024x2048_S2x4096x2048_2_0_01_1_n_n]; rfl
  rw [l3, r3]

theorem dot_out_at (A : FVec Ideal S2x4096x2048 .f32) (B : FVec Ideal S2048x2048 .f32) (s : Fin 2) (p : Fin 4096) (f : Fin 2048) :
    (Host.dotGeneral dot_S2x4096x2048_S2048x2048_S2x4096x2048_2_0_01_1_n_n none A B : FVec Ideal S2x4096x2048 .f32) (ix3 s p f)
      = ∑ k : Fin 2048, A (ix3 s p k) * B (ix2 k f) := by
  show FloatOps.dotGeneral _ none _ A B (ix3 s p f) = _
  rw [Ideal.dotGeneral_apply, ← Equiv.sum_comp (contrEquiv1 dot_S2x4096x2048_S2048x2048_S2x4096x2048_2_0_01_1_n_n 2048 rfl rfl).symm]
  refine Finset.sum_congr rfl fun c _ => ?_
  have c3 := contrEquiv1_symm_val dot_S2x4096x2048_S2048x2048_S2x4096x2048_2_0_01_1_n_n 2048 rfl rfl c
  have l3 : dot_S2x4096x2048_S2048x2048_S2x4096x2048_2_0_01_1_n_n.lhsIdx (ix3 s p f) ((contrEquiv1 _ 2048 rfl rfl).symm c) = ix3 s p c := by
    funext ax; apply Fin.ext
    match ax with
    | ⟨0, _⟩ => simp [DotDims.lhsIdx, dot_S2x4096x2048_S2048x2048_S2x4096x2048_2_0_01_1_n_n]; rfl
    | ⟨1, _⟩ => simp [DotDims.lhsIdx, dot_S2x4096x2048_S2048x2048_S2x4096x2048_2_0_01_1_n_n]; rfl
    | ⟨2, _⟩ => simp [DotDims.lhsIdx, dot_S2x4096x2048_S2048x2048_S2x4096x2048_2_0_01_1_n_n]; exact c3
  have r3 : dot_S2x4096x2048_S2048x2048_S2x4096x2048_2_0_01_1_n_n.rhsIdx (ix3 s p f) ((contrEquiv1 _ 2048 rfl rfl).symm c) = ix2 c f := by
    funext ax; apply Fin.ext
    match ax with
    | ⟨0, _⟩ => simp [DotDims.rhsIdx, dot_S2x4096x2048_S2048x2048_S2x4096x2048_2_0_01_1_n_n]; exact c3
    | ⟨1, _⟩ => simp [DotDims.rhsIdx, dot_S2x4096x2048_S2048x2048_S2x4096x2048_2_0_01_1_n_n]; rfl
  rw [l3, r3]

theorem dot_mix_at (A : FVec Ideal S2x32x128x8x128 .f32) (B : FVec Ideal S8x128x128 .f32) (g : Fin 8) (b : Fin 2) (c : Fin 32) (q t : Fin 128) :
    (Host.dotGeneral dot_S2x32x128x8x128_S8x128x128_S8x2x32x128x128_2_2_014_1_3_0 none A B : FVec Ideal S8x2x32x128x128 .f32) (ix5 g b c q t)
      = ∑ s : Fin 128, A (ix5 b c s g q) * B (ix3 g t s) := by
  show FloatOps.dotGeneral _ none _ A B (ix5 g b c q t) = _
  rw [Ideal.dotGeneral_apply, ← Equiv.sum_comp (contrEquiv1 dot_S2x32x128x8x128_S8x128x128_S8x2x32x128x128_2_2_014_1_3_0 128 rfl rfl).symm]
  refine Finset.sum_congr rfl fun s _ => ?_
  have c3 := contrEquiv1_symm_val dot_S2x32x128x8x128_S8x128x128_S8x2x32x128x128_2_2_014_1_3_0 128 rfl rfl s
  have l3 : dot_S2x32x128x8x128_S8x128x128_S8x2x32x128x128_2_2_014_1_3_0.lhsIdx (ix5 g b c q t) ((contrEquiv1 _ 128 rfl rfl).symm s) = ix5 b c s g q := by
    funext ax; apply Fin.ext
    match ax with
    | ⟨0, _⟩ => simp [DotDims.lhsIdx, dot_S2x32x128x8x128_S8x128x128_S8x2x32x128x128_2_2_014_1_3_0]; rfl
    | ⟨1, _⟩ => simp [DotDims.lhsIdx, dot_S2x32x128x8x128_S8x128x128_S8x2x32x128x128_2_2_014_1_3_0]; rfl
    | ⟨2, _⟩ => simp [DotDims.lhsIdx, dot_S2x32x128x8x128_S8x128x128_S8x2x32x128x128_2_2_014_1_3_0]; exact c3
    | ⟨3, _⟩ => simp [DotDims.lhsIdx, dot_S2x32x128x8x128_S8x128x128_S8x2x32x128x128_2_2_014_1_3_0]; rfl
    | ⟨4, _⟩ => simp [DotDims.lhsIdx, dot_S2x32x128x8x128_S8x128x128_S8x2x32x128x128_2_2_014_1_3_0]; rfl
  have r3 : dot_S2x32x128x8x128_S8x128x128_S8x2x32x128x128_2_2_014_1_3_0.rhsIdx (ix5 g b c q t) ((contrEquiv1 _ 128 rfl rfl).symm s) = ix3 g t s := by
    funext ax; apply Fin.ext
    match ax with
    | ⟨0, _⟩ => simp [DotDims.rhsIdx, dot_S2x32x128x8x128_S8x128x128_S8x2x32x128x128_2_2_014_1_3_0]; rfl
    | ⟨1, _⟩ => simp [DotDims.rhsIdx, dot_S2x32x128x8x128_S8x128x128_S8x2x32x128x128_2_2_014_1_3_0]; rfl
    | ⟨2, _⟩ => simp [DotDims.rhsIdx, dot_S2x32x128x8x128_S8x128x128_S8x2x32x128x128_2_2_014_1_3_0]; exact c3
  rw [l3, r3]

/-! ## The reference's lines -/

/-- The mean of each row. -/
def means (y : FVec Ideal S2x4096x2048 .f32) : FVec Ideal S2x4096x1 .f32 :=
  Host.divf (broadcastInDim S2x4096x1 ![0, 1] bcast_S2x4096_S2x4096x1_0_1 (Host.reduceAdd y (constant S_ .f32 0x00000000#32) reducesTo_S2x4096x2048_S2x4096_d2 h_S_))
    (broadcastInDim S2x4096x1 ![] bcast_S_S2x4096x1 (constant S_ .f32 0x45000000#32))

def centred (y : FVec Ideal S2x4096x2048 .f32) : FVec Ideal S2x4096x2048 .f32 :=
  subf y (broadcastInDim S2x4096x2048 ![0, 1, 2] bcast_S2x4096x1_S2x4096x2048_0_1_2 (means y))

def params (v : FVec Ideal S2048 .f32) : FVec Ideal S2x4096x2048 .f32 :=
  broadcastInDim S2x4096x2048 ![0, 1, 2] bcast_S1x1x2048_S2x4096x2048_0_1_2 (broadcastInDim S1x1x2048 ![2] bcast_S2048_S1x1x2048_2 v)

def normed (lg lb : FVec Ideal S2048 .f32) (y : FVec Ideal S2x4096x2048 .f32) : FVec Ideal S2x4096x2048 .f32 :=
  addf (mulf (mulf (centred y) (broadcastInDim S2x4096x2048 ![0, 1, 2] bcast_S2x4096x1_S2x4096x2048_0_1_2
      (Host.rsqrt (addf (means (mulf (centred y) (centred y))) (broadcastInDim S2x4096x1 ![] bcast_S_S2x4096x1 (constant S_ .f32 0x3727C5AC#32))))))
    (params lg)) (params lb)

/-- The same for the gating branch. -/
def meansV (y : FVec Ideal S2x4096x1024 .f32) : FVec Ideal S2x4096x1 .f32 :=
  Host.divf (broadcastInDim S2x4096x1 ![0, 1] bcast_S2x4096_S2x4096x1_0_1 (Host.reduceAdd y (constant S_ .f32 0x00000000#32) reducesTo_S2x4096x1024_S2x4096_d2 h_S_))
    (broadcastInDim S2x4096x1 ![] bcast_S_S2x4096x1 (constant S_ .f32 0x44800000#32))

def centredV (y : FVec Ideal S2x4096x1024 .f32) : FVec Ideal S2x4096x1024 .f32 :=
  subf y (broadcastInDim S2x4096x1024 ![0, 1, 2] bcast_S2x4096x1_S2x4096x1024_0_1_2 (meansV y))

def paramsV (v : FVec Ideal S1024 .f32) : FVec Ideal S2x4096x1024 .f32 :=
  broadcastInDim S2x4096x1024 ![0, 1, 2] bcast_S1x1x1024_S2x4096x1024_0_1_2 (broadcastInDim S1x1x1024 ![2] bcast_S1024_S1x1x1024_2 v)

def normedV (lg lb : FVec Ideal S1024 .f32) (y : FVec Ideal S2x4096x1024 .f32) : FVec Ideal S2x4096x1024 .f32 :=
  addf (mulf (mulf (centredV y) (broadcastInDim S2x4096x1024 ![0, 1, 2] bcast_S2x4096x1_S2x4096x1024_0_1_2
      (Host.rsqrt (addf (meansV (mulf (centredV y) (centredV y))) (broadcastInDim S2x4096x1 ![] bcast_S_S2x4096x1 (constant S_ .f32 0x3727C5AC#32))))))
    (paramsV lg)) (paramsV lb)

variable (pj : FVec Ideal S8192x9216 .f32) (av : FVec Ideal S8192x1024 .f32) (x : FVec Ideal S8192x2048 .f32) (md : FVec Ideal S2x12288 .f32)
variable (ws : FVec Ideal S8x128x128 .f32) (bs : FVec Ideal S8x128 .f32) (vg vb : FVec Ideal S1024 .f32) (wa wb : FVec Ideal S1024x2048 .f32)
variable (wo : FVec Ideal S2048x2048 .f32) (lg lb : FVec Ideal S2048 .f32)

/-- The rows by sequence and position. -/
def xs : FVec Ideal S2x4096x2048 .f32 := shapeCast _ x shapeCasts_S8192x2048_S2x4096x2048
def ats : FVec Ideal S2x4096x1024 .f32 := shapeCast _ av shapeCasts_S8192x1024_S2x4096x1024
def ps : FVec Ideal S2x4096x9216 .f32 := shapeCast _ pj shapeCasts_S8192x9216_S2x4096x9216

/-- The parts of the projection. -/
def uPart : FVec Ideal S2x4096x1024 .f32 := extractStridedSlice S2x4096x1024 ![0, 0, 0] (ps pj) slices_S2x4096x9216_S2x4096x1024_0_0_0
def vPart : FVec Ideal S2x4096x1024 .f32 := extractStridedSlice S2x4096x1024 ![0, 0, 1024] (ps pj) slices_S2x4096x9216_S2x4096x1024_0_0_1024
def gateA : FVec Ideal S2x4096x2048 .f32 := extractStridedSlice S2x4096x2048 ![0, 0, 5120] (ps pj) slices_S2x4096x9216_S2x4096x2048_0_0_5120
def gateB : FVec Ideal S2x4096x2048 .f32 := extractStridedSlice S2x4096x2048 ![0, 0, 7168] (ps pj) slices_S2x4096x9216_S2x4096x2048_0_0_7168

def mod3 : FVec Ideal S2x1x12288 .f32 := broadcastInDim S2x1x12288 ![0, 2] bcast_S2x12288_S2x1x12288_0_2 md
def gate1 : FVec Ideal S2x1x2048 .f32 := extractStridedSlice S2x1x2048 ![0, 0, 4096] (mod3 md) slices_S2x1x12288_S2x1x2048_0_0_4096

/-- One plus a chunk, at every position. -/
def plusOne (v : FVec Ideal S2x1x2048 .f32) : FVec Ideal S2x4096x2048 .f32 :=
  broadcastInDim S2x4096x2048 ![0, 1, 2] bcast_S2x1x2048_S2x4096x2048_0_1_2
    (addf (broadcastInDim S2x1x2048 ![] bcast_S_S2x1x2048 (constant S_ .f32 0x3F800000#32)) v)

/-- Where a position is not after another. -/
def causal : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The causal weights. -/
def lower : FVec Ideal S8x128x128 .f32 :=
  select (broadcastInDim S8x128x128 ![0, 1, 2] bcast_S1x128x128_S8x128x128_0_1_2 (broadcastInDim S1x128x128 ![1, 2] bcast_S128x128_S1x128x128_1_2 causal))
    ws (broadcastInDim S8x128x128 ![] bcast_S_S8x128x128 (constant S_ .f32 0x00000000#32))

def normedRows : FVec Ideal S2x4096x1024 .f32 := normedV vg vb (vPart pj)

def mixed : FVec Ideal S8x2x32x128x128 .f32 :=
  Host.dotGeneral dot_S2x32x128x8x128_S8x128x128_S8x2x32x128x128_2_2_014_1_3_0 none
    (shapeCast _ (normedRows pj vg vb) shapeCasts_S2x4096x1024_S2x32x128x8x128) (lower ws)

def biases : FVec Ideal S2x32x128x8x128 .f32 :=
  broadcastInDim S2x32x128x8x128 ![0, 1, 2, 3, 4] bcast_S1x1x128x8x1_S2x32x128x8x128_0_1_2_3_4
    (broadcastInDim S1x1x128x8x1 ![2, 3] bcast_S128x8_S1x1x128x8x1_2_3 (transpose S128x8 [1, 0] bs transposes_S8x128_S128x8_1_0))

def spatial : FVec Ideal S2x32x128x8x128 .f32 :=
  addf (transpose S2x32x128x8x128 [1, 2, 4, 0, 3] (mixed pj ws vg vb) transposes_S8x2x32x128x128_S2x32x128x8x128_1_2_4_0_3) (biases bs)

def gatedRows : FVec Ideal S2x4096x1024 .f32 :=
  mulf (uPart pj) (shapeCast _ (spatial pj ws bs vg vb) shapeCasts_S2x32x128x8x128_S2x4096x1024)

def mergedRows : FVec Ideal S2x4096x2048 .f32 :=
  addf (mulf (gateA pj) (Host.dotGeneral dot_S2x4096x1024_S1024x2048_S2x4096x2048_2_0_01_1_n_n none (gatedRows pj ws bs vg vb) wa))
    (mulf (gateB pj) (Host.dotGeneral dot_S2x4096x1024_S1024x2048_S2x4096x2048_2_0_01_1_n_n none (ats av) wb))

def outp : FVec Ideal S2x4096x2048 .f32 :=
  Host.dotGeneral dot_S2x4096x2048_S2048x2048_S2x4096x2048_2_0_01_1_n_n none (mergedRows pj av ws bs vg vb wa wb) wo

def resid : FVec Ideal S2x4096x2048 .f32 :=
  addf (mulf (broadcastInDim S2x4096x2048 ![] bcast_S_S2x4096x2048 (constant S_ .f32 0x3FB504F3#32)) (xs x))
    (mulf (plusOne (gate1 md)) (outp pj av ws bs vg vb wa wb wo))

def staged : FVec Ideal S8192x2048 .f32 := shapeCast _ (normed lg lb (resid pj av x md ws bs vg vb wa wb wo)) shapeCasts_S2x4096x2048_S8192x2048

/-! ## The lines at an index -/

/-- Position `p` of sequence `s` among all rows. -/
def flat (s : Fin 2) (p : Fin 4096) : Fin 8192 := ⟨s.val * 4096 + p.val, by have := s.isLt; have := p.isLt; omega⟩

theorem seqOf_flat (s : Fin 2) (p : Fin 4096) : Cert.Ffn.seqOf (flat s p) = s := Fin.ext (by
  have := p.isLt
  show (s.val * 4096 + p.val) / 4096 = s.val
  omega)

variable (s : Fin 2) (p : Fin 4096)

theorem xs_at (k : Fin 2048) : xs x (ix3 s p k) = x (ix2 (flat s p) k) := by
  unfold xs
  refine shapeCast_apply x shapeCasts_S8192x2048_S2x4096x2048 (ix3 s p k) (ix2 (flat s p) k) ?_
  rw [Shape.rowMajor_val_two, Shape.rowMajor_val_three]
  rfl

theorem ats_at (k : Fin 1024) : ats av (ix3 s p k) = av (ix2 (flat s p) k) := by
  unfold ats
  refine shapeCast_apply av shapeCasts_S8192x1024_S2x4096x1024 (ix3 s p k) (ix2 (flat s p) k) ?_
  rw [Shape.rowMajor_val_two, Shape.rowMajor_val_three]
  rfl

theorem ps_at (k : Fin 9216) : ps pj (ix3 s p k) = pj (ix2 (flat s p) k) := by
  unfold ps
  refine shapeCast_apply pj shapeCasts_S8192x9216_S2x4096x9216 (ix3 s p k) (ix2 (flat s p) k) ?_
  rw [Shape.rowMajor_val_two, Shape.rowMajor_val_three]
  rfl

theorem mod3_at (k : Fin 12288) : mod3 md (ix3 s 0 k) = md (ix2 s k) := by
  unfold mod3
  exact broadcastInDim_apply _ _ _ _ (ix2 s k) fun a => match a with
    | ⟨0, _⟩ => rfl
    | ⟨1, _⟩ => rfl

theorem gate1_at (k : Fin 2048) : gate1 md (ix3 s 0 k) = Cert.Ffn.chunk md 2 (by decide) (flat s p) k := by
  unfold Cert.Ffn.chunk
  rw [seqOf_flat, ← mod3_at md]
  unfold gate1
  refine extractStridedSlice_apply _ _ _ _ _ fun a => ?_
  match a with
  | ⟨0, _⟩ => show s.val = 0 + s.val; omega
  | ⟨1, _⟩ => rfl
  | ⟨2, _⟩ => rfl

theorem along_at (v : FVec Ideal S2x1x2048 .f32) (k : Fin 2048) :
    (broadcastInDim S2x4096x2048 ![0, 1, 2] bcast_S2x1x2048_S2x4096x2048_0_1_2 v : FVec Ideal S2x4096x2048 .f32) (ix3 s p k) = v (ix3 s 0 k) :=
  broadcastInDim_apply _ _ _ _ (ix3 s 0 k) fun a => match a with
    | ⟨0, _⟩ => rfl
    | ⟨1, _⟩ => rfl
    | ⟨2, _⟩ => rfl

theorem across_at (v : FVec Ideal S2x4096x1 .f32) (k : Fin 2048) :
    (broadcastInDim S2x4096x2048 ![0, 1, 2] bcast_S2x4096x1_S2x4096x2048_0_1_2 v : FVec Ideal S2x4096x2048 .f32) (ix3 s p k) = v (ix3 s p 0) :=
  broadcastInDim_apply _ _ _ _ (ix3 s p 0) fun a => match a with
    | ⟨0, _⟩ => rfl
    | ⟨1, _⟩ => rfl
    | ⟨2, _⟩ => rfl

theorem plusOne_at (v : FVec Ideal S2x1x2048 .f32) (k : Fin 2048) : (plusOne v (ix3 s p k) : EReal) = Cert.Ffn.one + v (ix3 s 0 k) := by
  unfold plusOne
  rw [along_at]
  rfl

theorem acrossV_at (v : FVec Ideal S2x4096x1 .f32) (k : Fin 1024) :
    (broadcastInDim S2x4096x1024 ![0, 1, 2] bcast_S2x4096x1_S2x4096x1024_0_1_2 v : FVec Ideal S2x4096x1024 .f32) (ix3 s p k) = v (ix3 s p 0) :=
  broadcastInDim_apply _ _ _ _ (ix3 s p 0) fun a => match a with
    | ⟨0, _⟩ => rfl
    | ⟨1, _⟩ => rfl
    | ⟨2, _⟩ => rfl

theorem reduces_rows : Shape.Reduces S2x4096x2048 [2] S2x4096 := by decide

theorem means_at (y : FVec Ideal S2x4096x2048 .f32) : (means y (ix3 s p 0) : EReal) = Cert.Ffn.mean (fun k => y (ix3 s p k)) := by
  unfold means Cert.Ffn.mean
  show Ideal.div ((broadcastInDim S2x4096x1 ![0, 1] bcast_S2x4096_S2x4096x1_0_1 (Host.reduceAdd y (constant S_ .f32 0x00000000#32) reducesTo_S2x4096x2048_S2x4096_d2 h_S_) : FVec Ideal S2x4096x1 .f32) (ix3 s p 0)) (Ideal.ofBits .f32 0x45000000#32) = _
  refine congrArg (Ideal.div · _) ?_
  refine (broadcastInDim_apply _ _ _ _ (ix2 s p) fun a => match a with
    | ⟨0, _⟩ => rfl
    | ⟨1, _⟩ => rfl).trans ?_
  refine (Ideal.hostReduceAdd_single reducesTo_S2x4096x2048_S2x4096_d2 reduces_rows y _ (ix2 s p)).trans ?_
  show Ideal.ofBits .f32 0x00000000#32 + _ = _
  rw [Ideal.ofBits_zero_f32]
  refine (zero_add _).trans (Finset.sum_congr rfl fun k _ => congrArg y ?_)
  funext a
  match a with
  | ⟨0, _⟩ => rfl
  | ⟨1, _⟩ => rfl
  | ⟨2, _⟩ => rfl

theorem centred_at (y : FVec Ideal S2x4096x2048 .f32) (d : Fin 2048) :
    (centred y (ix3 s p d) : EReal) = y (ix3 s p d) - Cert.Ffn.mean (fun k => y (ix3 s p k)) := by
  unfold centred
  show (y (ix3 s p d) - (broadcastInDim S2x4096x2048 ![0, 1, 2] bcast_S2x4096x1_S2x4096x2048_0_1_2 (means y) : FVec Ideal S2x4096x2048 .f32) (ix3 s p d) : EReal) = _
  rw [across_at, means_at]

theorem params_at (v : FVec Ideal S2048 .f32) (k : Fin 2048) : params v (ix3 s p k) = v (ix1 k) := by
  unfold params
  refine (broadcastInDim_apply _ _ _ _ (ix3 0 0 k) fun a => match a with
    | ⟨0, _⟩ => rfl
    | ⟨1, _⟩ => rfl
    | ⟨2, _⟩ => rfl).trans ?_
  exact broadcastInDim_apply _ _ _ _ (ix1 k) fun a => match a with
    | ⟨0, _⟩ => rfl

theorem normed_at (lg lb : FVec Ideal S2048 .f32) (y : FVec Ideal S2x4096x2048 .f32) (d : Fin 2048) :
    (normed lg lb y (ix3 s p d) : EReal) = Cert.Ffn.norm (fun k => y (ix3 s p k)) (fun k => lg (ix1 k)) (fun k => lb (ix1 k)) d := by
  unfold normed Cert.Ffn.norm
  show (centred y (ix3 s p d)
      * (broadcastInDim S2x4096x2048 ![0, 1, 2] bcast_S2x4096x1_S2x4096x2048_0_1_2
          (Host.rsqrt (addf (means (mulf (centred y) (centred y))) (broadcastInDim S2x4096x1 ![] bcast_S_S2x4096x1 (constant S_ .f32 0x3727C5AC#32)))) : FVec Ideal S2x4096x2048 .f32) (ix3 s p d)
      * params lg (ix3 s p d) + params lb (ix3 s p d) : EReal) = _
  rw [params_at, params_at, across_at, centred_at]
  show (_ * Ideal.rsqrt (means (mulf (centred y) (centred y)) (ix3 s p 0) + Ideal.ofBits .f32 0x3727C5AC#32) * _ + _ : EReal) = _
  rw [means_at]
  have ev : (fun k => (mulf (centred y) (centred y) : FVec Ideal S2x4096x2048 .f32) (ix3 s p k))
      = fun k => (centred y (ix3 s p k) * centred y (ix3 s p k) : EReal) := rfl
  rw [ev]
  simp only [centred_at]

theorem reduces_narrow : Shape.Reduces S2x4096x1024 [2] S2x4096 := by decide

theorem meansV_at (y : FVec Ideal S2x4096x1024 .f32) : (meansV y (ix3 s p 0) : EReal) = Cert.Mix.mean (fun k => y (ix3 s p k)) := by
  unfold meansV Cert.Mix.mean
  show Ideal.div ((broadcastInDim S2x4096x1 ![0, 1] bcast_S2x4096_S2x4096x1_0_1 (Host.reduceAdd y (constant S_ .f32 0x00000000#32) reducesTo_S2x4096x1024_S2x4096_d2 h_S_) : FVec Ideal S2x4096x1 .f32) (ix3 s p 0)) (Ideal.ofBits .f32 0x44800000#32) = _
  refine congrArg (Ideal.div · _) ?_
  refine (broadcastInDim_apply _ _ _ _ (ix2 s p) fun a => match a with
    | ⟨0, _⟩ => rfl
    | ⟨1, _⟩ => rfl).trans ?_
  refine (Ideal.hostReduceAdd_single reducesTo_S2x4096x1024_S2x4096_d2 reduces_narrow y _ (ix2 s p)).trans ?_
  show Ideal.ofBits .f32 0x00000000#32 + _ = _
  rw [Ideal.ofBits_zero_f32]
  refine (zero_add _).trans (Finset.sum_congr rfl fun k _ => congrArg y ?_)
  funext a
  match a with
  | ⟨0, _⟩ => rfl
  | ⟨1, _⟩ => rfl
  | ⟨2, _⟩ => rfl

theorem centredV_at (y : FVec Ideal S2x4096x1024 .f32) (d : Fin 1024) :
    (centredV y (ix3 s p d) : EReal) = y (ix3 s p d) - Cert.Mix.mean (fun k => y (ix3 s p k)) := by
  unfold centredV
  show (y (ix3 s p d) - (broadcastInDim S2x4096x1024 ![0, 1, 2] bcast_S2x4096x1_S2x4096x1024_0_1_2 (meansV y) : FVec Ideal S2x4096x1024 .f32) (ix3 s p d) : EReal) = _
  rw [acrossV_at, meansV_at]

theorem paramsV_at (v : FVec Ideal S1024 .f32) (k : Fin 1024) : paramsV v (ix3 s p k) = v (ix1 k) := by
  unfold paramsV
  refine (broadcastInDim_apply _ _ _ _ (ix3 0 0 k) fun a => match a with
    | ⟨0, _⟩ => rfl
    | ⟨1, _⟩ => rfl
    | ⟨2, _⟩ => rfl).trans ?_
  exact broadcastInDim_apply _ _ _ _ (ix1 k) fun a => match a with
    | ⟨0, _⟩ => rfl

theorem normedV_at (lg lb : FVec Ideal S1024 .f32) (y : FVec Ideal S2x4096x1024 .f32) (d : Fin 1024) :
    (normedV lg lb y (ix3 s p d) : EReal) = Cert.Mix.norm (fun k => y (ix3 s p k)) (fun k => lg (ix1 k)) (fun k => lb (ix1 k)) d := by
  unfold normedV Cert.Mix.norm
  show (centredV y (ix3 s p d)
      * (broadcastInDim S2x4096x1024 ![0, 1, 2] bcast_S2x4096x1_S2x4096x1024_0_1_2
          (Host.rsqrt (addf (meansV (mulf (centredV y) (centredV y))) (broadcastInDim S2x4096x1 ![] bcast_S_S2x4096x1 (constant S_ .f32 0x3727C5AC#32)))) : FVec Ideal S2x4096x1024 .f32) (ix3 s p d)
      * paramsV lg (ix3 s p d) + paramsV lb (ix3 s p d) : EReal) = _
  rw [paramsV_at, paramsV_at, acrossV_at, centredV_at]
  show (_ * Ideal.rsqrt (meansV (mulf (centredV y) (centredV y)) (ix3 s p 0) + Ideal.ofBits .f32 0x3727C5AC#32) * _ + _ : EReal) = _
  rw [meansV_at]
  have ev : (fun k => (mulf (centredV y) (centredV y) : FVec Ideal S2x4096x1024 .f32) (ix3 s p k))
      = fun k => (centredV y (ix3 s p k) * centredV y (ix3 s p k) : EReal) := rfl
  rw [ev]
  simp only [centredV_at]

theorem uPart_at (k : Fin 1024) : uPart pj (ix3 s p k) = Cert.Mix.narrow pj 0 (by decide) (flat s p) k := by
  unfold Cert.Mix.narrow
  rw [← ps_at pj]
  unfold uPart
  exact extractStridedSlice_apply _ _ _ _ _ fun a => match a with
    | ⟨0, _⟩ => (Nat.zero_add _).symm
    | ⟨1, _⟩ => (Nat.zero_add _).symm
    | ⟨2, _⟩ => rfl

theorem vPart_at (k : Fin 1024) : vPart pj (ix3 s p k) = Cert.Mix.narrow pj 1024 (by decide) (flat s p) k := by
  unfold Cert.Mix.narrow
  rw [← ps_at pj]
  unfold vPart
  exact extractStridedSlice_apply _ _ _ _ _ fun a => match a with
    | ⟨0, _⟩ => (Nat.zero_add _).symm
    | ⟨1, _⟩ => (Nat.zero_add _).symm
    | ⟨2, _⟩ => rfl

theorem gateA_at (k : Fin 2048) : gateA pj (ix3 s p k) = Cert.Mix.wide pj 5120 (by decide) (flat s p) k := by
  unfold Cert.Mix.wide
  rw [← ps_at pj]
  unfold gateA
  exact extractStridedSlice_apply _ _ _ _ _ fun a => match a with
    | ⟨0, _⟩ => (Nat.zero_add _).symm
    | ⟨1, _⟩ => (Nat.zero_add _).symm
    | ⟨2, _⟩ => rfl

theorem gateB_at (k : Fin 2048) : gateB pj (ix3 s p k) = Cert.Mix.wide pj 7168 (by decide) (flat s p) k := by
  unfold Cert.Mix.wide
  rw [← ps_at pj]
  unfold gateB
  exact extractStridedSlice_apply _ _ _ _ _ fun a => match a with
    | ⟨0, _⟩ => (Nat.zero_add _).symm
    | ⟨1, _⟩ => (Nat.zero_add _).symm
    | ⟨2, _⟩ => rfl

theorem normedRows_at (k : Fin 1024) : (normedRows pj vg vb (ix3 s p k) : EReal) = Cert.Mix.vn pj vg vb (flat s p) k := by
  unfold normedRows Cert.Mix.vn
  refine (normedV_at s p vg vb _ k).trans ?_
  rw [show (fun k => (vPart pj (ix3 s p k) : EReal)) = _ from funext fun k => vPart_at pj s p k]

theorem causal_at (t q : Fin 128) : causal (ix2 t q) = BitVec.ofBool (decide (q.val ≤ t.val)) := by
  have ht := t.isLt
  have hq := q.isLt
  unfold causal
  rw [select_apply]
  show Scalar.select (IntOp.cmpi .sge (BitVec.ofNat 32 t.val + 0#32) (BitVec.ofNat 32 q.val)) 1#1 0#1 = _
  rw [BitVec.add_zero, WordCmp.cmpi_sge_ofNat (by omega) (by omega)]
  cases decide (q.val ≤ t.val) <;> rfl

theorem lower_at (g : Fin 8) (t q : Fin 128) : (lower ws (ix3 g t q) : EReal) = Cert.Mix.tril ws g t q := by
  unfold lower Cert.Mix.tril
  rw [select_apply]
  have ec : (broadcastInDim S8x128x128 ![0, 1, 2] bcast_S1x128x128_S8x128x128_0_1_2 (broadcastInDim S1x128x128 ![1, 2] bcast_S128x128_S1x128x128_1_2 causal) : IVec S8x128x128 1) (ix3 g t q)
      = causal (ix2 t q) := by
    refine (broadcastInDim_apply _ _ _ _ (ix3 0 t q) fun a => match a with
      | ⟨0, _⟩ => rfl
      | ⟨1, _⟩ => rfl
      | ⟨2, _⟩ => rfl).trans ?_
    exact broadcastInDim_apply _ _ _ _ (ix2 t q) fun a => match a with
      | ⟨0, _⟩ => rfl
      | ⟨1, _⟩ => rfl
  rw [ec, causal_at]
  show Scalar.select _ (ws (ix3 g t q)) (Ideal.ofBits .f32 0x00000000#32) = _
  rw [Ideal.ofBits_zero_f32]
  by_cases h : q.val ≤ t.val
  · rw [if_pos h, decide_eq_true h]; rfl
  · rw [if_neg h, decide_eq_false h]; rfl

/-- Position `t` of chunk `c`, and column `q` of group `g`. -/
def place (c : Fin 32) (t : Fin 128) : Fin 4096 := ⟨c.val * 128 + t.val, by have := c.isLt; have := t.isLt; omega⟩
def across (g : Fin 8) (q : Fin 128) : Fin 1024 := ⟨g.val * 128 + q.val, by have := g.isLt; have := q.isLt; omega⟩

variable (c : Fin 32) (t : Fin 128) (g : Fin 8) (q : Fin 128)

theorem cast_at (v : FVec Ideal S2x4096x1024 .f32) :
    (shapeCast S2x32x128x8x128 v shapeCasts_S2x4096x1024_S2x32x128x8x128 : FVec Ideal S2x32x128x8x128 .f32) (ix5 s c t g q) = v (ix3 s (place c t) (across g q)) := by
  refine shapeCast_apply v _ _ _ ?_
  rw [Shape.rowMajor_val_three, Shape.rowMajor_val_five]
  show (s.val * 4096 + (c.val * 128 + t.val)) * 1024 + (g.val * 128 + q.val) = (((s.val * 32 + c.val) * 128 + t.val) * 8 + g.val) * 128 + q.val
  omega

theorem back_at (v : FVec Ideal S2x32x128x8x128 .f32) :
    (shapeCast S2x4096x1024 v shapeCasts_S2x32x128x8x128_S2x4096x1024 : FVec Ideal S2x4096x1024 .f32) (ix3 s (place c t) (across g q)) = v (ix5 s c t g q) := by
  refine shapeCast_apply v _ _ _ ?_
  rw [Shape.rowMajor_val_three, Shape.rowMajor_val_five]
  show (((s.val * 32 + c.val) * 128 + t.val) * 8 + g.val) * 128 + q.val = (s.val * 4096 + (c.val * 128 + t.val)) * 1024 + (g.val * 128 + q.val)
  omega

theorem biases_at : biases bs (ix5 s c t g q) = bs (ix2 g t) := by
  unfold biases
  refine (broadcastInDim_apply _ _ _ _ (ix5 0 0 t g 0) fun a => match a with
    | ⟨0, _⟩ => rfl
    | ⟨1, _⟩ => rfl
    | ⟨2, _⟩ => rfl
    | ⟨3, _⟩ => rfl
    | ⟨4, _⟩ => rfl).trans ?_
  refine (broadcastInDim_apply _ _ _ _ (ix2 t g) fun a => match a with
    | ⟨0, _⟩ => rfl
    | ⟨1, _⟩ => rfl).trans ?_
  exact transpose_apply _ bs _ _ (ix2 g t) fun a => match a with
    | ⟨0, _⟩ => rfl
    | ⟨1, _⟩ => rfl

theorem mixed_at : (mixed pj ws vg vb (ix5 g s c q t) : EReal)
    = ∑ i, Cert.Mix.tril ws g t i * Cert.Mix.vn pj vg vb (flat s (place c i)) (across g q) := by
  unfold mixed
  rw [dot_mix_at]
  refine Finset.sum_congr rfl fun i _ => ?_
  rw [cast_at, lower_at]
  refine (congrArg (· * _) (normedRows_at pj vg vb s (place c i) (across g q))).trans ?_
  exact mul_comm _ _

theorem spatial_at : (spatial pj ws bs vg vb (ix5 s c t g q) : EReal)
    = ∑ i, Cert.Mix.tril ws g t i * Cert.Mix.vn pj vg vb (flat s (place c i)) (across g q) + bs (ix2 g t) := by
  unfold spatial
  show ((transpose S2x32x128x8x128 [1, 2, 4, 0, 3] (mixed pj ws vg vb) transposes_S8x2x32x128x128_S2x32x128x8x128_1_2_4_0_3 : FVec Ideal S2x32x128x8x128 .f32) (ix5 s c t g q)
    + biases bs (ix5 s c t g q) : EReal) = _
  rw [biases_at, ← mixed_at]
  refine congrArg (· + (bs (ix2 g t) : EReal)) ?_
  exact transpose_apply _ _ _ _ (ix5 g s c q t) fun a => match a with
    | ⟨0, _⟩ => rfl
    | ⟨1, _⟩ => rfl
    | ⟨2, _⟩ => rfl
    | ⟨3, _⟩ => rfl
    | ⟨4, _⟩ => rfl

theorem gatedPlace_at : (gatedRows pj ws bs vg vb (ix3 s (place c t) (across g q)) : EReal)
    = Cert.Mix.gated pj ws bs vg vb (flat s (place c t)) (across g q) := by
  have hc := c.isLt
  have ht := t.isLt
  have hq := q.isLt
  have e1 : Cert.Mix.groupOf (across g q) = g := Fin.ext (by show (g.val * 128 + q.val) / 128 = g.val; omega)
  have e2 : Cert.Mix.posIn (flat s (place c t)) = t := Fin.ext (by show (s.val * 4096 + (c.val * 128 + t.val)) % 128 = t.val; omega)
  have e3 : ∀ i : Fin 128, Cert.Mix.rowIn (flat s (place c t)) i = flat s (place c i) := fun i => Fin.ext (by
    show (s.val * 4096 + (c.val * 128 + t.val)) / 128 * 128 + i.val = s.val * 4096 + (c.val * 128 + i.val)
    omega)
  unfold gatedRows Cert.Mix.gated
  show (uPart pj (ix3 s (place c t) (across g q))
    * (shapeCast S2x4096x1024 (spatial pj ws bs vg vb) shapeCasts_S2x32x128x8x128_S2x4096x1024 : FVec Ideal S2x4096x1024 .f32) (ix3 s (place c t) (across g q)) : EReal) = _
  rw [back_at, spatial_at, uPart_at, e1, e2]
  simp only [e3]

omit c t g q in
theorem gatedRows_at (k : Fin 1024) : (gatedRows pj ws bs vg vb (ix3 s p k) : EReal) = Cert.Mix.gated pj ws bs vg vb (flat s p) k := by
  have hp := p.isLt
  have hk := k.isLt
  have ep : p = place ⟨p.val / 128, by omega⟩ ⟨p.val % 128, Nat.mod_lt _ (by decide)⟩ := Fin.ext (by
    show p.val = p.val / 128 * 128 + p.val % 128
    omega)
  have ek : k = across ⟨k.val / 128, by omega⟩ ⟨k.val % 128, Nat.mod_lt _ (by decide)⟩ := Fin.ext (by
    show k.val = k.val / 128 * 128 + k.val % 128
    omega)
  rw [ep, ek]
  exact gatedPlace_at pj ws bs vg vb s _ _ _ _

omit c t g q

theorem mergedRows_at (e : Fin 2048) : (mergedRows pj av ws bs vg vb wa wb (ix3 s p e) : EReal)
    = Cert.Mix.merged pj av ws bs vg vb wa wb (flat s p) e := by
  unfold mergedRows Cert.Mix.merged
  show (gateA pj (ix3 s p e) * (Host.dotGeneral dot_S2x4096x1024_S1024x2048_S2x4096x2048_2_0_01_1_n_n none (gatedRows pj ws bs vg vb) wa : FVec Ideal S2x4096x2048 .f32) (ix3 s p e)
    + gateB pj (ix3 s p e) * (Host.dotGeneral dot_S2x4096x1024_S1024x2048_S2x4096x2048_2_0_01_1_n_n none (ats av) wb : FVec Ideal S2x4096x2048 .f32) (ix3 s p e) : EReal) = _
  rw [gateA_at, gateB_at, dot_in_at, dot_in_at]
  refine congrArg₂ (fun a b : EReal => _ * a + _ * b) (Finset.sum_congr rfl fun k _ => ?_) (Finset.sum_congr rfl fun k _ => ?_)
  · exact congrArg (· * (wa (ix2 k e) : EReal)) (gatedRows_at pj ws bs vg vb s p k)
  · exact congrArg (· * (wb (ix2 k e) : EReal)) (ats_at av s p k)

theorem outp_at (d : Fin 2048) : (outp pj av ws bs vg vb wa wb wo (ix3 s p d) : EReal)
    = ∑ e, Cert.Mix.merged pj av ws bs vg vb wa wb (flat s p) e * wo (ix2 e d) := by
  unfold outp
  rw [dot_out_at]
  exact Finset.sum_congr rfl fun e _ => congrArg (· * (wo (ix2 e d) : EReal)) (mergedRows_at pj av ws bs vg vb wa wb s p e)

theorem resid_at (d : Fin 2048) : (resid pj av x md ws bs vg vb wa wb wo (ix3 s p d) : EReal)
    = Cert.Ffn.residual (fun k => x (ix2 (flat s p) k)) (Cert.Ffn.chunk md 2 (by decide) (flat s p))
        (fun d => ∑ e, Cert.Mix.merged pj av ws bs vg vb wa wb (flat s p) e * wo (ix2 e d)) d := by
  unfold Cert.Ffn.residual
  dsimp only
  rw [← outp_at pj av ws bs vg vb wa wb wo s p d, ← gate1_at md s p d, ← plusOne_at s p]
  show (Ideal.ofBits .f32 0x3FB504F3#32 * xs x (ix3 s p d) + plusOne (gate1 md) (ix3 s p d) * outp pj av ws bs vg vb wa wb wo (ix3 s p d) : EReal) = _
  rw [xs_at]

theorem staged_at (d : Fin 2048) : (staged pj av x md ws bs vg vb wa wb wo lg lb (ix2 (flat s p) d) : EReal)
    = Cert.Mix.layer pj av x md ws bs vg vb wa wb wo lg lb (flat s p) d := by
  unfold staged Cert.Mix.layer
  refine (shapeCast_apply _ shapeCasts_S2x4096x2048_S8192x2048 (ix2 (flat s p) d) (ix3 s p d) ?_).trans ?_
  · rw [Shape.rowMajor_val_two, Shape.rowMajor_val_three]
    rfl
  refine (normed_at s p lg lb _ d).trans ?_
  rw [show (fun k => (resid pj av x md ws bs vg vb wa wb wo (ix3 s p k) : EReal)) = _ from funext fun k => resid_at pj av x md ws bs vg vb wa wb wo s p k]

theorem result_at (m : (ℓ : Loc nD τ sig) → Buf (Elt Ideal) ℓ) (c : Dev nD) (r : Fin 8192) (d : Fin 2048) :
    (Cert.Reference3Ideal.Value.res_main_v92 m c : S8192x2048.Idx → EReal) (ix2 r d)
      = Cert.Mix.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) r d := by
  have e : (Cert.Reference3Ideal.Value.res_main_v92 m c : S8192x2048.Idx → EReal)
      = staged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := rfl
  rw [e]
  have hr := r.isLt
  have er : r = flat ⟨r.val / 4096, by omega⟩ ⟨r.val % 4096, Nat.mod_lt _ (by decide)⟩ := Fin.ext (by
    show r.val = r.val / 4096 * 4096 + r.val % 4096
    omega)
  rw [er]
  exact staged_at _ _ _ _ _ _ _ _ _ _ _ _ _ _ _ d

end Cert.Reference3Ideal.Mix

end
-- ==== Proof.Mix.Equal.lean ====
/-
  On equal arguments the reference of the mixer's output part ends with the kernel's array.
-/
module

public import proofs.«01_k».proof.Proof.Mix.Value
public import proofs.«01_k».proof.Proof.Mix.Ref

@[expose] public section

noncomputable section

namespace Cert.Kernel3Ideal.Mix

open Idealize.ShloMosaic Idealize.ShloMosaic.TcCoe Idealize.SL.Sem
open Idealize.ShloMosaic.ValueIdx Cert.Kernel3Ideal Cert.Kernel3Ideal.Gen

theorem reference_layer (m : (ℓ : Loc nD τ sig) → Buf (Elt Ideal) ℓ)
    (m' : (ℓ : Loc Cert.Reference3Ideal.nD Cert.Reference3Ideal.τ Cert.Reference3Ideal.sig) → Buf (Elt Ideal) ℓ) (c : Dev nD)
    (e0 : m' ((c.tc : Thread Cert.Reference3Ideal.nD Cert.Reference3Ideal.τ).loc Cert.Reference3Ideal.main_arg0) = m ((c.tc : Thread nD τ).loc main_arg0))
    (e1 : m' ((c.tc : Thread Cert.Reference3Ideal.nD Cert.Reference3Ideal.τ).loc Cert.Reference3Ideal.main_arg1) = m ((c.tc : Thread nD τ).loc main_arg1))
    (e2 : m' ((c.tc : Thread Cert.Reference3Ideal.nD Cert.Reference3Ideal.τ).loc Cert.Reference3Ideal.main_arg2) = m ((c.tc : Thread nD τ).loc main_arg2))
    (e3 : m' ((c.tc : Thread Cert.Reference3Ideal.nD Cert.Reference3Ideal.τ).loc Cert.Reference3Ideal.main_arg3) = m ((c.tc : Thread nD τ).loc main_arg3))
    (e4 : m' ((c.tc : Thread Cert.Reference3Ideal.nD Cert.Reference3Ideal.τ).loc Cert.Reference3Ideal.main_arg4) = m ((c.tc : Thread nD τ).loc main_arg4))
    (e5 : m' ((c.tc : Thread Cert.Reference3Ideal.nD Cert.Reference3Ideal.τ).loc Cert.Reference3Ideal.main_arg5) = m ((c.tc : Thread nD τ).loc main_arg5))
    (e6 : m' ((c.tc : Thread Cert.Reference3Ideal.nD Cert.Reference3Ideal.τ).loc Cert.Reference3Ideal.main_arg6) = m ((c.tc : Thread nD τ).loc main_arg6))
    (e7 : m' ((c.tc : Thread Cert.Reference3Ideal.nD Cert.Reference3Ideal.τ).loc Cert.Reference3Ideal.main_arg7) = m ((c.tc : Thread nD τ).loc main_arg7))
    (e8 : m' ((c.tc : Thread Cert.Reference3Ideal.nD Cert.Reference3Ideal.τ).loc Cert.Reference3Ideal.main_arg8) = m ((c.tc : Thread nD τ).loc main_arg8))
    (e9 : m' ((c.tc : Thread Cert.Reference3Ideal.nD Cert.Reference3Ideal.τ).loc Cert.Reference3Ideal.main_arg9) = m ((c.tc : Thread nD τ).loc main_arg9))
    (e10 : m' ((c.tc : Thread Cert.Reference3Ideal.nD Cert.Reference3Ideal.τ).loc Cert.Reference3Ideal.main_arg10) = m ((c.tc : Thread nD τ).loc main_arg10))
    (e11 : m' ((c.tc : Thread Cert.Reference3Ideal.nD Cert.Reference3Ideal.τ).loc Cert.Reference3Ideal.main_arg11) = m ((c.tc : Thread nD τ).loc main_arg11))
    (e12 : m' ((c.tc : Thread Cert.Reference3Ideal.nD Cert.Reference3Ideal.τ).loc Cert.Reference3Ideal.main_arg12) = m ((c.tc : Thread nD τ).loc main_arg12)) :
    (Cert.Reference3Ideal.Value.res_main_v92 m' c : S8192x2048.Idx → EReal) = layerOf m c := by
  funext x
  have key := Cert.Reference3Ideal.Mix.result_at m' c (x 0) (x 1)
  rw [e0, e1, e2, e3, e4, e5, e6, e7, e8, e9, e10, e11, e12] at key
  have ex : ix2 (n0 := 8192) (n1 := 2048) (x 0) (x 1) = x := by
    funext a
    match a with
    | ⟨0, _⟩ => rfl
    | ⟨1, _⟩ => rfl
  rw [ex] at key
  exact key

end Cert.Kernel3Ideal.Mix

end
-- ==== Proof.Step.Spec.lean ====
/-
  The output part of the mixer at one row of a decoding step as a formula, over the extended reals: the row is the first of
  its chunk, so that only the first causal weight of a group meets a row that is there.
-/
module

public import proofs.«01_k».proof.Proof.Mix.Spec

@[expose] public section

noncomputable section

namespace Cert.Step

open Idealize.ShloMosaic Idealize.ShloMosaic.ValueIdx
open scoped BigOperators

/-- The mean of a row whose length has the bit pattern `n`. -/
def mean {w : ℕ} (n : BitVec 32) (y : Fin w → EReal) : EReal := Ideal.div (∑ k, y k) (Ideal.ofBits .f32 n)

/-- The layer norm of a row. -/
def norm {w : ℕ} (n : BitVec 32) (y lg lb : Fin w → EReal) (d : Fin w) : EReal :=
  (y d - mean n y) * Ideal.rsqrt (mean n (fun k => (y k - mean n y) * (y k - mean n y)) + Ideal.ofBits .f32 0x3727C5AC#32) * lg d + lb d

variable (pj : (⟨2, ![8, 9216]⟩ : Shape).Idx → EReal) (av : (⟨2, ![8, 1024]⟩ : Shape).Idx → EReal)
variable (x : (⟨2, ![8, 2048]⟩ : Shape).Idx → EReal) (md : (⟨2, ![8, 12288]⟩ : Shape).Idx → EReal)
variable (ws : (⟨3, ![8, 128, 128]⟩ : Shape).Idx → EReal) (bs : (⟨2, ![8, 128]⟩ : Shape).Idx → EReal)
variable (vg vb : (⟨1, ![1024]⟩ : Shape).Idx → EReal) (wa wb : (⟨2, ![1024, 2048]⟩ : Shape).Idx → EReal)
variable (wo : (⟨2, ![2048, 2048]⟩ : Shape).Idx → EReal) (lg lb : (⟨1, ![2048]⟩ : Shape).Idx → EReal)

/-- Column `k` of a row's projection from column `o` on. -/
def part {w : ℕ} (o : ℕ) (h : o + w ≤ 9216) (r : Fin 8) (k : Fin w) : EReal := pj (ix2 r ⟨o + k.val, by have := k.isLt; omega⟩)

/-- The gate of a row. -/
def gate (r : Fin 8) (k : Fin 2048) : EReal := md (ix2 r ⟨4096 + k.val, by have := k.isLt; omega⟩)

/-- The normalized gating row. -/
def vn (r : Fin 8) (k : Fin 1024) : EReal :=
  norm 0x44800000#32 (part pj 1024 (by decide) r) (fun k => vg (ix1 k)) (fun k => vb (ix1 k)) k

/-- The gated row. -/
def gated (r : Fin 8) (k : Fin 1024) : EReal :=
  part pj 0 (by decide) r k * (vn pj vg vb r k * ws (ix3 (Cert.Mix.groupOf k) 0 0) + bs (ix2 (Cert.Mix.groupOf k) 0))

/-- The two branches through their gates. -/
def merged (r : Fin 8) (e : Fin 2048) : EReal :=
  part pj 5120 (by decide) r e * (∑ k, gated pj ws bs vg vb r k * wa (ix2 k e))
    + part pj 7168 (by decide) r e * (∑ k, av (ix2 r k) * wb (ix2 k e))

/-- The layer at row `r`, column `d`. -/
def layer (r : Fin 8) (d : Fin 2048) : EReal :=
  norm 0x45000000#32 (Cert.Ffn.residual (fun k => x (ix2 r k)) (gate md r) (fun d => ∑ e, merged pj av ws bs vg vb wa wb r e * wo (ix2 e d)))
    (fun k => lg (ix1 k)) (fun k => lb (ix1 k)) d

end Cert.Step

end
-- ==== Proof.Step.Payload.lean ====
/-
  What the single point of a decoding step computes from its blocks, read at an index over the extended reals.
-/
module

public import proofs.«01_k».proof.Proof.Step.Spec
public import proofs.«01_k».proof.Proof.Gen.Kernel4Ideal
public import proofs.«01_k».proof.Proof.Gen.Kernel4Ideal.Frame
public import Idealize.ShloMosaic.Lib.MatmulPlain
public import Idealize.ShloMosaic.Lib.Pipeline.Value
public import Idealize.ShloMosaic.Lib.ValueLayout
public import Idealize.ShloMosaic.Lib.ValueLayoutCasts
public import Idealize.ShloMosaic.Lib.ValueIdxCore

@[expose] public section

set_option maxRecDepth 16384

noncomputable section

namespace Cert.Kernel4Ideal.Step

open Idealize.ShloMosaic
open Idealize.ShloMosaic.ValueIdx Cert.Kernel4Ideal Cert.Kernel4Ideal.Gen
open scoped BigOperators

/-! ## The layer norm of eight rows of any width -/

section Rows

variable {w : ℕ} (n : BitVec 32) (hr : (⟨2, ![8, w]⟩ : Shape).Reduces [1] S8) (hb : S8x1.Broadcasts ⟨2, ![8, w]⟩) (hl : (⟨2, ![1, w]⟩ : Shape).Broadcasts ⟨2, ![8, w]⟩)

theorem col_at (v : FVec Ideal S8x1 .f32) (r : Fin 8) (k : Fin w) : (broadcastTo ⟨2, ![8, w]⟩ v hb : FVec Ideal ⟨2, ![8, w]⟩ .f32) (ix2 r k) = v (ix2 r 0) := by
  refine broadcastTo_apply v hb (ix2 r k) (ix2 r 0) fun ax => ?_
  match ax with
  | ⟨0, _⟩ => rfl
  | ⟨1, _⟩ => rfl

/-- The mean of each row, as a column. -/
abbrev means (y : FVec Ideal ⟨2, ![8, w]⟩ .f32) : FVec Ideal S8x1 .f32 :=
  divf (shapeCast S8x1 (multiReduction .add [1] S8 y 0x00000000#32 hr (.inl rfl) rfl : FVec Ideal S8 .f32) shapeCasts_S8_S8x1) (broadcast S8x1 (Scalar.ofBits (F := Ideal) .f32 n))

theorem means_at (y : FVec Ideal ⟨2, ![8, w]⟩ .f32) (r : Fin 8) : (means n hr y (ix2 r 0) : EReal) = Cert.Step.mean n (fun k => y (ix2 r k)) := by
  show Ideal.div ((shapeCast S8x1 (multiReduction .add [1] S8 y 0x00000000#32 hr (.inl rfl) rfl : FVec Ideal S8 .f32) shapeCasts_S8_S8x1 : FVec Ideal S8x1 .f32) (ix2 r 0)) (Ideal.ofBits .f32 n) = _
  unfold Cert.Step.mean
  refine congrArg (Ideal.div · _) ?_
  refine (shapeCast_a_a1_apply _ shapeCasts_S8_S8x1 r 0).trans ?_
  refine (Ideal.multiReduction_add_single y _ hr (.inl rfl) rfl (ix1 r)).trans ?_
  refine Finset.sum_congr rfl fun k _ => congrArg y ?_
  funext a
  match a with
  | ⟨0, _⟩ => rfl
  | ⟨1, _⟩ => rfl

/-- The rows less their means. -/
abbrev centred (y : FVec Ideal ⟨2, ![8, w]⟩ .f32) : FVec Ideal ⟨2, ![8, w]⟩ .f32 := subf y (broadcastTo ⟨2, ![8, w]⟩ (means n hr y) hb)

theorem centred_at (y : FVec Ideal ⟨2, ![8, w]⟩ .f32) (r : Fin 8) (d : Fin w) :
    (centred n hr hb y (ix2 r d) : EReal) = y (ix2 r d) - Cert.Step.mean n (fun k => y (ix2 r k)) := by
  show (y (ix2 r d) - (broadcastTo ⟨2, ![8, w]⟩ (means n hr y) hb : FVec Ideal ⟨2, ![8, w]⟩ .f32) (ix2 r d) : EReal) = _
  rw [col_at, means_at]

/-- The layer norm of each row. -/
def normed (y : FVec Ideal ⟨2, ![8, w]⟩ .f32) (lg lb : FVec Ideal ⟨2, ![1, w]⟩ .f32) : FVec Ideal ⟨2, ![8, w]⟩ .f32 :=
  addf (mulf (mulf (centred n hr hb y) (broadcastTo ⟨2, ![8, w]⟩ (rsqrt (addf (means n hr (mulf (centred n hr hb y) (centred n hr hb y))) (broadcast S8x1 (Scalar.ofBits (F := Ideal) .f32 0x3727C5AC#32)))) hb))
    (broadcastTo ⟨2, ![8, w]⟩ lg hl)) (broadcastTo ⟨2, ![8, w]⟩ lb hl)

theorem normed_at (y : FVec Ideal ⟨2, ![8, w]⟩ .f32) (lg lb : FVec Ideal ⟨2, ![1, w]⟩ .f32) (r : Fin 8) (d : Fin w) :
    (normed n hr hb hl y lg lb (ix2 r d) : EReal) = Cert.Step.norm n (fun k => y (ix2 r k)) (fun k => lg (ix2 0 k)) (fun k => lb (ix2 0 k)) d := by
  unfold normed Cert.Step.norm
  show (centred n hr hb y (ix2 r d)
      * (broadcastTo ⟨2, ![8, w]⟩ (rsqrt (addf (means n hr (mulf (centred n hr hb y) (centred n hr hb y))) (broadcast S8x1 (Scalar.ofBits (F := Ideal) .f32 0x3727C5AC#32)))) hb : FVec Ideal ⟨2, ![8, w]⟩ .f32) (ix2 r d)
      * (broadcastTo ⟨2, ![8, w]⟩ lg hl : FVec Ideal ⟨2, ![8, w]⟩ .f32) (ix2 r d)
      + (broadcastTo ⟨2, ![8, w]⟩ lb hl : FVec Ideal ⟨2, ![8, w]⟩ .f32) (ix2 r d) : EReal) = _
  rw [broadcastTo_1b_ab_apply lg hl, broadcastTo_1b_ab_apply lb hl, col_at, centred_at]
  show (_ * Ideal.rsqrt (means n hr (mulf (centred n hr hb y) (centred n hr hb y)) (ix2 r 0) + Ideal.ofBits .f32 0x3727C5AC#32) * _ + _ : EReal) = _
  rw [means_at]
  have ev : (fun k => (mulf (centred n hr hb y) (centred n hr hb y) : FVec Ideal ⟨2, ![8, w]⟩ .f32) (ix2 r k))
      = fun k => (centred n hr hb y (ix2 r k) * centred n hr hb y (ix2 r k) : EReal) := rfl
  rw [ev]
  simp only [centred_at]

end Rows

/-! ## The products and the parts -/

def prod (X : FVec Ideal S8x1024 .bf16) (W : FVec Ideal S1024x2048 .bf16) : FVec Ideal S8x2048 .f32 :=
  matmul dot_S8x1024_S1024x2048_S8x2048_1_0_0_1_n_n none X (shapeCast S1024x2048 W shapeCasts_S1024x2048_S1024x2048) (constant S8x2048 .f32 0x00000000#32)

theorem prod_at (X : FVec Ideal S8x1024 .bf16) (W : FVec Ideal S1024x2048 .bf16) (r : Fin 8) (e : Fin 2048) :
    (prod X W (ix2 r e) : EReal) = ∑ k : Fin 1024, X (ix2 r k) * W (ix2 k e) := by
  unfold prod
  rw [shapeCast_self]
  refine (Ideal.matmul_plain_apply (M := 8) (K := 1024) (N := 2048) none X W _ r e).trans ?_
  show Ideal.ofBits .f32 0x00000000#32 + _ = _
  rw [Ideal.ofBits_zero_f32]
  exact zero_add _

def proj (X : FVec Ideal S8x2048 .bf16) (W : FVec Ideal S2048x2048 .bf16) : FVec Ideal S8x2048 .f32 :=
  matmul dot_S8x2048_S2048x2048_S8x2048_1_0_0_1_n_n none X (shapeCast S2048x2048 W shapeCasts_S2048x2048_S2048x2048) (constant S8x2048 .f32 0x00000000#32)

theorem proj_at (X : FVec Ideal S8x2048 .bf16) (W : FVec Ideal S2048x2048 .bf16) (r : Fin 8) (d : Fin 2048) :
    (proj X W (ix2 r d) : EReal) = ∑ e : Fin 2048, X (ix2 r e) * W (ix2 e d) := by
  unfold proj
  rw [shapeCast_self]
  refine (Ideal.matmul_plain_apply (M := 8) (K := 2048) (N := 2048) none X W _ r d).trans ?_
  show Ideal.ofBits .f32 0x00000000#32 + _ = _
  rw [Ideal.ofBits_zero_f32]
  exact zero_add _

/-- Two column blocks side by side. -/
def beside (a b : FVec Ideal S8x1024 .f32) : FVec Ideal S8x2048 .f32 :=
  concatenate S8x2048 1 [⟨S8x1024, a⟩, ⟨S8x1024, b⟩] concatenates_S8x1024_S8x1024_S8x2048_d1

theorem beside_at (a b : FVec Ideal S8x1024 .f32) (r : Fin 8) (f : Fin 2048 → EReal)
    (ha : ∀ k : Fin 1024, a (ix2 r k) = f ⟨k.val, by have := k.isLt; omega⟩) (hb : ∀ k : Fin 1024, b (ix2 r k) = f ⟨1024 + k.val, by have := k.isLt; omega⟩) (e : Fin 2048) :
    beside a b (ix2 r e) = f e := by
  have he := e.isLt
  unfold beside
  by_cases h : e.val < 1024
  · exact (concatenate_pair_apply_left (t := S8x2048) (s₁ := S8x1024) (s₂ := S8x1024) 1 a b _ (ix2 r e) rfl (ix2 r ⟨e.val, h⟩) (fun b => match b with
      | ⟨0, _⟩ => rfl
      | ⟨1, _⟩ => rfl)).trans (ha ⟨e.val, h⟩)
  · refine (concatenate_pair_apply_right (t := S8x2048) (s₁ := S8x1024) (s₂ := S8x1024) 1 a b _ (ix2 r e) rfl rfl (ix2 r ⟨e.val - 1024, by omega⟩) (fun b hb => match b with
      | ⟨0, _⟩ => rfl
      | ⟨1, _⟩ => absurd rfl hb) (by show e.val - 1024 + 1024 = e.val; omega)).trans ?_
    refine (hb ⟨e.val - 1024, by omega⟩).trans (congrArg f (Fin.ext ?_))
    show 1024 + (e.val - 1024) = e.val
    omega

/-- The normalized gating rows. -/
def vnRows (x1 : FVec Ideal S8x1024 .f32) (x11 x12 : FVec Ideal S1x1024 .f32) : FVec Ideal S8x1024 .f32 :=
  normed (w := 1024) 0x44800000#32 reduces_S8x1024_S8 broadcasts_S8x1_S8x1024 broadcasts_S1x1024_S8x1024 x1
    (shapeCast S1x1024 x11 shapeCasts_S1x1024_S1x1024) (shapeCast S1x1024 x12 shapeCasts_S1x1024_S1x1024)

theorem vnRows_at (x1 : FVec Ideal S8x1024 .f32) (x11 x12 : FVec Ideal S1x1024 .f32) (r : Fin 8) (k : Fin 1024) :
    (vnRows x1 x11 x12 (ix2 r k) : EReal) = Cert.Step.norm 0x44800000#32 (fun j => x1 (ix2 r j)) (fun j => x11 (ix2 0 j)) (fun j => x12 (ix2 0 j)) k := by
  unfold vnRows
  rw [shapeCast_self, shapeCast_self]
  exact normed_at _ _ _ _ x1 x11 x12 r k

/-- The gated rows. -/
def gatedRows (x0 x1 : FVec Ideal S8x1024 .f32) (x9 x10 x11 x12 : FVec Ideal S1x1024 .f32) : FVec Ideal S8x1024 .bf16 :=
  truncf .bf16 (mulf x0 (addf (mulf (vnRows x1 x11 x12) (broadcastTo S8x1024 (shapeCast S1x1024 x9 shapeCasts_S1x1024_S1x1024) broadcasts_S1x1024_S8x1024))
    (broadcastTo S8x1024 (shapeCast S1x1024 x10 shapeCasts_S1x1024_S1x1024) broadcasts_S1x1024_S8x1024))) bitsLt_bf16_f32

theorem gatedRows_at (x0 x1 : FVec Ideal S8x1024 .f32) (x9 x10 x11 x12 : FVec Ideal S1x1024 .f32) (r : Fin 8) (k : Fin 1024) :
    (gatedRows x0 x1 x9 x10 x11 x12 (ix2 r k) : EReal) = x0 (ix2 r k) * (vnRows x1 x11 x12 (ix2 r k) * x9 (ix2 0 k) + x10 (ix2 0 k)) := by
  unfold gatedRows
  rw [shapeCast_self, shapeCast_self]
  rw [← broadcastTo_1b_ab_apply x9 broadcasts_S1x1024_S8x1024 r k, ← broadcastTo_1b_ab_apply x10 broadcasts_S1x1024_S8x1024 r k]
  rfl

/-- The two branches through their gates. -/
def mergedRows (G : FVec Ideal S8x1024 .bf16) (x2 x3 x4 x5 x6 : FVec Ideal S8x1024 .f32) (wa wb : FVec Ideal S1024x2048 .bf16) : FVec Ideal S8x2048 .bf16 :=
  truncf .bf16 (addf (mulf (beside x3 x4) (prod G wa)) (mulf (beside x5 x6) (prod (truncf .bf16 x2 bitsLt_bf16_f32) wb))) bitsLt_bf16_f32

theorem mergedRows_at (G : FVec Ideal S8x1024 .bf16) (x2 x3 x4 x5 x6 : FVec Ideal S8x1024 .f32) (wa wb : FVec Ideal S1024x2048 .bf16) (r : Fin 8) (e : Fin 2048) :
    (mergedRows G x2 x3 x4 x5 x6 wa wb (ix2 r e) : EReal)
      = beside x3 x4 (ix2 r e) * (∑ k : Fin 1024, G (ix2 r k) * wa (ix2 k e)) + beside x5 x6 (ix2 r e) * (∑ k : Fin 1024, x2 (ix2 r k) * wb (ix2 k e)) := by
  rw [← prod_at G wa]
  have e2 : (∑ k : Fin 1024, (x2 (ix2 r k) : EReal) * wb (ix2 k e)) = prod (truncf .bf16 x2 bitsLt_bf16_f32) wb (ix2 r e) := (prod_at _ wb r e).symm
  rw [e2]
  rfl

/-- The rows before their normalization. -/
def resid (x : FVec Ideal S8x2048 .f32) (g : FVec Ideal S1x8x2048 .f32) (p : FVec Ideal S8x2048 .f32) : FVec Ideal S8x2048 .f32 :=
  addf (mulf (broadcast S8x2048 (Scalar.ofBits (F := Ideal) .f32 0x3FB504F3#32)) x)
    (mulf (addf (broadcast S8x2048 (Scalar.ofBits (F := Ideal) .f32 0x3F800000#32)) (shapeCast S8x2048 g shapeCasts_S1x8x2048_S8x2048)) p)

theorem resid_at (x : FVec Ideal S8x2048 .f32) (g : FVec Ideal S1x8x2048 .f32) (p : FVec Ideal S8x2048 .f32) (r : Fin 8) (d : Fin 2048) :
    (resid x g p (ix2 r d) : EReal) = Cert.Ffn.residual (fun k => x (ix2 r k)) (fun k => g (ix3 0 r k)) (fun k => p (ix2 r k)) d := by
  unfold resid Cert.Ffn.residual
  dsimp only
  rw [← shapeCast_1ab_ab_apply g shapeCasts_S1x8x2048_S8x2048 r d]
  rfl

/-! ## The blocks written back -/

def body (x0 x1 x2 x3 x4 x5 x6 : FVec Ideal S8x1024 .f32) (x7 : FVec Ideal S8x2048 .f32) (x8 : FVec Ideal S1x8x2048 .f32) (x9 x10 x11 x12 : FVec Ideal S1x1024 .f32)
    (x13 x14 : FVec Ideal S1024x2048 .bf16) (x15 : FVec Ideal S2048x2048 .bf16) (x16 x17 : FVec Ideal S1x2048 .f32) : FVec Ideal S8x2048 .f32 :=
  normed (w := 2048) 0x45000000#32 reduces_S8x2048_S8 broadcasts_S8x1_S8x2048 broadcasts_S1x2048_S8x2048
    (resid x7 x8 (proj (mergedRows (gatedRows x0 x1 x9 x10 x11 x12) x2 x3 x4 x5 x6 x13 x14) x15))
    (shapeCast S1x2048 x16 shapeCasts_S1x2048_S1x2048) (shapeCast S1x2048 x17 shapeCasts_S1x2048_S1x2048)

theorem body_at (x0 x1 x2 x3 x4 x5 x6 : FVec Ideal S8x1024 .f32) (x7 : FVec Ideal S8x2048 .f32) (x8 : FVec Ideal S1x8x2048 .f32) (x9 x10 x11 x12 : FVec Ideal S1x1024 .f32)
    (x13 x14 : FVec Ideal S1024x2048 .bf16) (x15 : FVec Ideal S2048x2048 .bf16) (x16 x17 : FVec Ideal S1x2048 .f32) (r : Fin 8) (d : Fin 2048) :
    (body x0 x1 x2 x3 x4 x5 x6 x7 x8 x9 x10 x11 x12 x13 x14 x15 x16 x17 (ix2 r d) : EReal)
      = Cert.Step.norm 0x45000000#32 (Cert.Ffn.residual (fun k => x7 (ix2 r k)) (fun k => x8 (ix3 0 r k))
          (fun d => ∑ e : Fin 2048, mergedRows (gatedRows x0 x1 x9 x10 x11 x12) x2 x3 x4 x5 x6 x13 x14 (ix2 r e) * x15 (ix2 e d)))
          (fun k => x16 (ix2 0 k)) (fun k => x17 (ix2 0 k)) d := by
  unfold body
  rw [shapeCast_self, shapeCast_self]
  refine (normed_at _ _ _ _ _ x16 x17 r d).trans ?_
  refine congrArg (fun y => Cert.Step.norm _ y _ _ d) (funext fun k => (resid_at x7 x8 _ r k).trans ?_)
  exact congrArg (fun p => Cert.Ffn.residual _ _ p k) (funext fun d => proj_at _ x15 r d)

theorem zero2 : (![0, 0] : Fin 2 → Nat) = fun _ => 0 := by decide
theorem zero3 : (![0, 0, 0] : Fin 3 → Nat) = fun _ => 0 := by decide

theorem ld0 (x : Vec Ideal S8x1024 .f32) : View.ld (Val := Elt Ideal) (e' := .f32) x r0_0 = x := View.ld_unit_zero (Val := Elt Ideal) (e := .f32) (S := S8x1024) zero2 _ x
theorem ld1 (x : Vec Ideal S1x1024 .f32) : View.ld (Val := Elt Ideal) (e' := .f32) x r0_1 = x := View.ld_unit_zero (Val := Elt Ideal) (e := .f32) (S := S1x1024) zero2 _ x
theorem ld2 (x : Vec Ideal S1024x2048 .bf16) : View.ld (Val := Elt Ideal) (e' := .bf16) x r0_2 = x := View.ld_unit_zero (Val := Elt Ideal) (e := .bf16) (S := S1024x2048) zero2 _ x
theorem ld3 (x : Vec Ideal S2048x2048 .bf16) : View.ld (Val := Elt Ideal) (e' := .bf16) x r0_3 = x := View.ld_unit_zero (Val := Elt Ideal) (e := .bf16) (S := S2048x2048) zero2 _ x
theorem ld4 (x : Vec Ideal S8x2048 .f32) : View.ld (Val := Elt Ideal) (e' := .f32) x r0_4 = x := View.ld_unit_zero (Val := Elt Ideal) (e := .f32) (S := S8x2048) zero2 _ x
theorem ld5 (x : Vec Ideal S1x8x2048 .f32) : View.ld (Val := Elt Ideal) (e' := .f32) x r0_5 = x := View.ld_unit_zero (Val := Elt Ideal) (e := .f32) (S := S1x8x2048) zero3 _ x
theorem ld6 (x : Vec Ideal S1x2048 .f32) : View.ld (Val := Elt Ideal) (e' := .f32) x r0_6 = x := View.ld_unit_zero (Val := Elt Ideal) (e := .f32) (S := S1x2048) zero2 _ x

theorem out18_eq (x0 x1 x2 x3 x4 x5 x6 : FVec Ideal S8x1024 .f32) (x7 : FVec Ideal S8x2048 .f32) (x8 : FVec Ideal S1x8x2048 .f32) (x9 x10 x11 x12 : FVec Ideal S1x1024 .f32)
    (x13 x14 : FVec Ideal S1024x2048 .bf16) (x15 : FVec Ideal S2048x2048 .bf16) (x16 x17 : FVec Ideal S1x2048 .f32) :
    out0_18 (F := Ideal) x0 x1 x2 x3 x4 x5 x6 x7 x8 x9 x10 x11 x12 x13 x14 x15 x16 x17 = body x0 x1 x2 x3 x4 x5 x6 x7 x8 x9 x10 x11 x12 x13 x14 x15 x16 x17 := by
  unfold out0_18
  rw [ld0, ld0, ld0, ld0, ld0, ld0, ld0, ld1, ld1, ld1, ld1, ld2, ld2, ld3, ld4, ld5, ld6, ld6]
  exact (View.canon_unit_zero zero2 _ _).trans rfl

theorem out19_eq (x0 x1 x2 x3 x4 x5 x6 : FVec Ideal S8x1024 .f32) (x7 : FVec Ideal S8x2048 .f32) (x8 : FVec Ideal S1x8x2048 .f32) (x9 x10 x11 x12 : FVec Ideal S1x1024 .f32)
    (x13 x14 : FVec Ideal S1024x2048 .bf16) (x15 : FVec Ideal S2048x2048 .bf16) (x16 x17 : FVec Ideal S1x2048 .f32) :
    out0_19 (F := Ideal) x0 x1 x2 x3 x4 x5 x6 x7 x8 x9 x10 x11 x12 x13 x14 x15 x16 x17 = vnRows x1 x11 x12 := by
  unfold out0_19
  rw [ld0, ld1, ld1]
  exact (View.canon_unit_zero zero2 _ _).trans rfl

end Cert.Kernel4Ideal.Step

end
-- ==== Proof.Step.Blocks.lean ====
/-
  The blocks of the single point of a decoding step, read at an index from the memory as launched, over the extended reals.
-/
module

public import proofs.«01_k».proof.Proof.Step.Spec
public import proofs.«01_k».proof.Proof.Gen.Kernel4Ideal
public import proofs.«01_k».proof.Proof.Gen.Kernel4Ideal.Value
public import Idealize.ShloMosaic.Lib.Pipeline.Value
public import Idealize.ShloMosaic.Lib.ValueLayout

@[expose] public section

set_option maxRecDepth 16384

noncomputable section

namespace Cert.Kernel4Ideal.Step

open Idealize.ShloMosaic Idealize.ShloMosaic.TcCoe Idealize.ShloMosaic.Tactic Idealize.SL.Sem
open Idealize.ShloMosaic.ValueIdx Cert.Kernel4Ideal Cert.Kernel4Ideal.Gen

variable (m : (ℓ : Loc nD τ sig) → Buf (Elt Ideal) ℓ) (c : Dev nD)

/-- The arguments as launched. -/
abbrev pjA : S8x9216.Idx → EReal := m ((c : Thread nD τ).loc main_arg0)
abbrev avA : S8x1024.Idx → EReal := m ((c : Thread nD τ).loc main_arg1)
abbrev xA : S8x2048.Idx → EReal := m ((c : Thread nD τ).loc main_arg2)
abbrev mdA : S8x12288.Idx → EReal := m ((c : Thread nD τ).loc main_arg3)
abbrev wsA : S8x128x128.Idx → EReal := m ((c : Thread nD τ).loc main_arg4)
abbrev bsA : S8x128.Idx → EReal := m ((c : Thread nD τ).loc main_arg5)
abbrev vgA : S1024.Idx → EReal := m ((c : Thread nD τ).loc main_arg6)
abbrev vbA : S1024.Idx → EReal := m ((c : Thread nD τ).loc main_arg7)
abbrev waA : S1024x2048.Idx → EReal := m ((c : Thread nD τ).loc main_arg8)
abbrev wbA : S1024x2048.Idx → EReal := m ((c : Thread nD τ).loc main_arg9)
abbrev woA : S2048x2048.Idx → EReal := m ((c : Thread nD τ).loc main_arg10)
abbrev lgA : S2048.Idx → EReal := m ((c : Thread nD τ).loc main_arg11)
abbrev lbA : S2048.Idx → EReal := m ((c : Thread nD τ).loc main_arg12)

/-! ## What the call finds in its operands -/

/-- A value for each group, at each of its columns. -/
def perColumn (v : FVec Ideal S8 .f32) : FVec Ideal S1x1024 .f32 :=
  broadcastInDim S1x1024 ![1] bcast_S1024_S1x1024_1 (shapeCast S1024 (broadcastInDim S8x128 ![0] bcast_S8_S8x128_0 v) shapeCasts_S8x128_S1024)

theorem perColumn_at (v : FVec Ideal S8 .f32) (k : Fin 1024) : perColumn v (ix2 0 k) = v (ix1 (Cert.Mix.groupOf k)) := by
  unfold perColumn
  refine (broadcastInDim_apply _ _ _ _ (ix1 k) fun a => match a with
    | ⟨0, _⟩ => rfl).trans ?_
  refine (shapeCast_apply _ shapeCasts_S8x128_S1024 (ix1 k) (ix2 (Cert.Mix.groupOf k) ⟨k.val % 128, Nat.mod_lt _ (by decide)⟩) ?_).trans ?_
  · rw [Shape.rowMajor_val_two, Shape.rowMajor_val_one]
    show k.val / 128 * 128 + k.val % 128 = k.val
    omega
  · exact broadcastInDim_apply _ _ _ _ (ix1 (Cert.Mix.groupOf k)) fun a => match a with
      | ⟨0, _⟩ => rfl

theorem in_mod : (V m c main_v0 : S1x8x12288.Idx → EReal) = broadcastInDim S1x8x12288 ![1, 2] bcast_S8x12288_S1x8x12288_1_2 (mdA m c) := by
  unfold V; after_results; try rfl

theorem in_wa : (V m c main_v1 : S1024x2048.Idx → EReal) = waA m c := by
  unfold V; after_results; try rfl

theorem in_wb : (V m c main_v2 : S1024x2048.Idx → EReal) = wbA m c := by
  unfold V; after_results; try rfl

theorem in_wo : (V m c main_v3 : S2048x2048.Idx → EReal) = woA m c := by
  unfold V; after_results; try rfl

theorem in_ws : (V m c main_v8 : S1x1024.Idx → EReal)
    = perColumn (shapeCast S8 (extractStridedSlice S8x1x1 ![0, 0, 0] (wsA m c) slices_S8x128x128_S8x1x1_0_0_0) shapeCasts_S8x1x1_S8) := by
  unfold V; after_results; try rfl

theorem in_bs : (V m c main_v13 : S1x1024.Idx → EReal)
    = perColumn (shapeCast S8 (extractStridedSlice S8x1 ![0, 0] (bsA m c) slices_S8x128_S8x1_0_0) shapeCasts_S8x1_S8) := by
  unfold V; after_results; try rfl

theorem in_vg : (V m c main_v14 : S1x1024.Idx → EReal) = broadcastInDim S1x1024 ![1] bcast_S1024_S1x1024_1 (vgA m c) := by
  unfold V; after_results; try rfl

theorem in_vb : (V m c main_v15 : S1x1024.Idx → EReal) = broadcastInDim S1x1024 ![1] bcast_S1024_S1x1024_1 (vbA m c) := by
  unfold V; after_results; try rfl

theorem in_lg : (V m c main_v16 : S1x2048.Idx → EReal) = broadcastInDim S1x2048 ![1] bcast_S2048_S1x2048_1 (lgA m c) := by
  unfold V; after_results; try rfl

theorem in_lb : (V m c main_v17 : S1x2048.Idx → EReal) = broadcastInDim S1x2048 ![1] bcast_S2048_S1x2048_1 (lbA m c) := by
  unfold V; after_results; try rfl

theorem mod_at (r : Fin 8) (k : Fin 12288) : (V m c main_v0 : S1x8x12288.Idx → EReal) (ix3 0 r k) = mdA m c (ix2 r k) := by
  rw [in_mod]
  exact broadcastInDim_apply _ _ _ _ (ix2 r k) fun a => match a with
    | ⟨0, _⟩ => rfl
    | ⟨1, _⟩ => rfl

theorem ws_at (k : Fin 1024) : (V m c main_v8 : S1x1024.Idx → EReal) (ix2 0 k) = wsA m c (ix3 (Cert.Mix.groupOf k) 0 0) := by
  rw [in_ws, perColumn_at]
  refine (shapeCast_apply _ shapeCasts_S8x1x1_S8 (ix1 (Cert.Mix.groupOf k)) (ix3 (Cert.Mix.groupOf k) 0 0) ?_).trans ?_
  · rw [Shape.rowMajor_val_three, Shape.rowMajor_val_one]
    show (k.val / 128 * 1 + 0) * 1 + 0 = k.val / 128
    omega
  · exact extractStridedSlice_apply _ _ _ _ _ fun a => match a with
      | ⟨0, _⟩ => (Nat.zero_add _).symm
      | ⟨1, _⟩ => rfl
      | ⟨2, _⟩ => rfl

theorem bs_at (k : Fin 1024) : (V m c main_v13 : S1x1024.Idx → EReal) (ix2 0 k) = bsA m c (ix2 (Cert.Mix.groupOf k) 0) := by
  rw [in_bs, perColumn_at]
  refine (shapeCast_apply _ shapeCasts_S8x1_S8 (ix1 (Cert.Mix.groupOf k)) (ix2 (Cert.Mix.groupOf k) 0) ?_).trans ?_
  · rw [Shape.rowMajor_val_two, Shape.rowMajor_val_one]
    show k.val / 128 * 1 + 0 = k.val / 128
    omega
  · exact extractStridedSlice_apply _ _ _ _ _ fun a => match a with
      | ⟨0, _⟩ => (Nat.zero_add _).symm
      | ⟨1, _⟩ => rfl

theorem line1024_at (v : FVec Ideal S1024 .f32) (k : Fin 1024) : (broadcastInDim S1x1024 ![1] bcast_S1024_S1x1024_1 v : FVec Ideal S1x1024 .f32) (ix2 0 k) = v (ix1 k) :=
  broadcastInDim_apply _ _ _ _ (ix1 k) fun a => match a with
    | ⟨0, _⟩ => rfl

theorem line2048_at (v : FVec Ideal S2048 .f32) (k : Fin 2048) : (broadcastInDim S1x2048 ![1] bcast_S2048_S1x2048_1 v : FVec Ideal S1x2048 .f32) (ix2 0 k) = v (ix1 k) :=
  broadcastInDim_apply _ _ _ _ (ix1 k) fun a => match a with
    | ⟨0, _⟩ => rfl

/-! ## The index maps at the point -/

variable (t : Fin cfg0.N)

theorem index0 : ∀ t : Fin cfg0.N, win0_0.index t = ![0, 0] := (by decide +kernel : ∀ t : Fin grid0.N, _)
theorem index1 : ∀ t : Fin cfg0.N, win0_1.index t = ![0, 1] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 5] := (by decide +kernel : ∀ t : Fin grid0.N, _)
theorem index4 : ∀ t : Fin cfg0.N, win0_4.index t = ![0, 6] := (by decide +kernel : ∀ t : Fin grid0.N, _)
theorem index5 : ∀ t : Fin cfg0.N, win0_5.index t = ![0, 7] := (by decide +kernel : ∀ t : Fin grid0.N, _)
theorem index6 : ∀ t : Fin cfg0.N, win0_6.index t = ![0, 8] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0, 2] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)
theorem index15 : ∀ t : Fin cfg0.N, win0_15.index t = ![0, 0] := (by decide +kernel : ∀ t : Fin grid0.N, _)
theorem index16 : ∀ t : Fin cfg0.N, win0_16.index t = ![0, 0] := (by decide +kernel : ∀ t : Fin grid0.N, _)
theorem index17 : ∀ t : Fin cfg0.N, win0_17.index t = ![0, 0] := (by decide +kernel : ∀ t : Fin grid0.N, _)
theorem index18 : ∀ t : Fin cfg0.N, win0_18.index t = ![0, 0] := (by decide +kernel : ∀ t : Fin grid0.N, _)
theorem index19 : ∀ t : Fin cfg0.N, win0_19.index t = ![0, 0] := (by decide +kernel : ∀ t : Fin grid0.N, _)

/-! ## The blocks -/

theorem blk0_at (r : Fin 8) (k : Fin 1024) : (iblk m c 0 t (ix2 (n0 := 8) (n1 := 1024) r k) : EReal) = Cert.Step.part (pjA m c) 0 (by decide) r k := by
  show (V m c main_arg0 : S8x9216.Idx → EReal) ((win0_0.rect t).emb _) = _
  rw [V_main_arg0]
  refine congrArg (pjA m c) (funext fun a => Fin.ext ?_)
  refine (Pipeline.Window.rect_emb_val win0_0 t _ a rfl).trans ?_
  rw [index0 t]
  match a with
  | ⟨0, _⟩ => show 0 * 8 + r.val = r.val; omega
  | ⟨1, _⟩ => show 0 * 1024 + k.val = 0 + k.val; omega

theorem blk1_at (r : Fin 8) (k : Fin 1024) : (iblk m c 1 t (ix2 (n0 := 8) (n1 := 1024) r k) : EReal) = Cert.Step.part (pjA m c) 1024 (by decide) r k := by
  show (V m c main_arg0 : S8x9216.Idx → EReal) ((win0_1.rect t).emb _) = _
  rw [V_main_arg0]
  refine congrArg (pjA m c) (funext fun a => Fin.ext ?_)
  refine (Pipeline.Window.rect_emb_val win0_1 t _ a rfl).trans ?_
  rw [index1 t]
  match a with
  | ⟨0, _⟩ => show 0 * 8 + r.val = r.val; omega
  | ⟨1, _⟩ => show 1 * 1024 + k.val = 1024 + k.val; omega

theorem blk2_at (r : Fin 8) (k : Fin 1024) : (iblk m c 2 t (ix2 (n0 := 8) (n1 := 1024) r k) : EReal) = avA m c (ix2 r k) := by
  show (V m c main_arg1 : S8x1024.Idx → EReal) ((win0_2.rect t).emb _) = _
  rw [V_main_arg1]
  refine congrArg (avA m c) (funext fun a => Fin.ext ?_)
  refine (Pipeline.Window.rect_emb_val win0_2 t _ a rfl).trans ?_
  rw [index2 t]
  match a with
  | ⟨0, _⟩ => show 0 * 8 + r.val = r.val; omega
  | ⟨1, _⟩ => show 0 * 1024 + k.val = k.val; omega

theorem blk3_at (r : Fin 8) (k : Fin 1024) : (iblk m c 3 t (ix2 (n0 := 8) (n1 := 1024) r k) : EReal) = Cert.Step.part (w := 2048) (pjA m c) 5120 (by decide) r ⟨k.val, by have := k.isLt; omega⟩ := by
  show (V m c main_arg0 : S8x9216.Idx → EReal) ((win0_3.rect t).emb _) = _
  rw [V_main_arg0]
  refine congrArg (pjA m c) (funext fun a => Fin.ext ?_)
  refine (Pipeline.Window.rect_emb_val win0_3 t _ a rfl).trans ?_
  rw [index3 t]
  match a with
  | ⟨0, _⟩ => show 0 * 8 + r.val = r.val; omega
  | ⟨1, _⟩ => show 5 * 1024 + k.val = 5120 + (k.val); omega

theorem blk4_at (r : Fin 8) (k : Fin 1024) : (iblk m c 4 t (ix2 (n0 := 8) (n1 := 1024) r k) : EReal) = Cert.Step.part (w := 2048) (pjA m c) 5120 (by decide) r ⟨1024 + k.val, by have := k.isLt; omega⟩ := by
  show (V m c main_arg0 : S8x9216.Idx → EReal) ((win0_4.rect t).emb _) = _
  rw [V_main_arg0]
  refine congrArg (pjA m c) (funext fun a => Fin.ext ?_)
  refine (Pipeline.Window.rect_emb_val win0_4 t _ a rfl).trans ?_
  rw [index4 t]
  match a with
  | ⟨0, _⟩ => show 0 * 8 + r.val = r.val; omega
  | ⟨1, _⟩ => show 6 * 1024 + k.val = 5120 + (1024 + k.val); omega

theorem blk5_at (r : Fin 8) (k : Fin 1024) : (iblk m c 5 t (ix2 (n0 := 8) (n1 := 1024) r k) : EReal) = Cert.Step.part (w := 2048) (pjA m c) 7168 (by decide) r ⟨k.val, by have := k.isLt; omega⟩ := by
  show (V m c main_arg0 : S8x9216.Idx → EReal) ((win0_5.rect t).emb _) = _
  rw [V_main_arg0]
  refine congrArg (pjA m c) (funext fun a => Fin.ext ?_)
  refine (Pipeline.Window.rect_emb_val win0_5 t _ a rfl).trans ?_
  rw [index5 t]
  match a with
  | ⟨0, _⟩ => show 0 * 8 + r.val = r.val; omega
  | ⟨1, _⟩ => show 7 * 1024 + k.val = 7168 + (k.val); omega

theorem blk6_at (r : Fin 8) (k : Fin 1024) : (iblk m c 6 t (ix2 (n0 := 8) (n1 := 1024) r k) : EReal) = Cert.Step.part (w := 2048) (pjA m c) 7168 (by decide) r ⟨1024 + k.val, by have := k.isLt; omega⟩ := by
  show (V m c main_arg0 : S8x9216.Idx → EReal) ((win0_6.rect t).emb _) = _
  rw [V_main_arg0]
  refine congrArg (pjA m c) (funext fun a => Fin.ext ?_)
  refine (Pipeline.Window.rect_emb_val win0_6 t _ a rfl).trans ?_
  rw [index6 t]
  match a with
  | ⟨0, _⟩ => show 0 * 8 + r.val = r.val; omega
  | ⟨1, _⟩ => show 8 * 1024 + k.val = 7168 + (1024 + k.val); omega

theorem blk7_at (r : Fin 8) (k : Fin 2048) : (iblk m c 7 t (ix2 (n0 := 8) (n1 := 2048) r k) : EReal) = xA m c (ix2 r k) := by
  show (V m c main_arg2 : S8x2048.Idx → EReal) ((win0_7.rect t).emb _) = _
  rw [V_main_arg2]
  refine congrArg (xA m c) (funext fun a => Fin.ext ?_)
  refine (Pipeline.Window.rect_emb_val win0_7 t _ a rfl).trans ?_
  rw [index7 t]
  match a with
  | ⟨0, _⟩ => show 0 * 8 + r.val = r.val; omega
  | ⟨1, _⟩ => show 0 * 2048 + k.val = k.val; omega

theorem blk8_at (r : Fin 8) (k : Fin 2048) : (iblk m c 8 t (ix3 (n0 := 1) (n1 := 8) (n2 := 2048) 0 r k) : EReal) = Cert.Step.gate (mdA m c) r k := by
  show (V m c main_v0 : S1x8x12288.Idx → EReal) ((win0_8.rect t).emb _) = _
  refine (congrArg (V m c main_v0 : S1x8x12288.Idx → EReal) (funext fun a => Fin.ext ?_)).trans (mod_at m c r ⟨4096 + k.val, by have := k.isLt; omega⟩)
  refine (Pipeline.Window.rect_emb_val win0_8 t _ a rfl).trans ?_
  rw [index8 t]
  match a with
  | ⟨0, _⟩ => rfl
  | ⟨1, _⟩ => show 0 * 8 + r.val = r.val; omega
  | ⟨2, _⟩ => show 2 * 2048 + k.val = 4096 + k.val; omega

theorem blk9_at (k : Fin 1024) : (iblk m c 9 t (ix2 (n0 := 1) (n1 := 1024) 0 k) : EReal) = wsA m c (ix3 (Cert.Mix.groupOf k) 0 0) := by
  show (V m c main_v8 : S1x1024.Idx → EReal) ((win0_9.rect t).emb _) = _
  refine (congrArg (V m c main_v8 : S1x1024.Idx → EReal) (funext fun a => Fin.ext ?_)).trans (ws_at m c k)
  refine (Pipeline.Window.rect_emb_val win0_9 t _ a rfl).trans ?_
  rw [index9 t]
  match a with
  | ⟨0, _⟩ => rfl
  | ⟨1, _⟩ => show 0 * 1024 + k.val = k.val; omega

theorem blk10_at (k : Fin 1024) : (iblk m c 10 t (ix2 (n0 := 1) (n1 := 1024) 0 k) : EReal) = bsA m c (ix2 (Cert.Mix.groupOf k) 0) := by
  show (V m c main_v13 : S1x1024.Idx → EReal) ((win0_10.rect t).emb _) = _
  refine (congrArg (V m c main_v13 : S1x1024.Idx → EReal) (funext fun a => Fin.ext ?_)).trans (bs_at m c k)
  refine (Pipeline.Window.rect_emb_val win0_10 t _ a rfl).trans ?_
  rw [index10 t]
  match a with
  | ⟨0, _⟩ => rfl
  | ⟨1, _⟩ => show 0 * 1024 + k.val = k.val; omega

theorem blk11_at (k : Fin 1024) : (iblk m c 11 t (ix2 (n0 := 1) (n1 := 1024) 0 k) : EReal) = vgA m c (ix1 k) := by
  show (V m c main_v14 : S1x1024.Idx → EReal) ((win0_11.rect t).emb _) = _
  refine (congrArg (V m c main_v14 : S1x1024.Idx → EReal) (funext fun a => Fin.ext ?_)).trans ((congrFun (in_vg m c) _).trans (line1024_at _ k))
  refine (Pipeline.Window.rect_emb_val win0_11 t _ a rfl).trans ?_
  rw [index11 t]
  match a with
  | ⟨0, _⟩ => rfl
  | ⟨1, _⟩ => show 0 * 1024 + k.val = k.val; omega

theorem blk12_at (k : Fin 1024) : (iblk m c 12 t (ix2 (n0 := 1) (n1 := 1024) 0 k) : EReal) = vbA m c (ix1 k) := by
  show (V m c main_v15 : S1x1024.Idx → EReal) ((win0_12.rect t).emb _) = _
  refine (congrArg (V m c main_v15 : S1x1024.Idx → EReal) (funext fun a => Fin.ext ?_)).trans ((congrFun (in_vb m c) _).trans (line1024_at _ k))
  refine (Pipeline.Window.rect_emb_val win0_12 t _ a rfl).trans ?_
  rw [index12 t]
  match a with
  | ⟨0, _⟩ => rfl
  | ⟨1, _⟩ => show 0 * 1024 + k.val = k.val; omega

theorem blk13_at (k : Fin 1024) (e : Fin 2048) : (iblk m c 13 t (ix2 (n0 := 1024) (n1 := 2048) k e) : EReal) = waA m c (ix2 k e) := by
  show (V m c main_v1 : S1024x2048.Idx → EReal) ((win0_13.rect t).emb _) = _
  rw [in_wa]
  refine congrArg (waA m c) (funext fun a => Fin.ext ?_)
  refine (Pipeline.Window.rect_emb_val win0_13 t _ a rfl).trans ?_
  rw [index13 t]
  match a with
  | ⟨0, _⟩ => show 0 * 1024 + k.val = k.val; omega
  | ⟨1, _⟩ => show 0 * 2048 + e.val = e.val; omega

theorem blk14_at (k : Fin 1024) (e : Fin 2048) : (iblk m c 14 t (ix2 (n0 := 1024) (n1 := 2048) k e) : EReal) = wbA m c (ix2 k e) := by
  show (V m c main_v2 : S1024x2048.Idx → EReal) ((win0_14.rect t).emb _) = _
  rw [in_wb]
  refine congrArg (wbA m c) (funext fun a => Fin.ext ?_)
  refine (Pipeline.Window.rect_emb_val win0_14 t _ a rfl).trans ?_
  rw [index14 t]
  match a with
  | ⟨0, _⟩ => show 0 * 1024 + k.val = k.val; omega
  | ⟨1, _⟩ => show 0 * 2048 + e.val = e.val; omega

theorem blk15_at (k : Fin 2048) (e : Fin 2048) : (iblk m c 15 t (ix2 (n0 := 2048) (n1 := 2048) k e) : EReal) = woA m c (ix2 k e) := by
  show (V m c main_v3 : S2048x2048.Idx → EReal) ((win0_15.rect t).emb _) = _
  rw [in_wo]
  refine congrArg (woA m c) (funext fun a => Fin.ext ?_)
  refine (Pipeline.Window.rect_emb_val win0_15 t _ a rfl).trans ?_
  rw [index15 t]
  match a with
  | ⟨0, _⟩ => show 0 * 2048 + k.val = k.val; omega
  | ⟨1, _⟩ => show 0 * 2048 + e.val = e.val; omega

theorem blk16_at (k : Fin 2048) : (iblk m c 16 t (ix2 (n0 := 1) (n1 := 2048) 0 k) : EReal) = lgA m c (ix1 k) := by
  show (V m c main_v16 : S1x2048.Idx → EReal) ((win0_16.rect t).emb _) = _
  refine (congrArg (V m c main_v16 : S1x2048.Idx → EReal) (funext fun a => Fin.ext ?_)).trans ((congrFun (in_lg m c) _).trans (line2048_at _ k))
  refine (Pipeline.Window.rect_emb_val win0_16 t _ a rfl).trans ?_
  rw [index16 t]
  match a with
  | ⟨0, _⟩ => rfl
  | ⟨1, _⟩ => show 0 * 2048 + k.val = k.val; omega

theorem blk17_at (k : Fin 2048) : (iblk m c 17 t (ix2 (n0 := 1) (n1 := 2048) 0 k) : EReal) = lbA m c (ix1 k) := by
  show (V m c main_v17 : S1x2048.Idx → EReal) ((win0_17.rect t).emb _) = _
  refine (congrArg (V m c main_v17 : S1x2048.Idx → EReal) (funext fun a => Fin.ext ?_)).trans ((congrFun (in_lb m c) _).trans (line2048_at _ k))
  refine (Pipeline.Window.rect_emb_val win0_17 t _ a rfl).trans ?_
  rw [index17 t]
  match a with
  | ⟨0, _⟩ => rfl
  | ⟨1, _⟩ => show 0 * 2048 + k.val = k.val; omega

end Cert.Kernel4Ideal.Step

end
-- ==== Proof.Step.Value.lean ====
/-
  What a decoding step leaves in its two result arrays, over the extended reals.
-/
module

public import proofs.«01_k».proof.Proof.Step.Payload
public import proofs.«01_k».proof.Proof.Step.Blocks

@[expose] public section

set_option maxRecDepth 16384

noncomputable section

namespace Cert.Kernel4Ideal.Step

open Idealize.ShloMosaic Idealize.ShloMosaic.TcCoe Idealize.SL.Sem
open Idealize.ShloMosaic.ValueIdx Cert.Kernel4Ideal Cert.Kernel4Ideal.Gen
open scoped BigOperators

variable (m : (ℓ : Loc nD τ sig) → Buf (Elt Ideal) ℓ) (c : Dev nD)

/-- The layer and the normalized gating row, from the memory as launched. -/
abbrev layerAt (r : Fin 8) (d : Fin 2048) : EReal :=
  Cert.Step.layer (pjA m c) (avA m c) (xA m c) (mdA m c) (wsA m c) (bsA m c) (vgA m c) (vbA m c) (waA m c) (wbA m c) (woA m c) (lgA m c) (lbA m c) r d
abbrev vnAt (r : Fin 8) (k : Fin 1024) : EReal := Cert.Step.vn (pjA m c) (vgA m c) (vbA m c) r k

variable (t : Fin cfg0.N) (r : Fin 8)

abbrev vnBlk : FVec Ideal S8x1024 .f32 := vnRows (iblk m c 1 t) (iblk m c 11 t) (iblk m c 12 t)
abbrev gatedBlk : FVec Ideal S8x1024 .bf16 := gatedRows (iblk m c 0 t) (iblk m c 1 t) (iblk m c 9 t) (iblk m c 10 t) (iblk m c 11 t) (iblk m c 12 t)
abbrev mergedBlk : FVec Ideal S8x2048 .bf16 :=
  mergedRows (gatedBlk m c t) (iblk m c 2 t) (iblk m c 3 t) (iblk m c 4 t) (iblk m c 5 t) (iblk m c 6 t) (iblk m c 13 t) (iblk m c 14 t)

theorem vnBlk_at (k : Fin 1024) : (vnBlk m c t (ix2 r k) : EReal) = vnAt m c r k := by
  refine (vnRows_at _ _ _ r k).trans ?_
  unfold vnAt Cert.Step.vn
  rw [show (fun j => (iblk m c 1 t (ix2 (n0 := 8) (n1 := 1024) r j) : EReal)) = _ from funext fun j => blk1_at m c t r j,
    show (fun j => (iblk m c 11 t (ix2 (n0 := 1) (n1 := 1024) 0 j) : EReal)) = _ from funext fun j => blk11_at m c t j,
    show (fun j => (iblk m c 12 t (ix2 (n0 := 1) (n1 := 1024) 0 j) : EReal)) = _ from funext fun j => blk12_at m c t j]

theorem gatedBlk_at (k : Fin 1024) : (gatedBlk m c t (ix2 r k) : EReal) = Cert.Step.gated (pjA m c) (wsA m c) (bsA m c) (vgA m c) (vbA m c) r k := by
  refine (gatedRows_at _ _ _ _ _ _ r k).trans ?_
  unfold Cert.Step.gated
  exact congrArg₂ (fun a b : EReal => a * b) (blk0_at m c t r k) (congrArg₂ (fun a b : EReal => a + b)
    (congrArg₂ (fun a b : EReal => a * b) (vnBlk_at m c t r k) (blk9_at m c t k)) (blk10_at m c t k))

theorem mergedBlk_at (e : Fin 2048) :
    (mergedBlk m c t (ix2 r e) : EReal) = Cert.Step.merged (pjA m c) (avA m c) (wsA m c) (bsA m c) (vgA m c) (vbA m c) (waA m c) (wbA m c) r e := by
  refine (mergedRows_at _ _ _ _ _ _ _ _ r e).trans ?_
  unfold Cert.Step.merged
  refine congrArg₂ (fun a b : EReal => a + b) (congrArg₂ (fun a b : EReal => a * b) ?_ (Finset.sum_congr rfl fun k _ => ?_))
    (congrArg₂ (fun a b : EReal => a * b) ?_ (Finset.sum_congr rfl fun k _ => ?_))
  · exact beside_at _ _ r _ (blk3_at m c t r) (blk4_at m c t r) e
  · exact congrArg₂ (fun a b : EReal => a * b) (gatedBlk_at m c t r k) (blk13_at m c t k e)
  · exact beside_at _ _ r _ (blk5_at m c t r) (blk6_at m c t r) e
  · exact congrArg₂ (fun a b : EReal => a * b) (blk2_at m c t r k) (blk14_at m c t k e)

/-- The blocks written back. -/
theorem out18_at (d : Fin 2048) :
    (out0_18 (F := Ideal) (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) (iblk m c 17 t) (ix2 r d) : EReal)
      = layerAt m c r d := by
  rw [out18_eq]
  refine (body_at _ _ _ _ _ _ _ _ _ _ _ _ _ _ _ _ _ _ r d).trans ?_
  unfold layerAt Cert.Step.layer
  rw [show (fun k => (iblk m c 7 t (ix2 (n0 := 8) (n1 := 2048) r k) : EReal)) = _ from funext fun k => blk7_at m c t r k,
    show (fun k => (iblk m c 8 t (ix3 (n0 := 1) (n1 := 8) (n2 := 2048) 0 r k) : EReal)) = _ from funext fun k => blk8_at m c t r k,
    show (fun k => (iblk m c 16 t (ix2 (n0 := 1) (n1 := 2048) 0 k) : EReal)) = _ from funext fun k => blk16_at m c t k,
    show (fun k => (iblk m c 17 t (ix2 (n0 := 1) (n1 := 2048) 0 k) : EReal)) = _ from funext fun k => blk17_at m c t k]
  refine congrArg (fun p => Cert.Step.norm _ (Cert.Ffn.residual _ _ p) _ _ d) (funext fun d' => Finset.sum_congr rfl fun e _ => ?_)
  exact congrArg₂ (fun a b : EReal => a * b) (mergedBlk_at m c t r e) (blk15_at m c t e d')

theorem out19_at (k : Fin 1024) :
    (out0_19 (F := Ideal) (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) (iblk m c 17 t) (ix2 r k) : EReal)
      = vnAt m c r k := by
  rw [out19_eq]
  exact vnBlk_at m c t r k

/-- The results from the memory as launched, as arrays. -/
def layerOf : S8x2048.Idx → EReal := fun x => layerAt m c (x 0) (x 1)
def keptOf : S8x1024.Idx → EReal := fun x => vnAt m c (x 0) (x 1)

/-- The first result array when the call ends. -/
theorem layer_array : ((dats m 0 c).arrAt 18 cfg0.N : S8x2048.Idx → EReal) = layerOf m c := by
  funext x
  let t : Fin cfg0.N := ⟨0, lt_of_lt_of_eq Nat.zero_lt_one N_0.symm⟩
  have ex : (win0_18.rect t).emb (ix2 (n0 := 8) (n1 := 2048) (x 0) (x 1)) = x := funext fun a => Fin.ext (by
    refine (Pipeline.Window.rect_emb_val win0_18 t _ a rfl).trans ?_
    rw [index18 t]
    match a with
    | ⟨0, _⟩ => show 0 * 8 + (x 0).val = (x 0).val; omega
    | ⟨1, _⟩ => show 0 * 2048 + (x 1).val = (x 1).val; omega)
  have key := congrFun (Cert.Kernel4Ideal.Value.blocks18 m c t (flush0_18 t)) (ix2 (n0 := 8) (n1 := 2048) (x 0) (x 1))
  rw [Cert.Kernel4Ideal.Value.flushed18] at key
  have lhs : ((dats m 0 c).arrAt 18 cfg0.N : S8x2048.Idx → EReal) ((win0_18.rect t).emb (ix2 (n0 := 8) (n1 := 2048) (x 0) (x 1))) = _ := key
  rw [ex] at lhs
  exact lhs.trans (out18_at m c t (x 0) (x 1))

/-- The second result array when the call ends. -/
theorem kept_array : ((dats m 0 c).arrAt 19 cfg0.N : S8x1024.Idx → EReal) = keptOf m c := by
  funext x
  let t : Fin cfg0.N := ⟨0, lt_of_lt_of_eq Nat.zero_lt_one N_0.symm⟩
  have ex : (win0_19.rect t).emb (ix2 (n0 := 8) (n1 := 1024) (x 0) (x 1)) = x := funext fun a => Fin.ext (by
    refine (Pipeline.Window.rect_emb_val win0_19 t _ a rfl).trans ?_
    rw [index19 t]
    match a with
    | ⟨0, _⟩ => show 0 * 8 + (x 0).val = (x 0).val; omega
    | ⟨1, _⟩ => show 0 * 1024 + (x 1).val = (x 1).val; omega)
  have key := congrFun (Cert.Kernel4Ideal.Value.blocks19 m c t (flush0_19 t)) (ix2 (n0 := 8) (n1 := 1024) (x 0) (x 1))
  rw [Cert.Kernel4Ideal.Value.flushed19] at key
  have lhs : ((dats m 0 c).arrAt 19 cfg0.N : S8x1024.Idx → EReal) ((win0_19.rect t).emb (ix2 (n0 := 8) (n1 := 1024) (x 0) (x 1))) = _ := key
  rw [ex] at lhs
  exact lhs.trans (out19_at m c t (x 0) (x 1))

end Cert.Kernel4Ideal.Step

end
-- ==== Proof.Step.Ref.lean ====
/-
  The reference of the mixer's output part for a decoding step, read at an index, is the formula.
-/
module

public import proofs.«01_k».proof.Proof.Step.Spec
public import proofs.«01_k».proof.Proof.Mix.Ref
public import proofs.«01_k».proof.Proof.Gen.Reference4Ideal
public import proofs.«01_k».proof.Proof.Gen.Reference4Ideal.Run
public import Idealize.ShloMosaic.Lib.KernelVsHost

@[expose] public section

set_option maxRecDepth 8192

noncomputable section

namespace Cert.Reference4Ideal.Step

open Idealize.ShloMosaic Idealize.ShloMosaic.TcCoe Idealize.ShloMosaic.ValueIdx Cert.Reference4Ideal Cert.Reference4Ideal.Gen
open scoped BigOperators

/-! ## The products at an index -/

theorem dot_in_at (A : FVec Ideal S8x1x1024 .f32) (B : FVec Ideal S1024x2048 .f32) (s : Fin 8) (p : Fin 1) (f : Fin 2048) :
    (Host.dotGeneral dot_S8x1x1024_S1024x2048_S8x1x2048_2_0_01_1_n_n none A B : FVec Ideal S8x1x2048 .f32) (ix3 s p f)
      = ∑ k : Fin 1024, A (ix3 s p k) * B (ix2 k f) := by
  show FloatOps.dotGeneral _ none _ A B (ix3 s p f) = _
  rw [Ideal.dotGeneral_apply, ← Equiv.sum_comp (contrEquiv1 dot_S8x1x1024_S1024x2048_S8x1x2048_2_0_01_1_n_n 1024 rfl rfl).symm]
  refine Finset.sum_congr rfl fun c _ => ?_
  have c3 := contrEquiv1_symm_val dot_S8x1x1024_S1024x2048_S8x1x2048_2_0_01_1_n_n 1024 rfl rfl c
  have l3 : dot_S8x1x1024_S1024x2048_S8x1x2048_2_0_01_1_n_n.lhsIdx (ix3 s p f) ((contrEquiv1 _ 1024 rfl rfl).symm c) = ix3 s p c := by
    funext ax; apply Fin.ext
    match ax with
    | ⟨0, _⟩ => simp [DotDims.lhsIdx, dot_S8x1x1024_S1024x2048_S8x1x2048_2_0_01_1_n_n]; rfl
    | ⟨1, _⟩ => exact (congrArg Fin.val (Subsingleton.elim (α := Fin 1) _ p) : _)
    | ⟨2, _⟩ => simp [DotDims.lhsIdx, dot_S8x1x1024_S1024x2048_S8x1x2048_2_0_01_1_n_n]; exact c3
  have r3 : dot_S8x1x1024_S1024x2048_S8x1x2048_2_0_01_1_n_n.rhsIdx (ix3 s p f) ((contrEquiv1 _ 1024 rfl rfl).symm c) = ix2 c f := by
    funext ax; apply Fin.ext
    match ax with
    | ⟨0, _⟩ => simp [DotDims.rhsIdx, dot_S8x1x1024_S1024x2048_S8x1x2048_2_0_01_1_n_n]; exact c3
    | ⟨1, _⟩ => simp [DotDims.rhsIdx, dot_S8x1x1024_S1024x2048_S8x1x2048_2_0_01_1_n_n]; rfl
  rw [l3, r3]

theorem dot_out_at (A : FVec Ideal S8x1x2048 .f32) (B : FVec Ideal S2048x2048 .f32) (s : Fin 8) (p : Fin 1) (f : Fin 2048) :
    (Host.dotGeneral dot_S8x1x2048_S2048x2048_S8x1x2048_2_0_01_1_n_n none A B : FVec Ideal S8x1x2048 .f32) (ix3 s p f)
      = ∑ k : Fin 2048, A (ix3 s p k) * B (ix2 k f) := by
  show FloatOps.dotGeneral _ none _ A B (ix3 s p f) = _
  rw [Ideal.dotGeneral_apply, ← Equiv.sum_comp (contrEquiv1 dot_S8x1x2048_S2048x2048_S8x1x2048_2_0_01_1_n_n 2048 rfl rfl).symm]
  refine Finset.sum_congr rfl fun c _ => ?_
  have c3 := contrEquiv1_symm_val dot_S8x1x2048_S2048x2048_S8x1x2048_2_0_01_1_n_n 2048 rfl rfl c
  have l3 : dot_S8x1x2048_S2048x2048_S8x1x2048_2_0_01_1_n_n.lhsIdx (ix3 s p f) ((contrEquiv1 _ 2048 rfl rfl).symm c) = ix3 s p c := by
    funext ax; apply Fin.ext
    match ax with
    | ⟨0, _⟩ => simp [DotDims.lhsIdx, dot_S8x1x2048_S2048x2048_S8x1x2048_2_0_01_1_n_n]; rfl
    | ⟨1, _⟩ => exact (congrArg Fin.val (Subsingleton.elim (α := Fin 1) _ p) : _)
    | ⟨2, _⟩ => simp [DotDims.lhsIdx, dot_S8x1x2048_S2048x2048_S8x1x2048_2_0_01_1_n_n]; exact c3
  have r3 : dot_S8x1x2048_S2048x2048_S8x1x2048_2_0_01_1_n_n.rhsIdx (ix3 s p f) ((contrEquiv1 _ 2048 rfl rfl).symm c) = ix2 c f := by
    funext ax; apply Fin.ext
    match ax with
    | ⟨0, _⟩ => simp [DotDims.rhsIdx, dot_S8x1x2048_S2048x2048_S8x1x2048_2_0_01_1_n_n]; exact c3
    | ⟨1, _⟩ => simp [DotDims.rhsIdx, dot_S8x1x2048_S2048x2048_S8x1x2048_2_0_01_1_n_n]; rfl
  rw [l3, r3]

theorem dot_mix_at (A : FVec Ideal S8x1x128x8x128 .f32) (B : FVec Ideal S8x128x128 .f32) (g : Fin 8) (b : Fin 8) (c : Fin 1) (q t : Fin 128) :
    (Host.dotGeneral dot_S8x1x128x8x128_S8x128x128_S8x8x1x128x128_2_2_014_1_3_0 none A B : FVec Ideal S8x8x1x128x128 .f32) (ix5 g b c q t)
      = ∑ s : Fin 128, A (ix5 b c s g q) * B (ix3 g t s) := by
  show FloatOps.dotGeneral _ none _ A B (ix5 g b c q t) = _
  rw [Ideal.dotGeneral_apply, ← Equiv.sum_comp (contrEquiv1 dot_S8x1x128x8x128_S8x128x128_S8x8x1x128x128_2_2_014_1_3_0 128 rfl rfl).symm]
  refine Finset.sum_congr rfl fun s _ => ?_
  have c3 := contrEquiv1_symm_val dot_S8x1x128x8x128_S8x128x128_S8x8x1x128x128_2_2_014_1_3_0 128 rfl rfl s
  have l3 : dot_S8x1x128x8x128_S8x128x128_S8x8x1x128x128_2_2_014_1_3_0.lhsIdx (ix5 g b c q t) ((contrEquiv1 _ 128 rfl rfl).symm s) = ix5 b c s g q := by
    funext ax; apply Fin.ext
    match ax with
    | ⟨0, _⟩ => simp [DotDims.lhsIdx, dot_S8x1x128x8x128_S8x128x128_S8x8x1x128x128_2_2_014_1_3_0]; rfl
    | ⟨1, _⟩ => exact (congrArg Fin.val (Subsingleton.elim (α := Fin 1) _ c) : _)
    | ⟨2, _⟩ => simp [DotDims.lhsIdx, dot_S8x1x128x8x128_S8x128x128_S8x8x1x128x128_2_2_014_1_3_0]; exact c3
    | ⟨3, _⟩ => simp [DotDims.lhsIdx, dot_S8x1x128x8x128_S8x128x128_S8x8x1x128x128_2_2_014_1_3_0]; rfl
    | ⟨4, _⟩ => simp [DotDims.lhsIdx, dot_S8x1x128x8x128_S8x128x128_S8x8x1x128x128_2_2_014_1_3_0]; rfl
  have r3 : dot_S8x1x128x8x128_S8x128x128_S8x8x1x128x128_2_2_014_1_3_0.rhsIdx (ix5 g b c q t) ((contrEquiv1 _ 128 rfl rfl).symm s) = ix3 g t s := by
    funext ax; apply Fin.ext
    match ax with
    | ⟨0, _⟩ => simp [DotDims.rhsIdx, dot_S8x1x128x8x128_S8x128x128_S8x8x1x128x128_2_2_014_1_3_0]; rfl
    | ⟨1, _⟩ => simp [DotDims.rhsIdx, dot_S8x1x128x8x128_S8x128x128_S8x8x1x128x128_2_2_014_1_3_0]; rfl
    | ⟨2, _⟩ => simp [DotDims.rhsIdx, dot_S8x1x128x8x128_S8x128x128_S8x8x1x128x128_2_2_014_1_3_0]; exact c3
  rw [l3, r3]

/-! ## The layer norm of eight rows of any width -/

section Rows

variable {w : ℕ} (n : BitVec 32) (hr : (⟨3, ![8, 1, w]⟩ : Shape).ReducesTo [2] S8x1) (hs : (⟨3, ![8, 1, w]⟩ : Shape).Reduces [2] S8x1)
variable (hb : S8x1x1.BroadcastsInDim ⟨3, ![8, 1, w]⟩ ![0, 1, 2]) (hp : (⟨3, ![1, 1, w]⟩ : Shape).BroadcastsInDim ⟨3, ![8, 1, w]⟩ ![0, 1, 2])
variable (hq : (⟨1, ![w]⟩ : Shape).BroadcastsInDim ⟨3, ![1, 1, w]⟩ ![2])

/-- The mean of each row. -/
def means (y : FVec Ideal ⟨3, ![8, 1, w]⟩ .f32) : FVec Ideal S8x1x1 .f32 :=
  Host.divf (broadcastInDim S8x1x1 ![0, 1] bcast_S8x1_S8x1x1_0_1 (Host.reduceAdd y (constant S_ .f32 0x00000000#32) hr h_S_))
    (broadcastInDim S8x1x1 ![] bcast_S_S8x1x1 (constant S_ .f32 n))

def centred (y : FVec Ideal ⟨3, ![8, 1, w]⟩ .f32) : FVec Ideal ⟨3, ![8, 1, w]⟩ .f32 :=
  subf y (broadcastInDim ⟨3, ![8, 1, w]⟩ ![0, 1, 2] hb (means n hr y))

def params (v : FVec Ideal ⟨1, ![w]⟩ .f32) : FVec Ideal ⟨3, ![8, 1, w]⟩ .f32 :=
  broadcastInDim ⟨3, ![8, 1, w]⟩ ![0, 1, 2] hp (broadcastInDim ⟨3, ![1, 1, w]⟩ ![2] hq v)

def normed (lg lb : FVec Ideal ⟨1, ![w]⟩ .f32) (y : FVec Ideal ⟨3, ![8, 1, w]⟩ .f32) : FVec Ideal ⟨3, ![8, 1, w]⟩ .f32 :=
  addf (mulf (mulf (centred n hr hb y) (broadcastInDim ⟨3, ![8, 1, w]⟩ ![0, 1, 2] hb
      (Host.rsqrt (addf (means n hr (mulf (centred n hr hb y) (centred n hr hb y))) (broadcastInDim S8x1x1 ![] bcast_S_S8x1x1 (constant S_ .f32 0x3727C5AC#32))))))
    (params hp hq lg)) (params hp hq lb)

theorem across_at (v : FVec Ideal S8x1x1 .f32) (r : Fin 8) (k : Fin w) :
    (broadcastInDim ⟨3, ![8, 1, w]⟩ ![0, 1, 2] hb v : FVec Ideal ⟨3, ![8, 1, w]⟩ .f32) (ix3 r 0 k) = v (ix3 r 0 0) :=
  broadcastInDim_apply _ _ _ _ (ix3 r 0 0) fun a => match a with
    | ⟨0, _⟩ => rfl
    | ⟨1, _⟩ => rfl
    | ⟨2, _⟩ => rfl

include hs in
theorem means_at (y : FVec Ideal ⟨3, ![8, 1, w]⟩ .f32) (r : Fin 8) : (means n hr y (ix3 r 0 0) : EReal) = Cert.Step.mean n (fun k => y (ix3 r 0 k)) := by
  unfold means Cert.Step.mean
  show Ideal.div ((broadcastInDim S8x1x1 ![0, 1] bcast_S8x1_S8x1x1_0_1 (Host.reduceAdd y (constant S_ .f32 0x00000000#32) hr h_S_) : FVec Ideal S8x1x1 .f32) (ix3 r 0 0)) (Ideal.ofBits .f32 n) = _
  refine congrArg (Ideal.div · _) ?_
  refine (broadcastInDim_apply _ _ _ _ (ix2 r 0) fun a => match a with
    | ⟨0, _⟩ => rfl
    | ⟨1, _⟩ => rfl).trans ?_
  refine (Ideal.hostReduceAdd_single hr hs y _ (ix2 r 0)).trans ?_
  show Ideal.ofBits .f32 0x00000000#32 + _ = _
  rw [Ideal.ofBits_zero_f32]
  refine (zero_add _).trans (Finset.sum_congr rfl fun k _ => congrArg y ?_)
  funext a
  match a with
  | ⟨0, _⟩ => rfl
  | ⟨1, _⟩ => rfl
  | ⟨2, _⟩ => rfl

include hs in
theorem centred_at (y : FVec Ideal ⟨3, ![8, 1, w]⟩ .f32) (r : Fin 8) (d : Fin w) :
    (centred n hr hb y (ix3 r 0 d) : EReal) = y (ix3 r 0 d) - Cert.Step.mean n (fun k => y (ix3 r 0 k)) := by
  unfold centred
  show (y (ix3 r 0 d) - (broadcastInDim ⟨3, ![8, 1, w]⟩ ![0, 1, 2] hb (means n hr y) : FVec Ideal ⟨3, ![8, 1, w]⟩ .f32) (ix3 r 0 d) : EReal) = _
  rw [across_at, means_at n hr hs]

theorem params_at (v : FVec Ideal ⟨1, ![w]⟩ .f32) (r : Fin 8) (k : Fin w) : params hp hq v (ix3 r 0 k) = v (ix1 k) := by
  have hk := k.isLt
  unfold params
  refine (broadcastInDim_apply _ _ _ _ (ix3 0 0 k) fun a => match a with
    | ⟨0, _⟩ => rfl
    | ⟨1, _⟩ => rfl
    | ⟨2, _⟩ => (by show k.val = if w = 1 then 0 else k.val; split <;> omega)).trans ?_
  exact broadcastInDim_apply _ _ _ _ (ix1 k) fun a => match a with
    | ⟨0, _⟩ => (by show k.val = if w = 1 then 0 else k.val; split <;> omega)

include hs in
theorem normed_at (lg lb : FVec Ideal ⟨1, ![w]⟩ .f32) (y : FVec Ideal ⟨3, ![8, 1, w]⟩ .f32) (r : Fin 8) (d : Fin w) :
    (normed n hr hb hp hq lg lb y (ix3 r 0 d) : EReal) = Cert.Step.norm n (fun k => y (ix3 r 0 k)) (fun k => lg (ix1 k)) (fun k => lb (ix1 k)) d := by
  unfold normed Cert.Step.norm
  show (centred n hr hb y (ix3 r 0 d)
      * (broadcastInDim ⟨3, ![8, 1, w]⟩ ![0, 1, 2] hb
          (Host.rsqrt (addf (means n hr (mulf (centred n hr hb y) (centred n hr hb y))) (broadcastInDim S8x1x1 ![] bcast_S_S8x1x1 (constant S_ .f32 0x3727C5AC#32)))) : FVec Ideal ⟨3, ![8, 1, w]⟩ .f32) (ix3 r 0 d)
      * params hp hq lg (ix3 r 0 d) + params hp hq lb (ix3 r 0 d) : EReal) = _
  rw [params_at, params_at, across_at, centred_at n hr hs]
  show (_ * Ideal.rsqrt (means n hr (mulf (centred n hr hb y) (centred n hr hb y)) (ix3 r 0 0) + Ideal.ofBits .f32 0x3727C5AC#32) * _ + _ : EReal) = _
  rw [means_at n hr hs]
  have ev : (fun k => (mulf (centred n hr hb y) (centred n hr hb y) : FVec Ideal ⟨3, ![8, 1, w]⟩ .f32) (ix3 r 0 k))
      = fun k => (centred n hr hb y (ix3 r 0 k) * centred n hr hb y (ix3 r 0 k) : EReal) := rfl
  rw [ev]
  simp only [centred_at n hr hs]

/-- Rows with an axis of one position, and without it. -/
theorem split_at (v : FVec Ideal ⟨2, ![8, w]⟩ .f32) (h : (⟨2, ![8, w]⟩ : Shape).ShapeCasts ⟨3, ![8, 1, w]⟩) (r : Fin 8) (k : Fin w) :
    (shapeCast ⟨3, ![8, 1, w]⟩ v h : FVec Ideal ⟨3, ![8, 1, w]⟩ .f32) (ix3 r 0 k) = v (ix2 r k) := by
  refine shapeCast_apply v h (ix3 r 0 k) (ix2 r k) ?_
  rw [Shape.rowMajor_val_two, Shape.rowMajor_val_three]
  show r.val * w + k.val = (r.val * 1 + 0) * w + k.val
  rw [Nat.mul_one, Nat.add_zero]

theorem joined_at (v : FVec Ideal ⟨3, ![8, 1, w]⟩ .f32) (h : (⟨3, ![8, 1, w]⟩ : Shape).ShapeCasts ⟨2, ![8, w]⟩) (r : Fin 8) (k : Fin w) :
    (shapeCast ⟨2, ![8, w]⟩ v h : FVec Ideal ⟨2, ![8, w]⟩ .f32) (ix2 r k) = v (ix3 r 0 k) := by
  refine shapeCast_apply v h (ix2 r k) (ix3 r 0 k) ?_
  rw [Shape.rowMajor_val_two, Shape.rowMajor_val_three]
  show (r.val * 1 + 0) * w + k.val = r.val * w + k.val
  rw [Nat.mul_one, Nat.add_zero]

end Rows

/-! ## The reference's lines -/

variable (pj : FVec Ideal S8x9216 .f32) (av : FVec Ideal S8x1024 .f32) (x : FVec Ideal S8x2048 .f32) (md : FVec Ideal S8x12288 .f32)
variable (ws : FVec Ideal S8x128x128 .f32) (bs : FVec Ideal S8x128 .f32) (vg vb : FVec Ideal S1024 .f32) (wa wb : FVec Ideal S1024x2048 .f32)
variable (wo : FVec Ideal S2048x2048 .f32) (lg lb : FVec Ideal S2048 .f32)

def ps : FVec Ideal S8x1x9216 .f32 := shapeCast _ pj shapeCasts_S8x9216_S8x1x9216

/-- A part of the projection. -/
abbrev cut (w o : ℕ) (h : S8x1x9216.Slices ![0, 0, o] ⟨3, ![8, 1, w]⟩) : FVec Ideal ⟨3, ![8, 1, w]⟩ .f32 :=
  extractStridedSlice ⟨3, ![8, 1, w]⟩ ![0, 0, o] (ps pj) h

def gate1 : FVec Ideal S8x1x2048 .f32 :=
  extractStridedSlice S8x1x2048 ![0, 0, 4096] (broadcastInDim S8x1x12288 ![0, 2] bcast_S8x12288_S8x1x12288_0_2 md) slices_S8x1x12288_S8x1x2048_0_0_4096

def normedRows : FVec Ideal S8x1x1024 .f32 :=
  normed (w := 1024) 0x44800000#32 reducesTo_S8x1x1024_S8x1_d2 bcast_S8x1x1_S8x1x1024_0_1_2 bcast_S1x1x1024_S8x1x1024_0_1_2 bcast_S1024_S1x1x1024_2 vg vb
    (cut pj 1024 1024 slices_S8x1x9216_S8x1x1024_0_0_1024)

/-- The normalized rows, with zeros for the positions after them in their chunk. -/
def padded : FVec Ideal S8x128x1024 .f32 :=
  pad S8x128x1024 ![0, 0, 0] ![0, 127, 0] ![0, 0, 0] (normedRows pj vg vb) (sitofp .f32 (constantI S_ 32 0#32)) pads_S8x1x1024_S8x128x1024_000_01270_000 h_S_

def mixed : FVec Ideal S8x8x1x128x128 .f32 :=
  Host.dotGeneral dot_S8x1x128x8x128_S8x128x128_S8x8x1x128x128_2_2_014_1_3_0 none
    (shapeCast _ (padded pj vg vb) shapeCasts_S8x128x1024_S8x1x128x8x128) (Cert.Reference3Ideal.Mix.lower ws)

def biases : FVec Ideal S8x1x128x8x128 .f32 :=
  broadcastInDim S8x1x128x8x128 ![0, 1, 2, 3, 4] bcast_S1x1x128x8x1_S8x1x128x8x128_0_1_2_3_4
    (broadcastInDim S1x1x128x8x1 ![2, 3] bcast_S128x8_S1x1x128x8x1_2_3 (transpose S128x8 [1, 0] bs transposes_S8x128_S128x8_1_0))

def spatial : FVec Ideal S8x1x128x8x128 .f32 :=
  addf (transpose S8x1x128x8x128 [1, 2, 4, 0, 3] (mixed pj ws vg vb) transposes_S8x8x1x128x128_S8x1x128x8x128_1_2_4_0_3) (biases bs)

/-- The first position of each chunk. -/
def first : FVec Ideal S8x1x1024 .f32 :=
  extractStridedSlice S8x1x1024 ![0, 0, 0] (shapeCast S8x128x1024 (spatial pj ws bs vg vb) shapeCasts_S8x1x128x8x128_S8x128x1024) slices_S8x128x1024_S8x1x1024_0_0_0

def gatedRows : FVec Ideal S8x1x1024 .f32 := mulf (cut pj 1024 0 slices_S8x1x9216_S8x1x1024_0_0_0) (first pj ws bs vg vb)

def mergedRows : FVec Ideal S8x1x2048 .f32 :=
  addf (mulf (cut pj 2048 5120 slices_S8x1x9216_S8x1x2048_0_0_5120) (Host.dotGeneral dot_S8x1x1024_S1024x2048_S8x1x2048_2_0_01_1_n_n none (gatedRows pj ws bs vg vb) wa))
    (mulf (cut pj 2048 7168 slices_S8x1x9216_S8x1x2048_0_0_7168)
      (Host.dotGeneral dot_S8x1x1024_S1024x2048_S8x1x2048_2_0_01_1_n_n none (shapeCast _ av shapeCasts_S8x1024_S8x1x1024) wb))

def outp : FVec Ideal S8x1x2048 .f32 :=
  Host.dotGeneral dot_S8x1x2048_S2048x2048_S8x1x2048_2_0_01_1_n_n none (mergedRows pj av ws bs vg vb wa wb) wo

def resid : FVec Ideal S8x1x2048 .f32 :=
  addf (mulf (broadcastInDim S8x1x2048 ![] bcast_S_S8x1x2048 (constant S_ .f32 0x3FB504F3#32)) (shapeCast _ x shapeCasts_S8x2048_S8x1x2048))
    (mulf (addf (broadcastInDim S8x1x2048 ![] bcast_S_S8x1x2048 (constant S_ .f32 0x3F800000#32)) (gate1 md)) (outp pj av ws bs vg vb wa wb wo))

def staged : FVec Ideal S8x2048 .f32 :=
  shapeCast _ (normed (w := 2048) 0x45000000#32 reducesTo_S8x1x2048_S8x1_d2 bcast_S8x1x1_S8x1x2048_0_1_2 bcast_S1x1x2048_S8x1x2048_0_1_2 bcast_S2048_S1x1x2048_2 lg lb
    (resid pj av x md ws bs vg vb wa wb wo)) shapeCasts_S8x1x2048_S8x2048

def kept : FVec Ideal S8x1024 .f32 := shapeCast _ (normedRows pj vg vb) shapeCasts_S8x1x1024_S8x1024

/-! ## The lines at an index -/

variable (r : Fin 8)

theorem cut_at (w o : ℕ) (h : S8x1x9216.Slices ![0, 0, o] ⟨3, ![8, 1, w]⟩) (ho : o + w ≤ 9216) (k : Fin w) :
    cut pj w o h (ix3 r 0 k) = Cert.Step.part pj o ho r k := by
  have hk := k.isLt
  unfold Cert.Step.part
  refine (extractStridedSlice_apply _ _ _ _ (ix3 r 0 ⟨o + k.val, by omega⟩) fun a => match a with
    | ⟨0, _⟩ => (Nat.zero_add _).symm
    | ⟨1, _⟩ => rfl
    | ⟨2, _⟩ => rfl).trans ?_
  exact split_at (w := 9216) pj _ r _

theorem gate1_at (k : Fin 2048) : gate1 md (ix3 r 0 k) = Cert.Step.gate md r k := by
  have hk := k.isLt
  unfold gate1 Cert.Step.gate
  refine (extractStridedSlice_apply _ _ _ _ (ix3 r 0 ⟨4096 + k.val, by omega⟩) fun a => match a with
    | ⟨0, _⟩ => (Nat.zero_add _).symm
    | ⟨1, _⟩ => rfl
    | ⟨2, _⟩ => rfl).trans ?_
  exact broadcastInDim_apply _ _ _ _ (ix2 r ⟨4096 + k.val, by omega⟩) fun a => match a with
    | ⟨0, _⟩ => rfl
    | ⟨1, _⟩ => rfl

theorem reduces_narrow : Shape.Reduces S8x1x1024 [2] S8x1 := by decide
theorem reduces_rows : Shape.Reduces S8x1x2048 [2] S8x1 := by decide

theorem normedRows_at (k : Fin 1024) : (normedRows pj vg vb (ix3 r 0 k) : EReal) = Cert.Step.vn pj vg vb r k := by
  unfold normedRows Cert.Step.vn
  refine (normed_at _ _ reduces_narrow _ _ _ vg vb _ r k).trans ?_
  exact congrArg (fun y => Cert.Step.norm _ y _ _ k) (funext fun k => cut_at pj r 1024 1024 _ (by decide) k)

theorem padded_at (k : Fin 1024) : (padded pj vg vb (ix3 r 0 k) : EReal) = Cert.Step.vn pj vg vb r k := by
  rw [← normedRows_at]
  unfold padded
  refine pad_apply_of_inside _ _ _ _ _ _ _ (ix3 r 0 k) (ix3 r 0 k) fun a => ?_
  match a with
  | ⟨0, _⟩ => show r.val = 0 + r.val * (0 + 1); omega
  | ⟨1, _⟩ => rfl
  | ⟨2, _⟩ => show k.val = 0 + k.val * (0 + 1); omega

/-- Column `q` of group `g`. -/
def across (g : Fin 8) (q : Fin 128) : Fin 1024 := ⟨g.val * 128 + q.val, by have := g.isLt; have := q.isLt; omega⟩

variable (t : Fin 128) (g : Fin 8) (q : Fin 128)

theorem cast_at (v : FVec Ideal S8x128x1024 .f32) :
    (shapeCast S8x1x128x8x128 v shapeCasts_S8x128x1024_S8x1x128x8x128 : FVec Ideal S8x1x128x8x128 .f32) (ix5 r 0 t g q) = v (ix3 r t (across g q)) := by
  refine shapeCast_apply v _ _ _ ?_
  rw [Shape.rowMajor_val_three, Shape.rowMajor_val_five]
  show (r.val * 128 + t.val) * 1024 + (g.val * 128 + q.val) = (((r.val * 1 + 0) * 128 + t.val) * 8 + g.val) * 128 + q.val
  omega

theorem back_at (v : FVec Ideal S8x1x128x8x128 .f32) :
    (shapeCast S8x128x1024 v shapeCasts_S8x1x128x8x128_S8x128x1024 : FVec Ideal S8x128x1024 .f32) (ix3 r t (across g q)) = v (ix5 r 0 t g q) := by
  refine shapeCast_apply v _ _ _ ?_
  rw [Shape.rowMajor_val_three, Shape.rowMajor_val_five]
  show (((r.val * 1 + 0) * 128 + t.val) * 8 + g.val) * 128 + q.val = (r.val * 128 + t.val) * 1024 + (g.val * 128 + q.val)
  omega

theorem biases_at : biases bs (ix5 r 0 t g q) = bs (ix2 g t) := by
  unfold biases
  refine (broadcastInDim_apply _ _ _ _ (ix5 0 0 t g 0) fun a => match a with
    | ⟨0, _⟩ => rfl
    | ⟨1, _⟩ => rfl
    | ⟨2, _⟩ => rfl
    | ⟨3, _⟩ => rfl
    | ⟨4, _⟩ => rfl).trans ?_
  refine (broadcastInDim_apply _ _ _ _ (ix2 t g) fun a => match a with
    | ⟨0, _⟩ => rfl
    | ⟨1, _⟩ => rfl).trans ?_
  exact transpose_apply _ bs _ _ (ix2 g t) fun a => match a with
    | ⟨0, _⟩ => rfl
    | ⟨1, _⟩ => rfl

/-- At the first position of a chunk only its own row enters. -/
theorem mixed_at : (mixed pj ws vg vb (ix5 g r 0 q 0) : EReal) = Cert.Step.vn pj vg vb r (across g q) * ws (ix3 g 0 0) := by
  unfold mixed
  rw [dot_mix_at]
  refine (Finset.sum_eq_single (0 : Fin 128) (fun s _ hs => ?_) fun h => absurd (Finset.mem_univ _) h).trans ?_
  · have hz : (Cert.Reference3Ideal.Mix.lower ws (ix3 g 0 s) : EReal) = 0 := by
      rw [Cert.Reference3Ideal.Mix.lower_at]
      unfold Cert.Mix.tril
      exact if_neg fun h => hs (Fin.ext (Nat.le_zero.mp h))
    exact (congrArg (_ * ·) hz).trans (mul_zero _)
  · refine congrArg₂ (fun a b : EReal => a * b) ((cast_at r 0 g q _).trans (padded_at pj vg vb r _)) ?_
    refine (Cert.Reference3Ideal.Mix.lower_at ws g 0 0).trans ?_
    unfold Cert.Mix.tril
    exact if_pos le_rfl

theorem spatial_at : (spatial pj ws bs vg vb (ix5 r 0 0 g q) : EReal) = Cert.Step.vn pj vg vb r (across g q) * ws (ix3 g 0 0) + bs (ix2 g 0) := by
  unfold spatial
  show ((transpose S8x1x128x8x128 [1, 2, 4, 0, 3] (mixed pj ws vg vb) transposes_S8x8x1x128x128_S8x1x128x8x128_1_2_4_0_3 : FVec Ideal S8x1x128x8x128 .f32) (ix5 r 0 0 g q)
    + biases bs (ix5 r 0 0 g q) : EReal) = _
  rw [biases_at, ← mixed_at]
  refine congrArg (· + (bs (ix2 g 0) : EReal)) ?_
  exact transpose_apply _ _ _ _ (ix5 g r 0 q 0) fun a => match a with
    | ⟨0, _⟩ => rfl
    | ⟨1, _⟩ => rfl
    | ⟨2, _⟩ => rfl
    | ⟨3, _⟩ => rfl
    | ⟨4, _⟩ => rfl

theorem first_at : (first pj ws bs vg vb (ix3 r 0 (across g q)) : EReal) = Cert.Step.vn pj vg vb r (across g q) * ws (ix3 g 0 0) + bs (ix2 g 0) := by
  rw [← spatial_at]
  unfold first
  refine (extractStridedSlice_apply _ _ _ _ (ix3 r 0 (across g q)) fun a => match a with
    | ⟨0, _⟩ => (Nat.zero_add _).symm
    | ⟨1, _⟩ => rfl
    | ⟨2, _⟩ => (Nat.zero_add _).symm).trans ?_
  exact back_at r 0 g q _

omit t g q

theorem gatedRows_at (k : Fin 1024) : (gatedRows pj ws bs vg vb (ix3 r 0 k) : EReal) = Cert.Step.gated pj ws bs vg vb r k := by
  have ek : across (Cert.Mix.groupOf k) ⟨k.val % 128, Nat.mod_lt _ (by decide)⟩ = k := Fin.ext (by
    show k.val / 128 * 128 + k.val % 128 = k.val
    omega)
  have h := first_at pj ws bs vg vb r (Cert.Mix.groupOf k) ⟨k.val % 128, Nat.mod_lt _ (by decide)⟩
  rw [ek] at h
  unfold gatedRows Cert.Step.gated
  exact congrArg₂ (fun a b : EReal => a * b) (cut_at pj r 1024 0 _ (by decide) k) h

theorem mergedRows_at (e : Fin 2048) : (mergedRows pj av ws bs vg vb wa wb (ix3 r 0 e) : EReal) = Cert.Step.merged pj av ws bs vg vb wa wb r e := by
  unfold mergedRows Cert.Step.merged
  refine congrArg₂ (fun a b : EReal => a + b) (congrArg₂ (fun a b : EReal => a * b) (cut_at pj r 2048 5120 _ (by decide) e) ?_)
    (congrArg₂ (fun a b : EReal => a * b) (cut_at pj r 2048 7168 _ (by decide) e) ?_)
  · refine (dot_in_at _ wa r 0 e).trans (Finset.sum_congr rfl fun k _ => ?_)
    exact congrArg (· * (wa (ix2 k e) : EReal)) (gatedRows_at pj ws bs vg vb r k)
  · refine (dot_in_at _ wb r 0 e).trans (Finset.sum_congr rfl fun k _ => ?_)
    exact congrArg (· * (wb (ix2 k e) : EReal)) (split_at (w := 1024) av _ r k)

theorem outp_at (d : Fin 2048) : (outp pj av ws bs vg vb wa wb wo (ix3 r 0 d) : EReal) = ∑ e, Cert.Step.merged pj av ws bs vg vb wa wb r e * wo (ix2 e d) := by
  unfold outp
  rw [dot_out_at]
  exact Finset.sum_congr rfl fun e _ => congrArg (· * (wo (ix2 e d) : EReal)) (mergedRows_at pj av ws bs vg vb wa wb r e)

theorem resid_at (d : Fin 2048) : (resid pj av x md ws bs vg vb wa wb wo (ix3 r 0 d) : EReal)
    = Cert.Ffn.residual (fun k => x (ix2 r k)) (Cert.Step.gate md r) (fun d => ∑ e, Cert.Step.merged pj av ws bs vg vb wa wb r e * wo (ix2 e d)) d := by
  unfold Cert.Ffn.residual
  dsimp only
  rw [← outp_at pj av ws bs vg vb wa wb wo r d, ← gate1_at md r d, ← split_at (w := 2048) x shapeCasts_S8x2048_S8x1x2048 r d]
  rfl

theorem staged_at (d : Fin 2048) : (staged pj av x md ws bs vg vb wa wb wo lg lb (ix2 r d) : EReal) = Cert.Step.layer pj av x md ws bs vg vb wa wb wo lg lb r d := by
  unfold staged Cert.Step.layer
  refine (joined_at (w := 2048) _ _ r d).trans ((normed_at _ _ reduces_rows _ _ _ lg lb _ r d).trans ?_)
  exact congrArg (fun y => Cert.Step.norm _ y _ _ d) (funext fun k => resid_at pj av x md ws bs vg vb wa wb wo r k)

theorem kept_at (k : Fin 1024) : (kept pj vg vb (ix2 r k) : EReal) = Cert.Step.vn pj vg vb r k := by
  unfold kept
  exact (joined_at (w := 1024) _ _ r k).trans (normedRows_at pj vg vb r k)

theorem result_at (m : (ℓ : Loc nD τ sig) → Buf (Elt Ideal) ℓ) (c : Dev nD) (d : Fin 2048) :
    (Cert.Reference4Ideal.Value.res_main_v93 m c : S8x2048.Idx → EReal) (ix2 r d)
      = Cert.Step.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) r d := by
  have e : (Cert.Reference4Ideal.Value.res_main_v93 m c : S8x2048.Idx → EReal)
      = staged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := rfl
  rw [e]
  exact staged_at _ _ _ _ _ _ _ _ _ _ _ _ _ r d

end Cert.Reference4Ideal.Step

end
-- ==== Proof.Step.Equal.lean ====
/-
  On equal arguments the reference of the mixer's output part for a decoding step ends with the kernel's two arrays.
-/
module

public import proofs.«01_k».proof.Proof.Step.Value
public import proofs.«01_k».proof.Proof.Step.Ref

@[expose] public section

noncomputable section

namespace Cert.Kernel4Ideal.Step

open Idealize.ShloMosaic Idealize.ShloMosaic.TcCoe Idealize.SL.Sem
open Idealize.ShloMosaic.ValueIdx Cert.Kernel4Ideal Cert.Kernel4Ideal.Gen

theorem reference_layer (m : (ℓ : Loc nD τ sig) → Buf (Elt Ideal) ℓ)
    (m' : (ℓ : Loc Cert.Reference4Ideal.nD Cert.Reference4Ideal.τ Cert.Reference4Ideal.sig) → Buf (Elt Ideal) ℓ) (c : Dev nD)
    (e0 : m' ((c.tc : Thread Cert.Reference4Ideal.nD Cert.Reference4Ideal.τ).loc Cert.Reference4Ideal.main_arg0) = m ((c.tc : Thread nD τ).loc main_arg0))
    (e1 : m' ((c.tc : Thread Cert.Reference4Ideal.nD Cert.Reference4Ideal.τ).loc Cert.Reference4Ideal.main_arg1) = m ((c.tc : Thread nD τ).loc main_arg1))
    (e2 : m' ((c.tc : Thread Cert.Reference4Ideal.nD Cert.Reference4Ideal.τ).loc Cert.Reference4Ideal.main_arg2) = m ((c.tc : Thread nD τ).loc main_arg2))
    (e3 : m' ((c.tc : Thread Cert.Reference4Ideal.nD Cert.Reference4Ideal.τ).loc Cert.Reference4Ideal.main_arg3) = m ((c.tc : Thread nD τ).loc main_arg3))
    (e4 : m' ((c.tc : Thread Cert.Reference4Ideal.nD Cert.Reference4Ideal.τ).loc Cert.Reference4Ideal.main_arg4) = m ((c.tc : Thread nD τ).loc main_arg4))
    (e5 : m' ((c.tc : Thread Cert.Reference4Ideal.nD Cert.Reference4Ideal.τ).loc Cert.Reference4Ideal.main_arg5) = m ((c.tc : Thread nD τ).loc main_arg5))
    (e6 : m' ((c.tc : Thread Cert.Reference4Ideal.nD Cert.Reference4Ideal.τ).loc Cert.Reference4Ideal.main_arg6) = m ((c.tc : Thread nD τ).loc main_arg6))
    (e7 : m' ((c.tc : Thread Cert.Reference4Ideal.nD Cert.Reference4Ideal.τ).loc Cert.Reference4Ideal.main_arg7) = m ((c.tc : Thread nD τ).loc main_arg7))
    (e8 : m' ((c.tc : Thread Cert.Reference4Ideal.nD Cert.Reference4Ideal.τ).loc Cert.Reference4Ideal.main_arg8) = m ((c.tc : Thread nD τ).loc main_arg8))
    (e9 : m' ((c.tc : Thread Cert.Reference4Ideal.nD Cert.Reference4Ideal.τ).loc Cert.Reference4Ideal.main_arg9) = m ((c.tc : Thread nD τ).loc main_arg9))
    (e10 : m' ((c.tc : Thread Cert.Reference4Ideal.nD Cert.Reference4Ideal.τ).loc Cert.Reference4Ideal.main_arg10) = m ((c.tc : Thread nD τ).loc main_arg10))
    (e11 : m' ((c.tc : Thread Cert.Reference4Ideal.nD Cert.Reference4Ideal.τ).loc Cert.Reference4Ideal.main_arg11) = m ((c.tc : Thread nD τ).loc main_arg11))
    (e12 : m' ((c.tc : Thread Cert.Reference4Ideal.nD Cert.Reference4Ideal.τ).loc Cert.Reference4Ideal.main_arg12) = m ((c.tc : Thread nD τ).loc main_arg12)) :
    (Cert.Reference4Ideal.Value.res_main_v93 m' c : S8x2048.Idx → EReal) = layerOf m c := by
  funext x
  have key := Cert.Reference4Ideal.Step.result_at (x 0) m' c (x 1)
  rw [e0, e1, e2, e3, e4, e5, e6, e7, e8, e9, e10, e11, e12] at key
  have ex : ix2 (n0 := 8) (n1 := 2048) (x 0) (x 1) = x := by
    funext a
    match a with
    | ⟨0, _⟩ => rfl
    | ⟨1, _⟩ => rfl
  rw [ex] at key
  exact key

theorem reference_kept (m : (ℓ : Loc nD τ sig) → Buf (Elt Ideal) ℓ)
    (m' : (ℓ : Loc Cert.Reference4Ideal.nD Cert.Reference4Ideal.τ Cert.Reference4Ideal.sig) → Buf (Elt Ideal) ℓ) (c : Dev nD)
    (e0 : m' ((c.tc : Thread Cert.Reference4Ideal.nD Cert.Reference4Ideal.τ).loc Cert.Reference4Ideal.main_arg0) = m ((c.tc : Thread nD τ).loc main_arg0))
    (e6 : m' ((c.tc : Thread Cert.Reference4Ideal.nD Cert.Reference4Ideal.τ).loc Cert.Reference4Ideal.main_arg6) = m ((c.tc : Thread nD τ).loc main_arg6))
    (e7 : m' ((c.tc : Thread Cert.Reference4Ideal.nD Cert.Reference4Ideal.τ).loc Cert.Reference4Ideal.main_arg7) = m ((c.tc : Thread nD τ).loc main_arg7)) :
    Cert.Reference4Ideal.Step.kept (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7)) = keptOf m c := by
  funext x
  have ex : ix2 (n0 := 8) (n1 := 1024) (x 0) (x 1) = x := by
    funext a
    match a with
    | ⟨0, _⟩ => rfl
    | ⟨1, _⟩ => rfl
  rw [e0, e6, e7]
  have key := Cert.Reference4Ideal.Step.kept_at (pjA m c) (vgA m c) (vbA m c) (x 0) (x 1)
  rw [ex] at key
  exact key

end Cert.Kernel4Ideal.Step

end
-- ==== Proof.lean ====
/-
  The proof of `Cert.Claim`: the grouped expert kernel, the dense feed-forward kernel and the kernel of the mixer's output part, for the
  prompt and for a decoding step, and the reference of each, run, leave their arguments as they were and every semaphore at zero, and over the extended reals end with equal results.
-/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.Pre_tables_in_range
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Moe.Launch
public import proofs.«01_k».proof.Proof.Moe.Equal
public import proofs.«01_k».proof.Proof.Moe.Range
public import proofs.«01_k».proof.Proof.Moe.Same
public import proofs.«01_k».proof.Proof.Ffn.Equal
public import proofs.«01_k».proof.Proof.Mix.Equal
public import proofs.«01_k».proof.Proof.Step.Equal

@[expose] public section

noncomputable section

namespace Cert.Proof

open Idealize.ShloMosaic Idealize.SL.Sem Idealize.ShloMosaic.TcCoe

attribute [local instance] Cert.Kernel.Gen.facts Cert.KernelIdeal.Gen.facts Cert.ReferenceIdeal.Gen.facts Cert.Pre_tables_in_range.Gen.facts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts

/-- The kernel over the extended reals. -/
theorem frame_ideal : Cert.quiescent_KernelIdeal := by
  intro m ρ hp
  obtain ⟨h1, h2, h3⟩ := Cert.KernelIdeal.Moe.range_of_pre _ _ _ _ _ _ _ (hp 0)
  exact Cert.KernelIdeal.Moe.frame_main m ρ (Cert.KernelIdeal.Moe.ok_of_range (Cert.KernelIdeal.Moe.tbl m) h1 h2) h2 h3

/-- The kernel over the bit patterns. -/
theorem frame_bits : Cert.quiescent_Kernel := by
  intro m ρ hp
  obtain ⟨h1, h2, h3⟩ := Cert.KernelIdeal.Moe.range_of_pre _ _ _ _ _ _ _ (hp 0)
  exact Cert.KernelIdeal.Moe.run_same _ _
    (Cert.KernelIdeal.Moe.frame_main (F := Bits) m ρ (Cert.KernelIdeal.Moe.ok_of_range (Cert.KernelIdeal.Moe.tbl m) h1 h2) h2 h3)

/-- The reference declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The kernel and the reference end with the same array. -/
theorem equal_results : Cert.algebraic_KernelIdeal_ReferenceIdeal := by
  intro m ρ m' ρ' hp ha
  obtain ⟨h1, h2, h3⟩ := Cert.KernelIdeal.Moe.range_of_pre _ _ _ _ _ _ _ (hp 0)
  refine ⟨fun c => Cert.KernelIdeal.Moe.layerOf m c,
    Cert.KernelIdeal.Moe.value_main m ρ (Cert.KernelIdeal.Moe.ok_of_range (Cert.KernelIdeal.Moe.tbl m) h1 h2) h1 h2 h3, ?_⟩
  refine (θ_run Cert.ReferenceIdeal.defs _ _).mono (fun r h c => ⟨(h c).1.trans ?_, (h c).2⟩) (Cert.ReferenceIdeal.Value.run (F := Ideal) m' ρ')
  obtain ⟨e0, e1, e2, e3, e4, e5, e6⟩ := ha c
  exact Cert.KernelIdeal.Moe.reference_layer m m' c e0 e1 e2 e3 e4 e5 e6 h1 h2 h3

/-- The dense feed-forward kernel over the bit patterns. -/
theorem frame_ffn_bits : Cert.quiescent_Kernel2 := fun m ρ _ => Cert.Kernel2.Gen.frame m ρ

/-- The dense feed-forward kernel over the extended reals. -/
theorem frame_ffn_ideal : Cert.quiescent_Kernel2Ideal := fun m ρ _ => Cert.Kernel2Ideal.Gen.frame m ρ

/-- The reference of the dense feed-forward declares no semaphore. -/
theorem frame_ffn_reference : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The dense feed-forward kernel and its reference end with the same array. -/
theorem equal_ffn_results : Cert.algebraic_Kernel2Ideal_Reference2Ideal := by
  intro m ρ m' ρ' _ ha
  refine ⟨fun c => Cert.Kernel2Ideal.Ffn.layerOf m c,
    (θ_run Cert.Kernel2Ideal.defs _ _).mono (fun r h c => ⟨(h c).1.trans (Cert.Kernel2Ideal.Ffn.result_array m c), (h c).2⟩)
      (Cert.Kernel2Ideal.Value.run (F := Ideal) m ρ), ?_⟩
  refine (θ_run Cert.Reference2Ideal.defs _ _).mono (fun r h c => ⟨(h c).1.trans ?_, (h c).2⟩) (Cert.Reference2Ideal.Value.run (F := Ideal) m' ρ')
  obtain ⟨e0, e1, e2, e3, e4, e5, e6⟩ := ha c
  exact Cert.Kernel2Ideal.Ffn.reference_layer m m' c e0 e1 e2 e3 e4 e5 e6

/-- The kernel of the mixer's output part over the bit patterns. -/
theorem frame_mix_bits : Cert.quiescent_Kernel3 := fun m ρ _ => Cert.Kernel3.Gen.frame m ρ

/-- The kernel of the mixer's output part over the extended reals. -/
theorem frame_mix_ideal : Cert.quiescent_Kernel3Ideal := fun m ρ _ => Cert.Kernel3Ideal.Gen.frame m ρ

/-- The reference of the mixer's output part declares no semaphore. -/
theorem frame_mix_reference : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- The kernel of the mixer's output part and its reference end with the same array. -/
theorem equal_mix_results : Cert.algebraic_Kernel3Ideal_Reference3Ideal := by
  intro m ρ m' ρ' _ ha
  refine ⟨fun c => Cert.Kernel3Ideal.Mix.layerOf m c,
    (θ_run Cert.Kernel3Ideal.defs _ _).mono (fun r h c => ⟨(h c).1.trans (Cert.Kernel3Ideal.Mix.result_array m c), (h c).2⟩)
      (Cert.Kernel3Ideal.Value.run_blocks (F := Ideal) m ρ), ?_⟩
  refine (θ_run Cert.Reference3Ideal.defs _ _).mono (fun r h c => ⟨(h c).1.trans ?_, (h c).2⟩) (Cert.Reference3Ideal.Value.run (F := Ideal) m' ρ')
  obtain ⟨e0, e1, e2, e3, e4, e5, e6, e7, e8, e9, e10, e11, e12⟩ := ha c
  exact Cert.Kernel3Ideal.Mix.reference_layer m m' c e0 e1 e2 e3 e4 e5 e6 e7 e8 e9 e10 e11 e12

/-- The kernel of the mixer's output part for a decoding step over the bit patterns. -/
theorem frame_step_bits : Cert.quiescent_Kernel4 := fun m ρ _ => Cert.Kernel4.Gen.frame m ρ

/-- The kernel of the mixer's output part for a decoding step over the extended reals. -/
theorem frame_step_ideal : Cert.quiescent_Kernel4Ideal := fun m ρ _ => Cert.Kernel4Ideal.Gen.frame m ρ

/-- The reference of the mixer's output part for a decoding step declares no semaphore. -/
theorem frame_step_reference : Cert.quiescent_Reference4Ideal := by
  intro m ρ _
  exact (θ_run Cert.Reference4Ideal.defs _ _).mono (fun r h => ⟨fun c => (h c).2.2, sem_eq_zero_of_no_sems (by decide) r.2⟩)
    (Cert.Reference4Ideal.Value.run (F := Ideal) m ρ)

/-- The kernel of the mixer's output part for a decoding step and its reference end with the same two arrays. -/
theorem equal_step_results : Cert.algebraic_Kernel4Ideal_Reference4Ideal := by
  intro m ρ m' ρ' _ ha
  refine ⟨fun c => Cert.Kernel4Ideal.Step.layerOf m c, fun c => Cert.Kernel4Ideal.Step.keptOf m c,
    (θ_run Cert.Kernel4Ideal.defs _ _).mono (fun r h c => ⟨(h c).1.trans (Cert.Kernel4Ideal.Step.layer_array m c), (h c).2.1.trans (Cert.Kernel4Ideal.Step.kept_array m c), (h c).2.2⟩)
      (Cert.Kernel4Ideal.Value.run_blocks (F := Ideal) m ρ), ?_⟩
  refine (θ_run Cert.Reference4Ideal.defs _ _).mono (fun r h c => ⟨(h c).1.trans ?_, (h c).2.1.trans ?_, (h c).2.2⟩) (Cert.Reference4Ideal.Value.run (F := Ideal) m' ρ')
  · obtain ⟨e0, e1, e2, e3, e4, e5, e6, e7, e8, e9, e10, e11, e12⟩ := ha c
    exact Cert.Kernel4Ideal.Step.reference_layer m m' c e0 e1 e2 e3 e4 e5 e6 e7 e8 e9 e10 e11 e12
  · obtain ⟨e0, e1, e2, e3, e4, e5, e6, e7, e8, e9, e10, e11, e12⟩ := ha c
    exact Cert.Kernel4Ideal.Step.reference_kept m m' c e0 e6 e7

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_tables_in_range.Gen.facts,
    frame_bits, frame_ideal, frame_reference, frame_ffn_bits, frame_ffn_ideal, frame_ffn_reference,
    frame_mix_bits, frame_mix_ideal, frame_mix_reference, frame_step_bits, frame_step_ideal, frame_step_reference,
    trivial, equal_results, trivial, equal_ffn_results, trivial, equal_mix_results, trivial, equal_step_results⟩

end Cert.Proof

end
